-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decay [hPre_decay : Cert.Pre_decay.Facts] (m : (ℓ : Loc Cert.KernelIdeal.nD Cert.KernelIdeal.τ Cert.KernelIdeal.sig) → Buf (Elt Ideal) ℓ) : Prop :=
  ∀ c : Dev Cert.KernelIdeal.nD,
    (Cert.Pre_decay.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decay [hPre_decay : Cert.Pre_decay.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decay.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite [hPre_finite : Cert.Pre_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite [hPre_finite : Cert.Pre_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_decay [hKernelIdeal : Cert.KernelIdeal.Facts] [hPre_decay : Cert.Pre_decay.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decay m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_decay [hReferenceIdeal : Cert.ReferenceIdeal.Facts] [hPre_decay : Cert.Pre_decay.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decay m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite [hKernel6Ideal : Cert.Kernel6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite [hReference6Ideal : Cert.Reference6Ideal.Facts] [hPre_finite : Cert.Pre_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10))
      ∧ r.2.sem = fun _ => 0)

def preserves_Kernel_KernelIdeal : Prop :=
  True

def algebraic_KernelIdeal_ReferenceIdeal_pre_decay [hKernelIdeal : Cert.KernelIdeal.Facts] [hReferenceIdeal : Cert.ReferenceIdeal.Facts] [hPre_decay : Cert.Pre_decay.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decay m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20_0)) (v1 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20_0) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v12_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite [hKernel6Ideal : Cert.Kernel6Ideal.Facts] [hReference6Ideal : Cert.Reference6Ideal.Facts] [hPre_finite : Cert.Pre_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v179) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v14)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v14) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v5_0)) (v1 : (c : Dev Cert.Kernel8Ideal.nD) → Buf (Elt Ideal) ((c.tc : Thread Cert.Kernel8Ideal.nD Cert.Kernel8Ideal.τ).loc Cert.Kernel8Ideal.main_v5_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v5_0) = v0 c
          ∧ r.2.mem ((c.tc : Thread Cert.Kernel8Ideal.nD Cert.Kernel8Ideal.τ).loc Cert.Kernel8Ideal.main_v5_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v50) = v0 c
          ∧ r.2.mem ((c.tc : Thread Cert.Reference8Ideal.nD Cert.Reference8Ideal.τ).loc Cert.Reference8Ideal.main_v51) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)) →
    ∃ (v0 : (c : Dev Cert.Kernel9Ideal.nD) → Buf (Elt Ideal) ((c.tc : Thread Cert.Kernel9Ideal.nD Cert.Kernel9Ideal.τ).loc Cert.Kernel9Ideal.main_v24)) (v1 : (c : Dev Cert.Kernel9Ideal.nD) → Buf (Elt Ideal) ((c.tc : Thread Cert.Kernel9Ideal.nD Cert.Kernel9Ideal.τ).loc Cert.Kernel9Ideal.main_v32)) (v2 : (c : Dev Cert.Kernel9Ideal.nD) → Buf (Elt Ideal) ((c.tc : Thread Cert.Kernel9Ideal.nD Cert.Kernel9Ideal.τ).loc Cert.Kernel9Ideal.main_v40)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v24) = v0 c
          ∧ r.2.mem ((c.tc : Thread Cert.Kernel9Ideal.nD Cert.Kernel9Ideal.τ).loc Cert.Kernel9Ideal.main_v32) = v1 c
          ∧ r.2.mem ((c.tc : Thread Cert.Kernel9Ideal.nD Cert.Kernel9Ideal.τ).loc Cert.Kernel9Ideal.main_v40) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v58) = v0 c
          ∧ r.2.mem ((c.tc : Thread Cert.Reference9Ideal.nD Cert.Reference9Ideal.τ).loc Cert.Reference9Ideal.main_v89) = v1 c
          ∧ r.2.mem ((c.tc : Thread Cert.Reference9Ideal.nD Cert.Reference9Ideal.τ).loc Cert.Reference9Ideal.main_v120) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)) →
    ∃ (v0 : (c : Dev Cert.Kernel10Ideal.nD) → Buf (Elt Ideal) ((c.tc : Thread Cert.Kernel10Ideal.nD Cert.Kernel10Ideal.τ).loc Cert.Kernel10Ideal.main_v54)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v54) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v62) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_decay : Cert.Pre_decay.Facts) (hPre_finite : Cert.Pre_finite.Facts),
    quiescent_Kernel (hKernel := hKernel)
    ∧ quiescent_KernelIdeal (hKernelIdeal := hKernelIdeal)
    ∧ quiescent_KernelIdeal_pre_decay (hKernelIdeal := hKernelIdeal) (hPre_decay := hPre_decay)
    ∧ quiescent_ReferenceIdeal (hReferenceIdeal := hReferenceIdeal)
    ∧ quiescent_ReferenceIdeal_pre_decay (hReferenceIdeal := hReferenceIdeal) (hPre_decay := hPre_decay)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite (hKernel6Ideal := hKernel6Ideal) (hPre_finite := hPre_finite)
    ∧ quiescent_Reference6Ideal (hReference6Ideal := hReference6Ideal)
    ∧ quiescent_Reference6Ideal_pre_finite (hReference6Ideal := hReference6Ideal) (hPre_finite := hPre_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_decay (hKernelIdeal := hKernelIdeal) (hReferenceIdeal := hReferenceIdeal) (hPre_decay := hPre_decay)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite (hKernel6Ideal := hKernel6Ideal) (hReference6Ideal := hReference6Ideal) (hPre_finite := hPre_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
-- ==== Pre_decay.lean ====
abbrev S128x6144 : Shape := ⟨2, ![128, 6144]⟩
abbrev S128x1024 : Shape := ⟨2, ![128, 1024]⟩
abbrev S512 : Shape := ⟨1, ![512]⟩
abbrev S1x32x4x256x512 : Shape := ⟨5, ![1, 32, 4, 256, 512]⟩
abbrev S_ : Shape := ⟨0, ![]⟩

class Facts : Prop where
  bcast_S_S128x1024 : S_.BroadcastsInDim S128x1024 (![] : Fin 0 → Fin S128x1024.rank)

variable [Facts]

def fn {F : FTy → Type} [FloatOps F] (main_arg0 : FVec F S128x6144 .bf16) (main_arg1 : FVec F S128x1024 .f32) (main_arg2 : FVec F S512 .f32) (main_arg3 : FVec F S1x32x4x256x512 .f32) : IVec S128x1024 1 :=
  let main_cst : FVec F S_ .f32 := constant S_ .f32 0x7F800000#32
  let main_v0 : FVec F S128x1024 .f32 := broadcastInDim S128x1024 ![] bcast_S_S128x1024 main_cst
  let main_v1 : IVec S128x1024 1 := cmpf .olt main_arg1 main_v0
  main_v1
-- ==== Pre_finite.lean ====
abbrev S128x9216 : Shape := ⟨2, ![128, 9216]⟩
abbrev S1x32x128x2x8x128 : Shape := ⟨6, ![1, 32, 128, 2, 8, 128]⟩
abbrev S1x32x512x2x8x128 : Shape := ⟨6, ![1, 32, 512, 2, 8, 128]⟩
abbrev S1x32x2048x2x8x128 : Shape := ⟨6, ![1, 32, 2048, 2, 8, 128]⟩
abbrev S128x6144 : Shape := ⟨2, ![128, 6144]⟩
abbrev S32x24x8x128 : Shape := ⟨4, ![32, 24, 8, 128]⟩
abbrev S1x32x128x1x8x128 : Shape := ⟨6, ![1, 32, 128, 1, 8, 128]⟩
abbrev S32x128x8x128 : Shape := ⟨4, ![32, 128, 8, 128]⟩
abbrev S1x32x512x1x8x128 : Shape := ⟨6, ![1, 32, 512, 1, 8, 128]⟩
abbrev S32x512x8x128 : Shape := ⟨4, ![32, 512, 8, 128]⟩
abbrev S1x32x2048x1x8x128 : Shape := ⟨6, ![1, 32, 2048, 1, 8, 128]⟩
abbrev S32x2048x8x128 : Shape := ⟨4, ![32, 2048, 8, 128]⟩
abbrev S32x2712x8x128 : Shape := ⟨4, ![32, 2712, 8, 128]⟩
abbrev S_ : Shape := ⟨0, ![]⟩

class Facts : Prop where
  slices_S128x9216_S128x6144_0_0 : S128x9216.Slices ![0, 0] S128x6144
  shapeCasts_S128x6144_S32x24x8x128 : S128x6144.ShapeCasts S32x24x8x128
  slices_S1x32x128x2x8x128_S1x32x128x1x8x128_0_0_0_0_0_0 : S1x32x128x2x8x128.Slices ![0, 0, 0, 0, 0, 0] S1x32x128x1x8x128
  shapeCasts_S1x32x128x1x8x128_S32x128x8x128 : S1x32x128x1x8x128.ShapeCasts S32x128x8x128
  slices_S1x32x512x2x8x128_S1x32x512x1x8x128_0_0_0_0_0_0 : S1x32x512x2x8x128.Slices ![0, 0, 0, 0, 0, 0] S1x32x512x1x8x128
  shapeCasts_S1x32x512x1x8x128_S32x512x8x128 : S1x32x512x1x8x128.ShapeCasts S32x512x8x128
  slices_S1x32x2048x2x8x128_S1x32x2048x1x8x128_0_0_0_0_0_0 : S1x32x2048x2x8x128.Slices ![0, 0, 0, 0, 0, 0] S1x32x2048x1x8x128
  shapeCasts_S1x32x2048x1x8x128_S32x2048x8x128 : S1x32x2048x1x8x128.ShapeCasts S32x2048x8x128
  concatenates_S32x24x8x128_S32x128x8x128_S32x512x8x128_S32x2048x8x128_S32x2712x8x128_d1 : Shape.Concatenates [S32x24x8x128, S32x128x8x128, S32x512x8x128, S32x2048x8x128] S32x2712x8x128 1
  bcast_S_S32x2712x8x128 : S_.BroadcastsInDim S32x2712x8x128 (![] : Fin 0 → Fin S32x2712x8x128.rank)

variable [Facts]

def fn {F : FTy → Type} [FloatOps F] (main_arg0 : FVec F S128x9216 .f32) (main_arg1 : FVec F S1x32x128x2x8x128 .f32) (main_arg2 : FVec F S1x32x512x2x8x128 .f32) (main_arg3 : FVec F S1x32x2048x2x8x128 .f32) : IVec S32x2712x8x128 1 :=
  let main_v0 : FVec F S128x6144 .f32 := (extractStridedSlice S128x6144 ![0, 0] · slices_S128x9216_S128x6144_0_0) main_arg0
  let main_v1 : FVec F S32x24x8x128 .f32 := shapeCast S32x24x8x128 main_v0 shapeCasts_S128x6144_S32x24x8x128
  let main_v2 : FVec F S1x32x128x1x8x128 .f32 := (extractStridedSlice S1x32x128x1x8x128 ![0, 0, 0, 0, 0, 0] · slices_S1x32x128x2x8x128_S1x32x128x1x8x128_0_0_0_0_0_0) main_arg1
  let main_v3 : FVec F S32x128x8x128 .f32 := shapeCast S32x128x8x128 main_v2 shapeCasts_S1x32x128x1x8x128_S32x128x8x128
  let main_v4 : FVec F S1x32x512x1x8x128 .f32 := (extractStridedSlice S1x32x512x1x8x128 ![0, 0, 0, 0, 0, 0] · slices_S1x32x512x2x8x128_S1x32x512x1x8x128_0_0_0_0_0_0) main_arg2
  let main_v5 : FVec F S32x512x8x128 .f32 := shapeCast S32x512x8x128 main_v4 shapeCasts_S1x32x512x1x8x128_S32x512x8x128
  let main_v6 : FVec F S1x32x2048x1x8x128 .f32 := (extractStridedSlice S1x32x2048x1x8x128 ![0, 0, 0, 0, 0, 0] · slices_S1x32x2048x2x8x128_S1x32x2048x1x8x128_0_0_0_0_0_0) main_arg3
  let main_v7 : FVec F S32x2048x8x128 .f32 := shapeCast S32x2048x8x128 main_v6 shapeCasts_S1x32x2048x1x8x128_S32x2048x8x128
  let main_v8 : FVec F S32x2712x8x128 .f32 := concatenate S32x2712x8x128 1 [⟨S32x24x8x128, main_v1⟩, ⟨S32x128x8x128, main_v3⟩, ⟨S32x512x8x128, main_v5⟩, ⟨S32x2048x8x128, main_v7⟩] concatenates_S32x24x8x128_S32x128x8x128_S32x512x8x128_S32x2048x8x128_S32x2712x8x128_d1
  let main_v9 : FVec F S32x2712x8x128 .f32 := Host.absf main_v8
  let main_cst : FVec F S_ .f32 := constant S_ .f32 0x7F800000#32
  let main_v10 : FVec F S32x2712x8x128 .f32 := broadcastInDim S32x2712x8x128 ![] bcast_S_S32x2712x8x128 main_cst
  let main_v11 : IVec S32x2712x8x128 1 := cmpf .olt main_v9 main_v10
  main_v11
-- ==== Kernel.lean ====
abbrev S128x6144 : Shape := ⟨2, ![128, 6144]⟩
abbrev S128x1024 : Shape := ⟨2, ![128, 1024]⟩
abbrev S512 : Shape := ⟨1, ![512]⟩
abbrev S1x32x4x256x512 : Shape := ⟨5, ![1, 32, 4, 256, 512]⟩
abbrev S32x4x1024 : Shape := ⟨3, ![32, 4, 1024]⟩
abbrev S_ : Shape := ⟨0, ![]⟩
abbrev S32x16x1024 : Shape := ⟨3, ![32, 16, 1024]⟩
abbrev S128x2048 : Shape := ⟨2, ![128, 2048]⟩
abbrev S32x4x2048 : Shape := ⟨3, ![32, 4, 2048]⟩
abbrev S32x16x2048 : Shape := ⟨3, ![32, 16, 2048]⟩
abbrev S32x4x256x512 : Shape := ⟨4, ![32, 4, 256, 512]⟩
abbrev S1x512 : Shape := ⟨2, ![1, 512]⟩
abbrev S1x16x1024 : Shape := ⟨3, ![1, 16, 1024]⟩
abbrev S1x16x2048 : Shape := ⟨3, ![1, 16, 2048]⟩
abbrev S1x4x256x512 : Shape := ⟨4, ![1, 4, 256, 512]⟩
abbrev S16x16 : Shape := ⟨2, ![16, 16]⟩
abbrev S256x256 : Shape := ⟨2, ![256, 256]⟩
abbrev S1x16x256 : Shape := ⟨3, ![1, 16, 256]⟩
abbrev S16x256 : Shape := ⟨2, ![16, 256]⟩
abbrev S1x16x512 : Shape := ⟨3, ![1, 16, 512]⟩
abbrev S16x512 : Shape := ⟨2, ![16, 512]⟩
abbrev S1x1x256x512 : Shape := ⟨4, ![1, 1, 256, 512]⟩
abbrev S256x512 : Shape := ⟨2, ![256, 512]⟩
abbrev S32x256 : Shape := ⟨2, ![32, 256]⟩
abbrev S1x256 : Shape := ⟨2, ![1, 256]⟩
abbrev S256x32 : Shape := ⟨2, ![256, 32]⟩
abbrev S256x1 : Shape := ⟨2, ![256, 1]⟩
abbrev S256x16 : Shape := ⟨2, ![256, 16]⟩
abbrev S16 : Shape := ⟨1, ![16]⟩
abbrev S16x1 : Shape := ⟨2, ![16, 1]⟩

abbrev nBuf : Space → Nat
  | .hbm => 36
  | .vmem => 17
  | .smem => 0
  | _ => 0

abbrev bufTy : (tb : Table) → Fin (tcTables nBuf tb) → BufTy
  | .hbm, ⟨0, _⟩ => ⟨S128x6144, .bf16⟩
  | .hbm, ⟨1, _⟩ => ⟨S128x1024, .f32⟩
  | .hbm, ⟨2, _⟩ => ⟨S512, .f32⟩
  | .hbm, ⟨3, _⟩ => ⟨S1x32x4x256x512, .f32⟩
  | .hbm, ⟨4, _⟩ => ⟨S128x1024, .bf16⟩
  | .hbm, ⟨5, _⟩ => ⟨S128x1024, .f32⟩
  | .hbm, ⟨6, _⟩ => ⟨S32x4x1024, .f32⟩
  | .hbm, ⟨7, _⟩ => ⟨S_, .i32⟩
  | .hbm, ⟨8, _⟩ => ⟨S_, .f32⟩
  | .hbm, ⟨9, _⟩ => ⟨S32x16x1024, .f32⟩
  | .hbm, ⟨10, _⟩ => ⟨S128x1024, .bf16⟩
  | .hbm, ⟨11, _⟩ => ⟨S128x1024, .f32⟩
  | .hbm, ⟨12, _⟩ => ⟨S32x4x1024, .f32⟩
  | .hbm, ⟨13, _⟩ => ⟨S_, .i32⟩
  | .hbm, ⟨14, _⟩ => ⟨S_, .f32⟩
  | .hbm, ⟨15, _⟩ => ⟨S32x16x1024, .f32⟩
  | .hbm, ⟨16, _⟩ => ⟨S128x2048, .bf16⟩
  | .hbm, ⟨17, _⟩ => ⟨S128x2048, .f32⟩
  | .hbm, ⟨18, _⟩ => ⟨S32x4x2048, .f32⟩
  | .hbm, ⟨19, _⟩ => ⟨S_, .i32⟩
  | .hbm, ⟨20, _⟩ => ⟨S_, .f32⟩
  | .hbm, ⟨21, _⟩ => ⟨S32x16x2048, .f32⟩
  | .hbm, ⟨22, _⟩ => ⟨S128x2048, .bf16⟩
  | .hbm, ⟨23, _⟩ => ⟨S128x2048, .f32⟩
  | .hbm, ⟨24, _⟩ => ⟨S32x4x2048, .f32⟩
  | .hbm, ⟨25, _⟩ => ⟨S_, .i32⟩
  | .hbm, ⟨26, _⟩ => ⟨S_, .f32⟩
  | .hbm, ⟨27, _⟩ => ⟨S32x16x2048, .f32⟩
  | .hbm, ⟨28, _⟩ => ⟨S32x4x1024, .f32⟩
  | .hbm, ⟨29, _⟩ => ⟨S_, .i32⟩
  | .hbm, ⟨30, _⟩ => ⟨S_, .f32⟩
  | .hbm, ⟨31, _⟩ => ⟨S32x16x1024, .f32⟩
  | .hbm, ⟨32, _⟩ => ⟨S32x4x256x512, .f32⟩
  | .hbm, ⟨33, _⟩ => ⟨S1x512, .f32⟩
  | .hbm, ⟨34, _⟩ => ⟨S32x16x2048, .f32⟩
  | .hbm, ⟨35, _⟩ => ⟨S32x4x256x512, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x2048, .f32⟩
  | .local _ .vmem, ⟨5, _⟩ => ⟨S1x16x2048, .f32⟩
  | .local _ .vmem, ⟨6, _⟩ => ⟨S1x16x2048, .f32⟩
  | .local _ .vmem, ⟨7, _⟩ => ⟨S1x16x2048, .f32⟩
  | .local _ .vmem, ⟨8, _⟩ => ⟨S1x16x1024, .f32⟩
  | .local _ .vmem, ⟨9, _⟩ => ⟨S1x16x1024, .f32⟩
  | .local _ .vmem, ⟨10, _⟩ => ⟨S1x512, .f32⟩
  | .local _ .vmem, ⟨11, _⟩ => ⟨S1x4x256x512, .f32⟩
  | .local _ .vmem, ⟨12, _⟩ => ⟨S1x4x256x512, .f32⟩
  | .local _ .vmem, ⟨13, _⟩ => ⟨S1x16x2048, .f32⟩
  | .local _ .vmem, ⟨14, _⟩ => ⟨S1x16x2048, .f32⟩
  | .local _ .vmem, ⟨15, _⟩ => ⟨S1x4x256x512, .f32⟩
  | .local _ .vmem, ⟨16, _⟩ => ⟨S1x4x256x512, .f32⟩
  | _, _ => ⟨S128x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call1_v0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_call2_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_call3_v0 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_call4_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x4x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S128x6144 : Shape := ⟨2, ![128, 6144]⟩
abbrev S128x1024 : Shape := ⟨2, ![128, 1024]⟩
abbrev S512 : Shape := ⟨1, ![512]⟩
abbrev S1x32x4x256x512 : Shape := ⟨5, ![1, 32, 4, 256, 512]⟩
abbrev S32x4x6144 : Shape := ⟨3, ![32, 4, 6144]⟩
abbrev S32x4x1024 : Shape := ⟨3, ![32, 4, 1024]⟩
abbrev S32x4x2048 : Shape := ⟨3, ![32, 4, 2048]⟩
abbrev S32x4x4x256 : Shape := ⟨4, ![32, 4, 4, 256]⟩
abbrev S_ : Shape := ⟨0, ![]⟩
abbrev S32x4x4x512 : Shape := ⟨4, ![32, 4, 4, 512]⟩
abbrev S32x4x256x512 : Shape := ⟨4, ![32, 4, 256, 512]⟩
abbrev S32x4x1x256 : Shape := ⟨4, ![32, 4, 1, 256]⟩
abbrev S4x4 : Shape := ⟨2, ![4, 4]⟩
abbrev S32x4x4x4 : Shape := ⟨4, ![32, 4, 4, 4]⟩
abbrev S32x4x256 : Shape := ⟨3, ![32, 4, 256]⟩
abbrev S32x4x256x1 : Shape := ⟨4, ![32, 4, 256, 1]⟩
abbrev S32x4x4 : Shape := ⟨3, ![32, 4, 4]⟩
abbrev S32x4x4x1 : Shape := ⟨4, ![32, 4, 4, 1]⟩
abbrev S1x1x1x512 : Shape := ⟨4, ![1, 1, 1, 512]⟩
abbrev S32x16x2048 : Shape := ⟨3, ![32, 16, 2048]⟩

abbrev nBuf : Space → Nat
  | .hbm => 93
  | .vmem => 0
  | .smem => 0
  | _ => 0

abbrev bufTy : (tb : Table) → Fin (tcTables nBuf tb) → BufTy
  | .hbm, ⟨0, _⟩ => ⟨S128x6144, .bf16⟩
  | .hbm, ⟨1, _⟩ => ⟨S128x1024, .f32⟩
  | .hbm, ⟨2, _⟩ => ⟨S512, .f32⟩
  | .hbm, ⟨3, _⟩ => ⟨S1x32x4x256x512, .f32⟩
  | .hbm, ⟨4, _⟩ => ⟨S128x6144, .f32⟩
  | .hbm, ⟨5, _⟩ => ⟨S32x4x6144, .f32⟩
  | .hbm, ⟨6, _⟩ => ⟨S32x4x1024, .f32⟩
  | .hbm, ⟨7, _⟩ => ⟨S32x4x1024, .f32⟩
  | .hbm, ⟨8, _⟩ => ⟨S32x4x2048, .f32⟩
  | .hbm, ⟨9, _⟩ => ⟨S32x4x2048, .f32⟩
  | .hbm, ⟨10, _⟩ => ⟨S32x4x4x256, .f32⟩
  | .hbm, ⟨11, _⟩ => ⟨S_, .f32⟩
  | .hbm, ⟨12, _⟩ => ⟨S32x4x4x256, .f32⟩
  | .hbm, ⟨13, _⟩ => ⟨S32x4x4x256, .f32⟩
  | .hbm, ⟨14, _⟩ => ⟨S32x4x4x256, .f32⟩
  | .hbm, ⟨15, _⟩ => ⟨S32x4x4x256, .f32⟩
  | .hbm, ⟨16, _⟩ => ⟨S32x4x4x256, .f32⟩
  | .hbm, ⟨17, _⟩ => ⟨S32x4x4x512, .f32⟩
  | .hbm, ⟨18, _⟩ => ⟨S32x4x4x512, .f32⟩
  | .hbm, ⟨19, _⟩ => ⟨S32x4x4x256, .f32⟩
  | .hbm, ⟨20, _⟩ => ⟨S32x4x4x256, .f32⟩
  | .hbm, ⟨21, _⟩ => ⟨S32x4x256x512, .f32⟩
  | .hbm, ⟨22, _⟩ => ⟨S_, .f32⟩
  | .hbm, ⟨23, _⟩ => ⟨S_, .f32⟩
  | .hbm, ⟨24, _⟩ => ⟨S32x4x4x256, .f32⟩
  | .hbm, ⟨25, _⟩ => ⟨S32x4x1x256, .f32⟩
  | .hbm, ⟨26, _⟩ => ⟨S32x4x4x256, .f32⟩
  | .hbm, ⟨27, _⟩ => ⟨S32x4x4x256, .f32⟩
  | .hbm, ⟨28, _⟩ => ⟨S32x4x4x256, .f32⟩
  | .hbm, ⟨29, _⟩ => ⟨S32x4x4x256, .f32⟩
  | .hbm, ⟨30, _⟩ => ⟨S32x4x4x256, .f32⟩
  | .hbm, ⟨31, _⟩ => ⟨S32x4x4x256, .f32⟩
  | .hbm, ⟨32, _⟩ => ⟨S32x4x4x256, .f32⟩
  | .hbm, ⟨33, _⟩ => ⟨S32x4x4x256, .f32⟩
  | .hbm, ⟨34, _⟩ => ⟨S32x4x4x256, .f32⟩
  | .hbm, ⟨35, _⟩ => ⟨S_, .i1⟩
  | .hbm, ⟨36, _⟩ => ⟨S4x4, .i1⟩
  | .hbm, ⟨37, _⟩ => ⟨S4x4, .i32⟩
  | .hbm, ⟨38, _⟩ => ⟨S_, .i32⟩
  | .hbm, ⟨39, _⟩ => ⟨S4x4, .i32⟩
  | .hbm, ⟨40, _⟩ => ⟨S4x4, .i32⟩
  | .hbm, ⟨41, _⟩ => ⟨S4x4, .i32⟩
  | .hbm, ⟨42, _⟩ => ⟨S4x4, .i1⟩
  | .hbm, ⟨43, _⟩ => ⟨S_, .i1⟩
  | .hbm, ⟨44, _⟩ => ⟨S4x4, .i1⟩
  | .hbm, ⟨45, _⟩ => ⟨S4x4, .i1⟩
  | .hbm, ⟨46, _⟩ => ⟨S32x4x4x4, .f32⟩
  | .hbm, ⟨47, _⟩ => ⟨S_, .f32⟩
  | .hbm, ⟨48, _⟩ => ⟨S_, .f32⟩
  | .hbm, ⟨49, _⟩ => ⟨S32x4x4x4, .i1⟩
  | .hbm, ⟨50, _⟩ => ⟨S32x4x4x4, .f32⟩
  | .hbm, ⟨51, _⟩ => ⟨S32x4x4x4, .f32⟩
  | .hbm, ⟨52, _⟩ => ⟨S32x4x4x512, .f32⟩
  | .hbm, ⟨53, _⟩ => ⟨S32x4x4x512, .f32⟩
  | .hbm, ⟨54, _⟩ => ⟨S32x4x4x512, .f32⟩
  | .hbm, ⟨55, _⟩ => ⟨S32x4x256, .f32⟩
  | .hbm, ⟨56, _⟩ => ⟨S32x4x256, .f32⟩
  | .hbm, ⟨57, _⟩ => ⟨S32x4x256x1, .f32⟩
  | .hbm, ⟨58, _⟩ => ⟨S32x4x256x512, .f32⟩
  | .hbm, ⟨59, _⟩ => ⟨S32x4x256x512, .f32⟩
  | .hbm, ⟨60, _⟩ => ⟨S32x4x256x512, .f32⟩
  | .hbm, ⟨61, _⟩ => ⟨S32x4x256x512, .f32⟩
  | .hbm, ⟨62, _⟩ => ⟨S32x4x4x512, .f32⟩
  | .hbm, ⟨63, _⟩ => ⟨S32x4x4x512, .f32⟩
  | .hbm, ⟨64, _⟩ => ⟨S_, .f32⟩
  | .hbm, ⟨65, _⟩ => ⟨S32x4x4, .f32⟩
  | .hbm, ⟨66, _⟩ => ⟨S32x4x4x1, .f32⟩
  | .hbm, ⟨67, _⟩ => ⟨S_, .f32⟩
  | .hbm, ⟨68, _⟩ => ⟨S32x4x4x1, .f32⟩
  | .hbm, ⟨69, _⟩ => ⟨S32x4x4x1, .f32⟩
  | .hbm, ⟨70, _⟩ => ⟨S_, .f32⟩
  | .hbm, ⟨71, _⟩ => ⟨S32x4x4x1, .f32⟩
  | .hbm, ⟨72, _⟩ => ⟨S32x4x4x1, .f32⟩
  | .hbm, ⟨73, _⟩ => ⟨S32x4x4x1, .f32⟩
  | .hbm, ⟨74, _⟩ => ⟨S32x4x4x512, .f32⟩
  | .hbm, ⟨75, _⟩ => ⟨S32x4x4x512, .f32⟩
  | .hbm, ⟨76, _⟩ => ⟨S1x1x1x512, .f32⟩
  | .hbm, ⟨77, _⟩ => ⟨S32x4x4x512, .f32⟩
  | .hbm, ⟨78, _⟩ => ⟨S32x4x4x512, .f32⟩
  | .hbm, ⟨79, _⟩ => ⟨S32x4x2048, .f32⟩
  | .hbm, ⟨80, _⟩ => ⟨S32x4x2048, .f32⟩
  | .hbm, ⟨81, _⟩ => ⟨S32x4x2048, .f32⟩
  | .hbm, ⟨82, _⟩ => ⟨S_, .f32⟩
  | .hbm, ⟨83, _⟩ => ⟨S32x4x2048, .f32⟩
  | .hbm, ⟨84, _⟩ => ⟨S32x4x2048, .f32⟩
  | .hbm, ⟨85, _⟩ => ⟨S_, .f32⟩
  | .hbm, ⟨86, _⟩ => ⟨S32x4x2048, .f32⟩
  | .hbm, ⟨87, _⟩ => ⟨S32x4x2048, .f32⟩
  | .hbm, ⟨88, _⟩ => ⟨S32x4x2048, .f32⟩
  | .hbm, ⟨89, _⟩ => ⟨S32x4x2048, .f32⟩
  | .hbm, ⟨90, _⟩ => ⟨S_, .i32⟩
  | .hbm, ⟨91, _⟩ => ⟨S_, .f32⟩
  | .hbm, ⟨92, _⟩ => ⟨S32x16x2048, .f32⟩
  | _, _ => ⟨S128x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_call0_cst : Ref sig .tc := ⟨.hbm, 22, rfl⟩
abbrev main_call0_call0_v0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_c : Ref sig .tc := ⟨.hbm, 35, rfl⟩
abbrev main_v28 : Ref sig .tc := ⟨.hbm, 36, rfl⟩
abbrev main_call1_v0 : Ref sig .tc := ⟨.hbm, 37, rfl⟩
abbrev main_call1_c : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_0 : Ref sig .tc := ⟨.hbm, 43, rfl⟩
abbrev main_call1_v5 : Ref sig .tc := ⟨.hbm, 44, rfl⟩
abbrev main_v29 : Ref sig .tc := ⟨.hbm, 45, rfl⟩
abbrev main_v30 : Ref sig .tc := ⟨.hbm, 46, rfl⟩
abbrev main_cst_0 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_1 : Ref sig .tc := ⟨.hbm, 64, rfl⟩
abbrev main_v44 : Ref sig .tc := ⟨.hbm, 65, rfl⟩
abbrev main_v45 : Ref sig .tc := ⟨.hbm, 66, rfl⟩
abbrev main_cst_2 : Ref sig .tc := ⟨.hbm, 67, rfl⟩
abbrev main_v46 : Ref sig .tc := ⟨.hbm, 68, rfl⟩
abbrev main_v47 : Ref sig .tc := ⟨.hbm, 69, rfl⟩
abbrev main_cst_3 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_call3_v0 : Ref sig .tc := ⟨.hbm, 80, rfl⟩
abbrev main_call3_v1 : Ref sig .tc := ⟨.hbm, 81, rfl⟩
abbrev main_call3_cst : Ref sig .tc := ⟨.hbm, 82, rfl⟩
abbrev main_call3_v2 : Ref sig .tc := ⟨.hbm, 83, rfl⟩
abbrev main_call3_v3 : Ref sig .tc := ⟨.hbm, 84, rfl⟩
abbrev main_call3_cst_0 : Ref sig .tc := ⟨.hbm, 85, rfl⟩
abbrev main_call3_v4 : Ref sig .tc := ⟨.hbm, 86, rfl⟩
abbrev main_call3_v5 : Ref sig .tc := ⟨.hbm, 87, rfl⟩
abbrev main_v57 : Ref sig .tc := ⟨.hbm, 88, rfl⟩
abbrev main_v58 : Ref sig .tc := ⟨.hbm, 89, rfl⟩
abbrev main_c_4 : Ref sig .tc := ⟨.hbm, 90, rfl⟩
abbrev main_call4_v0 : Ref sig .tc := ⟨.hbm, 91, rfl⟩
abbrev main_v59 : Ref sig .tc := ⟨.hbm, 92, rfl⟩

abbrev nD : Nat := 1
abbrev τ : Topo := Topo.v7x

variable {F : FTy → Type} [FloatOps F]
-- ==== Kernel2.lean ====
abbrev S8320x2048 : Shape := ⟨2, ![8320, 2048]⟩
abbrev S1x2048x19472 : Shape := ⟨3, ![1, 2048, 19472]⟩
abbrev S8320x16 : Shape := ⟨2, ![8320, 16]⟩
abbrev S2048x19472 : Shape := ⟨2, ![2048, 19472]⟩
abbrev S19472x2048 : Shape := ⟨2, ![19472, 2048]⟩
abbrev S_ : Shape := ⟨0, ![]⟩
abbrev S8320x96 : Shape := ⟨2, ![8320, 96]⟩
abbrev S8320x128 : Shape := ⟨2, ![8320, 128]⟩
abbrev S8320x9216 : Shape := ⟨2, ![8320, 9216]⟩
abbrev S2080x2048 : Shape := ⟨2, ![2080, 2048]⟩
abbrev S512x2048 : Shape := ⟨2, ![512, 2048]⟩
abbrev S2080x128 : Shape := ⟨2, ![2080, 128]⟩
abbrev S2080x512 : Shape := ⟨2, ![2080, 512]⟩

abbrev nBuf : Space → Nat
  | .hbm => 17
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S1x2048x19472, .f32⟩
  | .hbm, ⟨2, _⟩ => ⟨S8320x16, .f32⟩
  | .hbm, ⟨3, _⟩ => ⟨S8320x16, .f32⟩
  | .hbm, ⟨4, _⟩ => ⟨S2048x19472, .f32⟩
  | .hbm, ⟨5, _⟩ => ⟨S19472x2048, .f32⟩
  | .hbm, ⟨6, _⟩ => ⟨S_, .f32⟩
  | .hbm, ⟨7, _⟩ => ⟨S8320x96, .f32⟩
  | .hbm, ⟨8, _⟩ => ⟨S_, .f32⟩
  | .hbm, ⟨9, _⟩ => ⟨S8320x96, .f32⟩
  | .hbm, ⟨10, _⟩ => ⟨S_, .f32⟩
  | .hbm, ⟨11, _⟩ => ⟨S8320x16, .f32⟩
  | .hbm, ⟨12, _⟩ => ⟨S8320x128, .f32⟩
  | .hbm, ⟨13, _⟩ => ⟨S8320x16, .f32⟩
  | .hbm, ⟨14, _⟩ => ⟨S8320x128, .f32⟩
  | .hbm, ⟨15, _⟩ => ⟨S8320x128, .f32⟩
  | .hbm, ⟨16, _⟩ => ⟨S8320x9216, .f32⟩
  | .local _ .vmem, ⟨0, _⟩ => ⟨S2080x2048, .bf16⟩
  | .local _ .vmem, ⟨1, _⟩ => ⟨S2080x2048, .bf16⟩
  | .local _ .vmem, ⟨2, _⟩ => ⟨S512x2048, .f32⟩
  | .local _ .vmem, ⟨3, _⟩ => ⟨S512x2048, .f32⟩
  | .local _ .vmem, ⟨4, _⟩ => ⟨S2080x128, .f32⟩
  | .local _ .vmem, ⟨5, _⟩ => ⟨S2080x128, .f32⟩
  | .local _ .vmem, ⟨6, _⟩ => ⟨S2080x128, .f32⟩
  | .local _ .vmem, ⟨7, _⟩ => ⟨S2080x128, .f32⟩
  | .local _ .vmem, ⟨8, _⟩ => ⟨S2080x128, .f32⟩
  | .local _ .vmem, ⟨9, _⟩ => ⟨S2080x128, .f32⟩
  | .local _ .vmem, ⟨10, _⟩ => ⟨S2080x512, .f32⟩
  | .local _ .vmem, ⟨11, _⟩ => ⟨S2080x512, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 18], ![false, false]⟩

def k0_mult1 (i : grid0.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def k0_cond1 (i : grid0.Coords) : BitVec 1 :=
  let arg1 : BitVec 32 := BitVec.ofNat 32 (i 1).val
  let c12_i32 : BitVec 32 := 12#32
  let v5 : BitVec 1 := Scalar.cmpi .sge arg1 c12_i32
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c12_i32_3 : BitVec 32 := 12#32
  let v8 : BitVec 1 := Scalar.cmpi .slt arg1 c12_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2080x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2080x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8320x2048 : Shape := ⟨2, ![8320, 2048]⟩
abbrev S1x2048x19472 : Shape := ⟨3, ![1, 2048, 19472]⟩
abbrev S8320x16 : Shape := ⟨2, ![8320, 16]⟩
abbrev S1x2048x9216 : Shape := ⟨3, ![1, 2048, 9216]⟩
abbrev S2048x9216 : Shape := ⟨2, ![2048, 9216]⟩
abbrev S8320x9216 : Shape := ⟨2, ![8320, 9216]⟩
abbrev S8320x3x24x128 : Shape := ⟨4, ![8320, 3, 24, 128]⟩
abbrev S8320x2x24x128 : Shape := ⟨4, ![8320, 2, 24, 128]⟩
abbrev S8320x1x1x16 : Shape := ⟨4, ![8320, 1, 1, 16]⟩
abbrev S8320x2x24x16 : Shape := ⟨4, ![8320, 2, 24, 16]⟩
abbrev S8320x2x24x96 : Shape := ⟨4, ![8320, 2, 24, 96]⟩
abbrev S8320x1x24x128 : Shape := ⟨4, ![8320, 1, 24, 128]⟩

abbrev nBuf : Space → Nat
  | .hbm => 29
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x19472, .f32⟩
  | .hbm, ⟨2, _⟩ => ⟨S8320x16, .f32⟩
  | .hbm, ⟨3, _⟩ => ⟨S8320x16, .f32⟩
  | .hbm, ⟨4, _⟩ => ⟨S8320x2048, .f32⟩
  | .hbm, ⟨5, _⟩ => ⟨S1x2048x9216, .f32⟩
  | .hbm, ⟨6, _⟩ => ⟨S2048x9216, .f32⟩
  | .hbm, ⟨7, _⟩ => ⟨S8320x9216, .f32⟩
  | .hbm, ⟨8, _⟩ => ⟨S8320x3x24x128, .f32⟩
  | .hbm, ⟨9, _⟩ => ⟨S8320x2x24x128, .f32⟩
  | .hbm, ⟨10, _⟩ => ⟨S8320x1x1x16, .f32⟩
  | .hbm, ⟨11, _⟩ => ⟨S8320x1x1x16, .f32⟩
  | .hbm, ⟨12, _⟩ => ⟨S8320x2x24x16, .f32⟩
  | .hbm, ⟨13, _⟩ => ⟨S8320x2x24x16, .f32⟩
  | .hbm, ⟨14, _⟩ => ⟨S8320x2x24x16, .f32⟩
  | .hbm, ⟨15, _⟩ => ⟨S8320x2x24x16, .f32⟩
  | .hbm, ⟨16, _⟩ => ⟨S8320x2x24x16, .f32⟩
  | .hbm, ⟨17, _⟩ => ⟨S8320x2x24x16, .f32⟩
  | .hbm, ⟨18, _⟩ => ⟨S8320x2x24x16, .f32⟩
  | .hbm, ⟨19, _⟩ => ⟨S8320x2x24x16, .f32⟩
  | .hbm, ⟨20, _⟩ => ⟨S8320x2x24x16, .f32⟩
  | .hbm, ⟨21, _⟩ => ⟨S8320x2x24x16, .f32⟩
  | .hbm, ⟨22, _⟩ => ⟨S8320x2x24x16, .f32⟩
  | .hbm, ⟨23, _⟩ => ⟨S8320x2x24x16, .f32⟩
  | .hbm, ⟨24, _⟩ => ⟨S8320x2x24x96, .f32⟩
  | .hbm, ⟨25, _⟩ => ⟨S8320x2x24x128, .f32⟩
  | .hbm, ⟨26, _⟩ => ⟨S8320x1x24x128, .f32⟩
  | .hbm, ⟨27, _⟩ => ⟨S8320x3x24x128, .f32⟩
  | .hbm, ⟨28, _⟩ => ⟨S8320x9216, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Kernel3.lean ====
abbrev S8320x2048 : Shape := ⟨2, ![8320, 2048]⟩
abbrev S1x2048x19472 : Shape := ⟨3, ![1, 2048, 19472]⟩
abbrev S8320x16 : Shape := ⟨2, ![8320, 16]⟩
abbrev S2048x19472 : Shape := ⟨2, ![2048, 19472]⟩
abbrev S19472x2048 : Shape := ⟨2, ![19472, 2048]⟩
abbrev S_ : Shape := ⟨0, ![]⟩
abbrev S8320x96 : Shape := ⟨2, ![8320, 96]⟩
abbrev S8320x128 : Shape := ⟨2, ![8320, 128]⟩
abbrev S8320x6144 : Shape := ⟨2, ![8320, 6144]⟩
abbrev S2080x2048 : Shape := ⟨2, ![2080, 2048]⟩
abbrev S512x2048 : Shape := ⟨2, ![512, 2048]⟩
abbrev S2080x128 : Shape := ⟨2, ![2080, 128]⟩
abbrev S2080x512 : Shape := ⟨2, ![2080, 512]⟩

abbrev nBuf : Space → Nat
  | .hbm => 17
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S1x2048x19472, .f32⟩
  | .hbm, ⟨2, _⟩ => ⟨S8320x16, .f32⟩
  | .hbm, ⟨3, _⟩ => ⟨S8320x16, .f32⟩
  | .hbm, ⟨4, _⟩ => ⟨S2048x19472, .f32⟩
  | .hbm, ⟨5, _⟩ => ⟨S19472x2048, .f32⟩
  | .hbm, ⟨6, _⟩ => ⟨S_, .f32⟩
  | .hbm, ⟨7, _⟩ => ⟨S8320x96, .f32⟩
  | .hbm, ⟨8, _⟩ => ⟨S_, .f32⟩
  | .hbm, ⟨9, _⟩ => ⟨S8320x96, .f32⟩
  | .hbm, ⟨10, _⟩ => ⟨S_, .f32⟩
  | .hbm, ⟨11, _⟩ => ⟨S8320x16, .f32⟩
  | .hbm, ⟨12, _⟩ => ⟨S8320x128, .f32⟩
  | .hbm, ⟨13, _⟩ => ⟨S8320x16, .f32⟩
  | .hbm, ⟨14, _⟩ => ⟨S8320x128, .f32⟩
  | .hbm, ⟨15, _⟩ => ⟨S8320x128, .f32⟩
  | .hbm, ⟨16, _⟩ => ⟨S8320x6144, .bf16⟩
  | .local _ .vmem, ⟨0, _⟩ => ⟨S2080x2048, .bf16⟩
  | .local _ .vmem, ⟨1, _⟩ => ⟨S2080x2048, .bf16⟩
  | .local _ .vmem, ⟨2, _⟩ => ⟨S512x2048, .f32⟩
  | .local _ .vmem, ⟨3, _⟩ => ⟨S512x2048, .f32⟩
  | .local _ .vmem, ⟨4, _⟩ => ⟨S2080x128, .f32⟩
  | .local _ .vmem, ⟨5, _⟩ => ⟨S2080x128, .f32⟩
  | .local _ .vmem, ⟨6, _⟩ => ⟨S2080x128, .f32⟩
  | .local _ .vmem, ⟨7, _⟩ => ⟨S2080x128, .f32⟩
  | .local _ .vmem, ⟨8, _⟩ => ⟨S2080x128, .f32⟩
  | .local _ .vmem, ⟨9, _⟩ => ⟨S2080x128, .f32⟩
  | .local _ .vmem, ⟨10, _⟩ => ⟨S2080x512, .bf16⟩
  | .local _ .vmem, ⟨11, _⟩ => ⟨S2080x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 12], ![false, false]⟩

def k0_mult1 (i : grid0.Coords) : BitVec 32 :=
  let c9216_i32 : BitVec 32 := 9216#32
  let arg1 : BitVec 32 := BitVec.ofNat 32 (i 1).val
  let c512_i32 : BitVec 32 := 512#32
  let v0 : BitVec 32 := Scalar.muli arg1 c512_i32
  let v1 : BitVec 32 := Scalar.addi c9216_i32 v0
  v1
def k0_cond1 (i : grid0.Coords) : BitVec 1 :=
  let arg1 : BitVec 32 := BitVec.ofNat 32 (i 1).val
  let c0_i32 : BitVec 32 := 0#32
  let v5 : BitVec 1 := Scalar.cmpi .sge arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .slt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c9216_i32 : BitVec 32 := 9216#32
  let v1 : BitVec 32 := Scalar.addi c9216_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2080x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2080x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S8320x2048 : Shape := ⟨2, ![8320, 2048]⟩
abbrev S1x2048x19472 : Shape := ⟨3, ![1, 2048, 19472]⟩
abbrev S8320x16 : Shape := ⟨2, ![8320, 16]⟩
abbrev S1x2048x6144 : Shape := ⟨3, ![1, 2048, 6144]⟩
abbrev S2048x6144 : Shape := ⟨2, ![2048, 6144]⟩
abbrev S8320x6144 : Shape := ⟨2, ![8320, 6144]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x19472, .f32⟩
  | .hbm, ⟨2, _⟩ => ⟨S8320x16, .f32⟩
  | .hbm, ⟨3, _⟩ => ⟨S8320x16, .f32⟩
  | .hbm, ⟨4, _⟩ => ⟨S8320x2048, .f32⟩
  | .hbm, ⟨5, _⟩ => ⟨S1x2048x6144, .f32⟩
  | .hbm, ⟨6, _⟩ => ⟨S2048x6144, .f32⟩
  | .hbm, ⟨7, _⟩ => ⟨S8320x6144, .f32⟩
  | .hbm, ⟨8, _⟩ => ⟨S8320x6144, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel4.lean ====
abbrev S8320x2048 : Shape := ⟨2, ![8320, 2048]⟩
abbrev S1x2048x19472 : Shape := ⟨3, ![1, 2048, 19472]⟩
abbrev S8320x16 : Shape := ⟨2, ![8320, 16]⟩
abbrev S2048x19472 : Shape := ⟨2, ![2048, 19472]⟩
abbrev S19472x2048 : Shape := ⟨2, ![19472, 2048]⟩
abbrev S_ : Shape := ⟨0, ![]⟩
abbrev S8320x96 : Shape := ⟨2, ![8320, 96]⟩
abbrev S8320x128 : Shape := ⟨2, ![8320, 128]⟩
abbrev S8320x4096 : Shape := ⟨2, ![8320, 4096]⟩
abbrev S2080x2048 : Shape := ⟨2, ![2080, 2048]⟩
abbrev S512x2048 : Shape := ⟨2, ![512, 2048]⟩
abbrev S2080x128 : Shape := ⟨2, ![2080, 128]⟩
abbrev S2080x512 : Shape := ⟨2, ![2080, 512]⟩

abbrev nBuf : Space → Nat
  | .hbm => 17
  | .vmem => 12
  | .smem => 0
  | _ => 0

abbrev bufTy : (tb : Table) → Fin (tcTables nBuf tb) → BufTy
  | .hbm, ⟨0, _⟩ => ⟨S8320x2048, .bf16⟩
  | .hbm, ⟨1, _⟩ => ⟨S1x2048x19472, .f32⟩
  | .hbm, ⟨2, _⟩ => ⟨S8320x16, .f32⟩
  | .hbm, ⟨3, _⟩ => ⟨S8320x16, .f32⟩
  | .hbm, ⟨4, _⟩ => ⟨S2048x19472, .f32⟩
  | .hbm, ⟨5, _⟩ => ⟨S19472x2048, .f32⟩
  | .hbm, ⟨6, _⟩ => ⟨S_, .f32⟩
  | .hbm, ⟨7, _⟩ => ⟨S8320x96, .f32⟩
  | .hbm, ⟨8, _⟩ => ⟨S_, .f32⟩
  | .hbm, ⟨9, _⟩ => ⟨S8320x96, .f32⟩
  | .hbm, ⟨10, _⟩ => ⟨S_, .f32⟩
  | .hbm, ⟨11, _⟩ => ⟨S8320x16, .f32⟩
  | .hbm, ⟨12, _⟩ => ⟨S8320x128, .f32⟩
  | .hbm, ⟨13, _⟩ => ⟨S8320x16, .f32⟩
  | .hbm, ⟨14, _⟩ => ⟨S8320x128, .f32⟩
  | .hbm, ⟨15, _⟩ => ⟨S8320x128, .f32⟩
  | .hbm, ⟨16, _⟩ => ⟨S8320x4096, .bf16⟩
  | .local _ .vmem, ⟨0, _⟩ => ⟨S2080x2048, .bf16⟩
  | .local _ .vmem, ⟨1, _⟩ => ⟨S2080x2048, .bf16⟩
  | .local _ .vmem, ⟨2, _⟩ => ⟨S512x2048, .f32⟩
  | .local _ .vmem, ⟨3, _⟩ => ⟨S512x2048, .f32⟩
  | .local _ .vmem, ⟨4, _⟩ => ⟨S2080x128, .f32⟩
  | .local _ .vmem, ⟨5, _⟩ => ⟨S2080x128, .f32⟩
  | .local _ .vmem, ⟨6, _⟩ => ⟨S2080x128, .f32⟩
  | .local _ .vmem, ⟨7, _⟩ => ⟨S2080x128, .f32⟩
  | .local _ .vmem, ⟨8, _⟩ => ⟨S2080x128, .f32⟩
  | .local _ .vmem, ⟨9, _⟩ => ⟨S2080x128, .f32⟩
  | .local _ .vmem, ⟨10, _⟩ => ⟨S2080x512, .bf16⟩
  | .local _ .vmem, ⟨11, _⟩ => ⟨S2080x512, .bf16⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c15376_i32 : BitVec 32 := 15376#32
  let arg1 : BitVec 32 := BitVec.ofNat 32 (i 1).val
  let c512_i32 : BitVec 32 := 512#32
  let v0 : BitVec 32 := Scalar.muli arg1 c512_i32
  let v1 : BitVec 32 := Scalar.addi c15376_i32 v0
  v1
def k0_cond1 (i : grid0.Coords) : BitVec 1 :=
  let arg1 : BitVec 32 := BitVec.ofNat 32 (i 1).val
  let c0_i32 : BitVec 32 := 0#32
  let v5 : BitVec 1 := Scalar.cmpi .sge arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .slt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c15376_i32 : BitVec 32 := 15376#32
  let v1 : BitVec 32 := Scalar.addi c15376_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2080x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2080x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2080x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2080x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2080x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8320x2048 : Shape := ⟨2, ![8320, 2048]⟩
abbrev S1x2048x19472 : Shape := ⟨3, ![1, 2048, 19472]⟩
abbrev S8320x16 : Shape := ⟨2, ![8320, 16]⟩
abbrev S1x2048x4096 : Shape := ⟨3, ![1, 2048, 4096]⟩
abbrev S2048x4096 : Shape := ⟨2, ![2048, 4096]⟩
abbrev S8320x4096 : Shape := ⟨2, ![8320, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x19472, .f32⟩
  | .hbm, ⟨2, _⟩ => ⟨S8320x16, .f32⟩
  | .hbm, ⟨3, _⟩ => ⟨S8320x16, .f32⟩
  | .hbm, ⟨4, _⟩ => ⟨S8320x2048, .f32⟩
  | .hbm, ⟨5, _⟩ => ⟨S1x2048x4096, .f32⟩
  | .hbm, ⟨6, _⟩ => ⟨S2048x4096, .f32⟩
  | .hbm, ⟨7, _⟩ => ⟨S8320x4096, .f32⟩
  | .hbm, ⟨8, _⟩ => ⟨S8320x4096, .bf16⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S8320x2048 : Shape := ⟨2, ![8320, 2048]⟩
abbrev S8320x256 : Shape := ⟨2, ![8320, 256]⟩
abbrev S1x2048x2048 : Shape := ⟨3, ![1, 2048, 2048]⟩
abbrev S1x256x2048 : Shape := ⟨3, ![1, 256, 2048]⟩
abbrev S1x2048x4 : Shape := ⟨3, ![1, 2048, 4]⟩
abbrev S1x2048x32 : Shape := ⟨3, ![1, 2048, 32]⟩
abbrev S2048x2048 : Shape := ⟨2, ![2048, 2048]⟩
abbrev S256x2048 : Shape := ⟨2, ![256, 2048]⟩
abbrev S2048x4 : Shape := ⟨2, ![2048, 4]⟩
abbrev S2048x32 : Shape := ⟨2, ![2048, 32]⟩
abbrev S_ : Shape := ⟨0, ![]⟩
abbrev S2048x256 : Shape := ⟨2, ![2048, 256]⟩
abbrev S1 : Shape := ⟨1, ![1]⟩
abbrev S8320x128 : Shape := ⟨2, ![8320, 128]⟩
abbrev S1x128 : Shape := ⟨2, ![1, 128]⟩
abbrev S832x2048 : Shape := ⟨2, ![832, 2048]⟩
abbrev S832x256 : Shape := ⟨2, ![832, 256]⟩
abbrev S832x128 : Shape := ⟨2, ![832, 128]⟩
abbrev S2048x512 : Shape := ⟨2, ![2048, 512]⟩
abbrev S832x512 : Shape := ⟨2, ![832, 512]⟩
abbrev S256x512 : Shape := ⟨2, ![256, 512]⟩
abbrev S832 : Shape := ⟨1, ![832]⟩
abbrev S832x1 : Shape := ⟨2, ![832, 1]⟩
abbrev S832x832 : Shape := ⟨2, ![832, 832]⟩
abbrev S128 : Shape := ⟨1, ![128]⟩

abbrev nBuf : Space → Nat
  | .hbm => 25
  | .vmem => 14
  | .smem => 0
  | _ => 0

abbrev bufTy : (tb : Table) → Fin (tcTables nBuf tb) → BufTy
  | .hbm, ⟨0, _⟩ => ⟨S8320x2048, .f32⟩
  | .hbm, ⟨1, _⟩ => ⟨S8320x256, .f32⟩
  | .hbm, ⟨2, _⟩ => ⟨S1x2048x2048, .f32⟩
  | .hbm, ⟨3, _⟩ => ⟨S1x256x2048, .f32⟩
  | .hbm, ⟨4, _⟩ => ⟨S1x2048x4, .f32⟩
  | .hbm, ⟨5, _⟩ => ⟨S1x2048x32, .f32⟩
  | .hbm, ⟨6, _⟩ => ⟨S8320x256, .bf16⟩
  | .hbm, ⟨7, _⟩ => ⟨S2048x2048, .f32⟩
  | .hbm, ⟨8, _⟩ => ⟨S2048x2048, .bf16⟩
  | .hbm, ⟨9, _⟩ => ⟨S256x2048, .f32⟩
  | .hbm, ⟨10, _⟩ => ⟨S256x2048, .bf16⟩
  | .hbm, ⟨11, _⟩ => ⟨S2048x4, .f32⟩
  | .hbm, ⟨12, _⟩ => ⟨S2048x32, .f32⟩
  | .hbm, ⟨13, _⟩ => ⟨S_, .f32⟩
  | .hbm, ⟨14, _⟩ => ⟨S2048x256, .f32⟩
  | .hbm, ⟨15, _⟩ => ⟨S_, .i32⟩
  | .hbm, ⟨16, _⟩ => ⟨S1, .i32⟩
  | .hbm, ⟨17, _⟩ => ⟨S2048x256, .f32⟩
  | .hbm, ⟨18, _⟩ => ⟨S_, .i32⟩
  | .hbm, ⟨19, _⟩ => ⟨S1, .i32⟩
  | .hbm, ⟨20, _⟩ => ⟨S2048x256, .f32⟩
  | .hbm, ⟨21, _⟩ => ⟨S8320x2048, .f32⟩
  | .hbm, ⟨22, _⟩ => ⟨S8320x128, .i32⟩
  | .hbm, ⟨23, _⟩ => ⟨S8320x128, .f32⟩
  | .hbm, ⟨24, _⟩ => ⟨S1x128, .f32⟩
  | .local _ .vmem, ⟨0, _⟩ => ⟨S832x2048, .f32⟩
  | .local _ .vmem, ⟨1, _⟩ => ⟨S832x2048, .f32⟩
  | .local _ .vmem, ⟨2, _⟩ => ⟨S832x256, .bf16⟩
  | .local _ .vmem, ⟨3, _⟩ => ⟨S832x256, .bf16⟩
  | .local _ .vmem, ⟨4, _⟩ => ⟨S2048x256, .f32⟩
  | .local _ .vmem, ⟨5, _⟩ => ⟨S832x2048, .f32⟩
  | .local _ .vmem, ⟨6, _⟩ => ⟨S832x2048, .f32⟩
  | .local _ .vmem, ⟨7, _⟩ => ⟨S832x128, .i32⟩
  | .local _ .vmem, ⟨8, _⟩ => ⟨S832x128, .i32⟩
  | .local _ .vmem, ⟨9, _⟩ => ⟨S832x128, .f32⟩
  | .local _ .vmem, ⟨10, _⟩ => ⟨S832x128, .f32⟩
  | .local _ .vmem, ⟨11, _⟩ => ⟨S1x128, .f32⟩
  | .local _ .vmem, ⟨12, _⟩ => ⟨S2048x2048, .bf16⟩
  | .local _ .vmem, ⟨13, _⟩ => ⟨S256x2048, .bf16⟩
  | _, _ => ⟨S8320x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v12_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S832x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S832x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S832x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S832x128 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S832x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S8320x2048 : Shape := ⟨2, ![8320, 2048]⟩
abbrev S8320x256 : Shape := ⟨2, ![8320, 256]⟩
abbrev S1x2048x2048 : Shape := ⟨3, ![1, 2048, 2048]⟩
abbrev S1x256x2048 : Shape := ⟨3, ![1, 256, 2048]⟩
abbrev S1x2048x4 : Shape := ⟨3, ![1, 2048, 4]⟩
abbrev S1x2048x32 : Shape := ⟨3, ![1, 2048, 32]⟩
abbrev S2048x2048 : Shape := ⟨2, ![2048, 2048]⟩
abbrev S_ : Shape := ⟨0, ![]⟩
abbrev S256x2048 : Shape := ⟨2, ![256, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8320x2048, .f32⟩
  | .hbm, ⟨1, _⟩ => ⟨S8320x256, .f32⟩
  | .hbm, ⟨2, _⟩ => ⟨S1x2048x2048, .f32⟩
  | .hbm, ⟨3, _⟩ => ⟨S1x256x2048, .f32⟩
  | .hbm, ⟨4, _⟩ => ⟨S1x2048x4, .f32⟩
  | .hbm, ⟨5, _⟩ => ⟨S1x2048x32, .f32⟩
  | .hbm, ⟨6, _⟩ => ⟨S2048x2048, .f32⟩
  | .hbm, ⟨7, _⟩ => ⟨S8320x2048, .f32⟩
  | .hbm, ⟨8, _⟩ => ⟨S8320x2048, .f32⟩
  | .hbm, ⟨9, _⟩ => ⟨S8320x2048, .f32⟩
  | .hbm, ⟨10, _⟩ => ⟨S_, .f32⟩
  | .hbm, ⟨11, _⟩ => ⟨S8320x2048, .f32⟩
  | .hbm, ⟨12, _⟩ => ⟨S8320x2048, .f32⟩
  | .hbm, ⟨13, _⟩ => ⟨S_, .f32⟩
  | .hbm, ⟨14, _⟩ => ⟨S8320x2048, .f32⟩
  | .hbm, ⟨15, _⟩ => ⟨S8320x2048, .f32⟩
  | .hbm, ⟨16, _⟩ => ⟨S256x2048, .f32⟩
  | .hbm, ⟨17, _⟩ => ⟨S8320x2048, .f32⟩
  | .hbm, ⟨18, _⟩ => ⟨S8320x2048, .f32⟩
  | .hbm, ⟨19, _⟩ => ⟨S_, .f32⟩
  | .hbm, ⟨20, _⟩ => ⟨S8320x2048, .f32⟩
  | .hbm, ⟨21, _⟩ => ⟨S8320x2048, .f32⟩
  | .hbm, ⟨22, _⟩ => ⟨S8320x2048, .f32⟩
  | _, _ => ⟨S8320x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Kernel6.lean ====
abbrev S128x9216 : Shape := ⟨2, ![128, 9216]⟩
abbrev S1x32x128x2x8x128 : Shape := ⟨6, ![1, 32, 128, 2, 8, 128]⟩
abbrev S1x32x512x2x8x128 : Shape := ⟨6, ![1, 32, 512, 2, 8, 128]⟩
abbrev S1x32x2048x2x8x128 : Shape := ⟨6, ![1, 32, 2048, 2, 8, 128]⟩
abbrev S32x4x9x8x128 : Shape := ⟨5, ![32, 4, 9, 8, 128]⟩
abbrev S32x128x2x8x128 : Shape := ⟨5, ![32, 128, 2, 8, 128]⟩
abbrev S32x128x8x8x128 : Shape := ⟨5, ![32, 128, 8, 8, 128]⟩
abbrev S32x128x32x8x128 : Shape := ⟨5, ![32, 128, 32, 8, 128]⟩
abbrev S32x4x8x128 : Shape := ⟨4, ![32, 4, 8, 128]⟩
abbrev S1x4x9x8x128 : Shape := ⟨5, ![1, 4, 9, 8, 128]⟩
abbrev S1x128x2x8x128 : Shape := ⟨5, ![1, 128, 2, 8, 128]⟩
abbrev S1x128x8x8x128 : Shape := ⟨5, ![1, 128, 8, 8, 128]⟩
abbrev S1x4x8x128 : Shape := ⟨4, ![1, 4, 8, 128]⟩
abbrev S128x1x1 : Shape := ⟨3, ![128, 1, 1]⟩
abbrev S1x1x1x8x128 : Shape := ⟨5, ![1, 1, 1, 8, 128]⟩
abbrev S8x128 : Shape := ⟨2, ![8, 128]⟩
abbrev S1x128x1x8x128 : Shape := ⟨5, ![1, 128, 1, 8, 128]⟩
abbrev S128x8x128 : Shape := ⟨3, ![128, 8, 128]⟩
abbrev S1x8x128 : Shape := ⟨3, ![1, 8, 128]⟩
abbrev S128x8 : Shape := ⟨2, ![128, 8]⟩
abbrev S128x8x1 : Shape := ⟨3, ![128, 8, 1]⟩
abbrev S8 : Shape := ⟨1, ![8]⟩
abbrev S8x1 : Shape := ⟨2, ![8, 1]⟩
abbrev S1x8x1 : Shape := ⟨3, ![1, 8, 1]⟩
abbrev S1x1x8x128 : Shape := ⟨4, ![1, 1, 8, 128]⟩

abbrev nBuf : Space → Nat
  | .hbm => 9
  | .vmem => 10
  | .smem => 0
  | _ => 0

abbrev bufTy : (tb : Table) → Fin (tcTables nBuf tb) → BufTy
  | .hbm, ⟨0, _⟩ => ⟨S128x9216, .f32⟩
  | .hbm, ⟨1, _⟩ => ⟨S1x32x128x2x8x128, .f32⟩
  | .hbm, ⟨2, _⟩ => ⟨S1x32x512x2x8x128, .f32⟩
  | .hbm, ⟨3, _⟩ => ⟨S1x32x2048x2x8x128, .f32⟩
  | .hbm, ⟨4, _⟩ => ⟨S32x4x9x8x128, .f32⟩
  | .hbm, ⟨5, _⟩ => ⟨S32x128x2x8x128, .f32⟩
  | .hbm, ⟨6, _⟩ => ⟨S32x128x8x8x128, .f32⟩
  | .hbm, ⟨7, _⟩ => ⟨S32x128x32x8x128, .f32⟩
  | .hbm, ⟨8, _⟩ => ⟨S32x4x8x128, .f32⟩
  | .local _ .vmem, ⟨0, _⟩ => ⟨S1x4x9x8x128, .f32⟩
  | .local _ .vmem, ⟨1, _⟩ => ⟨S1x4x9x8x128, .f32⟩
  | .local _ .vmem, ⟨2, _⟩ => ⟨S1x128x2x8x128, .f32⟩
  | .local _ .vmem, ⟨3, _⟩ => ⟨S1x128x2x8x128, .f32⟩
  | .local _ .vmem, ⟨4, _⟩ => ⟨S1x128x8x8x128, .f32⟩
  | .local _ .vmem, ⟨5, _⟩ => ⟨S1x128x8x8x128, .f32⟩
  | .local _ .vmem, ⟨6, _⟩ => ⟨S1x128x8x8x128, .f32⟩
  | .local _ .vmem, ⟨7, _⟩ => ⟨S1x128x8x8x128, .f32⟩
  | .local _ .vmem, ⟨8, _⟩ => ⟨S1x4x8x128, .f32⟩
  | .local _ .vmem, ⟨9, _⟩ => ⟨S1x4x8x128, .f32⟩
  | _, _ => ⟨S128x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x9x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x8x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x8x8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference6Ideal.lean ====
abbrev S128x9216 : Shape := ⟨2, ![128, 9216]⟩
abbrev S1x32x128x2x8x128 : Shape := ⟨6, ![1, 32, 128, 2, 8, 128]⟩
abbrev S1x32x512x2x8x128 : Shape := ⟨6, ![1, 32, 512, 2, 8, 128]⟩
abbrev S1x32x2048x2x8x128 : Shape := ⟨6, ![1, 32, 2048, 2, 8, 128]⟩
abbrev S32x4x3x3x8x128 : Shape := ⟨6, ![32, 4, 3, 3, 8, 128]⟩
abbrev S32x4x1x1x8x128 : Shape := ⟨6, ![32, 4, 1, 1, 8, 128]⟩
abbrev S32x4x8x128 : Shape := ⟨4, ![32, 4, 8, 128]⟩
abbrev S32x128x2x8x128 : Shape := ⟨5, ![32, 128, 2, 8, 128]⟩
abbrev S32x4x1x8x128 : Shape := ⟨5, ![32, 4, 1, 8, 128]⟩
abbrev S32x4x2x8x128 : Shape := ⟨5, ![32, 4, 2, 8, 128]⟩
abbrev S32x132x2x8x128 : Shape := ⟨5, ![32, 132, 2, 8, 128]⟩
abbrev S32x129x1x8x128 : Shape := ⟨5, ![32, 129, 1, 8, 128]⟩
abbrev S32x129x8x128 : Shape := ⟨4, ![32, 129, 8, 128]⟩
abbrev S32x1x129x8x128 : Shape := ⟨5, ![32, 1, 129, 8, 128]⟩
abbrev S32x4x129x8x128 : Shape := ⟨5, ![32, 4, 129, 8, 128]⟩
abbrev S32x4x8x129 : Shape := ⟨4, ![32, 4, 8, 129]⟩
abbrev S_ : Shape := ⟨0, ![]⟩
abbrev S32x4x8 : Shape := ⟨3, ![32, 4, 8]⟩
abbrev S32x4x8x1 : Shape := ⟨4, ![32, 4, 8, 1]⟩
abbrev S32x512x2x8x128 : Shape := ⟨5, ![32, 512, 2, 8, 128]⟩
abbrev S32x516x2x8x128 : Shape := ⟨5, ![32, 516, 2, 8, 128]⟩
abbrev S32x2048x2x8x128 : Shape := ⟨5, ![32, 2048, 2, 8, 128]⟩
abbrev S32x2052x2x8x128 : Shape := ⟨5, ![32, 2052, 2, 8, 128]⟩
abbrev S1x32x4x8 : Shape := ⟨4, ![1, 32, 4, 8]⟩
abbrev S3x32x4x8 : Shape := ⟨4, ![3, 32, 4, 8]⟩
abbrev S1x32x4x8x128 : Shape := ⟨5, ![1, 32, 4, 8, 128]⟩
abbrev S3x32x4x8x128 : Shape := ⟨5, ![3, 32, 4, 8, 128]⟩

abbrev nBuf : Space → Nat
  | .hbm => 196
  | .vmem => 0
  | .smem => 0
  | _ => 0

abbrev hbmTy0_0 (i : Nat) : BufTy := match i % 128 with
  | 0 => ⟨S128x9216, .f32⟩
  | 1 => ⟨S1x32x128x2x8x128, .f32⟩
  | 2 => ⟨S1x32x512x2x8x128, .f32⟩
  | 3 => ⟨S1x32x2048x2x8x128, .f32⟩
  | 4 => ⟨S32x4x3x3x8x128, .f32⟩
  | 5 => ⟨S32x4x1x1x8x128, .f32⟩
  | 6 => ⟨S32x4x8x128, .f32⟩
  | 7 => ⟨S32x4x1x1x8x128, .f32⟩
  | 8 => ⟨S32x4x8x128, .f32⟩
  | 9 => ⟨S32x4x1x1x8x128, .f32⟩
  | 10 => ⟨S32x4x8x128, .f32⟩
  | 11 => ⟨S32x128x2x8x128, .f32⟩
  | 12 => ⟨S32x4x1x8x128, .f32⟩
  | 13 => ⟨S32x4x1x8x128, .f32⟩
  | 14 => ⟨S32x4x2x8x128, .f32⟩
  | 15 => ⟨S32x132x2x8x128, .f32⟩
  | 16 => ⟨S32x129x1x8x128, .f32⟩
  | 17 => ⟨S32x129x8x128, .f32⟩
  | 18 => ⟨S32x129x1x8x128, .f32⟩
  | 19 => ⟨S32x129x8x128, .f32⟩
  | 20 => ⟨S32x129x1x8x128, .f32⟩
  | 21 => ⟨S32x129x8x128, .f32⟩
  | 22 => ⟨S32x129x1x8x128, .f32⟩
  | 23 => ⟨S32x129x8x128, .f32⟩
  | 24 => ⟨S32x1x129x8x128, .f32⟩
  | 25 => ⟨S32x1x129x8x128, .f32⟩
  | 26 => ⟨S32x1x129x8x128, .f32⟩
  | 27 => ⟨S32x1x129x8x128, .f32⟩
  | 28 => ⟨S32x4x129x8x128, .f32⟩
  | 29 => ⟨S32x129x1x8x128, .f32⟩
  | 30 => ⟨S32x129x8x128, .f32⟩
  | 31 => ⟨S32x129x1x8x128, .f32⟩
  | 32 => ⟨S32x129x8x128, .f32⟩
  | 33 => ⟨S32x129x1x8x128, .f32⟩
  | 34 => ⟨S32x129x8x128, .f32⟩
  | 35 => ⟨S32x129x1x8x128, .f32⟩
  | 36 => ⟨S32x129x8x128, .f32⟩
  | 37 => ⟨S32x1x129x8x128, .f32⟩
  | 38 => ⟨S32x1x129x8x128, .f32⟩
  | 39 => ⟨S32x1x129x8x128, .f32⟩
  | 40 => ⟨S32x1x129x8x128, .f32⟩
  | 41 => ⟨S32x4x129x8x128, .f32⟩
  | 42 => ⟨S32x4x8x129, .f32⟩
  | 43 => ⟨S_, .f32⟩
  | 44 => ⟨S32x4x8x129, .f32⟩
  | 45 => ⟨S32x4x8x129, .f32⟩
  | 46 => ⟨S_, .f32⟩
  | 47 => ⟨S32x4x8, .f32⟩
  | 48 => ⟨S32x4x8x1, .f32⟩
  | 49 => ⟨S32x4x8x129, .f32⟩
  | 50 => ⟨S32x4x8x129, .f32⟩
  | 51 => ⟨S32x4x8x129, .f32⟩
  | 52 => ⟨S_, .f32⟩
  | 53 => ⟨S32x4x8, .f32⟩
  | 54 => ⟨S32x4x8x128, .f32⟩
  | 55 => ⟨S32x4x8x1, .f32⟩
  | 56 => ⟨S32x4x8x128, .f32⟩
  | 57 => ⟨S32x4x8x128, .f32⟩
  | 58 => ⟨S32x4x8, .f32⟩
  | 59 => ⟨S32x4x8, .f32⟩
  | 60 => ⟨S32x4x8, .f32⟩
  | 61 => ⟨S32x4x1x1x8x128, .f32⟩
  | 62 => ⟨S32x4x8x128, .f32⟩
  | 63 => ⟨S32x4x1x1x8x128, .f32⟩
  | 64 => ⟨S32x4x8x128, .f32⟩
  | 65 => ⟨S32x4x1x1x8x128, .f32⟩
  | 66 => ⟨S32x4x8x128, .f32⟩
  | 67 => ⟨S32x512x2x8x128, .f32⟩
  | 68 => ⟨S32x4x1x8x128, .f32⟩
  | 69 => ⟨S32x4x1x8x128, .f32⟩
  | 70 => ⟨S32x4x2x8x128, .f32⟩
  | 71 => ⟨S32x516x2x8x128, .f32⟩
  | 72 => ⟨S32x129x1x8x128, .f32⟩
  | 73 => ⟨S32x129x8x128, .f32⟩
  | 74 => ⟨S32x129x1x8x128, .f32⟩
  | 75 => ⟨S32x129x8x128, .f32⟩
  | 76 => ⟨S32x129x1x8x128, .f32⟩
  | 77 => ⟨S32x129x8x128, .f32⟩
  | 78 => ⟨S32x129x1x8x128, .f32⟩
  | 79 => ⟨S32x129x8x128, .f32⟩
  | 80 => ⟨S32x1x129x8x128, .f32⟩
  | 81 => ⟨S32x1x129x8x128, .f32⟩
  | 82 => ⟨S32x1x129x8x128, .f32⟩
  | 83 => ⟨S32x1x129x8x128, .f32⟩
  | 84 => ⟨S32x4x129x8x128, .f32⟩
  | 85 => ⟨S32x129x1x8x128, .f32⟩
  | 86 => ⟨S32x129x8x128, .f32⟩
  | 87 => ⟨S32x129x1x8x128, .f32⟩
  | 88 => ⟨S32x129x8x128, .f32⟩
  | 89 => ⟨S32x129x1x8x128, .f32⟩
  | 90 => ⟨S32x129x8x128, .f32⟩
  | 91 => ⟨S32x129x1x8x128, .f32⟩
  | 92 => ⟨S32x129x8x128, .f32⟩
  | 93 => ⟨S32x1x129x8x128, .f32⟩
  | 94 => ⟨S32x1x129x8x128, .f32⟩
  | 95 => ⟨S32x1x129x8x128, .f32⟩
  | 96 => ⟨S32x1x129x8x128, .f32⟩
  | 97 => ⟨S32x4x129x8x128, .f32⟩
  | 98 => ⟨S32x4x8x129, .f32⟩
  | 99 => ⟨S_, .f32⟩
  | 100 => ⟨S32x4x8x129, .f32⟩
  | 101 => ⟨S32x4x8x129, .f32⟩
  | 102 => ⟨S_, .f32⟩
  | 103 => ⟨S32x4x8, .f32⟩
  | 104 => ⟨S32x4x8x1, .f32⟩
  | 105 => ⟨S32x4x8x129, .f32⟩
  | 106 => ⟨S32x4x8x129, .f32⟩
  | 107 => ⟨S32x4x8x129, .f32⟩
  | 108 => ⟨S_, .f32⟩
  | 109 => ⟨S32x4x8, .f32⟩
  | 110 => ⟨S32x4x8x128, .f32⟩
  | 111 => ⟨S32x4x8x1, .f32⟩
  | 112 => ⟨S32x4x8x128, .f32⟩
  | 113 => ⟨S32x4x8x128, .f32⟩
  | 114 => ⟨S32x4x8, .f32⟩
  | 115 => ⟨S32x4x8, .f32⟩
  | 116 => ⟨S32x4x8, .f32⟩
  | 117 => ⟨S32x4x1x1x8x128, .f32⟩
  | 118 => ⟨S32x4x8x128, .f32⟩
  | 119 => ⟨S32x4x1x1x8x128, .f32⟩
  | 120 => ⟨S32x4x8x128, .f32⟩
  | 121 => ⟨S32x4x1x1x8x128, .f32⟩
  | 122 => ⟨S32x4x8x128, .f32⟩
  | 123 => ⟨S32x2048x2x8x128, .f32⟩
  | 124 => ⟨S32x4x1x8x128, .f32⟩
  | 125 => ⟨S32x4x1x8x128, .f32⟩
  | 126 => ⟨S32x4x2x8x128, .f32⟩
  | 127 => ⟨S32x2052x2x8x128, .f32⟩
  | _ => ⟨S128x9216, .f32⟩

abbrev hbmTy0_1 (i : Nat) : BufTy := match i % 128 with
  | 0 => ⟨S32x129x1x8x128, .f32⟩
  | 1 => ⟨S32x129x8x128, .f32⟩
  | 2 => ⟨S32x129x1x8x128, .f32⟩
  | 3 => ⟨S32x129x8x128, .f32⟩
  | 4 => ⟨S32x129x1x8x128, .f32⟩
  | 5 => ⟨S32x129x8x128, .f32⟩
  | 6 => ⟨S32x129x1x8x128, .f32⟩
  | 7 => ⟨S32x129x8x128, .f32⟩
  | 8 => ⟨S32x1x129x8x128, .f32⟩
  | 9 => ⟨S32x1x129x8x128, .f32⟩
  | 10 => ⟨S32x1x129x8x128, .f32⟩
  | 11 => ⟨S32x1x129x8x128, .f32⟩
  | 12 => ⟨S32x4x129x8x128, .f32⟩
  | 13 => ⟨S32x129x1x8x128, .f32⟩
  | 14 => ⟨S32x129x8x128, .f32⟩
  | 15 => ⟨S32x129x1x8x128, .f32⟩
  | 16 => ⟨S32x129x8x128, .f32⟩
  | 17 => ⟨S32x129x1x8x128, .f32⟩
  | 18 => ⟨S32x129x8x128, .f32⟩
  | 19 => ⟨S32x129x1x8x128, .f32⟩
  | 20 => ⟨S32x129x8x128, .f32⟩
  | 21 => ⟨S32x1x129x8x128, .f32⟩
  | 22 => ⟨S32x1x129x8x128, .f32⟩
  | 23 => ⟨S32x1x129x8x128, .f32⟩
  | 24 => ⟨S32x1x129x8x128, .f32⟩
  | 25 => ⟨S32x4x129x8x128, .f32⟩
  | 26 => ⟨S32x4x8x129, .f32⟩
  | 27 => ⟨S_, .f32⟩
  | 28 => ⟨S32x4x8x129, .f32⟩
  | 29 => ⟨S32x4x8x129, .f32⟩
  | 30 => ⟨S_, .f32⟩
  | 31 => ⟨S32x4x8, .f32⟩
  | 32 => ⟨S32x4x8x1, .f32⟩
  | 33 => ⟨S32x4x8x129, .f32⟩
  | 34 => ⟨S32x4x8x129, .f32⟩
  | 35 => ⟨S32x4x8x129, .f32⟩
  | 36 => ⟨S_, .f32⟩
  | 37 => ⟨S32x4x8, .f32⟩
  | 38 => ⟨S32x4x8x128, .f32⟩
  | 39 => ⟨S32x4x8x1, .f32⟩
  | 40 => ⟨S32x4x8x128, .f32⟩
  | 41 => ⟨S32x4x8x128, .f32⟩
  | 42 => ⟨S32x4x8, .f32⟩
  | 43 => ⟨S32x4x8, .f32⟩
  | 44 => ⟨S32x4x8, .f32⟩
  | 45 => ⟨S1x32x4x8, .f32⟩
  | 46 => ⟨S1x32x4x8, .f32⟩
  | 47 => ⟨S1x32x4x8, .f32⟩
  | 48 => ⟨S3x32x4x8, .f32⟩
  | 49 => ⟨S_, .f32⟩
  | 50 => ⟨S32x4x8, .f32⟩
  | 51 => ⟨S_, .f32⟩
  | 52 => ⟨S32x4x8, .f32⟩
  | 53 => ⟨S32x4x8, .f32⟩
  | 54 => ⟨S1x32x4x8, .f32⟩
  | 55 => ⟨S3x32x4x8, .f32⟩
  | 56 => ⟨S3x32x4x8, .f32⟩
  | 57 => ⟨S3x32x4x8, .f32⟩
  | 58 => ⟨S_, .f32⟩
  | 59 => ⟨S32x4x8, .f32⟩
  | 60 => ⟨S1x32x4x8, .f32⟩
  | 61 => ⟨S3x32x4x8, .f32⟩
  | 62 => ⟨S3x32x4x8, .f32⟩
  | 63 => ⟨S1x32x4x8x128, .f32⟩
  | 64 => ⟨S1x32x4x8x128, .f32⟩
  | 65 => ⟨S1x32x4x8x128, .f32⟩
  | 66 => ⟨S3x32x4x8x128, .f32⟩
  | 67 => ⟨S32x4x8x128, .f32⟩
  | _ => ⟨S128x9216, .f32⟩

abbrev hbmTy (i : Nat) : BufTy := match i / 128 with
  | 0 => hbmTy0_0 i
  | 1 => hbmTy0_1 i
  | _ => ⟨S128x9216, .f32⟩

abbrev bufTy : (tb : Table) → Fin (tcTables nBuf tb) → BufTy
  | .hbm, ⟨i, _⟩ => hbmTy i
  | _, _ => ⟨S128x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_cst : Ref sig .tc := ⟨.hbm, 43, rfl⟩
abbrev main_v39 : Ref sig .tc := ⟨.hbm, 44, rfl⟩
abbrev main_v40 : Ref sig .tc := ⟨.hbm, 45, rfl⟩
abbrev main_cst_0 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_cst_1 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_cst_2 : Ref sig .tc := ⟨.hbm, 99, rfl⟩
abbrev main_v92 : Ref sig .tc := ⟨.hbm, 100, rfl⟩
abbrev main_v93 : Ref sig .tc := ⟨.hbm, 101, rfl⟩
abbrev main_cst_3 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_cst_4 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_cst_5 : Ref sig .tc := ⟨.hbm, 155, rfl⟩
abbrev main_v145 : Ref sig .tc := ⟨.hbm, 156, rfl⟩
abbrev main_v146 : Ref sig .tc := ⟨.hbm, 157, rfl⟩
abbrev main_cst_6 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_cst_7 : Ref sig .tc := ⟨.hbm, 164, rfl⟩
abbrev main_v152 : Ref sig .tc := ⟨.hbm, 165, rfl⟩
abbrev main_v153 : Ref sig .tc := ⟨.hbm, 166, rfl⟩
abbrev main_v154 : Ref sig .tc := ⟨.hbm, 167, rfl⟩
abbrev main_v155 : Ref sig .tc := ⟨.hbm, 168, rfl⟩
abbrev main_v156 : Ref sig .tc := ⟨.hbm, 169, rfl⟩
abbrev main_v157 : Ref sig .tc := ⟨.hbm, 170, rfl⟩
abbrev main_v158 : Ref sig .tc := ⟨.hbm, 171, rfl⟩
abbrev main_v159 : Ref sig .tc := ⟨.hbm, 172, rfl⟩
abbrev main_v160 : Ref sig .tc := ⟨.hbm, 173, rfl⟩
abbrev main_v161 : Ref sig .tc := ⟨.hbm, 174, rfl⟩
abbrev main_v162 : Ref sig .tc := ⟨.hbm, 175, rfl⟩
abbrev main_v163 : Ref sig .tc := ⟨.hbm, 176, rfl⟩
abbrev main_cst_8 : Ref sig .tc := ⟨.hbm, 177, rfl⟩
abbrev main_v164 : Ref sig .tc := ⟨.hbm, 178, rfl⟩
abbrev main_cst_9 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_cst_10 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩

abbrev nD : Nat := 1
abbrev τ : Topo := Topo.v7x

variable {F : FTy → Type} [FloatOps F]
-- ==== Kernel7.lean ====
abbrev S8320x2048 : Shape := ⟨2, ![8320, 2048]⟩
abbrev S1x2048x19472 : Shape := ⟨3, ![1, 2048, 19472]⟩
abbrev S1x16x1024 : Shape := ⟨3, ![1, 16, 1024]⟩
abbrev S1x1024 : Shape := ⟨2, ![1, 1024]⟩
abbrev S2048x19472 : Shape := ⟨2, ![2048, 19472]⟩
abbrev S19472x2048 : Shape := ⟨2, ![19472, 2048]⟩
abbrev S16x2048 : Shape := ⟨2, ![16, 2048]⟩
abbrev S16x1024 : Shape := ⟨2, ![16, 1024]⟩
abbrev S1024 : Shape := ⟨1, ![1024]⟩
abbrev S_ : Shape := ⟨0, ![]⟩
abbrev S128x2048 : Shape := ⟨2, ![128, 2048]⟩
abbrev S1 : Shape := ⟨1, ![1]⟩
abbrev S128x1024 : Shape := ⟨2, ![128, 1024]⟩
abbrev S8320x1024 : Shape := ⟨2, ![8320, 1024]⟩
abbrev S832x2048 : Shape := ⟨2, ![832, 2048]⟩
abbrev S832x1024 : Shape := ⟨2, ![832, 1024]⟩
abbrev S832x128 : Shape := ⟨2, ![832, 128]⟩

abbrev nBuf : Space → Nat
  | .hbm => 23
  | .vmem => 7
  | .smem => 0
  | _ => 0

abbrev bufTy : (tb : Table) → Fin (tcTables nBuf tb) → BufTy
  | .hbm, ⟨0, _⟩ => ⟨S8320x2048, .bf16⟩
  | .hbm, ⟨1, _⟩ => ⟨S1x2048x19472, .f32⟩
  | .hbm, ⟨2, _⟩ => ⟨S1x16x1024, .f32⟩
  | .hbm, ⟨3, _⟩ => ⟨S1x1024, .f32⟩
  | .hbm, ⟨4, _⟩ => ⟨S2048x19472, .f32⟩
  | .hbm, ⟨5, _⟩ => ⟨S19472x2048, .f32⟩
  | .hbm, ⟨6, _⟩ => ⟨S16x2048, .f32⟩
  | .hbm, ⟨7, _⟩ => ⟨S16x1024, .f32⟩
  | .hbm, ⟨8, _⟩ => ⟨S1024, .f32⟩
  | .hbm, ⟨9, _⟩ => ⟨S_, .bf16⟩
  | .hbm, ⟨10, _⟩ => ⟨S128x2048, .bf16⟩
  | .hbm, ⟨11, _⟩ => ⟨S16x2048, .bf16⟩
  | .hbm, ⟨12, _⟩ => ⟨S_, .i32⟩
  | .hbm, ⟨13, _⟩ => ⟨S1, .i32⟩
  | .hbm, ⟨14, _⟩ => ⟨S128x2048, .bf16⟩
  | .hbm, ⟨15, _⟩ => ⟨S_, .bf16⟩
  | .hbm, ⟨16, _⟩ => ⟨S128x1024, .bf16⟩
  | .hbm, ⟨17, _⟩ => ⟨S16x1024, .bf16⟩
  | .hbm, ⟨18, _⟩ => ⟨S_, .i32⟩
  | .hbm, ⟨19, _⟩ => ⟨S1, .i32⟩
  | .hbm, ⟨20, _⟩ => ⟨S128x1024, .bf16⟩
  | .hbm, ⟨21, _⟩ => ⟨S1x1024, .f32⟩
  | .hbm, ⟨22, _⟩ => ⟨S8320x1024, .f32⟩
  | .local _ .vmem, ⟨0, _⟩ => ⟨S832x2048, .bf16⟩
  | .local _ .vmem, ⟨1, _⟩ => ⟨S832x2048, .bf16⟩
  | .local _ .vmem, ⟨2, _⟩ => ⟨S128x2048, .bf16⟩
  | .local _ .vmem, ⟨3, _⟩ => ⟨S128x1024, .bf16⟩
  | .local _ .vmem, ⟨4, _⟩ => ⟨S1x1024, .f32⟩
  | .local _ .vmem, ⟨5, _⟩ => ⟨S832x1024, .f32⟩
  | .local _ .vmem, ⟨6, _⟩ => ⟨S832x1024, .f32⟩
  | _, _ => ⟨S8320x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S832x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S832x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S8320x2048 : Shape := ⟨2, ![8320, 2048]⟩
abbrev S1x2048x19472 : Shape := ⟨3, ![1, 2048, 19472]⟩
abbrev S1x16x1024 : Shape := ⟨3, ![1, 16, 1024]⟩
abbrev S1x1024 : Shape := ⟨2, ![1, 1024]⟩
abbrev S1x2048x16 : Shape := ⟨3, ![1, 2048, 16]⟩
abbrev S2048x16 : Shape := ⟨2, ![2048, 16]⟩
abbrev S8320x16 : Shape := ⟨2, ![8320, 16]⟩
abbrev S16x1024 : Shape := ⟨2, ![16, 1024]⟩
abbrev S8320x1024 : Shape := ⟨2, ![8320, 1024]⟩
abbrev S1024 : Shape := ⟨1, ![1024]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8320x2048, .bf16⟩
  | .hbm, ⟨1, _⟩ => ⟨S1x2048x19472, .f32⟩
  | .hbm, ⟨2, _⟩ => ⟨S1x16x1024, .f32⟩
  | .hbm, ⟨3, _⟩ => ⟨S1x1024, .f32⟩
  | .hbm, ⟨4, _⟩ => ⟨S8320x2048, .f32⟩
  | .hbm, ⟨5, _⟩ => ⟨S1x2048x16, .f32⟩
  | .hbm, ⟨6, _⟩ => ⟨S2048x16, .f32⟩
  | .hbm, ⟨7, _⟩ => ⟨S8320x16, .f32⟩
  | .hbm, ⟨8, _⟩ => ⟨S16x1024, .f32⟩
  | .hbm, ⟨9, _⟩ => ⟨S8320x1024, .f32⟩
  | .hbm, ⟨10, _⟩ => ⟨S1024, .f32⟩
  | .hbm, ⟨11, _⟩ => ⟨S1x1024, .f32⟩
  | .hbm, ⟨12, _⟩ => ⟨S8320x1024, .f32⟩
  | .hbm, ⟨13, _⟩ => ⟨S8320x1024, .f32⟩
  | .hbm, ⟨14, _⟩ => ⟨S8320x1024, .f32⟩
  | .hbm, ⟨15, _⟩ => ⟨S_, .f32⟩
  | .hbm, ⟨16, _⟩ => ⟨S8320x1024, .f32⟩
  | .hbm, ⟨17, _⟩ => ⟨S8320x1024, .f32⟩
  | .hbm, ⟨18, _⟩ => ⟨S8320x1024, .f32⟩
  | .hbm, ⟨19, _⟩ => ⟨S8320x1024, .f32⟩
  | .hbm, ⟨20, _⟩ => ⟨S8320x1024, .i1⟩
  | .hbm, ⟨21, _⟩ => ⟨S8320x1024, .f32⟩
  | .hbm, ⟨22, _⟩ => ⟨S8320x1024, .f32⟩
  | .hbm, ⟨23, _⟩ => ⟨S8320x1024, .f32⟩
  | .hbm, ⟨24, _⟩ => ⟨S8320x1024, .f32⟩
  | .hbm, ⟨25, _⟩ => ⟨S8320x1024, .f32⟩
  | .hbm, ⟨26, _⟩ => ⟨S8320x1024, .f32⟩
  | .hbm, ⟨27, _⟩ => ⟨S8320x1024, .f32⟩
  | .hbm, ⟨28, _⟩ => ⟨S8320x1024, .f32⟩
  | .hbm, ⟨29, _⟩ => ⟨S8320x1024, .f32⟩
  | .hbm, ⟨30, _⟩ => ⟨S_, .f32⟩
  | .hbm, ⟨31, _⟩ => ⟨S8320x1024, .f32⟩
  | .hbm, ⟨32, _⟩ => ⟨S8320x1024, .f32⟩
  | _, _ => ⟨S8320x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_v2 : Ref sig .tc := ⟨.hbm, 18, rfl⟩
abbrev main_call0_call0_v3 : Ref sig .tc := ⟨.hbm, 19, rfl⟩
abbrev main_call0_call0_v4 : Ref sig .tc := ⟨.hbm, 20, rfl⟩
abbrev main_call0_call0_v5 : Ref sig .tc := ⟨.hbm, 21, rfl⟩
abbrev main_call0_call0_v6 : Ref sig .tc := ⟨.hbm, 22, rfl⟩
abbrev main_call0_call0_v7 : Ref sig .tc := ⟨.hbm, 23, rfl⟩
abbrev main_call0_call0_v8 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_v1 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩

abbrev nD : Nat := 1
abbrev τ : Topo := Topo.v7x

variable {F : FTy → Type} [FloatOps F]
-- ==== Kernel8.lean ====
abbrev S1x8192x2048 : Shape := ⟨3, ![1, 8192, 2048]⟩
abbrev S32x4x2048 : Shape := ⟨3, ![32, 4, 2048]⟩
abbrev S2048 : Shape := ⟨1, ![2048]⟩
abbrev S8192x2048 : Shape := ⟨2, ![8192, 2048]⟩
abbrev S128x2048 : Shape := ⟨2, ![128, 2048]⟩
abbrev S64x128x2048 : Shape := ⟨3, ![64, 128, 2048]⟩
abbrev S1x2048 : Shape := ⟨2, ![1, 2048]⟩
abbrev S65x128x2048 : Shape := ⟨3, ![65, 128, 2048]⟩
abbrev S4x128x2048 : Shape := ⟨3, ![4, 128, 2048]⟩
abbrev S1x128x2048 : Shape := ⟨3, ![1, 128, 2048]⟩
abbrev S4x128 : Shape := ⟨2, ![4, 128]⟩
abbrev S4x128x1 : Shape := ⟨3, ![4, 128, 1]⟩
abbrev S1x1x2048 : Shape := ⟨3, ![1, 1, 2048]⟩

abbrev nBuf : Space → Nat
  | .hbm => 11
  | .vmem => 9
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S2048, .f32⟩
  | .hbm, ⟨3, _⟩ => ⟨S2048, .f32⟩
  | .hbm, ⟨4, _⟩ => ⟨S8192x2048, .f32⟩
  | .hbm, ⟨5, _⟩ => ⟨S128x2048, .f32⟩
  | .hbm, ⟨6, _⟩ => ⟨S64x128x2048, .f32⟩
  | .hbm, ⟨7, _⟩ => ⟨S1x2048, .f32⟩
  | .hbm, ⟨8, _⟩ => ⟨S1x2048, .f32⟩
  | .hbm, ⟨9, _⟩ => ⟨S65x128x2048, .f32⟩
  | .hbm, ⟨10, _⟩ => ⟨S65x128x2048, .bf16⟩
  | .local _ .vmem, ⟨0, _⟩ => ⟨S4x128x2048, .f32⟩
  | .local _ .vmem, ⟨1, _⟩ => ⟨S4x128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S4x128x2048, .f32⟩
  | .local _ .vmem, ⟨6, _⟩ => ⟨S4x128x2048, .f32⟩
  | .local _ .vmem, ⟨7, _⟩ => ⟨S4x128x2048, .bf16⟩
  | .local _ .vmem, ⟨8, _⟩ => ⟨S4x128x2048, .bf16⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S1x8192x2048 : Shape := ⟨3, ![1, 8192, 2048]⟩
abbrev S32x4x2048 : Shape := ⟨3, ![32, 4, 2048]⟩
abbrev S2048 : Shape := ⟨1, ![2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S64x128x2048 : Shape := ⟨3, ![64, 128, 2048]⟩
abbrev S32x4 : Shape := ⟨2, ![32, 4]⟩
abbrev S32x4x1 : Shape := ⟨3, ![32, 4, 1]⟩
abbrev S1x128x2048 : Shape := ⟨3, ![1, 128, 2048]⟩
abbrev S65x128x2048 : Shape := ⟨3, ![65, 128, 2048]⟩

abbrev nBuf : Space → Nat
  | .hbm => 66
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S2048, .f32⟩
  | .hbm, ⟨3, _⟩ => ⟨S2048, .f32⟩
  | .hbm, ⟨4, _⟩ => ⟨S_, .f32⟩
  | .hbm, ⟨5, _⟩ => ⟨S1x8192, .f32⟩
  | .hbm, ⟨6, _⟩ => ⟨S1x8192x1, .f32⟩
  | .hbm, ⟨7, _⟩ => ⟨S_, .f32⟩
  | .hbm, ⟨8, _⟩ => ⟨S1x8192x1, .f32⟩
  | .hbm, ⟨9, _⟩ => ⟨S1x8192x1, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S_, .f32⟩
  | .hbm, ⟨14, _⟩ => ⟨S1x8192, .f32⟩
  | .hbm, ⟨15, _⟩ => ⟨S1x8192x1, .f32⟩
  | .hbm, ⟨16, _⟩ => ⟨S_, .f32⟩
  | .hbm, ⟨17, _⟩ => ⟨S1x8192x1, .f32⟩
  | .hbm, ⟨18, _⟩ => ⟨S1x8192x1, .f32⟩
  | .hbm, ⟨19, _⟩ => ⟨S1x8192x2048, .f32⟩
  | .hbm, ⟨20, _⟩ => ⟨S1x8192x2048, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x2048, .f32⟩
  | .hbm, ⟨26, _⟩ => ⟨S1x8192x2048, .f32⟩
  | .hbm, ⟨27, _⟩ => ⟨S1x1x2048, .f32⟩
  | .hbm, ⟨28, _⟩ => ⟨S1x8192x2048, .f32⟩
  | .hbm, ⟨29, _⟩ => ⟨S1x8192x2048, .f32⟩
  | .hbm, ⟨30, _⟩ => ⟨S1x1x2048, .f32⟩
  | .hbm, ⟨31, _⟩ => ⟨S1x8192x2048, .f32⟩
  | .hbm, ⟨32, _⟩ => ⟨S1x8192x2048, .f32⟩
  | .hbm, ⟨33, _⟩ => ⟨S64x128x2048, .f32⟩
  | .hbm, ⟨34, _⟩ => ⟨S_, .f32⟩
  | .hbm, ⟨35, _⟩ => ⟨S32x4, .f32⟩
  | .hbm, ⟨36, _⟩ => ⟨S32x4x1, .f32⟩
  | .hbm, ⟨37, _⟩ => ⟨S_, .f32⟩
  | .hbm, ⟨38, _⟩ => ⟨S32x4x1, .f32⟩
  | .hbm, ⟨39, _⟩ => ⟨S32x4x1, .f32⟩
  | .hbm, ⟨40, _⟩ => ⟨S32x4x2048, .f32⟩
  | .hbm, ⟨41, _⟩ => ⟨S32x4x2048, .f32⟩
  | .hbm, ⟨42, _⟩ => ⟨S32x4x2048, .f32⟩
  | .hbm, ⟨43, _⟩ => ⟨S_, .f32⟩
  | .hbm, ⟨44, _⟩ => ⟨S32x4, .f32⟩
  | .hbm, ⟨45, _⟩ => ⟨S32x4x1, .f32⟩
  | .hbm, ⟨46, _⟩ => ⟨S_, .f32⟩
  | .hbm, ⟨47, _⟩ => ⟨S32x4x1, .f32⟩
  | .hbm, ⟨48, _⟩ => ⟨S32x4x1, .f32⟩
  | .hbm, ⟨49, _⟩ => ⟨S32x4x2048, .f32⟩
  | .hbm, ⟨50, _⟩ => ⟨S32x4x2048, .f32⟩
  | .hbm, ⟨51, _⟩ => ⟨S_, .f32⟩
  | .hbm, ⟨52, _⟩ => ⟨S32x4x1, .f32⟩
  | .hbm, ⟨53, _⟩ => ⟨S32x4x1, .f32⟩
  | .hbm, ⟨54, _⟩ => ⟨S32x4x1, .f32⟩
  | .hbm, ⟨55, _⟩ => ⟨S32x4x2048, .f32⟩
  | .hbm, ⟨56, _⟩ => ⟨S32x4x2048, .f32⟩
  | .hbm, ⟨57, _⟩ => ⟨S1x1x2048, .f32⟩
  | .hbm, ⟨58, _⟩ => ⟨S32x4x2048, .f32⟩
  | .hbm, ⟨59, _⟩ => ⟨S32x4x2048, .f32⟩
  | .hbm, ⟨60, _⟩ => ⟨S1x1x2048, .f32⟩
  | .hbm, ⟨61, _⟩ => ⟨S32x4x2048, .f32⟩
  | .hbm, ⟨62, _⟩ => ⟨S32x4x2048, .f32⟩
  | .hbm, ⟨63, _⟩ => ⟨S1x128x2048, .f32⟩
  | .hbm, ⟨64, _⟩ => ⟨S65x128x2048, .f32⟩
  | .hbm, ⟨65, _⟩ => ⟨S65x128x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_6 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩

abbrev nD : Nat := 1
abbrev τ : Topo := Topo.v7x

variable {F : FTy → Type} [FloatOps F]
-- ==== Kernel9.lean ====
abbrev S1x8192x2048 : Shape := ⟨3, ![1, 8192, 2048]⟩
abbrev S32x4x2048 : Shape := ⟨3, ![32, 4, 2048]⟩
abbrev S2048 : Shape := ⟨1, ![2048]⟩
abbrev S1x2048x19472 : Shape := ⟨3, ![1, 2048, 19472]⟩
abbrev S8320x16 : Shape := ⟨2, ![8320, 16]⟩
abbrev S8192x2048 : Shape := ⟨2, ![8192, 2048]⟩
abbrev S128x2048 : Shape := ⟨2, ![128, 2048]⟩
abbrev S64x128x2048 : Shape := ⟨3, ![64, 128, 2048]⟩
abbrev S1x2048 : Shape := ⟨2, ![1, 2048]⟩
abbrev S65x128x2048 : Shape := ⟨3, ![65, 128, 2048]⟩
abbrev S4x128x2048 : Shape := ⟨3, ![4, 128, 2048]⟩
abbrev S1x128x2048 : Shape := ⟨3, ![1, 128, 2048]⟩
abbrev S4x128 : Shape := ⟨2, ![4, 128]⟩
abbrev S4x128x1 : Shape := ⟨3, ![4, 128, 1]⟩
abbrev S1x1x2048 : Shape := ⟨3, ![1, 1, 2048]⟩
abbrev S8320x2048 : Shape := ⟨2, ![8320, 2048]⟩
abbrev S2048x19472 : Shape := ⟨2, ![2048, 19472]⟩
abbrev S19472x2048 : Shape := ⟨2, ![19472, 2048]⟩
abbrev S_ : Shape := ⟨0, ![]⟩
abbrev S8320x96 : Shape := ⟨2, ![8320, 96]⟩
abbrev S8320x128 : Shape := ⟨2, ![8320, 128]⟩
abbrev S8320x9216 : Shape := ⟨2, ![8320, 9216]⟩
abbrev S2080x2048 : Shape := ⟨2, ![2080, 2048]⟩
abbrev S512x2048 : Shape := ⟨2, ![512, 2048]⟩
abbrev S2080x128 : Shape := ⟨2, ![2080, 128]⟩
abbrev S2080x512 : Shape := ⟨2, ![2080, 512]⟩
abbrev S128x1024 : Shape := ⟨2, ![128, 1024]⟩
abbrev S128x8x128 : Shape := ⟨3, ![128, 8, 128]⟩
abbrev S128x1x8x128 : Shape := ⟨4, ![128, 1, 8, 128]⟩
abbrev S128x2x8x128 : Shape := ⟨4, ![128, 2, 8, 128]⟩
abbrev S1x1x128x2x8x128 : Shape := ⟨6, ![1, 1, 128, 2, 8, 128]⟩
abbrev S512x1024 : Shape := ⟨2, ![512, 1024]⟩
abbrev S512x8x128 : Shape := ⟨3, ![512, 8, 128]⟩
abbrev S512x1x8x128 : Shape := ⟨4, ![512, 1, 8, 128]⟩
abbrev S512x2x8x128 : Shape := ⟨4, ![512, 2, 8, 128]⟩
abbrev S1x1x512x2x8x128 : Shape := ⟨6, ![1, 1, 512, 2, 8, 128]⟩
abbrev S2048x1024 : Shape := ⟨2, ![2048, 1024]⟩
abbrev S2048x8x128 : Shape := ⟨3, ![2048, 8, 128]⟩
abbrev S2048x1x8x128 : Shape := ⟨4, ![2048, 1, 8, 128]⟩
abbrev S2048x2x8x128 : Shape := ⟨4, ![2048, 2, 8, 128]⟩
abbrev S1x1x2048x2x8x128 : Shape := ⟨6, ![1, 1, 2048, 2, 8, 128]⟩

abbrev nBuf : Space → Nat
  | .hbm => 52
  | .vmem => 21
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S2048, .f32⟩
  | .hbm, ⟨3, _⟩ => ⟨S2048, .f32⟩
  | .hbm, ⟨4, _⟩ => ⟨S1x2048x19472, .f32⟩
  | .hbm, ⟨5, _⟩ => ⟨S8320x16, .f32⟩
  | .hbm, ⟨6, _⟩ => ⟨S8320x16, .f32⟩
  | .hbm, ⟨7, _⟩ => ⟨S8192x2048, .f32⟩
  | .hbm, ⟨8, _⟩ => ⟨S128x2048, .f32⟩
  | .hbm, ⟨9, _⟩ => ⟨S64x128x2048, .f32⟩
  | .hbm, ⟨10, _⟩ => ⟨S1x2048, .f32⟩
  | .hbm, ⟨11, _⟩ => ⟨S1x2048, .f32⟩
  | .hbm, ⟨12, _⟩ => ⟨S65x128x2048, .f32⟩
  | .hbm, ⟨13, _⟩ => ⟨S65x128x2048, .bf16⟩
  | .hbm, ⟨14, _⟩ => ⟨S8320x2048, .bf16⟩
  | .hbm, ⟨15, _⟩ => ⟨S2048x19472, .f32⟩
  | .hbm, ⟨16, _⟩ => ⟨S19472x2048, .f32⟩
  | .hbm, ⟨17, _⟩ => ⟨S_, .f32⟩
  | .hbm, ⟨18, _⟩ => ⟨S8320x96, .f32⟩
  | .hbm, ⟨19, _⟩ => ⟨S_, .f32⟩
  | .hbm, ⟨20, _⟩ => ⟨S8320x96, .f32⟩
  | .hbm, ⟨21, _⟩ => ⟨S_, .f32⟩
  | .hbm, ⟨22, _⟩ => ⟨S8320x16, .f32⟩
  | .hbm, ⟨23, _⟩ => ⟨S8320x128, .f32⟩
  | .hbm, ⟨24, _⟩ => ⟨S8320x16, .f32⟩
  | .hbm, ⟨25, _⟩ => ⟨S8320x128, .f32⟩
  | .hbm, ⟨26, _⟩ => ⟨S8320x128, .f32⟩
  | .hbm, ⟨27, _⟩ => ⟨S8320x9216, .f32⟩
  | .hbm, ⟨28, _⟩ => ⟨S128x1024, .f32⟩
  | .hbm, ⟨29, _⟩ => ⟨S128x8x128, .f32⟩
  | .hbm, ⟨30, _⟩ => ⟨S128x1024, .f32⟩
  | .hbm, ⟨31, _⟩ => ⟨S128x8x128, .f32⟩
  | .hbm, ⟨32, _⟩ => ⟨S128x1x8x128, .f32⟩
  | .hbm, ⟨33, _⟩ => ⟨S128x1x8x128, .f32⟩
  | .hbm, ⟨34, _⟩ => ⟨S128x2x8x128, .f32⟩
  | .hbm, ⟨35, _⟩ => ⟨S1x1x128x2x8x128, .f32⟩
  | .hbm, ⟨36, _⟩ => ⟨S512x1024, .f32⟩
  | .hbm, ⟨37, _⟩ => ⟨S512x8x128, .f32⟩
  | .hbm, ⟨38, _⟩ => ⟨S512x1024, .f32⟩
  | .hbm, ⟨39, _⟩ => ⟨S512x8x128, .f32⟩
  | .hbm, ⟨40, _⟩ => ⟨S512x1x8x128, .f32⟩
  | .hbm, ⟨41, _⟩ => ⟨S512x1x8x128, .f32⟩
  | .hbm, ⟨42, _⟩ => ⟨S512x2x8x128, .f32⟩
  | .hbm, ⟨43, _⟩ => ⟨S1x1x512x2x8x128, .f32⟩
  | .hbm, ⟨44, _⟩ => ⟨S2048x1024, .f32⟩
  | .hbm, ⟨45, _⟩ => ⟨S2048x8x128, .f32⟩
  | .hbm, ⟨46, _⟩ => ⟨S2048x1024, .f32⟩
  | .hbm, ⟨47, _⟩ => ⟨S2048x8x128, .f32⟩
  | .hbm, ⟨48, _⟩ => ⟨S2048x1x8x128, .f32⟩
  | .hbm, ⟨49, _⟩ => ⟨S2048x1x8x128, .f32⟩
  | .hbm, ⟨50, _⟩ => ⟨S2048x2x8x128, .f32⟩
  | .hbm, ⟨51, _⟩ => ⟨S1x1x2048x2x8x128, .f32⟩
  | .local _ .vmem, ⟨0, _⟩ => ⟨S4x128x2048, .f32⟩
  | .local _ .vmem, ⟨1, _⟩ => ⟨S4x128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S4x128x2048, .f32⟩
  | .local _ .vmem, ⟨6, _⟩ => ⟨S4x128x2048, .f32⟩
  | .local _ .vmem, ⟨7, _⟩ => ⟨S4x128x2048, .bf16⟩
  | .local _ .vmem, ⟨8, _⟩ => ⟨S4x128x2048, .bf16⟩
  | .local _ .vmem, ⟨9, _⟩ => ⟨S2080x2048, .bf16⟩
  | .local _ .vmem, ⟨10, _⟩ => ⟨S2080x2048, .bf16⟩
  | .local _ .vmem, ⟨11, _⟩ => ⟨S512x2048, .f32⟩
  | .local _ .vmem, ⟨12, _⟩ => ⟨S512x2048, .f32⟩
  | .local _ .vmem, ⟨13, _⟩ => ⟨S2080x128, .f32⟩
  | .local _ .vmem, ⟨14, _⟩ => ⟨S2080x128, .f32⟩
  | .local _ .vmem, ⟨15, _⟩ => ⟨S2080x128, .f32⟩
  | .local _ .vmem, ⟨16, _⟩ => ⟨S2080x128, .f32⟩
  | .local _ .vmem, ⟨17, _⟩ => ⟨S2080x128, .f32⟩
  | .local _ .vmem, ⟨18, _⟩ => ⟨S2080x128, .f32⟩
  | .local _ .vmem, ⟨19, _⟩ => ⟨S2080x512, .f32⟩
  | .local _ .vmem, ⟨20, _⟩ => ⟨S2080x512, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 18], ![false, false]⟩

def k1_mult1 (i : grid1.Coords) : BitVec 32 :=
  let c0_i32 : BitVec 32 := 0#32
  let arg1 : BitVec 32 := BitVec.ofNat 32 (i 1).val
  let c512_i32 : BitVec 32 := 512#32
  let v0 : BitVec 32 := Scalar.muli arg1 c512_i32
  let v1 : BitVec 32 := Scalar.addi c0_i32 v0
  v1
def k1_cond1 (i : grid1.Coords) : BitVec 1 :=
  let arg1 : BitVec 32 := BitVec.ofNat 32 (i 1).val
  let c12_i32 : BitVec 32 := 12#32
  let v6 : BitVec 1 := Scalar.cmpi .sge arg1 c12_i32
  let v7 : BitVec 32 := Scalar.extui v6
  let c0_i32 : BitVec 32 := 0#32
  let v8 : BitVec 1 := Scalar.cmpi .ne v7 c0_i32
  v8

def k1_cond2 (i : grid1.Coords) : BitVec 1 :=
  let arg1 : BitVec 32 := BitVec.ofNat 32 (i 1).val
  let c12_i32_3 : BitVec 32 := 12#32
  let v9 : BitVec 1 := Scalar.cmpi .slt arg1 c12_i32_3
  let v10 : BitVec 32 := Scalar.extui v9
  let c0_i32_4 : BitVec 32 := 0#32
  let v11 : BitVec 1 := Scalar.cmpi .ne v10 c0_i32_4
  v11

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2080x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2080x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2080x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2080x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2080x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== Reference9Ideal.lean ====
abbrev S1x8192x2048 : Shape := ⟨3, ![1, 8192, 2048]⟩
abbrev S32x4x2048 : Shape := ⟨3, ![32, 4, 2048]⟩
abbrev S2048 : Shape := ⟨1, ![2048]⟩
abbrev S1x2048x19472 : Shape := ⟨3, ![1, 2048, 19472]⟩
abbrev S8320x16 : Shape := ⟨2, ![8320, 16]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x2048x9216 : Shape := ⟨3, ![1, 2048, 9216]⟩
abbrev S2048x9216 : Shape := ⟨2, ![2048, 9216]⟩
abbrev S1x8192x9216 : Shape := ⟨3, ![1, 8192, 9216]⟩
abbrev S1x8192x3x3x8x128 : Shape := ⟨6, ![1, 8192, 3, 3, 8, 128]⟩
abbrev S1x8192x1x1x8x128 : Shape := ⟨6, ![1, 8192, 1, 1, 8, 128]⟩
abbrev S1x8192x8x128 : Shape := ⟨4, ![1, 8192, 8, 128]⟩
abbrev S8192x16 : Shape := ⟨2, ![8192, 16]⟩
abbrev S8192x1x16 : Shape := ⟨3, ![8192, 1, 16]⟩
abbrev S1x8192x8x16 : Shape := ⟨4, ![1, 8192, 8, 16]⟩
abbrev S1x8192x1x16 : Shape := ⟨4, ![1, 8192, 1, 16]⟩
abbrev S1x8192x8x96 : Shape := ⟨4, ![1, 8192, 8, 96]⟩
abbrev S1x8192x1x8x128 : Shape := ⟨5, ![1, 8192, 1, 8, 128]⟩
abbrev S1x8192x2x8x128 : Shape := ⟨5, ![1, 8192, 2, 8, 128]⟩
abbrev S1x128x2x8x128 : Shape := ⟨5, ![1, 128, 2, 8, 128]⟩
abbrev S1x1x128x2x8x128 : Shape := ⟨6, ![1, 1, 128, 2, 8, 128]⟩
abbrev S1x512x2x8x128 : Shape := ⟨5, ![1, 512, 2, 8, 128]⟩
abbrev S1x1x512x2x8x128 : Shape := ⟨6, ![1, 1, 512, 2, 8, 128]⟩
abbrev S1x2048x2x8x128 : Shape := ⟨5, ![1, 2048, 2, 8, 128]⟩
abbrev S1x1x2048x2x8x128 : Shape := ⟨6, ![1, 1, 2048, 2, 8, 128]⟩

abbrev nBuf : Space → Nat
  | .hbm => 133
  | .vmem => 0
  | .smem => 0
  | _ => 0

abbrev hbmTy0_0 (i : Nat) : BufTy := match i % 128 with
  | 0 => ⟨S1x8192x2048, .f32⟩
  | 1 => ⟨S32x4x2048, .f32⟩
  | 2 => ⟨S2048, .f32⟩
  | 3 => ⟨S2048, .f32⟩
  | 4 => ⟨S1x2048x19472, .f32⟩
  | 5 => ⟨S8320x16, .f32⟩
  | 6 => ⟨S8320x16, .f32⟩
  | 7 => ⟨S_, .f32⟩
  | 8 => ⟨S1x8192, .f32⟩
  | 9 => ⟨S1x8192x1, .f32⟩
  | 10 => ⟨S_, .f32⟩
  | 11 => ⟨S1x8192x1, .f32⟩
  | 12 => ⟨S1x8192x1, .f32⟩
  | 13 => ⟨S1x8192x2048, .f32⟩
  | 14 => ⟨S1x8192x2048, .f32⟩
  | 15 => ⟨S1x8192x2048, .f32⟩
  | 16 => ⟨S_, .f32⟩
  | 17 => ⟨S1x8192, .f32⟩
  | 18 => ⟨S1x8192x1, .f32⟩
  | 19 => ⟨S_, .f32⟩
  | 20 => ⟨S1x8192x1, .f32⟩
  | 21 => ⟨S1x8192x1, .f32⟩
  | 22 => ⟨S1x8192x2048, .f32⟩
  | 23 => ⟨S1x8192x2048, .f32⟩
  | 24 => ⟨S_, .f32⟩
  | 25 => ⟨S1x8192x1, .f32⟩
  | 26 => ⟨S1x8192x1, .f32⟩
  | 27 => ⟨S1x8192x1, .f32⟩
  | 28 => ⟨S1x8192x2048, .f32⟩
  | 29 => ⟨S1x8192x2048, .f32⟩
  | 30 => ⟨S1x1x2048, .f32⟩
  | 31 => ⟨S1x8192x2048, .f32⟩
  | 32 => ⟨S1x8192x2048, .f32⟩
  | 33 => ⟨S1x1x2048, .f32⟩
  | 34 => ⟨S1x8192x2048, .f32⟩
  | 35 => ⟨S1x8192x2048, .f32⟩
  | 36 => ⟨S1x2048x9216, .f32⟩
  | 37 => ⟨S2048x9216, .f32⟩
  | 38 => ⟨S1x8192x9216, .f32⟩
  | 39 => ⟨S1x8192x3x3x8x128, .f32⟩
  | 40 => ⟨S1x8192x1x1x8x128, .f32⟩
  | 41 => ⟨S1x8192x8x128, .f32⟩
  | 42 => ⟨S8192x16, .f32⟩
  | 43 => ⟨S8192x1x16, .f32⟩
  | 44 => ⟨S8192x16, .f32⟩
  | 45 => ⟨S8192x1x16, .f32⟩
  | 46 => ⟨S1x8192x8x16, .f32⟩
  | 47 => ⟨S1x8192x8x16, .f32⟩
  | 48 => ⟨S1x8192x1x16, .f32⟩
  | 49 => ⟨S1x8192x8x16, .f32⟩
  | 50 => ⟨S1x8192x8x16, .f32⟩
  | 51 => ⟨S1x8192x1x16, .f32⟩
  | 52 => ⟨S1x8192x8x16, .f32⟩
  | 53 => ⟨S1x8192x8x16, .f32⟩
  | 54 => ⟨S1x8192x8x16, .f32⟩
  | 55 => ⟨S1x8192x1x16, .f32⟩
  | 56 => ⟨S1x8192x8x16, .f32⟩
  | 57 => ⟨S1x8192x8x16, .f32⟩
  | 58 => ⟨S1x8192x1x16, .f32⟩
  | 59 => ⟨S1x8192x8x16, .f32⟩
  | 60 => ⟨S1x8192x8x16, .f32⟩
  | 61 => ⟨S1x8192x8x16, .f32⟩
  | 62 => ⟨S1x8192x8x96, .f32⟩
  | 63 => ⟨S1x8192x8x128, .f32⟩
  | 64 => ⟨S1x8192x1x1x8x128, .f32⟩
  | 65 => ⟨S1x8192x8x128, .f32⟩
  | 66 => ⟨S1x8192x1x8x128, .f32⟩
  | 67 => ⟨S1x8192x1x8x128, .f32⟩
  | 68 => ⟨S1x8192x2x8x128, .f32⟩
  | 69 => ⟨S1x128x2x8x128, .f32⟩
  | 70 => ⟨S1x1x128x2x8x128, .f32⟩
  | 71 => ⟨S1x8192x1x1x8x128, .f32⟩
  | 72 => ⟨S1x8192x8x128, .f32⟩
  | 73 => ⟨S8192x16, .f32⟩
  | 74 => ⟨S8192x1x16, .f32⟩
  | 75 => ⟨S8192x16, .f32⟩
  | 76 => ⟨S8192x1x16, .f32⟩
  | 77 => ⟨S1x8192x8x16, .f32⟩
  | 78 => ⟨S1x8192x8x16, .f32⟩
  | 79 => ⟨S1x8192x1x16, .f32⟩
  | 80 => ⟨S1x8192x8x16, .f32⟩
  | 81 => ⟨S1x8192x8x16, .f32⟩
  | 82 => ⟨S1x8192x1x16, .f32⟩
  | 83 => ⟨S1x8192x8x16, .f32⟩
  | 84 => ⟨S1x8192x8x16, .f32⟩
  | 85 => ⟨S1x8192x8x16, .f32⟩
  | 86 => ⟨S1x8192x1x16, .f32⟩
  | 87 => ⟨S1x8192x8x16, .f32⟩
  | 88 => ⟨S1x8192x8x16, .f32⟩
  | 89 => ⟨S1x8192x1x16, .f32⟩
  | 90 => ⟨S1x8192x8x16, .f32⟩
  | 91 => ⟨S1x8192x8x16, .f32⟩
  | 92 => ⟨S1x8192x8x16, .f32⟩
  | 93 => ⟨S1x8192x8x96, .f32⟩
  | 94 => ⟨S1x8192x8x128, .f32⟩
  | 95 => ⟨S1x8192x1x1x8x128, .f32⟩
  | 96 => ⟨S1x8192x8x128, .f32⟩
  | 97 => ⟨S1x8192x1x8x128, .f32⟩
  | 98 => ⟨S1x8192x1x8x128, .f32⟩
  | 99 => ⟨S1x8192x2x8x128, .f32⟩
  | 100 => ⟨S1x512x2x8x128, .f32⟩
  | 101 => ⟨S1x1x512x2x8x128, .f32⟩
  | 102 => ⟨S1x8192x1x1x8x128, .f32⟩
  | 103 => ⟨S1x8192x8x128, .f32⟩
  | 104 => ⟨S8192x16, .f32⟩
  | 105 => ⟨S8192x1x16, .f32⟩
  | 106 => ⟨S8192x16, .f32⟩
  | 107 => ⟨S8192x1x16, .f32⟩
  | 108 => ⟨S1x8192x8x16, .f32⟩
  | 109 => ⟨S1x8192x8x16, .f32⟩
  | 110 => ⟨S1x8192x1x16, .f32⟩
  | 111 => ⟨S1x8192x8x16, .f32⟩
  | 112 => ⟨S1x8192x8x16, .f32⟩
  | 113 => ⟨S1x8192x1x16, .f32⟩
  | 114 => ⟨S1x8192x8x16, .f32⟩
  | 115 => ⟨S1x8192x8x16, .f32⟩
  | 116 => ⟨S1x8192x8x16, .f32⟩
  | 117 => ⟨S1x8192x1x16, .f32⟩
  | 118 => ⟨S1x8192x8x16, .f32⟩
  | 119 => ⟨S1x8192x8x16, .f32⟩
  | 120 => ⟨S1x8192x1x16, .f32⟩
  | 121 => ⟨S1x8192x8x16, .f32⟩
  | 122 => ⟨S1x8192x8x16, .f32⟩
  | 123 => ⟨S1x8192x8x16, .f32⟩
  | 124 => ⟨S1x8192x8x96, .f32⟩
  | 125 => ⟨S1x8192x8x128, .f32⟩
  | 126 => ⟨S1x8192x1x1x8x128, .f32⟩
  | 127 => ⟨S1x8192x8x128, .f32⟩
  | _ => ⟨S1x8192x2048, .f32⟩

abbrev hbmTy0_1 (i : Nat) : BufTy := match i % 128 with
  | 0 => ⟨S1x8192x1x8x128, .f32⟩
  | 1 => ⟨S1x8192x1x8x128, .f32⟩
  | 2 => ⟨S1x8192x2x8x128, .f32⟩
  | 3 => ⟨S1x2048x2x8x128, .f32⟩
  | 4 => ⟨S1x1x2048x2x8x128, .f32⟩
  | _ => ⟨S1x8192x2048, .f32⟩

abbrev hbmTy (i : Nat) : BufTy := match i / 128 with
  | 0 => hbmTy0_0 i
  | 1 => hbmTy0_1 i
  | _ => ⟨S1x8192x2048, .f32⟩

abbrev bufTy : (tb : Table) → Fin (tcTables nBuf tb) → BufTy
  | .hbm, ⟨i, _⟩ => hbmTy i
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩

abbrev nD : Nat := 1
abbrev τ : Topo := Topo.v7x

variable {F : FTy → Type} [FloatOps F]
-- ==== Kernel10.lean ====
abbrev S1x8192x2048 : Shape := ⟨3, ![1, 8192, 2048]⟩
abbrev S32x4x2048 : Shape := ⟨3, ![32, 4, 2048]⟩
abbrev S2048 : Shape := ⟨1, ![2048]⟩
abbrev S1x2048x19472 : Shape := ⟨3, ![1, 2048, 19472]⟩
abbrev S1x16x1024 : Shape := ⟨3, ![1, 16, 1024]⟩
abbrev S1x1024 : Shape := ⟨2, ![1, 1024]⟩
abbrev S1x512 : Shape := ⟨2, ![1, 512]⟩
abbrev S1x32x4x256x512 : Shape := ⟨5, ![1, 32, 4, 256, 512]⟩
abbrev S8320x16 : Shape := ⟨2, ![8320, 16]⟩
abbrev S8192x2048 : Shape := ⟨2, ![8192, 2048]⟩
abbrev S128x2048 : Shape := ⟨2, ![128, 2048]⟩
abbrev S64x128x2048 : Shape := ⟨3, ![64, 128, 2048]⟩
abbrev S1x2048 : Shape := ⟨2, ![1, 2048]⟩
abbrev S65x128x2048 : Shape := ⟨3, ![65, 128, 2048]⟩
abbrev S4x128x2048 : Shape := ⟨3, ![4, 128, 2048]⟩
abbrev S1x128x2048 : Shape := ⟨3, ![1, 128, 2048]⟩
abbrev S4x128 : Shape := ⟨2, ![4, 128]⟩
abbrev S4x128x1 : Shape := ⟨3, ![4, 128, 1]⟩
abbrev S1x1x2048 : Shape := ⟨3, ![1, 1, 2048]⟩
abbrev S8320x2048 : Shape := ⟨2, ![8320, 2048]⟩
abbrev S2048x19472 : Shape := ⟨2, ![2048, 19472]⟩
abbrev S19472x2048 : Shape := ⟨2, ![19472, 2048]⟩
abbrev S_ : Shape := ⟨0, ![]⟩
abbrev S8320x96 : Shape := ⟨2, ![8320, 96]⟩
abbrev S8320x128 : Shape := ⟨2, ![8320, 128]⟩
abbrev S8320x6144 : Shape := ⟨2, ![8320, 6144]⟩
abbrev S2080x2048 : Shape := ⟨2, ![2080, 2048]⟩
abbrev S512x2048 : Shape := ⟨2, ![512, 2048]⟩
abbrev S2080x128 : Shape := ⟨2, ![2080, 128]⟩
abbrev S2080x512 : Shape := ⟨2, ![2080, 512]⟩
abbrev S16x2048 : Shape := ⟨2, ![16, 2048]⟩
abbrev S16x1024 : Shape := ⟨2, ![16, 1024]⟩
abbrev S1024 : Shape := ⟨1, ![1024]⟩
abbrev S1 : Shape := ⟨1, ![1]⟩
abbrev S128x1024 : Shape := ⟨2, ![128, 1024]⟩
abbrev S8320x1024 : Shape := ⟨2, ![8320, 1024]⟩
abbrev S832x2048 : Shape := ⟨2, ![832, 2048]⟩
abbrev S832x1024 : Shape := ⟨2, ![832, 1024]⟩
abbrev S832x128 : Shape := ⟨2, ![832, 128]⟩
abbrev S128x6144 : Shape := ⟨2, ![128, 6144]⟩
abbrev S32x4x1024 : Shape := ⟨3, ![32, 4, 1024]⟩
abbrev S32x16x1024 : Shape := ⟨3, ![32, 16, 1024]⟩
abbrev S32x16x2048 : Shape := ⟨3, ![32, 16, 2048]⟩
abbrev S512 : Shape := ⟨1, ![512]⟩
abbrev S32x4x256x512 : Shape := ⟨4, ![32, 4, 256, 512]⟩
abbrev S1x16x2048 : Shape := ⟨3, ![1, 16, 2048]⟩
abbrev S1x4x256x512 : Shape := ⟨4, ![1, 4, 256, 512]⟩
abbrev S16x16 : Shape := ⟨2, ![16, 16]⟩
abbrev S256x256 : Shape := ⟨2, ![256, 256]⟩
abbrev S1x16x256 : Shape := ⟨3, ![1, 16, 256]⟩
abbrev S16x256 : Shape := ⟨2, ![16, 256]⟩
abbrev S1x16x512 : Shape := ⟨3, ![1, 16, 512]⟩
abbrev S16x512 : Shape := ⟨2, ![16, 512]⟩
abbrev S1x1x256x512 : Shape := ⟨4, ![1, 1, 256, 512]⟩
abbrev S256x512 : Shape := ⟨2, ![256, 512]⟩
abbrev S32x256 : Shape := ⟨2, ![32, 256]⟩
abbrev S1x256 : Shape := ⟨2, ![1, 256]⟩
abbrev S256x32 : Shape := ⟨2, ![256, 32]⟩
abbrev S256x1 : Shape := ⟨2, ![256, 1]⟩
abbrev S256x16 : Shape := ⟨2, ![256, 16]⟩
abbrev S16 : Shape := ⟨1, ![16]⟩
abbrev S16x1 : Shape := ⟨2, ![16, 1]⟩

abbrev nBuf : Space → Nat
  | .hbm => 85
  | .vmem => 45
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S2048, .f32⟩
  | .hbm, ⟨3, _⟩ => ⟨S2048, .f32⟩
  | .hbm, ⟨4, _⟩ => ⟨S1x2048x19472, .f32⟩
  | .hbm, ⟨5, _⟩ => ⟨S1x16x1024, .f32⟩
  | .hbm, ⟨6, _⟩ => ⟨S1x1024, .f32⟩
  | .hbm, ⟨7, _⟩ => ⟨S1x512, .f32⟩
  | .hbm, ⟨8, _⟩ => ⟨S1x32x4x256x512, .f32⟩
  | .hbm, ⟨9, _⟩ => ⟨S8320x16, .f32⟩
  | .hbm, ⟨10, _⟩ => ⟨S8320x16, .f32⟩
  | .hbm, ⟨11, _⟩ => ⟨S8192x2048, .f32⟩
  | .hbm, ⟨12, _⟩ => ⟨S128x2048, .f32⟩
  | .hbm, ⟨13, _⟩ => ⟨S64x128x2048, .f32⟩
  | .hbm, ⟨14, _⟩ => ⟨S1x2048, .f32⟩
  | .hbm, ⟨15, _⟩ => ⟨S1x2048, .f32⟩
  | .hbm, ⟨16, _⟩ => ⟨S65x128x2048, .f32⟩
  | .hbm, ⟨17, _⟩ => ⟨S65x128x2048, .bf16⟩
  | .hbm, ⟨18, _⟩ => ⟨S8320x2048, .bf16⟩
  | .hbm, ⟨19, _⟩ => ⟨S2048x19472, .f32⟩
  | .hbm, ⟨20, _⟩ => ⟨S19472x2048, .f32⟩
  | .hbm, ⟨21, _⟩ => ⟨S_, .f32⟩
  | .hbm, ⟨22, _⟩ => ⟨S8320x96, .f32⟩
  | .hbm, ⟨23, _⟩ => ⟨S_, .f32⟩
  | .hbm, ⟨24, _⟩ => ⟨S8320x96, .f32⟩
  | .hbm, ⟨25, _⟩ => ⟨S_, .f32⟩
  | .hbm, ⟨26, _⟩ => ⟨S8320x16, .f32⟩
  | .hbm, ⟨27, _⟩ => ⟨S8320x128, .f32⟩
  | .hbm, ⟨28, _⟩ => ⟨S8320x16, .f32⟩
  | .hbm, ⟨29, _⟩ => ⟨S8320x128, .f32⟩
  | .hbm, ⟨30, _⟩ => ⟨S8320x128, .f32⟩
  | .hbm, ⟨31, _⟩ => ⟨S8320x6144, .bf16⟩
  | .hbm, ⟨32, _⟩ => ⟨S16x2048, .f32⟩
  | .hbm, ⟨33, _⟩ => ⟨S16x1024, .f32⟩
  | .hbm, ⟨34, _⟩ => ⟨S1024, .f32⟩
  | .hbm, ⟨35, _⟩ => ⟨S_, .bf16⟩
  | .hbm, ⟨36, _⟩ => ⟨S128x2048, .bf16⟩
  | .hbm, ⟨37, _⟩ => ⟨S16x2048, .bf16⟩
  | .hbm, ⟨38, _⟩ => ⟨S_, .i32⟩
  | .hbm, ⟨39, _⟩ => ⟨S1, .i32⟩
  | .hbm, ⟨40, _⟩ => ⟨S128x2048, .bf16⟩
  | .hbm, ⟨41, _⟩ => ⟨S_, .bf16⟩
  | .hbm, ⟨42, _⟩ => ⟨S128x1024, .bf16⟩
  | .hbm, ⟨43, _⟩ => ⟨S16x1024, .bf16⟩
  | .hbm, ⟨44, _⟩ => ⟨S_, .i32⟩
  | .hbm, ⟨45, _⟩ => ⟨S1, .i32⟩
  | .hbm, ⟨46, _⟩ => ⟨S128x1024, .bf16⟩
  | .hbm, ⟨47, _⟩ => ⟨S1x1024, .f32⟩
  | .hbm, ⟨48, _⟩ => ⟨S8320x1024, .f32⟩
  | .hbm, ⟨49, _⟩ => ⟨S128x6144, .bf16⟩
  | .hbm, ⟨50, _⟩ => ⟨S128x1024, .bf16⟩
  | .hbm, ⟨51, _⟩ => ⟨S128x1024, .f32⟩
  | .hbm, ⟨52, _⟩ => ⟨S32x4x1024, .f32⟩
  | .hbm, ⟨53, _⟩ => ⟨S_, .i32⟩
  | .hbm, ⟨54, _⟩ => ⟨S_, .f32⟩
  | .hbm, ⟨55, _⟩ => ⟨S32x16x1024, .f32⟩
  | .hbm, ⟨56, _⟩ => ⟨S128x1024, .bf16⟩
  | .hbm, ⟨57, _⟩ => ⟨S128x1024, .f32⟩
  | .hbm, ⟨58, _⟩ => ⟨S32x4x1024, .f32⟩
  | .hbm, ⟨59, _⟩ => ⟨S_, .i32⟩
  | .hbm, ⟨60, _⟩ => ⟨S_, .f32⟩
  | .hbm, ⟨61, _⟩ => ⟨S32x16x1024, .f32⟩
  | .hbm, ⟨62, _⟩ => ⟨S128x2048, .bf16⟩
  | .hbm, ⟨63, _⟩ => ⟨S128x2048, .f32⟩
  | .hbm, ⟨64, _⟩ => ⟨S32x4x2048, .f32⟩
  | .hbm, ⟨65, _⟩ => ⟨S_, .i32⟩
  | .hbm, ⟨66, _⟩ => ⟨S_, .f32⟩
  | .hbm, ⟨67, _⟩ => ⟨S32x16x2048, .f32⟩
  | .hbm, ⟨68, _⟩ => ⟨S128x2048, .bf16⟩
  | .hbm, ⟨69, _⟩ => ⟨S128x2048, .f32⟩
  | .hbm, ⟨70, _⟩ => ⟨S32x4x2048, .f32⟩
  | .hbm, ⟨71, _⟩ => ⟨S_, .i32⟩
  | .hbm, ⟨72, _⟩ => ⟨S_, .f32⟩
  | .hbm, ⟨73, _⟩ => ⟨S32x16x2048, .f32⟩
  | .hbm, ⟨74, _⟩ => ⟨S128x1024, .f32⟩
  | .hbm, ⟨75, _⟩ => ⟨S32x4x1024, .f32⟩
  | .hbm, ⟨76, _⟩ => ⟨S_, .i32⟩
  | .hbm, ⟨77, _⟩ => ⟨S_, .f32⟩
  | .hbm, ⟨78, _⟩ => ⟨S32x16x1024, .f32⟩
  | .hbm, ⟨79, _⟩ => ⟨S512, .f32⟩
  | .hbm, ⟨80, _⟩ => ⟨S32x4x256x512, .f32⟩
  | .hbm, ⟨81, _⟩ => ⟨S1x512, .f32⟩
  | .hbm, ⟨82, _⟩ => ⟨S32x16x2048, .f32⟩
  | .hbm, ⟨83, _⟩ => ⟨S32x4x256x512, .f32⟩
  | .hbm, ⟨84, _⟩ => ⟨S1x32x4x256x512, .f32⟩
  | .local _ .vmem, ⟨0, _⟩ => ⟨S4x128x2048, .f32⟩
  | .local _ .vmem, ⟨1, _⟩ => ⟨S4x128x2048, .f32⟩
  | .local _ .vmem, ⟨2, _⟩ => ⟨S128x2048, .f32⟩
  | .local _ .vmem, ⟨3, _⟩ => ⟨S1x2048, .f32⟩
  | .local _ .vmem, ⟨4, _⟩ => ⟨S1x2048, .f32⟩
  | .local _ .vmem, ⟨5, _⟩ => ⟨S4x128x2048, .f32⟩
  | .local _ .vmem, ⟨6, _⟩ => ⟨S4x128x2048, .f32⟩
  | .local _ .vmem, ⟨7, _⟩ => ⟨S4x128x2048, .bf16⟩
  | .local _ .vmem, ⟨8, _⟩ => ⟨S4x128x2048, .bf16⟩
  | .local _ .vmem, ⟨9, _⟩ => ⟨S2080x2048, .bf16⟩
  | .local _ .vmem, ⟨10, _⟩ => ⟨S2080x2048, .bf16⟩
  | .local _ .vmem, ⟨11, _⟩ => ⟨S512x2048, .f32⟩
  | .local _ .vmem, ⟨12, _⟩ => ⟨S512x2048, .f32⟩
  | .local _ .vmem, ⟨13, _⟩ => ⟨S2080x128, .f32⟩
  | .local _ .vmem, ⟨14, _⟩ => ⟨S2080x128, .f32⟩
  | .local _ .vmem, ⟨15, _⟩ => ⟨S2080x128, .f32⟩
  | .local _ .vmem, ⟨16, _⟩ => ⟨S2080x128, .f32⟩
  | .local _ .vmem, ⟨17, _⟩ => ⟨S2080x128, .f32⟩
  | .local _ .vmem, ⟨18, _⟩ => ⟨S2080x128, .f32⟩
  | .local _ .vmem, ⟨19, _⟩ => ⟨S2080x512, .bf16⟩
  | .local _ .vmem, ⟨20, _⟩ => ⟨S2080x512, .bf16⟩
  | .local _ .vmem, ⟨21, _⟩ => ⟨S832x2048, .bf16⟩
  | .local _ .vmem, ⟨22, _⟩ => ⟨S832x2048, .bf16⟩
  | .local _ .vmem, ⟨23, _⟩ => ⟨S128x2048, .bf16⟩
  | .local _ .vmem, ⟨24, _⟩ => ⟨S128x1024, .bf16⟩
  | .local _ .vmem, ⟨25, _⟩ => ⟨S1x1024, .f32⟩
  | .local _ .vmem, ⟨26, _⟩ => ⟨S832x1024, .f32⟩
  | .local _ .vmem, ⟨27, _⟩ => ⟨S832x1024, .f32⟩
  | .local _ .vmem, ⟨28, _⟩ => ⟨S1x16x1024, .f32⟩
  | .local _ .vmem, ⟨29, _⟩ => ⟨S1x16x1024, .f32⟩
  | .local _ .vmem, ⟨30, _⟩ => ⟨S1x16x1024, .f32⟩
  | .local _ .vmem, ⟨31, _⟩ => ⟨S1x16x1024, .f32⟩
  | .local _ .vmem, ⟨32, _⟩ => ⟨S1x16x2048, .f32⟩
  | .local _ .vmem, ⟨33, _⟩ => ⟨S1x16x2048, .f32⟩
  | .local _ .vmem, ⟨34, _⟩ => ⟨S1x16x2048, .f32⟩
  | .local _ .vmem, ⟨35, _⟩ => ⟨S1x16x2048, .f32⟩
  | .local _ .vmem, ⟨36, _⟩ => ⟨S1x16x1024, .f32⟩
  | .local _ .vmem, ⟨37, _⟩ => ⟨S1x16x1024, .f32⟩
  | .local _ .vmem, ⟨38, _⟩ => ⟨S1x512, .f32⟩
  | .local _ .vmem, ⟨39, _⟩ => ⟨S1x4x256x512, .f32⟩
  | .local _ .vmem, ⟨40, _⟩ => ⟨S1x4x256x512, .f32⟩
  | .local _ .vmem, ⟨41, _⟩ => ⟨S1x16x2048, .f32⟩
  | .local _ .vmem, ⟨42, _⟩ => ⟨S1x16x2048, .f32⟩
  | .local _ .vmem, ⟨43, _⟩ => ⟨S1x4x256x512, .f32⟩
  | .local _ .vmem, ⟨44, _⟩ => ⟨S1x4x256x512, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_cst_0 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_c : Ref sig .tc := ⟨.hbm, 38, rfl⟩
abbrev main_v22 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_v25 : Ref sig .tc := ⟨.hbm, 43, rfl⟩
abbrev main_c_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_call0_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_call1_v0 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_c_7 : Ref sig .tc := ⟨.hbm, 65, rfl⟩
abbrev main_call2_v0 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_8 : Ref sig .tc := ⟨.hbm, 71, rfl⟩
abbrev main_call3_v0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_9 : Ref sig .tc := ⟨.hbm, 76, rfl⟩
abbrev main_call4_v0 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53_0 : Ref sig .tc := ⟨.hbm, 82, rfl⟩
abbrev main_v53_1 : Ref sig .tc := ⟨.hbm, 83, rfl⟩
abbrev main_v54 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg4_1 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg6_1 : Ref sig .tc := ⟨.vmem, 40, rfl⟩
abbrev cc3_stg7_0 : Ref sig .tc := ⟨.vmem, 41, rfl⟩
abbrev cc3_stg7_1 : Ref sig .tc := ⟨.vmem, 42, rfl⟩
abbrev cc3_stg8_0 : Ref sig .tc := ⟨.vmem, 43, rfl⟩
abbrev cc3_stg8_1 : Ref sig .tc := ⟨.vmem, 44, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc2_sem0_0 : DmaSem sig := 21
abbrev cc2_sem0_1 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem2_1 : DmaSem sig := 33
abbrev cc3_sem3_0 : DmaSem sig := 34
abbrev cc3_sem3_1 : DmaSem sig := 35
abbrev cc3_sem4_0 : DmaSem sig := 36
abbrev cc3_sem4_1 : DmaSem sig := 37
abbrev cc3_sem5_0 : DmaSem sig := 38
abbrev cc3_sem6_0 : DmaSem sig := 39
abbrev cc3_sem6_1 : DmaSem sig := 40
abbrev cc3_sem7_0 : DmaSem sig := 41
abbrev cc3_sem7_1 : DmaSem sig := 42
abbrev cc3_sem8_0 : DmaSem sig := 43
abbrev cc3_sem8_1 : DmaSem sig := 44

abbrev nD : Nat := 1
abbrev τ : Topo := Topo.v7x

variable {F : FTy → Type} [FloatOps F]

abbrev grid0 : Pipeline.Grid := ⟨1, ![17], ![false]⟩

def cc0_transform_0 (i : grid0.Coords) : Fin 3 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![4, 12], ![false, false]⟩

def k1_mult1 (i : grid1.Coords) : BitVec 32 :=
  let c9216_i32 : BitVec 32 := 9216#32
  let arg1 : BitVec 32 := BitVec.ofNat 32 (i 1).val
  let c512_i32 : BitVec 32 := 512#32
  let v0 : BitVec 32 := Scalar.muli arg1 c512_i32
  let v1 : BitVec 32 := Scalar.addi c9216_i32 v0
  v1
def k1_cond1 (i : grid1.Coords) : BitVec 1 :=
  let arg1 : BitVec 32 := BitVec.ofNat 32 (i 1).val
  let c0_i32 : BitVec 32 := 0#32
  let v6 : BitVec 1 := Scalar.cmpi .sge arg1 c0_i32
  let v7 : BitVec 32 := Scalar.extui v6
  let c0_i32_3 : BitVec 32 := 0#32
  let v8 : BitVec 1 := Scalar.cmpi .ne v7 c0_i32_3
  v8

def k1_cond2 (i : grid1.Coords) : BitVec 1 :=
  let arg1 : BitVec 32 := BitVec.ofNat 32 (i 1).val
  let c0_i32_4 : BitVec 32 := 0#32
  let v9 : BitVec 1 := Scalar.cmpi .slt arg1 c0_i32_4
  let v10 : BitVec 32 := Scalar.extui v9
  let c0_i32_5 : BitVec 32 := 0#32
  let v11 : BitVec 1 := Scalar.cmpi .ne v10 c0_i32_5
  v11

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c9216_i32 : BitVec 32 := 9216#32
  let v1 : BitVec 32 := Scalar.addi c9216_i32 v0
  let v2 : BitVec 32 := v1
  let c0_i32 : BitVec 32 := 0#32
  let c0_i32_0 : BitVec 32 := 0#32
  ![v2.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S2080x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2080x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2080x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2080x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2080x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S832x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1024 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S832x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![32], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_8 (i : grid3.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage3_0 : Fin 2 → Memref sig .tc .vmem S1x16x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x16x1024 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x16x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x16x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S1x16x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S1x4x256x512 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x16x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x4x256x512 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]
-- ==== Reference10Ideal.lean ====
abbrev S1x8192x2048 : Shape := ⟨3, ![1, 8192, 2048]⟩
abbrev S32x4x2048 : Shape := ⟨3, ![32, 4, 2048]⟩
abbrev S2048 : Shape := ⟨1, ![2048]⟩
abbrev S1x2048x19472 : Shape := ⟨3, ![1, 2048, 19472]⟩
abbrev S1x16x1024 : Shape := ⟨3, ![1, 16, 1024]⟩
abbrev S1x1024 : Shape := ⟨2, ![1, 1024]⟩
abbrev S1x512 : Shape := ⟨2, ![1, 512]⟩
abbrev S1x32x4x256x512 : Shape := ⟨5, ![1, 32, 4, 256, 512]⟩
abbrev S8320x16 : Shape := ⟨2, ![8320, 16]⟩
abbrev S_ : Shape := ⟨0, ![]⟩
abbrev S32x4 : Shape := ⟨2, ![32, 4]⟩
abbrev S32x4x1 : Shape := ⟨3, ![32, 4, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S32x4x1024 : Shape := ⟨3, ![32, 4, 1024]⟩
abbrev S1x2048x2048 : Shape := ⟨3, ![1, 2048, 2048]⟩
abbrev S2048x2048 : Shape := ⟨2, ![2048, 2048]⟩
abbrev S1x2048x16 : Shape := ⟨3, ![1, 2048, 16]⟩
abbrev S2048x16 : Shape := ⟨2, ![2048, 16]⟩
abbrev S32x4x16 : Shape := ⟨3, ![32, 4, 16]⟩
abbrev S16x1024 : Shape := ⟨2, ![16, 1024]⟩
abbrev S1024 : Shape := ⟨1, ![1024]⟩
abbrev S1x1x1024 : Shape := ⟨3, ![1, 1, 1024]⟩
abbrev S32x4x4x256 : Shape := ⟨4, ![32, 4, 4, 256]⟩
abbrev S32x4x4x512 : Shape := ⟨4, ![32, 4, 4, 512]⟩
abbrev S32x4x1x256 : Shape := ⟨4, ![32, 4, 1, 256]⟩
abbrev S32x4x256 : Shape := ⟨3, ![32, 4, 256]⟩
abbrev S32x4x256x1 : Shape := ⟨4, ![32, 4, 256, 1]⟩
abbrev S32x4x256x512 : Shape := ⟨4, ![32, 4, 256, 512]⟩

abbrev nBuf : Space → Nat
  | .hbm => 97
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S32x4x2048, .f32⟩
  | .hbm, ⟨2, _⟩ => ⟨S2048, .f32⟩
  | .hbm, ⟨3, _⟩ => ⟨S2048, .f32⟩
  | .hbm, ⟨4, _⟩ => ⟨S1x2048x19472, .f32⟩
  | .hbm, ⟨5, _⟩ => ⟨S1x16x1024, .f32⟩
  | .hbm, ⟨6, _⟩ => ⟨S1x1024, .f32⟩
  | .hbm, ⟨7, _⟩ => ⟨S1x512, .f32⟩
  | .hbm, ⟨8, _⟩ => ⟨S1x32x4x256x512, .f32⟩
  | .hbm, ⟨9, _⟩ => ⟨S8320x16, .f32⟩
  | .hbm, ⟨10, _⟩ => ⟨S8320x16, .f32⟩
  | .hbm, ⟨11, _⟩ => ⟨S_, .f32⟩
  | .hbm, ⟨12, _⟩ => ⟨S32x4, .f32⟩
  | .hbm, ⟨13, _⟩ => ⟨S32x4x1, .f32⟩
  | .hbm, ⟨14, _⟩ => ⟨S_, .f32⟩
  | .hbm, ⟨15, _⟩ => ⟨S32x4x1, .f32⟩
  | .hbm, ⟨16, _⟩ => ⟨S32x4x1, .f32⟩
  | .hbm, ⟨17, _⟩ => ⟨S32x4x2048, .f32⟩
  | .hbm, ⟨18, _⟩ => ⟨S32x4x2048, .f32⟩
  | .hbm, ⟨19, _⟩ => ⟨S32x4x2048, .f32⟩
  | .hbm, ⟨20, _⟩ => ⟨S_, .f32⟩
  | .hbm, ⟨21, _⟩ => ⟨S32x4, .f32⟩
  | .hbm, ⟨22, _⟩ => ⟨S32x4x1, .f32⟩
  | .hbm, ⟨23, _⟩ => ⟨S_, .f32⟩
  | .hbm, ⟨24, _⟩ => ⟨S32x4x1, .f32⟩
  | .hbm, ⟨25, _⟩ => ⟨S32x4x1, .f32⟩
  | .hbm, ⟨26, _⟩ => ⟨S32x4x2048, .f32⟩
  | .hbm, ⟨27, _⟩ => ⟨S32x4x2048, .f32⟩
  | .hbm, ⟨28, _⟩ => ⟨S_, .f32⟩
  | .hbm, ⟨29, _⟩ => ⟨S32x4x1, .f32⟩
  | .hbm, ⟨30, _⟩ => ⟨S32x4x1, .f32⟩
  | .hbm, ⟨31, _⟩ => ⟨S32x4x1, .f32⟩
  | .hbm, ⟨32, _⟩ => ⟨S32x4x2048, .f32⟩
  | .hbm, ⟨33, _⟩ => ⟨S32x4x2048, .f32⟩
  | .hbm, ⟨34, _⟩ => ⟨S1x1x2048, .f32⟩
  | .hbm, ⟨35, _⟩ => ⟨S32x4x2048, .f32⟩
  | .hbm, ⟨36, _⟩ => ⟨S32x4x2048, .f32⟩
  | .hbm, ⟨37, _⟩ => ⟨S1x1x2048, .f32⟩
  | .hbm, ⟨38, _⟩ => ⟨S32x4x2048, .f32⟩
  | .hbm, ⟨39, _⟩ => ⟨S32x4x2048, .f32⟩
  | .hbm, ⟨40, _⟩ => ⟨S1x2048x1024, .f32⟩
  | .hbm, ⟨41, _⟩ => ⟨S2048x1024, .f32⟩
  | .hbm, ⟨42, _⟩ => ⟨S32x4x1024, .f32⟩
  | .hbm, ⟨43, _⟩ => ⟨S1x2048x2048, .f32⟩
  | .hbm, ⟨44, _⟩ => ⟨S2048x2048, .f32⟩
  | .hbm, ⟨45, _⟩ => ⟨S32x4x2048, .f32⟩
  | .hbm, ⟨46, _⟩ => ⟨S1x2048x16, .f32⟩
  | .hbm, ⟨47, _⟩ => ⟨S2048x16, .f32⟩
  | .hbm, ⟨48, _⟩ => ⟨S32x4x16, .f32⟩
  | .hbm, ⟨49, _⟩ => ⟨S16x1024, .f32⟩
  | .hbm, ⟨50, _⟩ => ⟨S32x4x1024, .f32⟩
  | .hbm, ⟨51, _⟩ => ⟨S1024, .f32⟩
  | .hbm, ⟨52, _⟩ => ⟨S1x1x1024, .f32⟩
  | .hbm, ⟨53, _⟩ => ⟨S32x4x1024, .f32⟩
  | .hbm, ⟨54, _⟩ => ⟨S32x4x1024, .f32⟩
  | .hbm, ⟨55, _⟩ => ⟨S32x4x1024, .f32⟩
  | .hbm, ⟨56, _⟩ => ⟨S_, .f32⟩
  | .hbm, ⟨57, _⟩ => ⟨S32x4x1024, .f32⟩
  | .hbm, ⟨58, _⟩ => ⟨S32x4x1024, .f32⟩
  | .hbm, ⟨59, _⟩ => ⟨S32x4x1024, .f32⟩
  | .hbm, ⟨60, _⟩ => ⟨S32x4x1024, .f32⟩
  | .hbm, ⟨61, _⟩ => ⟨S32x4x1024, .i1⟩
  | .hbm, ⟨62, _⟩ => ⟨S32x4x1024, .f32⟩
  | .hbm, ⟨63, _⟩ => ⟨S32x4x1024, .f32⟩
  | .hbm, ⟨64, _⟩ => ⟨S32x4x1024, .f32⟩
  | .hbm, ⟨65, _⟩ => ⟨S32x4x1024, .f32⟩
  | .hbm, ⟨66, _⟩ => ⟨S32x4x1024, .f32⟩
  | .hbm, ⟨67, _⟩ => ⟨S32x4x1024, .f32⟩
  | .hbm, ⟨68, _⟩ => ⟨S32x4x1024, .f32⟩
  | .hbm, ⟨69, _⟩ => ⟨S32x4x1024, .f32⟩
  | .hbm, ⟨70, _⟩ => ⟨S32x4x1024, .f32⟩
  | .hbm, ⟨71, _⟩ => ⟨S_, .f32⟩
  | .hbm, ⟨72, _⟩ => ⟨S32x4x1024, .f32⟩
  | .hbm, ⟨73, _⟩ => ⟨S32x4x1024, .f32⟩
  | .hbm, ⟨74, _⟩ => ⟨S32x4x4x256, .f32⟩
  | .hbm, ⟨75, _⟩ => ⟨S32x4x4x256, .f32⟩
  | .hbm, ⟨76, _⟩ => ⟨S32x4x4x512, .f32⟩
  | .hbm, ⟨77, _⟩ => ⟨S32x4x4x512, .f32⟩
  | .hbm, ⟨78, _⟩ => ⟨S32x4x4x256, .f32⟩
  | .hbm, ⟨79, _⟩ => ⟨S32x4x4x256, .f32⟩
  | .hbm, ⟨80, _⟩ => ⟨S_, .f32⟩
  | .hbm, ⟨81, _⟩ => ⟨S_, .f32⟩
  | .hbm, ⟨82, _⟩ => ⟨S32x4x4x256, .f32⟩
  | .hbm, ⟨83, _⟩ => ⟨S32x4x1x256, .f32⟩
  | .hbm, ⟨84, _⟩ => ⟨S32x4x4x256, .f32⟩
  | .hbm, ⟨85, _⟩ => ⟨S32x4x4x256, .f32⟩
  | .hbm, ⟨86, _⟩ => ⟨S32x4x4x256, .f32⟩
  | .hbm, ⟨87, _⟩ => ⟨S32x4x4x256, .f32⟩
  | .hbm, ⟨88, _⟩ => ⟨S32x4x256, .f32⟩
  | .hbm, ⟨89, _⟩ => ⟨S32x4x256, .f32⟩
  | .hbm, ⟨90, _⟩ => ⟨S32x4x256x1, .f32⟩
  | .hbm, ⟨91, _⟩ => ⟨S32x4x256x512, .f32⟩
  | .hbm, ⟨92, _⟩ => ⟨S32x4x256x512, .f32⟩
  | .hbm, ⟨93, _⟩ => ⟨S32x4x256x512, .f32⟩
  | .hbm, ⟨94, _⟩ => ⟨S32x4x256x512, .f32⟩
  | .hbm, ⟨95, _⟩ => ⟨S32x4x256x512, .f32⟩
  | .hbm, ⟨96, _⟩ => ⟨S1x32x4x256x512, .f32⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v39 : Ref sig .tc := ⟨.hbm, 70, rfl⟩
abbrev main_cst_4 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_call1_call0_cst : Ref sig .tc := ⟨.hbm, 80, rfl⟩
abbrev main_call1_call0_v0 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩

abbrev nD : Nat := 1
abbrev τ : Topo := Topo.v7x

variable {F : FTy → Type} [FloatOps F]
-- ==== Proof.Spec.lean ====
/-
  One head of the gated linear attention of four new tokens from a carried state, as plain functions on the extended reals, and the
  lemmas that relate them to the way the kernel computes them: rows padded from four to sixteen with zeros, a cumulative sum taken as
  three products with a triangle of ones (an operand, what rounding it to half the width left over, and what was left over again).
-/
module

public import Idealize.ShloMosaic.Lib.Pointwise
public import Idealize.ShloMosaic.Lib.WordCmp

@[expose] public section

noncomputable section

open Idealize.ShloMosaic

namespace Gla

/-- The sum of the first `t + 1` of four terms. -/
def cum (g : Fin 4 → EReal) (t : Fin 4) : EReal := ∑ s, if s ≤ t then g s else 0

/-- The score of query token `t` on key token `s`: both scaled by their cumulative decays, and zero where `s` is later than `t`. -/
def att (κ : EReal) (Q K G : Fin 4 → Fin 256 → EReal) (t s : Fin 4) : EReal :=
  if s ≤ t then ∑ p, Q t p * κ * Ideal.exp (cum (fun u => G u p) t) * (K s p * Ideal.exp (-cum (fun u => G u p) s)) else 0

/-- Token `t`'s attention output before the norm: over the new tokens, and from the carried state. -/
def mix (κ : EReal) (Q K G : Fin 4 → Fin 256 → EReal) (V : Fin 4 → Fin 512 → EReal) (S : Fin 256 → Fin 512 → EReal)
    (t : Fin 4) (n : Fin 512) : EReal :=
  ∑ s, att κ Q K G t s * V s n + ∑ p, Q t p * κ * Ideal.exp (cum (fun u => G u p) t) * S p n

/-- The root mean square norm of a row, weighted, then gated by `b · sigmoid b`. -/
def gated (w ε : EReal) (o : Fin 512 → EReal) (γ b : EReal) (n : Fin 512) : EReal :=
  o n * Ideal.rsqrt (Ideal.div (∑ x, o x * o x) w + ε) * γ * (b * Ideal.div 1 (1 + Ideal.exp (-b)))

/-- The state after the four tokens: the carried one decayed, and each token's key times value decayed to the end. -/
def state (K G : Fin 4 → Fin 256 → EReal) (V : Fin 4 → Fin 512 → EReal) (S : Fin 256 → Fin 512 → EReal)
    (p : Fin 256) (n : Fin 512) : EReal :=
  Ideal.exp (cum (fun u => G u p) 3) * S p n
    + ∑ s, K s p * Ideal.exp (cum (fun u => G u p) 3 - cum (fun u => G u p) s) * V s n

/-- Four values followed by zeros. -/
def padded (f : Fin 4 → EReal) (c : Fin 16) : EReal := if h : (c : Nat) < 4 then f ⟨c, h⟩ else 0

theorem padded_low (f : Fin 4 → EReal) (c : Fin 16) (h : (c : Nat) < 4) : padded f c = f ⟨c, h⟩ := dif_pos h

theorem padded_high (f : Fin 4 → EReal) (c : Fin 16) (h : ¬ (c : Nat) < 4) : padded f c = 0 := dif_neg h

/-- A sum of sixteen terms that vanish from the fourth on is the sum of the first four. -/
theorem sum_padded (f : Fin 16 → EReal) (h : ∀ c : Fin 16, ¬ (c : Nat) < 4 → f c = 0) :
    ∑ c, f c = ∑ s : Fin 4, f ⟨s, by omega⟩ := by
  have e := Fin.sum_univ_add (a := 4) (b := 12) f
  refine e.trans ?_
  have z : ∑ i : Fin 12, f (Fin.natAdd 4 i) = 0 := Finset.sum_eq_zero fun i _ => h _ (by simp)
  rw [z, add_zero]
  rfl

/-- A term minus itself is zero unless the term is infinite. -/
theorem sub_self_of (x : EReal) (h1 : x ≠ ⊥) (h2 : x < ⊤) : x - x = 0 := EReal.sub_self h2.ne h1

/-- The sum of a term, its rounding remainder, and that remainder's, with no rounding: the term. -/
theorem three_parts (x : EReal) (h : x < ⊤) : x + (x - x) + (x - x - (x - x)) = x := by
  by_cases hb : x = ⊥
  · subst hb; simp
  · rw [sub_self_of x hb h]; simp

/-- The same, of sums over the terms a condition selects: where no term is `⊤`. -/
theorem sum_three_parts {ι : Type} [Fintype ι] [DecidableEq ι] (P : ι → Prop) [DecidablePred P] (g : ι → EReal) (h : ∀ x, g x < ⊤) :
    (∑ x, if P x then g x else 0) + (∑ x, if P x then g x - g x else 0)
      + (∑ x, if P x then g x - g x - (g x - g x) else 0) = ∑ x, if P x then g x else 0 := by
  by_cases hb : ∃ x, P x ∧ g x = ⊥
  · obtain ⟨x, hx, hg⟩ := hb
    have e : (∑ x, if P x then g x else 0) = ⊥ := by
      rw [← Finset.add_sum_erase _ _ (Finset.mem_univ x), if_pos hx, hg, EReal.bot_add]
    rw [e, EReal.bot_add, EReal.bot_add]
  · have hz : ∀ x, P x → g x - g x = 0 := fun x hx => sub_self_of _ (fun hg => hb ⟨x, hx, hg⟩) (h x)
    rw [Finset.sum_eq_zero (f := fun x => if P x then g x - g x else 0), Finset.sum_eq_zero (f := fun x => if P x then g x - g x - (g x - g x) else 0),
      add_zero, add_zero]
    · intro x _
      split
      · next hx => rw [hz x hx, sub_zero]
      · rfl
    · intro x _
      split
      · next hx => exact hz x hx
      · rfl

/-- A sum of terms below `⊤` is below `⊤`. -/
theorem sum_lt_top {ι : Type} (s : Finset ι) (g : ι → EReal) (h : ∀ x, g x < ⊤) : ∑ x ∈ s, g x < ⊤ := by
  classical
  induction s using Finset.induction_on with
  | empty => simp
  | insert a s ha ih => rw [Finset.sum_insert ha]; exact EReal.add_lt_top (h a).ne ih.ne

theorem cum_lt_top (g : Fin 4 → EReal) (h : ∀ x, g x < ⊤) (t : Fin 4) : cum g t < ⊤ := by
  unfold cum
  refine sum_lt_top _ _ fun x => ?_
  split
  · exact h x
  · simp

theorem exp_lt_top (x : EReal) (h : x < ⊤) : Ideal.exp x < ⊤ := by
  induction x with
  | bot => simp
  | coe r => rw [Ideal.exp_coe]; exact EReal.coe_lt_top _
  | top => exact absurd h (lt_irrefl _)

/-- The padded cumulative sum in its row `c`: the sum of the first `c + 1` of the four terms, and from row 3 on of all four. -/
theorem sum_le_padded (g : Fin 4 → EReal) (c : Fin 16) :
    (∑ x : Fin 16, if (x : Nat) ≤ c then padded g x else 0) = cum g ⟨min c.val 3, by omega⟩ := by
  rw [sum_padded _ fun x hx => by rw [padded_high _ _ hx, ite_self]]
  unfold cum
  refine Finset.sum_congr rfl fun s _ => ?_
  rw [padded_low _ _ (by exact s.isLt)]
  have : ((s : Nat) ≤ c) ↔ s ≤ (⟨min c.val 3, by omega⟩ : Fin 4) := by
    rw [Fin.le_def]; show _ ↔ (s : Nat) ≤ min c.val 3; omega
  simp only [this]

/-! ## Choices on comparisons of index words -/

theorem sel_ge (c x : Fin 16) (a b : EReal) :
    Scalar.select (IntOp.cmpi .sge (BitVec.ofNat 32 c.val) (BitVec.ofNat 32 x.val)) a b = if (x : Nat) ≤ c then a else b := by
  simp (disch := word_cmp_side) only [hlo_ix]

theorem sel_eq {n : Nat} (hn : n ≤ 256) (c x : Fin n) (a b : EReal) :
    Scalar.select (IntOp.cmpi .eq (BitVec.ofNat 32 c.val) (BitVec.ofNat 32 x.val)) a b = if c = x then a else b := by
  have hc := c.isLt
  have hx := x.isLt
  have e : (c = x) ↔ (BitVec.ofNat 32 c.val) = (BitVec.ofNat 32 x.val) := by
    rw [← BitVec.toNat_inj, BitVec.toNat_ofNat, BitVec.toNat_ofNat, Nat.mod_eq_of_lt (by omega), Nat.mod_eq_of_lt (by omega), Fin.ext_iff]
  simp only [hlo_ix, e, BitVec.toNat_inj]

theorem sel_ne (x : Fin 16) (y : Nat) (hy : 16 ≤ y) (h2 : y < 32) (a b : EReal) :
    Scalar.select (IntOp.cmpi .eq (BitVec.ofNat 32 x.val) (BitVec.ofNat 32 y)) a b = b := by
  have hx := x.isLt
  simp (disch := word_cmp_side) only [hlo_ix]
  rw [if_neg (by omega)]

end Gla

end
-- ==== Proof.Head.lean ====
/-
  What the kernel's body computes for one head, from the head's slices of its blocks (sixteen rows, of which the last twelve are
  padding): read at an index, in the words of `Spec.lean`.
-/
module

public import proofs.«01_k».proof.Proof.Gen.KernelIdeal.Skeleton
public import proofs.«01_k».proof.Proof.Spec
public import Idealize.ShloMosaic.Lib.WordCmp

@[expose] public section

set_option maxRecDepth 16384

noncomputable section

open Idealize.ShloMosaic Idealize.ShloMosaic.TcCoe Idealize.SL.Sem

namespace Cert.KernelIdeal.Head

open Cert.KernelIdeal Cert.KernelIdeal.Gen

/-! ## The stages, named -/

/-- The cumulative log decays. -/
def cumV (g : FVec Ideal S16x256 .f32) : FVec Ideal S16x256 .f32 := k0_pay38 k0_pay6 g
/-- The scaled, decayed queries. -/
def qV (q g : FVec Ideal S16x256 .f32) : FVec Ideal S16x256 .bf16 := k0_pay69 q (cumV g)
/-- The masked scores. -/
def attV (q k g : FVec Ideal S16x256 .f32) : FVec Ideal S16x16 .bf16 := k0_pay79 k0_pay5 (qV q g) (k0_pay70 k (cumV g))
/-- The output before the norm. -/
def mixV (q k g : FVec Ideal S16x256 .f32) (v : FVec Ideal S16x512 .f32) (s : FVec Ideal S256x512 .f32) : FVec Ideal S16x512 .f32 :=
  k0_pay90 s (qV q g) (k0_pay72 v) (attV q k g)
/-- The head's output. -/
def outV (q k g : FVec Ideal S16x256 .f32) (v b : FVec Ideal S16x512 .f32) (γ : FVec Ideal S1x512 .f32) (s : FVec Ideal S256x512 .f32) :
    FVec Ideal S16x512 .f32 :=
  k0_pay93 γ b (mixV q k g v s) (k0_pay92 s (qV q g) (k0_pay72 v) (attV q k g))
/-- Keys decayed to the end, and the decay of the state in three parts, transposed. -/
def keyV (k g : FVec Ideal S16x256 .f32) : FVec Ideal S256x32 .f32 :=
  k0_pay80 k0_pay7 (k0_pay71 k (iota .tc S32x256 32 [0] iota_S32x256_d0_w32) (cumV g))
/-- The head's new state. -/
def stateV (k g : FVec Ideal S16x256 .f32) (v : FVec Ideal S16x512 .f32) (s : FVec Ideal S256x512 .f32) : FVec Ideal S256x512 .f32 :=
  k0_pay91 s (k0_pay72 v) (keyV k g)

/-- The scale of the queries. -/
def κ : EReal := Ideal.ofBits FTy.f32 1031798784#32
/-- The width of a head, as the mean divides by it. -/
def w : EReal := Ideal.ofBits FTy.f32 1140850688#32
/-- The norm's epsilon. -/
def ε : EReal := Ideal.ofBits FTy.f32 925353388#32

variable (q k g : FVec Ideal S16x256 .f32) (v b : FVec Ideal S16x512 .f32) (γ : FVec Ideal S1x512 .f32) (s : FVec Ideal S256x512 .f32)
variable (Q K G : Fin 4 → Fin 256 → EReal) (V B : Fin 4 → Fin 512 → EReal)

theorem cumV_apply (hg : ∀ c p, g (ix2 c p) = Gla.padded (fun t => G t p) c) (hfin : ∀ t p, G t p < ⊤) (c : Fin 16) (p : Fin 256) :
    cumV g (ix2 c p) = Gla.cum (fun t => G t p) ⟨min c.val 3, by omega⟩ := by
  rw [← Gla.sum_le_padded, ← Gla.sum_three_parts (fun x : Fin 16 => (x : Nat) ≤ c)]
  · pointwise [cumV, k0_pay38, k0_pay6, k0_pay5, Gla.sel_ge, hg]
    simp only [ite_mul, one_mul, zero_mul]
  · intro x
    unfold Gla.padded
    split
    · exact hfin _ _
    · simp

theorem qV_apply (hq : ∀ c p, q (ix2 c p) = Gla.padded (fun t => Q t p) c) (hg : ∀ c p, g (ix2 c p) = Gla.padded (fun t => G t p) c)
    (hfin : ∀ t p, G t p < ⊤) (c : Fin 16) (p : Fin 256) :
    qV q g (ix2 c p) = Gla.padded (fun t => Q t p * κ * Ideal.exp (Gla.cum (fun u => G u p) t)) c := by
  pointwise [qV, k0_pay69, hq, cumV_apply g G hg hfin]
  by_cases h : (c : Nat) < 4
  · rw [Gla.padded_low _ _ h, Gla.padded_low _ _ h, ← mul_assoc]
    have : (⟨min c.val 3, by omega⟩ : Fin 4) = ⟨c, h⟩ := Fin.ext (by show min c.val 3 = c.val; omega)
    rw [this]; rfl
  · rw [Gla.padded_high _ _ h, Gla.padded_high _ _ h, zero_mul]

theorem attV_apply (hq : ∀ c p, q (ix2 c p) = Gla.padded (fun t => Q t p) c) (hk : ∀ c p, k (ix2 c p) = Gla.padded (fun t => K t p) c)
    (hg : ∀ c p, g (ix2 c p) = Gla.padded (fun t => G t p) c)
    (hfin : ∀ t p, G t p < ⊤) (c x : Fin 16) :
    attV q k g (ix2 c x) = if h : (c : Nat) < 4 ∧ (x : Nat) < 4 then Gla.att κ Q K G ⟨c, h.1⟩ ⟨x, h.2⟩ else 0 := by
  pointwise [attV, k0_pay79, k0_pay5, k0_pay70, Gla.sel_ge, hk, qV_apply q g Q G hq hg hfin, cumV_apply g G hg hfin, zero_sub]
  by_cases hc : (c : Nat) < 4
  · by_cases hx : (x : Nat) < 4
    · rw [dif_pos ⟨hc, hx⟩]
      unfold Gla.att
      have : (⟨min x.val 3, by omega⟩ : Fin 4) = ⟨x, hx⟩ := Fin.ext (by show min x.val 3 = x.val; omega)
      simp only [Gla.padded_low _ _ hc, Gla.padded_low _ _ hx, this, Fin.mk_le_mk]
    · rw [dif_neg (fun h => hx h.2)]
      simp only [Gla.padded_high _ _ hx, zero_mul, mul_zero, Finset.sum_const_zero, ite_self]
  · rw [dif_neg (fun h => hc h.1)]
    simp only [Gla.padded_high _ _ hc, zero_mul, Finset.sum_const_zero, ite_self]

theorem mixV_apply (hq : ∀ c p, q (ix2 c p) = Gla.padded (fun t => Q t p) c) (hk : ∀ c p, k (ix2 c p) = Gla.padded (fun t => K t p) c)
    (hg : ∀ c p, g (ix2 c p) = Gla.padded (fun t => G t p) c) (hv : ∀ c n, v (ix2 c n) = Gla.padded (fun t => V t n) c)
    (hfin : ∀ t p, G t p < ⊤) (c : Fin 16) (n : Fin 512) :
    mixV q k g v s (ix2 c n) = Gla.padded (fun t => Gla.mix κ Q K G V (fun p n => s (ix2 p n)) t n) c := by
  have e : mixV q k g v s (ix2 c n) = ∑ x : Fin 16, attV q k g (ix2 c x) * v (ix2 x n) + ∑ p, qV q g (ix2 c p) * s (ix2 p n) := by
    pointwise [mixV, k0_pay90, k0_pay72]
  rw [e]
  simp only [hv, attV_apply q k g Q K G hq hk hg hfin, qV_apply q g Q G hq hg hfin]
  rw [Gla.sum_padded _ fun x hx => by rw [Gla.padded_high _ _ hx, mul_zero]]
  by_cases hc : (c : Nat) < 4
  · simp only [Gla.padded_low _ _ hc, Gla.mix, Gla.padded, Fin.is_lt, dif_pos, hc, and_self]
  · simp only [Gla.padded_high _ _ hc, hc, false_and, dif_neg, not_false_eq_true, zero_mul, Finset.sum_const_zero, add_zero]

/-- The head's output: the four tokens' gated outputs, and zeros in the padding. -/
theorem outV_apply (hq : ∀ c p, q (ix2 c p) = Gla.padded (fun t => Q t p) c) (hk : ∀ c p, k (ix2 c p) = Gla.padded (fun t => K t p) c)
    (hg : ∀ c p, g (ix2 c p) = Gla.padded (fun t => G t p) c) (hv : ∀ c n, v (ix2 c n) = Gla.padded (fun t => V t n) c)
    (hb : ∀ c n, b (ix2 c n) = Gla.padded (fun t => B t n) c)
    (hfin : ∀ t p, G t p < ⊤) (c : Fin 16) (n : Fin 512) :
    outV q k g v b γ s (ix2 c n)
      = Gla.padded (fun t => Gla.gated w ε (Gla.mix κ Q K G V (fun p n => s (ix2 p n)) t) (γ (ix2 0 n)) (B t n) n) c := by
  have e : k0_pay92 s (qV q g) (k0_pay72 v) (attV q k g)
      = multiReduction .add [1] S16 (mulf (mixV q k g v s) (mixV q k g v s)) 0x00000000#32 reduces_S16x512_S16 (.inl rfl) rfl := rfl
  unfold outV
  rw [e]
  pointwise [k0_pay93, hb, mixV_apply q k g v s Q K G V hq hk hg hv hfin, zero_sub]
  by_cases hc : (c : Nat) < 4
  · simp only [Gla.padded_low _ _ hc, Gla.gated]; rfl
  · simp only [Gla.padded_high _ _ hc, zero_mul]

theorem keyV_apply (c : Fin 32) (p : Fin 256) :
    keyV k g (ix2 p c) = k0_pay71 (F := Ideal) k (iota .tc S32x256 32 [0] iota_S32x256_d0_w32) (cumV g) (ix2 c p) := by
  pointwise [keyV, k0_pay80, k0_pay7, Gla.sel_eq (n := 256) (by norm_num)]
  rw [Finset.sum_eq_single p]
  · rw [if_pos rfl, one_mul]
  · intro x _ hx
    rw [if_neg fun h => hx h.symm, zero_mul]
  · intro h
    exact absurd (Finset.mem_univ _) h

/-- The stacked keys: a row below sixteen is a key decayed to the end. -/
theorem keys_low (x : Fin 16) (p : Fin 256) :
    keyV k g (ix2 p ⟨x, by omega⟩) = k (ix2 x p) * Ideal.exp (cumV g (ix2 15 p) - cumV g (ix2 x p)) := by
  rw [keyV_apply]
  pointwise [k0_pay71]
  rw [Gla.sel_ne x 18 (by norm_num) (by norm_num), Gla.sel_ne x 17 (by norm_num) (by norm_num), Gla.sel_ne x 16 (by norm_num) (by norm_num)]

/-- The three rows from sixteen on hold the state's decay in three parts. -/
theorem keys_high (p : Fin 256) :
    keyV k g (ix2 p 16) = Ideal.exp (cumV g (ix2 15 p))
      ∧ keyV k g (ix2 p 17) = Ideal.exp (cumV g (ix2 15 p)) - Ideal.exp (cumV g (ix2 15 p))
      ∧ keyV k g (ix2 p 18) = Ideal.exp (cumV g (ix2 15 p)) - Ideal.exp (cumV g (ix2 15 p))
          - (Ideal.exp (cumV g (ix2 15 p)) - Ideal.exp (cumV g (ix2 15 p))) := by
  have c1 : IntOp.cmpi .eq 16#32 18#32 = 0 := by decide
  have c2 : IntOp.cmpi .eq 16#32 17#32 = 0 := by decide
  have c3 : IntOp.cmpi .eq 17#32 18#32 = 0 := by decide
  refine ⟨?_, ?_, ?_⟩
  · rw [keyV_apply]; pointwise [k0_pay71]
    rw [Scalar.select_of_eq_zero c1, Scalar.select_of_eq_zero c2]
  · rw [keyV_apply]; pointwise [k0_pay71]
    rw [Scalar.select_of_eq_zero c3]
  · rw [keyV_apply]; pointwise [k0_pay71]

/-- The head's new state. -/
theorem stateV_apply (hk : ∀ c p, k (ix2 c p) = Gla.padded (fun t => K t p) c)
    (hg : ∀ c p, g (ix2 c p) = Gla.padded (fun t => G t p) c) (hv : ∀ c n, v (ix2 c n) = Gla.padded (fun t => V t n) c)
    (hfin : ∀ t p, G t p < ⊤) (p : Fin 256) (n : Fin 512) :
    stateV k g v s (ix2 p n) = Gla.state K G V (fun p n => s (ix2 p n)) p n := by
  have e : stateV k g v s (ix2 p n) = s (ix2 p n) * (keyV k g (ix2 p 16) + keyV k g (ix2 p 17) + keyV k g (ix2 p 18))
      + ∑ x : Fin 16, keyV k g (ix2 p ⟨x, by omega⟩) * v (ix2 x n) := by
    pointwise [stateV, k0_pay91, k0_pay72]
  have e3 : (⟨min (15 : Fin 16).val 3, by omega⟩ : Fin 4) = 3 := rfl
  rw [e, (keys_high k g p).1, (keys_high k g p).2.1, (keys_high k g p).2.2]
  simp only [keys_low, cumV_apply g G hg hfin, hk, hv, e3]
  rw [Gla.sum_padded _ fun x hx => by rw [Gla.padded_high _ _ hx, Gla.padded_high _ _ hx, mul_zero]]
  rw [Gla.three_parts _ (Gla.exp_lt_top _ (Gla.cum_lt_top _ (fun t => hfin t p) _)), mul_comm]
  unfold Gla.state
  refine congrArg _ (Finset.sum_congr rfl fun x _ => ?_)
  have hx : (x : Nat) < 4 := x.isLt
  have e : (⟨min x.val 3, by omega⟩ : Fin 4) = x := Fin.ext (by show min x.val 3 = x.val; omega)
  simp only [Gla.padded, hx, dif_pos, e, Fin.eta]

end Cert.KernelIdeal.Head

end
-- ==== Proof.Block.lean ====
/-
  What one grid point leaves in the two output blocks, from the blocks it reads: head by head, in the words of `Spec.lean`.
-/
module

public import proofs.«01_k».proof.Proof.Gen.KernelIdeal.Frame
public import proofs.«01_k».proof.Proof.Head
public import Idealize.ShloMosaic.Lib.Pipeline.ValueKit

@[expose] public section

set_option maxRecDepth 16384

noncomputable section

open Idealize.ShloMosaic Idealize.ShloMosaic.TcCoe Idealize.SL.Sem

namespace Cert.KernelIdeal.Block

open Cert.KernelIdeal Cert.KernelIdeal.Gen Cert.KernelIdeal.Head

/-- An index of a rank-three shape is determined by its coordinates' values. -/
theorem ext3 {n0 n1 n2 : Nat} {x : (⟨3, ![n0, n1, n2]⟩ : Shape).Idx} {a : Fin n0} {b : Fin n1} {c : Fin n2}
    (h0 : (x 0).val = a.val) (h1 : (x 1).val = b.val) (h2 : (x 2).val = c.val) : x = ix3 a b c :=
  funext fun d => match d with | ⟨0, _⟩ => Fin.ext h0 | ⟨1, _⟩ => Fin.ext h1 | ⟨2, _⟩ => Fin.ext h2

/-- An index of a rank-four shape is determined by its coordinates' values. -/
theorem ext4 {n0 n1 n2 n3 : Nat} {x : (⟨4, ![n0, n1, n2, n3]⟩ : Shape).Idx} {a : Fin n0} {b : Fin n1} {c : Fin n2} {e : Fin n3}
    (h0 : (x 0).val = a.val) (h1 : (x 1).val = b.val) (h2 : (x 2).val = c.val) (h3 : (x 3).val = e.val) : x = ix4 a b c e :=
  funext fun d => match d with | ⟨0, _⟩ => Fin.ext h0 | ⟨1, _⟩ => Fin.ext h1 | ⟨2, _⟩ => Fin.ext h2 | ⟨3, _⟩ => Fin.ext h3

/-- A head's output from the head's slices, as the block stores it. -/
def headOut (q k g : Vec Ideal S1x16x256 .f32) (v b : Vec Ideal S1x16x512 .f32) (γ : Vec Ideal S1x512 .f32) (s : Vec Ideal S1x1x256x512 .f32) :
    FVec Ideal S1x16x512 .f32 :=
  k0_pay4 (outV (k0_pay27 q) (k0_pay28 k) (k0_pay30 g) (k0_pay29 v) (k0_pay31 b) (k0_pay8 γ) (k0_pay32 s))

/-- A head's new state from the head's slices, as the block stores it. -/
def headState (k g : Vec Ideal S1x16x256 .f32) (v : Vec Ideal S1x16x512 .f32) (s : Vec Ideal S1x1x256x512 .f32) :
    FVec Ideal S1x1x256x512 .f32 :=
  k0_pay3 (stateV (k0_pay28 k) (k0_pay30 g) (k0_pay29 v) (k0_pay32 s))

section head
variable (q k g : Vec Ideal S1x16x256 .f32) (v b : Vec Ideal S1x16x512 .f32) (γ : Vec Ideal S1x512 .f32) (s : Vec Ideal S1x1x256x512 .f32)
variable (Q K G : Fin 4 → Fin 256 → EReal) (V B : Fin 4 → Fin 512 → EReal) (Γ : Fin 512 → EReal) (S : Fin 256 → Fin 512 → EReal)

/-- A head's output, read at an index. -/
theorem headOut_apply (hq : ∀ c p, q (ix3 0 c p) = Gla.padded (fun t => Q t p) c) (hk : ∀ c p, k (ix3 0 c p) = Gla.padded (fun t => K t p) c)
    (hg : ∀ c p, g (ix3 0 c p) = Gla.padded (fun t => G t p) c) (hv : ∀ c n, v (ix3 0 c n) = Gla.padded (fun t => V t n) c)
    (hb : ∀ c n, b (ix3 0 c n) = Gla.padded (fun t => B t n) c) (hγ : ∀ n, γ (ix2 0 n) = Γ n) (hs : ∀ p n, s (ix4 0 0 p n) = S p n)
    (hfin : ∀ t p, G t p < ⊤) (z : Fin 1) (c : Fin 16) (n : Fin 512) :
    headOut q k g v b γ s (ix3 z c n) = Gla.padded (fun t => Gla.gated w ε (Gla.mix κ Q K G V S t) (Γ n) (B t n) n) c := by
  have e : headOut q k g v b γ s (ix3 z c n)
      = outV (k0_pay27 q) (k0_pay28 k) (k0_pay30 g) (k0_pay29 v) (k0_pay31 b) (k0_pay8 γ) (k0_pay32 s) (ix2 c n) := by
    pointwise [headOut, k0_pay4]
  rw [e, outV_apply _ _ _ _ _ _ _ Q K G V B (fun c p => by pointwise [k0_pay27, hq]) (fun c p => by pointwise [k0_pay28, hk])
    (fun c p => by pointwise [k0_pay30, hg]) (fun c p => by pointwise [k0_pay29, hv]) (fun c p => by pointwise [k0_pay31, hb]) hfin]
  have eγ : k0_pay8 γ (ix2 0 n) = Γ n := by pointwise [k0_pay8, hγ]
  have es : (fun p n => k0_pay32 s (ix2 p n)) = S := funext fun p => funext fun n => by pointwise [k0_pay32, hs]
  rw [eγ, es]

/-- A head's new state, read at an index. -/
theorem headState_apply (hk : ∀ c p, k (ix3 0 c p) = Gla.padded (fun t => K t p) c)
    (hg : ∀ c p, g (ix3 0 c p) = Gla.padded (fun t => G t p) c) (hv : ∀ c n, v (ix3 0 c n) = Gla.padded (fun t => V t n) c)
    (hs : ∀ p n, s (ix4 0 0 p n) = S p n)
    (hfin : ∀ t p, G t p < ⊤) (z z' : Fin 1) (p : Fin 256) (n : Fin 512) :
    headState k g v s (ix4 z z' p n) = Gla.state K G V S p n := by
  have e : headState k g v s (ix4 z z' p n) = stateV (k0_pay28 k) (k0_pay30 g) (k0_pay29 v) (k0_pay32 s) (ix2 p n) := by
    pointwise [headState, k0_pay3]
  rw [e, stateV_apply _ _ _ _ K G V (fun c p => by pointwise [k0_pay28, hk])
    (fun c p => by pointwise [k0_pay30, hg]) (fun c p => by pointwise [k0_pay29, hv]) hfin]
  have es : (fun p n => k0_pay32 s (ix2 p n)) = S := funext fun p => funext fun n => by pointwise [k0_pay32, hs]
  rw [es]

end head

variable (x0 x1 x4 : Vec Ideal S1x16x1024 .f32) (x2 x3 : Vec Ideal S1x16x2048 .f32) (x5 : Vec Ideal S1x512 .f32) (x6 : Vec Ideal S1x4x256x512 .f32)
variable (Q K G : Fin 4 → Fin 4 → Fin 256 → EReal) (V B : Fin 4 → Fin 4 → Fin 512 → EReal) (Γ : Fin 512 → EReal)
  (S : Fin 4 → Fin 256 → Fin 512 → EReal)

/-- The output block, read at an index. -/
theorem out7_apply (hq : ∀ c (h : Fin 4) (p : Fin 256), x0 (ix3 0 c ⟨h.val * 256 + p.val, by omega⟩) = Gla.padded (fun t => Q h t p) c)
    (hk : ∀ c (h : Fin 4) (p : Fin 256), x1 (ix3 0 c ⟨h.val * 256 + p.val, by omega⟩) = Gla.padded (fun t => K h t p) c)
    (hg : ∀ c (h : Fin 4) (p : Fin 256), x4 (ix3 0 c ⟨h.val * 256 + p.val, by omega⟩) = Gla.padded (fun t => G h t p) c)
    (hv : ∀ c (h : Fin 4) (n : Fin 512), x2 (ix3 0 c ⟨h.val * 512 + n.val, by omega⟩) = Gla.padded (fun t => V h t n) c)
    (hb : ∀ c (h : Fin 4) (n : Fin 512), x3 (ix3 0 c ⟨h.val * 512 + n.val, by omega⟩) = Gla.padded (fun t => B h t n) c)
    (hγ : ∀ n, x5 (ix2 0 n) = Γ n) (hs : ∀ h p n, x6 (ix4 0 h p n) = S h p n) (hfin : ∀ h t p, G h t p < ⊤)
    (c : Fin 16) (h : Fin 4) (n : Fin 512) :
    out0_7 x0 x1 x2 x3 x4 x5 x6 (ix3 0 c ⟨h.val * 512 + n.val, by omega⟩)
      = Gla.padded (fun t => Gla.gated w ε (Gla.mix κ (Q h) (K h) (G h) (V h) (S h) t) (Γ n) (B h t n) n) c := by
  unfold out0_7
  canon_tiles x hx
  case piece0 =>
    have eh : h = 3 := Fin.ext (by have : h.val * 512 + n.val = 1536 + (x 2).val := hx2; show h.val = 3; omega)
    have ex : x = ix3 0 c n := ext3 (by show (x 0).val = 0; omega) hx1.symm
      (by have : h.val * 512 + n.val = 1536 + (x 2).val := hx2; show (x 2).val = n.val; omega)
    subst eh ex
    show headOut (View.ld x0 r0_10) (View.ld x1 r0_10) (View.ld x4 r0_10) (View.ld x2 r0_11) (View.ld x3 r0_11) (View.ld x5 r0_0) (View.ld x6 r0_12) (ix3 0 c n) = _
    exact headOut_apply _ _ _ _ _ _ _ (Q 3) (K 3) (G 3) (V 3) (B 3) Γ (S 3)
      (fun c p => Eq.trans (by pointwise []; blk_ext) (hq c 3 p)) (fun c p => Eq.trans (by pointwise []; blk_ext) (hk c 3 p))
      (fun c p => Eq.trans (by pointwise []; blk_ext) (hg c 3 p)) (fun c n => Eq.trans (by pointwise []; blk_ext) (hv c 3 n))
      (fun c n => Eq.trans (by pointwise []; blk_ext) (hb c 3 n)) (fun n => Eq.trans (by pointwise []; blk_ext) (hγ n))
      (fun p n => Eq.trans (by pointwise []; blk_ext) (hs 3 p n)) (hfin 3) 0 c n
  case piece1 =>
    have eh : h = 2 := Fin.ext (by have : h.val * 512 + n.val = 1024 + (x 2).val := hx2; show h.val = 2; omega)
    have ex : x = ix3 0 c n := ext3 (by show (x 0).val = 0; omega) hx1.symm
      (by have : h.val * 512 + n.val = 1024 + (x 2).val := hx2; show (x 2).val = n.val; omega)
    subst eh ex
    show headOut (View.ld x0 r0_7) (View.ld x1 r0_7) (View.ld x4 r0_7) (View.ld x2 r0_8) (View.ld x3 r0_8) (View.ld x5 r0_0) (View.ld x6 r0_9) (ix3 0 c n) = _
    exact headOut_apply _ _ _ _ _ _ _ (Q 2) (K 2) (G 2) (V 2) (B 2) Γ (S 2)
      (fun c p => Eq.trans (by pointwise []; blk_ext) (hq c 2 p)) (fun c p => Eq.trans (by pointwise []; blk_ext) (hk c 2 p))
      (fun c p => Eq.trans (by pointwise []; blk_ext) (hg c 2 p)) (fun c n => Eq.trans (by pointwise []; blk_ext) (hv c 2 n))
      (fun c n => Eq.trans (by pointwise []; blk_ext) (hb c 2 n)) (fun n => Eq.trans (by pointwise []; blk_ext) (hγ n))
      (fun p n => Eq.trans (by pointwise []; blk_ext) (hs 2 p n)) (hfin 2) 0 c n
  case piece2 =>
    have eh : h = 1 := Fin.ext (by have : h.val * 512 + n.val = 512 + (x 2).val := hx2; show h.val = 1; omega)
    have ex : x = ix3 0 c n := ext3 (by show (x 0).val = 0; omega) hx1.symm
      (by have : h.val * 512 + n.val = 512 + (x 2).val := hx2; show (x 2).val = n.val; omega)
    subst eh ex
    show headOut (View.ld x0 r0_4) (View.ld x1 r0_4) (View.ld x4 r0_4) (View.ld x2 r0_5) (View.ld x3 r0_5) (View.ld x5 r0_0) (View.ld x6 r0_6) (ix3 0 c n) = _
    exact headOut_apply _ _ _ _ _ _ _ (Q 1) (K 1) (G 1) (V 1) (B 1) Γ (S 1)
      (fun c p => Eq.trans (by pointwise []; blk_ext) (hq c 1 p)) (fun c p => Eq.trans (by pointwise []; blk_ext) (hk c 1 p))
      (fun c p => Eq.trans (by pointwise []; blk_ext) (hg c 1 p)) (fun c n => Eq.trans (by pointwise []; blk_ext) (hv c 1 n))
      (fun c n => Eq.trans (by pointwise []; blk_ext) (hb c 1 n)) (fun n => Eq.trans (by pointwise []; blk_ext) (hγ n))
      (fun p n => Eq.trans (by pointwise []; blk_ext) (hs 1 p n)) (hfin 1) 0 c n
  case piece3 =>
    have eh : h = 0 := Fin.ext (by have : h.val * 512 + n.val = (x 2).val := hx2; show h.val = 0; omega)
    have ex : x = ix3 0 c n := ext3 (by show (x 0).val = 0; omega) hx1.symm
      (by have : h.val * 512 + n.val = (x 2).val := hx2; show (x 2).val = n.val; omega)
    subst eh ex
    show headOut (View.ld x0 r0_1) (View.ld x1 r0_1) (View.ld x4 r0_1) (View.ld x2 r0_2) (View.ld x3 r0_2) (View.ld x5 r0_0) (View.ld x6 r0_3) (ix3 0 c n) = _
    exact headOut_apply _ _ _ _ _ _ _ (Q 0) (K 0) (G 0) (V 0) (B 0) Γ (S 0)
      (fun c p => Eq.trans (by pointwise []; blk_ext) (hq c 0 p)) (fun c p => Eq.trans (by pointwise []; blk_ext) (hk c 0 p))
      (fun c p => Eq.trans (by pointwise []; blk_ext) (hg c 0 p)) (fun c n => Eq.trans (by pointwise []; blk_ext) (hv c 0 n))
      (fun c n => Eq.trans (by pointwise []; blk_ext) (hb c 0 n)) (fun n => Eq.trans (by pointwise []; blk_ext) (hγ n))
      (fun p n => Eq.trans (by pointwise []; blk_ext) (hs 0 p n)) (hfin 0) 0 c n

/-- The state block, read at an index. -/
theorem out8_apply (hk : ∀ c (h : Fin 4) (p : Fin 256), x1 (ix3 0 c ⟨h.val * 256 + p.val, by omega⟩) = Gla.padded (fun t => K h t p) c)
    (hg : ∀ c (h : Fin 4) (p : Fin 256), x4 (ix3 0 c ⟨h.val * 256 + p.val, by omega⟩) = Gla.padded (fun t => G h t p) c)
    (hv : ∀ c (h : Fin 4) (n : Fin 512), x2 (ix3 0 c ⟨h.val * 512 + n.val, by omega⟩) = Gla.padded (fun t => V h t n) c)
    (hs : ∀ h p n, x6 (ix4 0 h p n) = S h p n) (hfin : ∀ h t p, G h t p < ⊤)
    (h : Fin 4) (p : Fin 256) (n : Fin 512) :
    out0_8 x0 x1 x2 x3 x4 x5 x6 (ix4 0 h p n) = Gla.state (K h) (G h) (V h) (S h) p n := by
  unfold out0_8
  canon_tiles x hx
  case piece0 =>
    have eh : h = 3 := Fin.ext (by have : h.val = 3 + (x 1).val := hx1; show h.val = 3; omega)
    have ex : x = ix4 0 0 p n := ext4 (by show (x 0).val = 0; omega) (by show (x 1).val = 0; omega) hx2.symm hx3.symm
    subst eh ex
    show headState (View.ld x1 r0_10) (View.ld x4 r0_10) (View.ld x2 r0_11) (View.ld x6 r0_12) (ix4 0 0 p n) = _
    exact headState_apply _ _ _ _ (K 3) (G 3) (V 3) (S 3)
      (fun c p => Eq.trans (by pointwise []; blk_ext) (hk c 3 p))
      (fun c p => Eq.trans (by pointwise []; blk_ext) (hg c 3 p)) (fun c n => Eq.trans (by pointwise []; blk_ext) (hv c 3 n))
      (fun p n => Eq.trans (by pointwise []; blk_ext) (hs 3 p n)) (hfin 3) 0 0 p n
  case piece1 =>
    have eh : h = 2 := Fin.ext (by have : h.val = 2 + (x 1).val := hx1; show h.val = 2; omega)
    have ex : x = ix4 0 0 p n := ext4 (by show (x 0).val = 0; omega) (by show (x 1).val = 0; omega) hx2.symm hx3.symm
    subst eh ex
    show headState (View.ld x1 r0_7) (View.ld x4 r0_7) (View.ld x2 r0_8) (View.ld x6 r0_9) (ix4 0 0 p n) = _
    exact headState_apply _ _ _ _ (K 2) (G 2) (V 2) (S 2)
      (fun c p => Eq.trans (by pointwise []; blk_ext) (hk c 2 p))
      (fun c p => Eq.trans (by pointwise []; blk_ext) (hg c 2 p)) (fun c n => Eq.trans (by pointwise []; blk_ext) (hv c 2 n))
      (fun p n => Eq.trans (by pointwise []; blk_ext) (hs 2 p n)) (hfin 2) 0 0 p n
  case piece2 =>
    have eh : h = 1 := Fin.ext (by have : h.val = 1 + (x 1).val := hx1; show h.val = 1; omega)
    have ex : x = ix4 0 0 p n := ext4 (by show (x 0).val = 0; omega) (by show (x 1).val = 0; omega) hx2.symm hx3.symm
    subst eh ex
    show headState (View.ld x1 r0_4) (View.ld x4 r0_4) (View.ld x2 r0_5) (View.ld x6 r0_6) (ix4 0 0 p n) = _
    exact headState_apply _ _ _ _ (K 1) (G 1) (V 1) (S 1)
      (fun c p => Eq.trans (by pointwise []; blk_ext) (hk c 1 p))
      (fun c p => Eq.trans (by pointwise []; blk_ext) (hg c 1 p)) (fun c n => Eq.trans (by pointwise []; blk_ext) (hv c 1 n))
      (fun p n => Eq.trans (by pointwise []; blk_ext) (hs 1 p n)) (hfin 1) 0 0 p n
  case piece3 =>
    have eh : h = 0 := Fin.ext (by have : h.val = (x 1).val := hx1; show h.val = 0; omega)
    have ex : x = ix4 0 0 p n := ext4 (by show (x 0).val = 0; omega) (by show (x 1).val = 0; omega) hx2.symm hx3.symm
    subst eh ex
    show headState (View.ld x1 r0_1) (View.ld x4 r0_1) (View.ld x2 r0_2) (View.ld x6 r0_3) (ix4 0 0 p n) = _
    exact headState_apply _ _ _ _ (K 0) (G 0) (V 0) (S 0)
      (fun c p => Eq.trans (by pointwise []; blk_ext) (hk c 0 p))
      (fun c p => Eq.trans (by pointwise []; blk_ext) (hg c 0 p)) (fun c n => Eq.trans (by pointwise []; blk_ext) (hv c 0 n))
      (fun p n => Eq.trans (by pointwise []; blk_ext) (hs 0 p n)) (hfin 0) 0 0 p n

end Cert.KernelIdeal.Block
-- ==== Proof.Ref.lean ====
module

public import proofs.«01_k».proof.Proof.Gen.ReferenceIdeal.Run
public import Idealize.ShloMosaic.Lib.Pointwise
public import Idealize.ShloMosaic.Lib.Tactic.CleanTypes
public import Idealize.ShloMosaic.Lib.WordCmp
public import proofs.«01_k».proof.Proof.Spec

@[expose] public section

set_option maxRecDepth 16384

noncomputable section

open Idealize.ShloMosaic Idealize.ShloMosaic.TcCoe Idealize.SL.Sem

namespace Cert.ReferenceIdeal.Reading

open Cert.ReferenceIdeal Cert.ReferenceIdeal.Gen Cert.ReferenceIdeal.Value

/-- One entry of the window that starts three before token `t`: the operand's if it is inside the array, and zero if not. -/
theorem window_entry (x : FVec Ideal S32x4x4x256 .f32) (a : Fin 32) (b t : Fin 4) (p : Fin 256) (n : Fin 4) (o : Fin 4 → Nat)
    (h0 : o 0 = 0) (h1 : o 1 = 0) (h2 : o 2 = n.val) (h3 : o 3 = 0) :
    (if hin : ∀ d : Fin 4, (![0, 0, 3, 0] : Fin 4 → Nat) d ≤ ((ix4 a b t p : S32x4x4x256.Idx) d).val * (![1, 1, 1, 1] : Fin 4 → Nat) d + o d
        ∧ ((ix4 a b t p : S32x4x4x256.Idx) d).val * (![1, 1, 1, 1] : Fin 4 → Nat) d + o d - (![0, 0, 3, 0] : Fin 4 → Nat) d < S32x4x4x256.size d
      then x (fun d => ⟨((ix4 a b t p : S32x4x4x256.Idx) d).val * (![1, 1, 1, 1] : Fin 4 → Nat) d + o d - (![0, 0, 3, 0] : Fin 4 → Nat) d, (hin d).2⟩)
      else (0 : EReal))
      = if hn : 3 ≤ t.val + n.val then x (ix4 a b ⟨t.val + n.val - 3, by omega⟩ p) else 0 := by
  by_cases hn : 3 ≤ t.val + n.val
  · rw [dif_pos hn, dif_pos]
    · refine congrArg x (funext fun d => Fin.ext ?_)
      match d with
      | ⟨0, _⟩ => show a.val * 1 + o 0 - 0 = a.val; omega
      | ⟨1, _⟩ => show b.val * 1 + o 1 - 0 = b.val; omega
      | ⟨2, _⟩ => show t.val * 1 + o 2 - 3 = t.val + n.val - 3; omega
      | ⟨3, _⟩ => show p.val * 1 + o 3 - 0 = p.val; omega
    · intro d
      match d with
      | ⟨0, _⟩ => show 0 ≤ a.val * 1 + o 0 ∧ a.val * 1 + o 0 - 0 < 32; omega
      | ⟨1, _⟩ => show 0 ≤ b.val * 1 + o 1 ∧ b.val * 1 + o 1 - 0 < 4; omega
      | ⟨2, _⟩ => show 3 ≤ t.val * 1 + o 2 ∧ t.val * 1 + o 2 - 3 < 4; omega
      | ⟨3, _⟩ => show 0 ≤ p.val * 1 + o 3 ∧ p.val * 1 + o 3 - 0 < 256; omega
  · rw [dif_neg hn, dif_neg]
    intro hin
    have h : 3 ≤ t.val * 1 + o 2 := (hin 2).1
    omega

/-- The reference's cumulative sum along the tokens, read at an index. -/
theorem window_sum (x : FVec Ideal S32x4x4x256 .f32)
    (h : S32x4x4x256.ReduceWindows (![1, 1, 4, 1] : Fin 4 → Nat) ![1, 1, 1, 1] ![0, 0, 3, 0] ![0, 0, 0, 0] S32x4x4x256) (hu : 0 < S_.numel)
    (a : Fin 32) (b : Fin 4) (t : Fin 4) (p : Fin 256) :
    Host.reduceWindowAdd (F := Ideal) ![1, 1, 4, 1] ![1, 1, 1, 1] ![0, 0, 3, 0] ![0, 0, 0, 0] x
        (broadcastInDim S_ ![] bcast_S_S_ (constant S_ .f32 0x00000000#32)) h hu (ix4 a b t p)
      = Gla.cum (fun s => x (ix4 a b s p)) t := by
  have hi : ∀ i, (broadcastInDim S_ ![] bcast_S_S_ (constant S_ .f32 0x00000000#32) : FVec Ideal S_ .f32) i = 0 := by
    intro i; pointwise []
  generalize (broadcastInDim S_ ![] bcast_S_S_ (constant S_ .f32 0x00000000#32) : FVec Ideal S_ .f32) = init at hi ⊢
  have hw : ∀ n : Fin 4, ∀ d : Fin 4, ((⟨4, ![1, 1, 4, 1]⟩ : Shape).rowMajor.symm n d : Nat) = if d = 2 then n.val else 0 := by decide
  show Host.reduceWindow (· + ·) _ _ _ _ x (fun _ : (⟨0, ![]⟩ : Shape).Idx => init (Shape.Idx.first hu)) h (by decide) _ = _
  unfold Host.reduceWindow
  simp only [hi]
  refine Eq.trans (b := List.foldl (fun r n => r + (if hn : 3 ≤ t.val + n.val then x (ix4 a b ⟨t.val + n.val - 3, by omega⟩ p) else 0)) (0 : EReal) (List.finRange 4)) ?_ ?_
  · exact congrArg (fun f => List.foldl f (0 : EReal) (List.finRange 4)) (funext fun r => funext fun n =>
      congrArg (r + ·) (window_entry x a b t p n (fun d => ((⟨4, ![1, 1, 4, 1]⟩ : Shape).rowMajor.symm n d : Nat)) (hw n 0) (hw n 1) (hw n 2) (hw n 3)))
  · have hl : List.finRange 4 = [0, 1, 2, 3] := by decide
    rw [hl]
    unfold Gla.cum
    rw [Fin.sum_univ_four]
    fin_vals t with ht <;> simp [ht, List.foldl, Fin.le_def]

/-! ## The reference's stages, named -/

variable (x0 : FVec Ideal S128x6144 .bf16) (x1 : FVec Ideal S128x1024 .f32) (x2 : FVec Ideal S512 .f32) (x3 : FVec Ideal S1x32x4x256x512 .f32)

/-- The projected rows, batch by batch. -/
def rows : FVec Ideal S32x4x6144 .f32 := shapeCast _ (extf .f32 x0 bitsLt_bf16_f32) shapeCasts_S128x6144_S32x4x6144
/-- The queries, scaled, head by head. -/
def qs : FVec Ideal S32x4x4x256 .f32 :=
  transpose S32x4x4x256 [0, 2, 1, 3] (mulf (shapeCast _ (extractStridedSlice S32x4x1024 ![0, 0, 0] (rows x0) slices_S32x4x6144_S32x4x1024_0_0_0) shapeCasts_S32x4x1024_S32x4x4x256) (broadcastInDim S32x4x4x256 ![] bcast_S_S32x4x4x256 (constant S_ .f32 0x3D800000#32))) transposes_S32x4x4x256_S32x4x4x256_0_2_1_3
/-- The keys. -/
def ks : FVec Ideal S32x4x4x256 .f32 :=
  transpose S32x4x4x256 [0, 2, 1, 3] (shapeCast _ (extractStridedSlice S32x4x1024 ![0, 0, 1024] (rows x0) slices_S32x4x6144_S32x4x1024_0_0_1024) shapeCasts_S32x4x1024_S32x4x4x256) transposes_S32x4x4x256_S32x4x4x256_0_2_1_3
/-- The values. -/
def vs : FVec Ideal S32x4x4x512 .f32 :=
  transpose S32x4x4x512 [0, 2, 1, 3] (shapeCast _ (extractStridedSlice S32x4x2048 ![0, 0, 2048] (rows x0) slices_S32x4x6144_S32x4x2048_0_0_2048) shapeCasts_S32x4x2048_S32x4x4x512) transposes_S32x4x4x512_S32x4x4x512_0_2_1_3
/-- The gate's argument. -/
def bs : FVec Ideal S32x4x2048 .f32 := extractStridedSlice S32x4x2048 ![0, 0, 4096] (rows x0) slices_S32x4x6144_S32x4x2048_0_0_4096
/-- The carried state. -/
def s0 : FVec Ideal S32x4x256x512 .f32 := shapeCast _ x3 shapeCasts_S1x32x4x256x512_S32x4x256x512
/-- The log decays. -/
def gs : FVec Ideal S32x4x4x256 .f32 :=
  transpose S32x4x4x256 [0, 2, 1, 3] (shapeCast _ x1 shapeCasts_S128x1024_S32x4x4x256) transposes_S32x4x4x256_S32x4x4x256_0_2_1_3
/-- The cumulative log decays. -/
def cums : FVec Ideal S32x4x4x256 .f32 :=
  Host.reduceWindowAdd ![1, 1, 4, 1] ![1, 1, 1, 1] ![0, 0, 3, 0] ![0, 0, 0, 0] (gs x1) (broadcastInDim S_ ![] bcast_S_S_ (constant S_ .f32 0x00000000#32)) reduceWindows_S32x4x4x256_S32x4x4x256_w1s1p0_0_w1s1p0_0_w4s1p3_0_w1s1p0_0 h_S_
/-- The decayed queries. -/
def qd : FVec Ideal S32x4x4x256 .f32 := mulf (qs x0) (Host.exp (cums x1))
/-- The masked scores. -/
def atts : FVec Ideal S32x4x4x4 .f32 :=
  select (broadcastInDim S32x4x4x4 ![2, 3] bcast_S4x4_S32x4x4x4_2_3 (select (cmpi .sge (addi (iotaInDim S4x4 32 0) (broadcastInDim S4x4 ![] bcast_S_S4x4 (constantI S_ 32 0#32))) (iotaInDim S4x4 32 1)) (broadcastInDim S4x4 ![] bcast_S_S4x4 (constantI S_ 1 1#1)) (broadcastInDim S4x4 ![] bcast_S_S4x4 (constantI S_ 1 0#1)))) (Host.dotGeneral dot_S32x4x4x256_S32x4x4x256_S32x4x4x4_3_3_2_2_01_01 none (qd x0 x1) (mulf (ks x0) (Host.exp (Host.negf (cums x1))))) (broadcastInDim S32x4x4x4 ![] bcast_S_S32x4x4x4 (id (constant S_ .f32 0x00000000#32)))
/-- The output before the norm, head by head. -/
def mixes : FVec Ideal S32x4x4x512 .f32 :=
  addf (Host.dotGeneral dot_S32x4x4x4_S32x4x4x512_S32x4x4x512_3_2_2_3_01_01 none (atts x0 x1) (vs x0)) (Host.dotGeneral dot_S32x4x4x256_S32x4x256x512_S32x4x4x512_3_2_2_3_01_01 none (qd x0 x1) (s0 x3))

/-- The new state. -/
def states : FVec Ideal S32x4x256x512 .f32 :=
  addf (mulf (broadcastInDim S32x4x256x512 ![0, 1, 2, 3] bcast_S32x4x256x1_S32x4x256x512_0_1_2_3 (broadcastInDim S32x4x256x1 ![0, 1, 2] bcast_S32x4x256_S32x4x256x1_0_1_2 (Host.exp (shapeCast _ (extractStridedSlice S32x4x1x256 ![0, 0, 3, 0] (cums x1) slices_S32x4x4x256_S32x4x1x256_0_0_3_0) shapeCasts_S32x4x1x256_S32x4x256)))) (s0 x3)) (Host.dotGeneral dot_S32x4x4x256_S32x4x4x512_S32x4x256x512_2_2_3_3_01_01 none (mulf (ks x0) (Host.exp (subf (broadcastInDim S32x4x4x256 ![0, 1, 2, 3] bcast_S32x4x1x256_S32x4x4x256_0_1_2_3 (extractStridedSlice S32x4x1x256 ![0, 0, 3, 0] (cums x1) slices_S32x4x4x256_S32x4x1x256_0_0_3_0)) (cums x1)))) (vs x0))

/-! ## The same, read at an index -/

/-- Batch `a`'s queries of head `h`, before scaling. -/
def Q (a : Fin 32) (h : Fin 4) (t : Fin 4) (p : Fin 256) : EReal := x0 (ix2 ⟨a.val * 4 + t.val, by omega⟩ ⟨h.val * 256 + p.val, by omega⟩)
/-- The keys. -/
def K (a : Fin 32) (h : Fin 4) (t : Fin 4) (p : Fin 256) : EReal := x0 (ix2 ⟨a.val * 4 + t.val, by omega⟩ ⟨1024 + (h.val * 256 + p.val), by omega⟩)
/-- The values. -/
def V (a : Fin 32) (h : Fin 4) (t : Fin 4) (n : Fin 512) : EReal := x0 (ix2 ⟨a.val * 4 + t.val, by omega⟩ ⟨2048 + (h.val * 512 + n.val), by omega⟩)
/-- The gate's argument. -/
def B (a : Fin 32) (h : Fin 4) (t : Fin 4) (n : Fin 512) : EReal := x0 (ix2 ⟨a.val * 4 + t.val, by omega⟩ ⟨4096 + (h.val * 512 + n.val), by omega⟩)
/-- The log decays. -/
def G (a : Fin 32) (h : Fin 4) (t : Fin 4) (p : Fin 256) : EReal := x1 (ix2 ⟨a.val * 4 + t.val, by omega⟩ ⟨h.val * 256 + p.val, by omega⟩)
/-- The carried state. -/
def S (a : Fin 32) (h : Fin 4) (p : Fin 256) (n : Fin 512) : EReal := x3 (ix5 0 a h p n)

theorem qs_apply (a : Fin 32) (h t : Fin 4) (p : Fin 256) : qs x0 (ix4 a h t p) = Q x0 a h t p * Ideal.ofBits FTy.f32 1031798784#32 := by
  pointwise [qs, rows, Q]
theorem ks_apply (a : Fin 32) (h t : Fin 4) (p : Fin 256) : ks x0 (ix4 a h t p) = K x0 a h t p := by
  pointwise [ks, rows, K]
theorem vs_apply (a : Fin 32) (h t : Fin 4) (n : Fin 512) : vs x0 (ix4 a h t n) = V x0 a h t n := by
  pointwise [vs, rows, V]
theorem s0_apply (a : Fin 32) (h : Fin 4) (p : Fin 256) (n : Fin 512) : s0 x3 (ix4 a h p n) = S x3 a h p n := by
  pointwise [s0, S]
theorem gs_apply (a : Fin 32) (h t : Fin 4) (p : Fin 256) : gs x1 (ix4 a h t p) = G x1 a h t p := by
  pointwise [gs, G]
theorem cums_apply (a : Fin 32) (h t : Fin 4) (p : Fin 256) :
    cums x1 (ix4 a h t p) = Gla.cum (fun u => G x1 a h u p) t := by
  unfold cums
  rw [window_sum]
  simp only [gs_apply]
theorem qd_apply (a : Fin 32) (h t : Fin 4) (p : Fin 256) :
    qd x0 x1 (ix4 a h t p) = Q x0 a h t p * Ideal.ofBits FTy.f32 1031798784#32 * Ideal.exp (Gla.cum (fun u => G x1 a h u p) t) := by
  pointwise [qd, qs_apply, cums_apply]
theorem atts_apply (a : Fin 32) (h t s : Fin 4) :
    atts x0 x1 (ix4 a h t s) = Gla.att (Ideal.ofBits FTy.f32 1031798784#32) (Q x0 a h) (K x0 a h) (G x1 a h) t s := by
  have hc : ∀ t s : Fin 4, Scalar.select (IntOp.cmpi CmpIPredicate.sge (IntOp.addi (BitVec.ofNat 32 t.val) 0#32) (BitVec.ofNat 32 s.val)) 1#1 0#1
      = BitVec.ofBool (decide (s ≤ t)) := by decide
  pointwise [atts, qd_apply, cums_apply, ks_apply, hc, id_eq]
  rfl
theorem mixes_apply (a : Fin 32) (h t : Fin 4) (n : Fin 512) :
    mixes x0 x1 x3 (ix4 a h t n)
      = Gla.mix (Ideal.ofBits FTy.f32 1031798784#32) (Q x0 a h) (K x0 a h) (G x1 a h) (V x0 a h) (S x3 a h) t n := by
  pointwise [mixes, atts_apply, qd_apply, vs_apply, s0_apply]
  rfl

/-- The second result: the new state of each batch and head. -/
theorem states_apply (a : Fin 32) (h : Fin 4) (p : Fin 256) (n : Fin 512) :
    states x0 x1 x3 (ix4 a h p n) = Gla.state (K x0 a h) (G x1 a h) (V x0 a h) (S x3 a h) p n := by
  pointwise [states, cums_apply, ks_apply, vs_apply, s0_apply]
  rfl

/-- The first result, before the padding rows are added, from the output before the norm. -/
def gateds (o : FVec Ideal S32x4x4x512 .f32) : FVec Ideal S32x4x2048 .f32 :=
  mulf (shapeCast _ (mulf (mulf o (broadcastInDim S32x4x4x512 ![0, 1, 2, 3] bcast_S32x4x4x1_S32x4x4x512_0_1_2_3 (Host.rsqrt (addf (Host.divf (broadcastInDim S32x4x4x1 ![0, 1, 2] bcast_S32x4x4_S32x4x4x1_0_1_2 (Host.reduceAdd (mulf o o) (constant S_ .f32 0x00000000#32) reducesTo_S32x4x4x512_S32x4x4_d3 h_S_)) (broadcastInDim S32x4x4x1 ![] bcast_S_S32x4x4x1 (constant S_ .f32 0x44000000#32))) (broadcastInDim S32x4x4x1 ![] bcast_S_S32x4x4x1 (constant S_ .f32 0x3727C5AC#32)))))) (broadcastInDim S32x4x4x512 ![0, 1, 2, 3] bcast_S1x1x1x512_S32x4x4x512_0_1_2_3 (broadcastInDim S1x1x1x512 ![3] bcast_S512_S1x1x1x512_3 x2))) shapeCasts_S32x4x4x512_S32x4x2048) (mulf (bs x0) (Host.divf (broadcastInDim S32x4x2048 ![] bcast_S_S32x4x2048 (constant S_ .f32 0x3F800000#32)) (addf (broadcastInDim S32x4x2048 ![] bcast_S_S32x4x2048 (constant S_ .f32 0x3F800000#32)) (Host.exp (Host.negf (bs x0))))))

/-- The first result. -/
def outs : FVec Ideal S32x16x2048 .f32 :=
  pad S32x16x2048 ![0, 0, 0] ![0, 12, 0] ![0, 0, 0] (gateds x0 x2 (transpose S32x4x4x512 [0, 2, 1, 3] (mixes x0 x1 x3) transposes_S32x4x4x512_S32x4x4x512_0_2_1_3)) (sitofp .f32 (constantI S_ 32 0#32)) pads_S32x4x2048_S32x16x2048_000_0120_000 h_S_

theorem gateds_apply (o : FVec Ideal S32x4x4x512 .f32) (a : Fin 32) (t h : Fin 4) (n : Fin 512) :
    gateds x0 x2 o (ix3 a t ⟨h.val * 512 + n.val, by omega⟩)
      = Gla.gated (Ideal.ofBits FTy.f32 1140850688#32) (Ideal.ofBits FTy.f32 925353388#32) (fun n => o (ix4 a t h n)) (x2 (ix1 n)) (B x0 a h t n) n := by
  have e1 : (⟨(h.val * 512 + n.val) / 512, by omega⟩ : Fin 4) = h := Fin.ext (by show (h.val * 512 + n.val) / 512 = h.val; omega)
  have e2 : (⟨(h.val * 512 + n.val) % 512, by omega⟩ : Fin 512) = n := Fin.ext (by show (h.val * 512 + n.val) % 512 = n.val; omega)
  pointwise [gateds, bs, rows, e1, e2]
  rfl

/-- The first result: the four tokens' gated outputs, and zeros in the padding. -/
theorem outs_apply (a : Fin 32) (c : Fin 16) (h : Fin 4) (n : Fin 512) :
    outs x0 x1 x2 x3 (ix3 a c ⟨h.val * 512 + n.val, by omega⟩)
      = Gla.padded (fun t => Gla.gated (Ideal.ofBits FTy.f32 1140850688#32) (Ideal.ofBits FTy.f32 925353388#32)
          (Gla.mix (Ideal.ofBits FTy.f32 1031798784#32) (Q x0 a h) (K x0 a h) (G x1 a h) (V x0 a h) (S x3 a h) t) (x2 (ix1 n)) (B x0 a h t n) n) c := by
  have z : FloatOps.sitofp (F := Ideal) FTy.f32 0#32 = (0 : EReal) := by
    show ((((0#32 : BitVec 32).toInt : ℝ)) : EReal) = 0
    simp
  pointwise [outs]
  unfold Gla.padded
  by_cases hc : c.val < 4
  · rw [dif_pos ⟨hc, by omega⟩, dif_pos hc]
    refine (gateds_apply x0 x2 _ a ⟨c, hc⟩ h n).trans ?_
    refine congrArg (fun o => Gla.gated _ _ o _ _ _) (funext fun n => ?_)
    pointwise [mixes_apply]
  · rw [dif_neg (fun h => hc h.1), dif_neg hc]; exact z

theorem out_eq (m : (ℓ : Loc nD τ sig) → Buf (Elt Ideal) ℓ) (c : Dev nD) :
    res_main_v59 m c = outs (m ((c.tc : Thread nD τ).loc main_arg0)) (m ((c.tc : Thread nD τ).loc main_arg1)) (m ((c.tc : Thread nD τ).loc main_arg2)) (m ((c.tc : Thread nD τ).loc main_arg3)) := rfl

end Cert.ReferenceIdeal.Reading

end
-- ==== Proof.Final.lean ====
/-
  The kernel's two result arrays, from its arguments: what the host lines before the launch put in the operands, the blocks each
  grid point reads, and the blocks put together.
-/
module

public import proofs.«01_k».proof.Proof.Gen.KernelIdeal.Value
public import proofs.«01_k».proof.Proof.Block
public import proofs.«01_k».proof.Proof.Ref
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Head Cert.KernelIdeal.Block
open Cert.ReferenceIdeal.Reading (Q K V B G S)

/-- Slices of the projections, as the kernel's operands: four tokens of a sample, then twelve rows of zeros. -/
def rows1024 (x : FVec Ideal S128x1024 .f32) : FVec Ideal S32x16x1024 .f32 :=
  pad S32x16x1024 ![0, 0, 0] ![0, 12, 0] ![0, 0, 0] (shapeCast S32x4x1024 x shapeCasts_S128x1024_S32x4x1024) (sitofp .f32 (constantI S_ 32 0#32)) pads_S32x4x1024_S32x16x1024_000_0120_000 h_S_
/-- The same for the wider slices. -/
def rows2048 (x : FVec Ideal S128x2048 .f32) : FVec Ideal S32x16x2048 .f32 :=
  pad S32x16x2048 ![0, 0, 0] ![0, 12, 0] ![0, 0, 0] (shapeCast S32x4x2048 x shapeCasts_S128x2048_S32x4x2048) (sitofp .f32 (constantI S_ 32 0#32)) pads_S32x4x2048_S32x16x2048_000_0120_000 h_S_

variable (m : (ℓ : Loc nD τ sig) → Buf (Elt Ideal) ℓ)

theorem V_q (c : Dev nD) : Gen.V m c main_v3
    = rows1024 (extf .f32 (extractStridedSlice S128x1024 ![0, 0] (m ((c : Thread nD τ).loc main_arg0)) slices_S128x6144_S128x1024_0_0) bitsLt_bf16_f32) := by
  simp only [Gen.V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.unary, StableHlo.TRef.binary, StableHlo.TRef.toBuf, StableHlo.TRef.ofBuf, cast_eq]
  after_results_simp <;> rfl
theorem V_k (c : Dev nD) : Gen.V m c main_v7
    = rows1024 (extf .f32 (extractStridedSlice S128x1024 ![0, 1024] (m ((c : Thread nD τ).loc main_arg0)) slices_S128x6144_S128x1024_0_1024) bitsLt_bf16_f32) := by
  simp only [Gen.V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.unary, StableHlo.TRef.binary, StableHlo.TRef.toBuf, StableHlo.TRef.ofBuf, cast_eq]
  after_results_simp <;> rfl
theorem V_v (c : Dev nD) : Gen.V m c main_v11
    = rows2048 (extf .f32 (extractStridedSlice S128x2048 ![0, 2048] (m ((c : Thread nD τ).loc main_arg0)) slices_S128x6144_S128x2048_0_2048) bitsLt_bf16_f32) := by
  simp only [Gen.V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.unary, StableHlo.TRef.binary, StableHlo.TRef.toBuf, StableHlo.TRef.ofBuf, cast_eq]
  after_results_simp <;> rfl
theorem V_b (c : Dev nD) : Gen.V m c main_v15
    = rows2048 (extf .f32 (extractStridedSlice S128x2048 ![0, 4096] (m ((c : Thread nD τ).loc main_arg0)) slices_S128x6144_S128x2048_0_4096) bitsLt_bf16_f32) := by
  simp only [Gen.V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.unary, StableHlo.TRef.binary, StableHlo.TRef.toBuf, StableHlo.TRef.ofBuf, cast_eq]
  after_results_simp <;> rfl
theorem V_g (c : Dev nD) : Gen.V m c main_v17 = rows1024 (m ((c : Thread nD τ).loc main_arg1)) := by
  simp only [Gen.V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.unary, StableHlo.TRef.binary, StableHlo.TRef.toBuf, StableHlo.TRef.ofBuf, cast_eq]
  after_results_simp <;> rfl
theorem V_s (c : Dev nD) : Gen.V m c main_v18
    = shapeCast S32x4x256x512 (m ((c : Thread nD τ).loc main_arg3)) shapeCasts_S1x32x4x256x512_S32x4x256x512 := by
  simp only [Gen.V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.unary, StableHlo.TRef.binary, StableHlo.TRef.toBuf, StableHlo.TRef.ofBuf, cast_eq]
  after_results_simp <;> rfl
theorem V_n (c : Dev nD) : Gen.V m c main_v19
    = shapeCast S1x512 (m ((c : Thread nD τ).loc main_arg2)) shapeCasts_S512_S1x512 := by
  simp only [Gen.V, hostOps0, hostOps0_1, hostOps0_2, hostOps0_3, hostOps0_4, hostOps0_5, hostOps0_6, hostOps0_7, hostOps0_8, hostOps0_9, hostOps0_10, List.flatten_cons, List.flatten_nil, List.append_nil, List.cons_append, List.nil_append, StableHlo.TRef.unary, StableHlo.TRef.binary, StableHlo.TRef.toBuf, StableHlo.TRef.ofBuf, cast_eq]
  after_results_simp <;> rfl

/-- The zero the padding is filled with. -/
theorem fill_zero : FloatOps.sitofp (F := Ideal) FTy.f32 0#32 = (0 : EReal) := by
  show ((((0#32 : BitVec 32).toInt : ℝ)) : EReal) = 0
  simp

theorem rows1024_apply (x : FVec Ideal S128x1024 .f32) (a : Fin 32) (c : Fin 16) (j : Fin 1024) :
    rows1024 x (ix3 a c j) = Gla.padded (fun t => x (ix2 ⟨a.val * 4 + t.val, by omega⟩ j)) c := by
  pointwise [rows1024]
  unfold Gla.padded
  by_cases hc : c.val < 4
  · simp only [hc, dif_pos]
  · simp only [hc, dif_neg, not_false_iff]; exact fill_zero

theorem rows2048_apply (x : FVec Ideal S128x2048 .f32) (a : Fin 32) (c : Fin 16) (j : Fin 2048) :
    rows2048 x (ix3 a c j) = Gla.padded (fun t => x (ix2 ⟨a.val * 4 + t.val, by omega⟩ j)) c := by
  pointwise [rows2048]
  unfold Gla.padded
  by_cases hc : c.val < 4
  · simp only [hc, dif_pos]
  · simp only [hc, dif_neg, not_false_iff]; exact fill_zero

/-! ## The blocks a grid point reads -/

theorem idx0 : ∀ t : Fin cfg0.N, win0_0.index t = ![t.val, 0, 0] := (by decide +kernel : ∀ t : Fin grid0.N, win0_0.index t = ![t.val, 0, 0])
theorem idx1 : ∀ t : Fin cfg0.N, win0_1.index t = ![t.val, 0, 0] := (by decide +kernel : ∀ t : Fin grid0.N, win0_1.index t = ![t.val, 0, 0])
theorem idx2 : ∀ t : Fin cfg0.N, win0_2.index t = ![t.val, 0, 0] := (by decide +kernel : ∀ t : Fin grid0.N, win0_2.index t = ![t.val, 0, 0])
theorem idx3 : ∀ t : Fin cfg0.N, win0_3.index t = ![t.val, 0, 0] := (by decide +kernel : ∀ t : Fin grid0.N, win0_3.index t = ![t.val, 0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![0, 0] := (by decide +kernel : ∀ t : Fin grid0.N, win0_5.index t = ![0, 0])
theorem idx6 : ∀ t : Fin cfg0.N, win0_6.index t = ![t.val, 0, 0, 0] := (by decide +kernel : ∀ t : Fin grid0.N, win0_6.index t = ![t.val, 0, 0, 0])
theorem idx7 : ∀ t : Fin cfg0.N, win0_7.index t = ![t.val, 0, 0] := (by decide +kernel : ∀ t : Fin grid0.N, win0_7.index t = ![t.val, 0, 0])
theorem idx8 : ∀ t : Fin cfg0.N, win0_8.index t = ![t.val, 0, 0, 0] := (by decide +kernel : ∀ t : Fin grid0.N, win0_8.index t = ![t.val, 0, 0, 0])

/-- The sample a grid point works on. -/
def sample (t : Fin cfg0.N) : Fin 32 := ⟨t.val, lt_of_lt_of_eq t.isLt N_0⟩

variable (d : Dev nD) (t : Fin cfg0.N)

theorem block_q (c : Fin 16) (h : Fin 4) (p : Fin 256) : (show Vec Ideal S1x16x1024 .f32 from iblk m d 0 t) (ix3 0 c ⟨h.val * 256 + p.val, by omega⟩)
    = Gla.padded (fun s => Q (m ((d : Thread nD τ).loc main_arg0)) (sample t) h s p) c := by
  refine Eq.trans (b := Gen.V m d main_v3 (ix3 (sample t) c ⟨h.val * 256 + p.val, by omega⟩)) ?_ ?_
  · blk_ext [iblk, sample, idx0 t]
  · rw [V_q, rows1024_apply]
    refine congrArg (fun f => Gla.padded f c) (funext fun s => ?_)
    pointwise [Q]

theorem block_k (c : Fin 16) (h : Fin 4) (p : Fin 256) : (show Vec Ideal S1x16x1024 .f32 from iblk m d 1 t) (ix3 0 c ⟨h.val * 256 + p.val, by omega⟩)
    = Gla.padded (fun s => K (m ((d : Thread nD τ).loc main_arg0)) (sample t) h s p) c := by
  refine Eq.trans (b := Gen.V m d main_v7 (ix3 (sample t) c ⟨h.val * 256 + p.val, by omega⟩)) ?_ ?_
  · blk_ext [iblk, sample, idx1 t]
  · rw [V_k, rows1024_apply]
    refine congrArg (fun f => Gla.padded f c) (funext fun s => ?_)
    pointwise [K]
theorem block_v (c : Fin 16) (h : Fin 4) (n : Fin 512) : (show Vec Ideal S1x16x2048 .f32 from iblk m d 2 t) (ix3 0 c ⟨h.val * 512 + n.val, by omega⟩)
    = Gla.padded (fun s => V (m ((d : Thread nD τ).loc main_arg0)) (sample t) h s n) c := by
  refine Eq.trans (b := Gen.V m d main_v11 (ix3 (sample t) c ⟨h.val * 512 + n.val, by omega⟩)) ?_ ?_
  · blk_ext [iblk, sample, idx2 t]
  · rw [V_v, rows2048_apply]
    refine congrArg (fun f => Gla.padded f c) (funext fun s => ?_)
    pointwise [Cert.ReferenceIdeal.Reading.V]
theorem block_b (c : Fin 16) (h : Fin 4) (n : Fin 512) : (show Vec Ideal S1x16x2048 .f32 from iblk m d 3 t) (ix3 0 c ⟨h.val * 512 + n.val, by omega⟩)
    = Gla.padded (fun s => B (m ((d : Thread nD τ).loc main_arg0)) (sample t) h s n) c := by
  refine Eq.trans (b := Gen.V m d main_v15 (ix3 (sample t) c ⟨h.val * 512 + n.val, by omega⟩)) ?_ ?_
  · blk_ext [iblk, sample, idx3 t]
  · rw [V_b, rows2048_apply]
    refine congrArg (fun f => Gla.padded f c) (funext fun s => ?_)
    pointwise [B]
theorem block_g (c : Fin 16) (h : Fin 4) (p : Fin 256) : (show Vec Ideal S1x16x1024 .f32 from iblk m d 4 t) (ix3 0 c ⟨h.val * 256 + p.val, by omega⟩)
    = Gla.padded (fun s => G (m ((d : Thread nD τ).loc main_arg1)) (sample t) h s p) c := by
  refine Eq.trans (b := Gen.V m d main_v17 (ix3 (sample t) c ⟨h.val * 256 + p.val, by omega⟩)) ?_ ?_
  · blk_ext [iblk, sample, idx4 t]
  · rw [V_g, rows1024_apply]
    refine congrArg (fun f => Gla.padded f c) (funext fun s => ?_)
    pointwise [G]
theorem block_n (n : Fin 512) : (show Vec Ideal S1x512 .f32 from iblk m d 5 t) (ix2 0 n) = m ((d : Thread nD τ).loc main_arg2) (ix1 n) := by
  refine Eq.trans (b := Gen.V m d main_v19 (ix2 0 n)) ?_ ?_
  · blk_ext [iblk, sample, idx5 t]
  · rw [V_n]
    pointwise []
theorem block_s (h : Fin 4) (p : Fin 256) (n : Fin 512) : (show Vec Ideal S1x4x256x512 .f32 from iblk m d 6 t) (ix4 0 h p n)
    = S (m ((d : Thread nD τ).loc main_arg3)) (sample t) h p n := by
  refine Eq.trans (b := Gen.V m d main_v18 (ix4 (sample t) h p n)) ?_ ?_
  · blk_ext [iblk, sample, idx6 t]
  · rw [V_s]
    exact Cert.ReferenceIdeal.Reading.s0_apply _ _ _ _ _

/-! ## The result arrays -/

open Cert.ReferenceIdeal.Reading (outs states outs_apply states_apply)

/-- The first result: the gated outputs. -/
theorem final7 (hfin : ∀ a h t p, G (m ((d : Thread nD τ).loc main_arg1)) a h t p < ⊤) :
    (dats m 0 d).arrAt 7 cfg0.N = outs (m ((d : Thread nD τ).loc main_arg0)) (m ((d : Thread nD τ).loc main_arg1))
      (m ((d : Thread nD τ).loc main_arg2)) (m ((d : Thread nD τ).loc main_arg3)) := by
  refine (dats m 0 d).arrAt_eq_of_covers 7 _ (by decide +kernel) fun t _ y => ?_
  blk_simp
  rw [after0_7]
  obtain ⟨c, h, n, rfl⟩ : ∃ (c : Fin 16) (h : Fin 4) (n : Fin 512), y = ix3 (0 : Fin 1) c (⟨h.val * 512 + n.val, by omega⟩ : Fin 2048) := by
    have y0 : (y 0).val < 1 := (y 0).isLt
    have y1 : (y 1).val < 16 := (y 1).isLt
    have y2 : (y 2).val < 2048 := (y 2).isLt
    exact ⟨⟨(y 1).val, y1⟩, ⟨(y 2).val / 512, by omega⟩, ⟨(y 2).val % 512, by omega⟩,
      ext3 (by show (y 0).val = 0; omega) rfl (by show (y 2).val = (y 2).val / 512 * 512 + (y 2).val % 512; omega)⟩
  refine (out7_apply _ _ _ _ _ _ _ _ _ _ _ _ _ _ (block_q m d t) (block_k m d t) (block_g m d t) (block_v m d t) (block_b m d t)
    (block_n m d t) (block_s m d t) (hfin (sample t)) c h n).trans ?_
  refine (outs_apply _ _ _ _ (sample t) c h n).symm.trans ?_
  blk_ext [sample, idx7 t]

/-- The second result: the states after the last token. -/
theorem final8 (hfin : ∀ a h t p, G (m ((d : Thread nD τ).loc main_arg1)) a h t p < ⊤) :
    (dats m 0 d).arrAt 8 cfg0.N = states (m ((d : Thread nD τ).loc main_arg0)) (m ((d : Thread nD τ).loc main_arg1))
      (m ((d : Thread nD τ).loc main_arg3)) := by
  refine (dats m 0 d).arrAt_eq_of_covers 8 _ (by decide +kernel) fun t _ y => ?_
  blk_simp
  rw [after0_8]
  obtain ⟨h, p, n, rfl⟩ : ∃ (h : Fin 4) (p : Fin 256) (n : Fin 512), y = ix4 (0 : Fin 1) h p n := by
    have y0 : (y 0).val < 1 := (y 0).isLt
    have y1 : (y 1).val < 4 := (y 1).isLt
    have y2 : (y 2).val < 256 := (y 2).isLt
    have y3 : (y 3).val < 512 := (y 3).isLt
    exact ⟨⟨(y 1).val, y1⟩, ⟨(y 2).val, y2⟩, ⟨(y 3).val, y3⟩, ext4 (by show (y 0).val = 0; omega) rfl rfl rfl⟩
  refine (out8_apply _ _ _ _ _ _ _ _ _ _ _ (block_k m d t) (block_g m d t) (block_v m d t)
    (block_s m d t) (hfin (sample t)) h p n).trans ?_
  refine (states_apply _ _ _ (sample t) h p n).symm.trans ?_
  blk_ext [sample, idx8 t]

end Cert.KernelIdeal.Final
-- ==== Proof.Sample.lean ====
/-
  The claims about the sample's linear-attention call, assembled.
-/
module

public import proofs.«01_k».proof.Defs
public import proofs.«01_k».proof.Proof.Gen.Kernel.Frame
public import proofs.«01_k».proof.Proof.Final
public import Idealize.ShloMosaic.Adequacy
public import Idealize.ShloMosaic.Init

@[expose] public section

set_option maxRecDepth 16384

noncomputable section

namespace Cert.Sample

open Idealize.ShloMosaic Idealize.SL.Sem

/-- The precondition's own side conditions. -/
theorem facts : Cert.Pre_decay.Facts := ⟨by decide⟩

/-- Under the precondition, every log decay is below infinity. -/
theorem decay_lt (x0 : FVec Ideal Cert.Pre_decay.S128x6144 .bf16) (x1 : FVec Ideal Cert.Pre_decay.S128x1024 .f32)
    (x2 : FVec Ideal Cert.Pre_decay.S512 .f32) (x3 : FVec Ideal Cert.Pre_decay.S1x32x4x256x512 .f32) [Cert.Pre_decay.Facts]
    (h : Cert.Pre_decay.fn x0 x1 x2 x3 = fun _ => 1#1) (i : Cert.Pre_decay.S128x1024.Idx) : x1 i < ⊤ := by
  have h1 := congrFun h i
  idx_vars i
  unfold Cert.Pre_decay.fn at h1
  revert h1
  pointwise []
  intro h2
  rcases lt_or_ge (x1 (ix2 i0 i1)) (Ideal.ofBits FTy.f32 2139095040#32) with h3 | h3
  · exact lt_of_lt_of_le h3 le_top
  · rw [decide_eq_false (not_lt.mpr h3)] at h2
    exact absurd h2 (by decide)

theorem frame : Cert.quiescent_Kernel (hKernel := Cert.Kernel.Gen.facts) := fun m g _ => Cert.Kernel.Gen.frame m g

theorem frame_ideal : Cert.quiescent_KernelIdeal (hKernelIdeal := Cert.KernelIdeal.Gen.facts) :=
  fun m g _ => Cert.KernelIdeal.Gen.frame m g

theorem frame_reference : Cert.quiescent_ReferenceIdeal (hReferenceIdeal := Cert.ReferenceIdeal.Gen.facts) :=
  fun m g _ => (θ_run Cert.ReferenceIdeal.defs _ _).mono
    (fun r h => ⟨fun c => ⟨(h c).2.2.1, (h c).2.2.2.1, (h c).2.2.2.2.1, (h c).2.2.2.2.2⟩, Idealize.ShloMosaic.sem_eq_zero_of_no_sems (by decide) r.2⟩)
    (Cert.ReferenceIdeal.Value.run (F := Ideal) m g)

/-- The call's two results are the reference's, as extended reals, wherever no log decay is infinite. -/
theorem value : Cert.algebraic_KernelIdeal_ReferenceIdeal_pre_decay (hKernelIdeal := Cert.KernelIdeal.Gen.facts)
    (hReferenceIdeal := Cert.ReferenceIdeal.Gen.facts) (hPre_decay := facts) := by
  intro m g m' g' hpre hagree
  have hfin : ∀ (c : Dev Cert.KernelIdeal.nD) a h t p, Cert.ReferenceIdeal.Reading.G (m ((c.tc : Thread _ _).loc Cert.KernelIdeal.main_arg1)) a h t p < ⊤ :=
    fun c a h t p => @decay_lt _ _ _ _ facts (hpre c) _
  refine ⟨fun c => Cert.ReferenceIdeal.Reading.outs (m ((c.tc : Thread _ _).loc Cert.KernelIdeal.main_arg0)) (m ((c.tc : Thread _ _).loc Cert.KernelIdeal.main_arg1))
      (m ((c.tc : Thread _ _).loc Cert.KernelIdeal.main_arg2)) (m ((c.tc : Thread _ _).loc Cert.KernelIdeal.main_arg3)),
    fun c => Cert.ReferenceIdeal.Reading.states (m ((c.tc : Thread _ _).loc Cert.KernelIdeal.main_arg0)) (m ((c.tc : Thread _ _).loc Cert.KernelIdeal.main_arg1))
      (m ((c.tc : Thread _ _).loc Cert.KernelIdeal.main_arg3)), ?_, ?_⟩
  · exact (θ_run Cert.KernelIdeal.defs _ _).mono
      (fun _ h c => ⟨(h c).1.trans (Cert.KernelIdeal.Final.final7 m c (hfin c)), (h c).2.1.trans (Cert.KernelIdeal.Final.final8 m c (hfin c)), (h c).2.2⟩)
      (Cert.KernelIdeal.Value.run_blocks (F := Ideal) m g)
  · refine (θ_run Cert.ReferenceIdeal.defs _ _).mono (fun _ h c => ?_) (Cert.ReferenceIdeal.Value.run (F := Ideal) m' g')
    obtain ⟨e0, e1, e2, e3⟩ := hagree c
    refine ⟨(h c).1.trans ?_, (h c).2.1.trans ?_, (h c).2.2⟩
    · exact (Cert.ReferenceIdeal.Reading.out_eq m' c).trans (by rw [e0, e1, e2, e3])
    · rw [e0, e1, e3]; rfl

end Cert.Sample
-- ==== Proof.RopeRef.lean ====
/-
  The reference of the projection call on the attention's columns, read at an index: a row of the input against a column of the
  weight, and, in the queries and keys, the rotation of the first thirty-two lanes of a head.
-/
module

public import proofs.«01_k».proof.Proof.Gen.Reference2Ideal.Run
public import Idealize.ShloMosaic.Lib.Pipeline.ValueKit

@[expose] public section

set_option maxRecDepth 16384

noncomputable section

open Idealize.ShloMosaic Idealize.ShloMosaic.TcCoe Idealize.SL.Sem

namespace Rope

/-- One lane of a head after the rotation: lane `p` of the lanes `a`, by the angle's cosines `c` and sines `s`. -/
def lane (a : Fin 128 → EReal) (c s : Fin 16 → EReal) (p : Fin 128) : EReal :=
  if h : p.val < 16 then a p * c ⟨p.val, h⟩ - a ⟨p.val + 16, by omega⟩ * s ⟨p.val, h⟩
  else if h2 : p.val < 32 then a p * c ⟨p.val - 16, by omega⟩ + a ⟨p.val - 16, by omega⟩ * s ⟨p.val - 16, by omega⟩
  else a p

end Rope

namespace Cert.Reference2Ideal.Reading

open Cert.Reference2Ideal Cert.Reference2Ideal.Gen Cert.Reference2Ideal.Value

/-- The product, in three groups of heads. -/
def heads (x0 : FVec Ideal S8320x2048 .bf16) (x1 : FVec Ideal S1x2048x19472 .f32) : FVec Ideal S8320x3x24x128 .f32 :=
  shapeCast _ (Host.dotGeneral dot_S8320x2048_S2048x9216_S8320x9216_1_0_0_1_n_n none (extf .f32 x0 bitsLt_bf16_f32)
    (shapeCast _ (extractStridedSlice S1x2048x9216 ![0, 0, 0] x1 slices_S1x2048x19472_S1x2048x9216_0_0_0) shapeCasts_S1x2048x9216_S2048x9216))
    shapeCasts_S8320x9216_S8320x3x24x128

/-- Cosines or sines, along the heads. -/
def along (x : FVec Ideal S8320x16 .f32) : FVec Ideal S8320x2x24x16 .f32 :=
  broadcastInDim S8320x2x24x16 ![0, 1, 2, 3] bcast_S8320x1x1x16_S8320x2x24x16_0_1_2_3 (broadcastInDim S8320x1x1x16 ![0, 3] bcast_S8320x16_S8320x1x1x16_0_3 x)

/-- The two groups that are rotated. -/
def pairs (u : FVec Ideal S8320x3x24x128 .f32) : FVec Ideal S8320x2x24x128 .f32 :=
  extractStridedSlice S8320x2x24x128 ![0, 0, 0, 0] u slices_S8320x3x24x128_S8320x2x24x128_0_0_0_0
/-- The first sixteen lanes. -/
def first (u : FVec Ideal S8320x2x24x128 .f32) : FVec Ideal S8320x2x24x16 .f32 :=
  extractStridedSlice S8320x2x24x16 ![0, 0, 0, 0] u slices_S8320x2x24x128_S8320x2x24x16_0_0_0_0
/-- The next sixteen lanes. -/
def second (u : FVec Ideal S8320x2x24x128 .f32) : FVec Ideal S8320x2x24x16 .f32 :=
  extractStridedSlice S8320x2x24x16 ![0, 0, 0, 16] u slices_S8320x2x24x128_S8320x2x24x16_0_0_0_16

/-- The two groups after the rotation. -/
def rotated (u : FVec Ideal S8320x2x24x128 .f32) (x2 x3 : FVec Ideal S8320x16 .f32) : FVec Ideal S8320x2x24x128 .f32 :=
  concatenate S8320x2x24x128 3 [⟨S8320x2x24x16, subf (mulf (first u) (along x2)) (mulf (second u) (along x3))⟩,
    ⟨S8320x2x24x16, addf (mulf (second u) (along x2)) (mulf (first u) (along x3))⟩,
    ⟨S8320x2x24x96, extractStridedSlice S8320x2x24x96 ![0, 0, 0, 32] u slices_S8320x2x24x128_S8320x2x24x96_0_0_0_32⟩]
    concatenates_S8320x2x24x16_S8320x2x24x16_S8320x2x24x96_S8320x2x24x128_d3

/-- The reference's result, from its four arguments. -/
def result (x0 : FVec Ideal S8320x2048 .bf16) (x1 : FVec Ideal S1x2048x19472 .f32) (x2 x3 : FVec Ideal S8320x16 .f32) : FVec Ideal S8320x9216 .f32 :=
  shapeCast S8320x9216 (concatenate S8320x3x24x128 1 [⟨S8320x2x24x128, rotated (pairs (heads x0 x1)) x2 x3⟩,
    ⟨S8320x1x24x128, extractStridedSlice S8320x1x24x128 ![0, 2, 0, 0] (heads x0 x1) slices_S8320x3x24x128_S8320x1x24x128_0_2_0_0⟩]
    concatenates_S8320x2x24x128_S8320x1x24x128_S8320x3x24x128_d1) shapeCasts_S8320x3x24x128_S8320x9216

variable (x0 : FVec Ideal S8320x2048 .bf16) (x1 : FVec Ideal S1x2048x19472 .f32) (x2 x3 : FVec Ideal S8320x16 .f32)

/-- An entry of the product. -/
def entry (r : Fin 8320) (j : Fin 9216) : EReal := ∑ l : Fin 2048, x0 (ix2 r l) * x1 (ix3 0 l ⟨j.val, by omega⟩)

theorem heads_apply (r : Fin 8320) (g : Fin 3) (h : Fin 24) (p : Fin 128) :
    heads x0 x1 (ix4 r g h p) = entry x0 x1 r ⟨(g.val * 24 + h.val) * 128 + p.val, by omega⟩ := by
  pointwise [heads, entry]
  have e : g.val * 3072 + h.val * 128 + p.val = (g.val * 24 + h.val) * 128 + p.val := by omega
  simp only [e]

theorem rotated_apply (u : FVec Ideal S8320x2x24x128 .f32) (r : Fin 8320) (g : Fin 2) (h : Fin 24) (p : Fin 128) :
    rotated u x2 x3 (ix4 r g h p)
      = Rope.lane (fun p => u (ix4 r g h p)) (fun p => x2 (ix2 r p)) (fun p => x3 (ix2 r p)) p := by
  pointwise [rotated, first, second, along]
  unfold Rope.lane
  have hp := p.isLt
  by_cases h1 : p.val < 16
  · rw [dif_pos h1, dif_pos h1]
    have e : 16 + p.val = p.val + 16 := by omega
    simp only [e]
  · rw [dif_neg h1, dif_neg h1]
    by_cases h2 : p.val < 32
    · rw [dif_pos (show p.val - 16 < 16 by omega), dif_pos h2]
      have e : 16 + (p.val - 16) = p.val := by omega
      simp only [e]
    · rw [dif_neg (show ¬ p.val - 16 < 16 by omega), dif_neg h2]
      have e : 32 + (p.val - 16 - 16) = p.val := by omega
      simp only [e]

theorem result_apply (r : Fin 8320) (g : Fin 3) (h : Fin 24) (p : Fin 128) :
    result x0 x1 x2 x3 (ix2 r ⟨(g.val * 24 + h.val) * 128 + p.val, by omega⟩)
      = if g.val < 2 then Rope.lane (fun p => entry x0 x1 r ⟨(g.val * 24 + h.val) * 128 + p.val, by omega⟩) (fun p => x2 (ix2 r p)) (fun p => x3 (ix2 r p)) p
        else entry x0 x1 r ⟨(g.val * 24 + h.val) * 128 + p.val, by omega⟩ := by
  pointwise [result]
  by_cases h1 : g.val < 2
  · rw [dif_pos h1, if_pos h1, rotated_apply]
    refine congrArg (fun a => Rope.lane a _ _ _) (funext fun q => ?_)
    refine Eq.trans ?_ (heads_apply x0 x1 r g h q)
    pointwise [pairs]
  · rw [dif_neg h1, if_neg h1, ← heads_apply]
    have e : 2 + (g.val - 2) = g.val := by omega
    simp only [e]

/-- The result by the number of the head among the seventy-two. -/
theorem result_head (r : Fin 8320) (n : Fin 72) (p : Fin 128) :
    result x0 x1 x2 x3 (ix2 r ⟨n.val * 128 + p.val, by omega⟩)
      = if n.val < 48 then Rope.lane (fun p => entry x0 x1 r ⟨n.val * 128 + p.val, by omega⟩) (fun p => x2 (ix2 r p)) (fun p => x3 (ix2 r p)) p
        else entry x0 x1 r ⟨n.val * 128 + p.val, by omega⟩ := by
  have h := result_apply x0 x1 x2 x3 r ⟨n.val / 24, by omega⟩ ⟨n.val % 24, by omega⟩ p
  have e : n.val / 24 * 24 + n.val % 24 = n.val := by omega
  simp only [e] at h
  rw [h]
  by_cases h1 : n.val < 48
  · rw [if_pos h1, if_pos (by omega)]
  · rw [if_neg h1, if_neg (by omega)]

theorem result_eq (m : (ℓ : Loc nD τ sig) → Buf (Elt Ideal) ℓ) (c : Dev nD) :
    res_main_v24 m c = result (m ((c.tc : Thread nD τ).loc main_arg0)) (m ((c.tc : Thread nD τ).loc main_arg1)) (m ((c.tc : Thread nD τ).loc main_arg2)) (m ((c.tc : Thread nD τ).loc main_arg3)) := rfl

end Cert.Reference2Ideal.Reading
-- ==== Proof.Rope.lean ====
/-
  The projection call on the attention's columns: what a grid point leaves in its block.
-/
module

public import proofs.«01_k».proof.Defs
public import proofs.«01_k».proof.Proof.Gen.Kernel2.Frame
public import proofs.«01_k».proof.Proof.Gen.Kernel2Ideal.Value
public import proofs.«01_k».proof.Proof.RopeRef
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.RopeBlock

open Cert.Kernel2Ideal Cert.Kernel2Ideal.Gen Cert.Reference2Ideal.Reading

/-- The product of a block of rows with a block of columns, read at an index. -/
theorem block_apply (x0 : Vec Ideal S2080x2048 .bf16) (x1 : Vec Ideal S512x2048 .f32) (p : Fin 2080) (q : Fin 512) :
    k0_pay1 x0 x1 (ix2 p q) = ∑ l : Fin 2048, x0 (ix2 p l) * x1 (ix2 q l) := by
  pointwise [k0_pay1]

/-- A head's lanes after the rotation, as the block stores them: the lanes, and the lanes rolled either way, each by its table. -/
def rolled (a : FVec Ideal S2080x128 .f32) (x2 x3 x4 : Vec Ideal S2080x128 .f32) : FVec Ideal S2080x128 .f32 :=
  addf (addf (mulf a x2) (mulf (dynamicRotate 1 112#32 none a rotates_S2080x128_d1) x3)) (mulf (dynamicRotate 1 16#32 none a rotates_S2080x128_d1) x4)

/-- It at an index, where the tables are the rotation's cosines and sines in their places. -/
theorem rolled_apply (a : FVec Ideal S2080x128 .f32) (x2 x3 x4 : Vec Ideal S2080x128 .f32) (C S : Fin 2080 → Fin 16 → EReal)
    (h2 : ∀ p q, x2 (ix2 p q) = if h : q.val < 16 then C p ⟨q.val, h⟩ else if h : q.val < 32 then C p ⟨q.val - 16, by omega⟩ else 1)
    (h3 : ∀ p q, x3 (ix2 p q) = if h : q.val < 16 then - S p ⟨q.val, h⟩ else 0)
    (h4 : ∀ p q, x4 (ix2 p q) = if h : q.val < 16 then 0 else if h : q.val < 32 then S p ⟨q.val - 16, by omega⟩ else 0)
    (p : Fin 2080) (q : Fin 128) :
    rolled a x2 x3 x4 (ix2 p q) = Rope.lane (fun q => a (ix2 p q)) (C p) (S p) q := by
  pointwise [rolled]
  rw [h2, h3, h4]
  unfold Rope.lane
  have hq := q.isLt
  by_cases h1 : q.val < 16
  · simp only [dif_pos h1, mul_zero, add_zero, mul_neg, ← sub_eq_add_neg]
    have e : (q.val + 128 - 112) % 128 = q.val + 16 := by omega
    simp only [e]
  · simp only [dif_neg h1, mul_zero, add_zero]
    by_cases h5 : q.val < 32
    · simp only [dif_pos h5]
      have e : (q.val + 128 - 16) % 128 = q.val - 16 := by omega
      simp only [e]
    · simp only [dif_neg h5, mul_zero, add_zero, mul_one]

/-- An index of a rank-two shape is determined by its coordinates' values. -/
theorem ext2 {n0 n1 : Nat} {x : (⟨2, ![n0, n1]⟩ : Shape).Idx} {a : Fin n0} {b : Fin n1}
    (h0 : (x 0).val = a.val) (h1 : (x 1).val = b.val) : x = ix2 a b :=
  funext fun d => match d with | ⟨0, _⟩ => Fin.ext h0 | ⟨1, _⟩ => Fin.ext h1

/-- What a grid point of the queries' and keys' columns stores: in each of the block's four heads, the product's lanes after the rotation. -/
theorem rotated_apply (c : Dev nD) (i : grid0.Coords) (arg2 harg2 arg3 harg3 arg4 harg4 arg5 harg5 arg6 harg6 arg7 harg7 hc0 hc1)
    (x0 : Vec Ideal S2080x2048 .bf16) (x1 : Vec Ideal S512x2048 .f32) (x2 x3 x4 : Vec Ideal S2080x128 .f32) (C S : Fin 2080 → Fin 16 → EReal)
    (h2 : ∀ p q, x2 (ix2 p q) = if h : q.val < 16 then C p ⟨q.val, h⟩ else if h : q.val < 32 then C p ⟨q.val - 16, by omega⟩ else 1)
    (h3 : ∀ p q, x3 (ix2 p q) = if h : q.val < 16 then - S p ⟨q.val, h⟩ else 0)
    (h4 : ∀ p q, x4 (ix2 p q) = if h : q.val < 16 then 0 else if h : q.val < 32 then S p ⟨q.val - 16, by omega⟩ else 0)
    (p : Fin 2080) (k : Fin 4) (q : Fin 128) :
    out0_A_5 (F := Ideal) c i arg2 harg2 arg3 harg3 arg4 harg4 arg5 harg5 arg6 harg6 arg7 harg7 hc0 hc1 x0 x1 x2 x3 x4 (ix2 p ⟨k.val * 128 + q.val, by omega⟩)
      = Rope.lane (fun q => k0_pay1 x0 x1 (ix2 p ⟨k.val * 128 + q.val, by omega⟩)) (C p) (S p) q := by
  frame_out
  canon_tiles x hx
  case piece0 =>
    have ek : k = 3 := Fin.ext (by have : k.val * 128 + q.val = 384 + (x 1).val := hx1; show k.val = 3; omega)
    have ex : x = ix2 p q := ext2 hx0.symm (by have : k.val * 128 + q.val = 384 + (x 1).val := hx1; show (x 1).val = q.val; omega)
    subst ek ex
    refine Eq.trans (b := rolled (extractStridedSlice S2080x128 ![0, 384] (k0_pay1 x0 x1) slices_S2080x512_o0_384_S2080x128) (k0_pay3 x2) (k0_pay4 x3) (k0_pay5 x4) (ix2 p q)) ?_
      ((rolled_apply _ _ _ _ C S (fun p q => Eq.trans (by pointwise [k0_pay3]) (h2 p q)) (fun p q => Eq.trans (by pointwise [k0_pay4]) (h3 p q))
        (fun p q => Eq.trans (by pointwise [k0_pay5]) (h4 p q)) p q).trans ?_)
    · rfl
    · congr 1
      funext l
      pointwise []
  case piece1 =>
    have ek : k = 2 := Fin.ext (by have : k.val * 128 + q.val = 256 + (x 1).val := hx1; show k.val = 2; omega)
    have ex : x = ix2 p q := ext2 hx0.symm (by have : k.val * 128 + q.val = 256 + (x 1).val := hx1; show (x 1).val = q.val; omega)
    subst ek ex
    refine Eq.trans (b := rolled (extractStridedSlice S2080x128 ![0, 256] (k0_pay1 x0 x1) slices_S2080x512_o0_256_S2080x128) (k0_pay3 x2) (k0_pay4 x3) (k0_pay5 x4) (ix2 p q)) ?_
      ((rolled_apply _ _ _ _ C S (fun p q => Eq.trans (by pointwise [k0_pay3]) (h2 p q)) (fun p q => Eq.trans (by pointwise [k0_pay4]) (h3 p q))
        (fun p q => Eq.trans (by pointwise [k0_pay5]) (h4 p q)) p q).trans ?_)
    · rfl
    · congr 1
      funext l
      pointwise []
  case piece2 =>
    have ek : k = 1 := Fin.ext (by have : k.val * 128 + q.val = 128 + (x 1).val := hx1; show k.val = 1; omega)
    have ex : x = ix2 p q := ext2 hx0.symm (by have : k.val * 128 + q.val = 128 + (x 1).val := hx1; show (x 1).val = q.val; omega)
    subst ek ex
    refine Eq.trans (b := rolled (extractStridedSlice S2080x128 ![0, 128] (k0_pay1 x0 x1) slices_S2080x512_o0_128_S2080x128) (k0_pay3 x2) (k0_pay4 x3) (k0_pay5 x4) (ix2 p q)) ?_
      ((rolled_apply _ _ _ _ C S (fun p q => Eq.trans (by pointwise [k0_pay3]) (h2 p q)) (fun p q => Eq.trans (by pointwise [k0_pay4]) (h3 p q))
        (fun p q => Eq.trans (by pointwise [k0_pay5]) (h4 p q)) p q).trans ?_)
    · rfl
    · congr 1
      funext l
      pointwise []
  case piece3 =>
    have ek : k = 0 := Fin.ext (by have : k.val * 128 + q.val = (x 1).val := hx1; show k.val = 0; omega)
    have ex : x = ix2 p q := ext2 hx0.symm (by have : k.val * 128 + q.val = (x 1).val := hx1; show (x 1).val = q.val; omega)
    subst ek ex
    refine Eq.trans (b := rolled (extractStridedSlice S2080x128 ![0, 0] (k0_pay1 x0 x1) slices_S2080x512_o0_0_S2080x128) (k0_pay3 x2) (k0_pay4 x3) (k0_pay5 x4) (ix2 p q)) ?_
      ((rolled_apply _ _ _ _ C S (fun p q => Eq.trans (by pointwise [k0_pay3]) (h2 p q)) (fun p q => Eq.trans (by pointwise [k0_pay4]) (h3 p q))
        (fun p q => Eq.trans (by pointwise [k0_pay5]) (h4 p q)) p q).trans ?_)
    · rfl
    · congr 1
      funext l
      pointwise []

/-- What a grid point of the values' columns stores: the product. -/
theorem plain_eq (c : Dev nD) (i : grid0.Coords) (arg2 harg2 arg3 harg3 arg4 harg4 arg5 harg5 arg6 harg6 arg7 harg7 hc0 hc1)
    (x0 : Vec Ideal S2080x2048 .bf16) (x1 : Vec Ideal S512x2048 .f32) (x2 x3 x4 : Vec Ideal S2080x128 .f32) (y : S2080x512.Idx) :
    out0_B_5 (F := Ideal) c i arg2 harg2 arg3 harg3 arg4 harg4 arg5 harg5 arg6 harg6 arg7 harg7 hc0 hc1 x0 x1 x2 x3 x4 y = k0_pay1 x0 x1 y := by
  frame_out

theorem idx0 : ∀ t : Fin cfg0.N, win0_0.index t = ![t.val / 18, 0] := (by decide +kernel : ∀ t : Fin grid0.N, win0_0.index t = ![t.val / 18, 0])
theorem idx1 : ∀ t : Fin cfg0.N, win0_1.index t = ![t.val % 18 * 512, 0] := (by decide +kernel : ∀ t : Fin grid0.N, win0_1.index t = ![t.val % 18 * 512, 0])
theorem idx2 : ∀ t : Fin cfg0.N, win0_2.index t = ![t.val / 18, 0] := (by decide +kernel : ∀ t : Fin grid0.N, win0_2.index t = ![t.val / 18, 0])
theorem idx3 : ∀ t : Fin cfg0.N, win0_3.index t = ![t.val / 18, 0] := (by decide +kernel : ∀ t : Fin grid0.N, win0_3.index t = ![t.val / 18, 0])
theorem idx4 : ∀ t : Fin cfg0.N, win0_4.index t = ![t.val / 18, 0] := (by decide +kernel : ∀ t : Fin grid0.N, win0_4.index t = ![t.val / 18, 0])
theorem idx5 : ∀ t : Fin cfg0.N, win0_5.index t = ![t.val / 18, t.val % 18] := (by decide +kernel : ∀ t : Fin grid0.N, win0_5.index t = ![t.val / 18, t.val % 18])

/-- The weight's columns as rows, read at an index. -/
theorem columns_apply (w : FVec Ideal S1x2048x19472 .f32) (r : Fin 19472) (l : Fin 2048) :
    transpose S19472x2048 [1, 0] (shapeCast S2048x19472 w shapeCasts_S1x2048x19472_S2048x19472) transposes_S2048x19472_S19472x2048_1_0 (ix2 r l)
      = w (ix3 0 l r) := by
  pointwise []

/-- The three tables of the rotation: the cosines twice and ones; the negated sines and zeros; the sines after sixteen zeros. -/
def tableC (x : FVec Ideal S8320x16 .f32) : FVec Ideal S8320x128 .f32 :=
  concatenate S8320x128 1 [⟨S8320x16, x⟩, ⟨S8320x16, x⟩, ⟨S8320x96, broadcastInDim S8320x96 ![] bcast_S_S8320x96 (constant S_ .f32 0x3F800000#32)⟩]
    concatenates_S8320x16_S8320x16_S8320x96_S8320x128_d1
def tableN (x : FVec Ideal S8320x16 .f32) : FVec Ideal S8320x128 .f32 :=
  concatenate S8320x128 1 [⟨S8320x16, Host.negf x⟩, ⟨S8320x16, broadcastInDim S8320x16 ![] bcast_S_S8320x16 (constant S_ .f32 0x00000000#32)⟩,
    ⟨S8320x96, broadcastInDim S8320x96 ![] bcast_S_S8320x96 (constant S_ .f32 0x00000000#32)⟩]
    concatenates_S8320x16_S8320x16_S8320x96_S8320x128_d1
def tableS (x : FVec Ideal S8320x16 .f32) : FVec Ideal S8320x128 .f32 :=
  concatenate S8320x128 1 [⟨S8320x16, broadcastInDim S8320x16 ![] bcast_S_S8320x16 (constant S_ .f32 0x00000000#32)⟩, ⟨S8320x16, x⟩,
    ⟨S8320x96, broadcastInDim S8320x96 ![] bcast_S_S8320x96 (constant S_ .f32 0x00000000#32)⟩]
    concatenates_S8320x16_S8320x16_S8320x96_S8320x128_d1

theorem tableC_apply (x : FVec Ideal S8320x16 .f32) (r : Fin 8320) (q : Fin 128) :
    tableC x (ix2 r q) = if h : q.val < 16 then x (ix2 r ⟨q.val, h⟩) else if h : q.val < 32 then x (ix2 r ⟨q.val - 16, by omega⟩) else 1 := by
  pointwise [tableC]
  by_cases h1 : q.val < 16
  · rw [dif_pos h1, dif_pos h1]
  · rw [dif_neg h1, dif_neg h1]
    by_cases h2 : q.val < 32
    · rw [dif_pos (show q.val - 16 < 16 by omega), dif_pos h2]
    · rw [dif_neg (show ¬ q.val - 16 < 16 by omega), dif_neg h2]
theorem tableN_apply (x : FVec Ideal S8320x16 .f32) (r : Fin 8320) (q : Fin 128) :
    tableN x (ix2 r q) = if h : q.val < 16 then - x (ix2 r ⟨q.val, h⟩) else 0 := by
  pointwise [tableN]
  by_cases h1 : q.val < 16
  · rw [dif_pos h1, dif_pos h1]
  · rw [dif_neg h1, dif_neg h1]
    exact dite_eq_right_iff.2 fun _ => rfl
theorem tableS_apply (x : FVec Ideal S8320x16 .f32) (r : Fin 8320) (q : Fin 128) :
    tableS x (ix2 r q) = if h : q.val < 16 then 0 else if h : q.val < 32 then x (ix2 r ⟨q.val - 16, by omega⟩) else 0 := by
  pointwise [tableS]
  by_cases h1 : q.val < 16
  · rw [dif_pos h1, dif_pos h1]
  · rw [dif_neg h1, dif_neg h1]
    by_cases h2 : q.val < 32
    · rw [dif_pos (show q.val - 16 < 16 by omega), dif_pos h2]
    · rw [dif_neg (show ¬ q.val - 16 < 16 by omega), dif_neg h2]

variable (m : (ℓ : Loc nD τ sig) → Buf (Elt Ideal) ℓ)

/-- The arrays the region reads, from the arguments. -/
theorem V_w (c : Dev nD) : Gen.V m c main_v1
    = transpose S19472x2048 [1, 0] (shapeCast S2048x19472 (m ((c : Thread nD τ).loc main_arg1)) shapeCasts_S1x2048x19472_S2048x19472)
        transposes_S2048x19472_S19472x2048_1_0 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl
theorem V_c (c : Dev nD) : Gen.V m c main_v5 = tableC (m ((c : Thread nD τ).loc main_arg2)) := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl
theorem V_n (c : Dev nD) : Gen.V m c main_v7 = tableN (m ((c : Thread nD τ).loc main_arg3)) := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl
theorem V_s (c : Dev nD) : Gen.V m c main_v8 = tableS (m ((c : Thread nD τ).loc main_arg3)) := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

variable (d : Dev nD) (t : Fin cfg0.N)

theorem lt_N : t.val < 72 := lt_of_lt_of_eq t.isLt N_0

theorem block_x (p : Fin 2080) (l : Fin 2048) : (show Vec Ideal S2080x2048 .bf16 from iblk m d 0 t) (ix2 p l)
    = m ((d : Thread nD τ).loc main_arg0) (ix2 ⟨t.val / 18 * 2080 + p.val, by have := lt_N t; omega⟩ l) := by
  have := lt_N t
  refine Eq.trans (b := Gen.V m d main_arg0 (ix2 ⟨t.val / 18 * 2080 + p.val, by omega⟩ l)) ?_ ?_
  · blk_ext [iblk, idx0 t]
  · rw [V_main_arg0]

theorem block_w (q : Fin 512) (l : Fin 2048) : (show Vec Ideal S512x2048 .f32 from iblk m d 1 t) (ix2 q l)
    = m ((d : Thread nD τ).loc main_arg1) (ix3 0 l ⟨t.val % 18 * 512 + q.val, by omega⟩) := by
  have := lt_N t
  refine Eq.trans (b := Gen.V m d main_v1 (ix2 ⟨t.val % 18 * 512 + q.val, by omega⟩ l)) ?_ ?_
  · blk_ext [iblk, idx1 t]
    · exact (win0_1.rect_emb_val_off t (ix2 q l) 0).trans (by
        show win0_1.index t 0 + q.val = _
        rw [idx1]
        show t.val % 18 * 512 + q.val = _
        omega)
    · exact (win0_1.rect_emb_val_off t (ix2 q l) 1).trans (by
        show win0_1.index t 1 + l.val = _
        rw [idx1]
        show 0 + l.val = _
        omega)
  · rw [V_w]; exact columns_apply _ _ _

theorem block_c (p : Fin 2080) (q : Fin 128) : (show Vec Ideal S2080x128 .f32 from iblk m d 2 t) (ix2 p q)
    = tableC (m ((d : Thread nD τ).loc main_arg2)) (ix2 ⟨t.val / 18 * 2080 + p.val, by have := lt_N t; omega⟩ q) := by
  have := lt_N t
  refine Eq.trans (b := Gen.V m d main_v5 (ix2 ⟨t.val / 18 * 2080 + p.val, by omega⟩ q)) ?_ ?_
  · blk_ext [iblk, idx2 t]
  · rw [V_c]
theorem block_n (p : Fin 2080) (q : Fin 128) : (show Vec Ideal S2080x128 .f32 from iblk m d 3 t) (ix2 p q)
    = tableN (m ((d : Thread nD τ).loc main_arg3)) (ix2 ⟨t.val / 18 * 2080 + p.val, by have := lt_N t; omega⟩ q) := by
  have := lt_N t
  refine Eq.trans (b := Gen.V m d main_v7 (ix2 ⟨t.val / 18 * 2080 + p.val, by omega⟩ q)) ?_ ?_
  · blk_ext [iblk, idx3 t]
  · rw [V_n]
theorem block_s (p : Fin 2080) (q : Fin 128) : (show Vec Ideal S2080x128 .f32 from iblk m d 4 t) (ix2 p q)
    = tableS (m ((d : Thread nD τ).loc main_arg3)) (ix2 ⟨t.val / 18 * 2080 + p.val, by have := lt_N t; omega⟩ q) := by
  have := lt_N t
  refine Eq.trans (b := Gen.V m d main_v8 (ix2 ⟨t.val / 18 * 2080 + p.val, by omega⟩ q)) ?_ ?_
  · blk_ext [iblk, idx4 t]
  · rw [V_s]

/-- An entry of a grid point's product is the product's entry. -/
theorem block_entry (p : Fin 2080) (q : Fin 512) : k0_pay1 (show Vec Ideal S2080x2048 .bf16 from iblk m d 0 t) (show Vec Ideal S512x2048 .f32 from iblk m d 1 t) (ix2 p q)
    = entry (m ((d : Thread nD τ).loc main_arg0)) (m ((d : Thread nD τ).loc main_arg1)) ⟨t.val / 18 * 2080 + p.val, by have := lt_N t; omega⟩
        ⟨t.val % 18 * 512 + q.val, by omega⟩ :=
  (block_apply _ _ p q).trans (Finset.sum_congr rfl fun l _ => congrArg₂ _ (block_x m d t p l) (block_w m d t q l))

/-- The call's result: the product with its queries and keys rotated. -/
theorem final5 : (dats m 0 d).arrAt 5 cfg0.N = result (m ((d : Thread nD τ).loc main_arg0)) (m ((d : Thread nD τ).loc main_arg1))
    (m ((d : Thread nD τ).loc main_arg2)) (m ((d : Thread nD τ).loc main_arg3)) := by
  refine (dats m 0 d).arrAt_eq_of_covers 5 _ (by decide +kernel) fun t _ y => ?_
  blk_simp
  have ht := lt_N t
  obtain ⟨p, k, q, rfl⟩ : ∃ (p : Fin 2080) (k : Fin 4) (q : Fin 128), y = ix2 p ⟨k.val * 128 + q.val, by omega⟩ :=
    ⟨⟨(y 0).val, (y 0).isLt⟩, ⟨(y 1).val / 128, by have : (y 1).val < 512 := (y 1).isLt; omega⟩, ⟨(y 1).val % 128, by omega⟩,
      ext2 rfl (by show (y 1).val = (y 1).val / 128 * 128 + (y 1).val % 128; omega)⟩
  have e : ∀ q : Fin 128, t.val % 18 * 512 + (k.val * 128 + q.val) = (t.val % 18 * 4 + k.val) * 128 + q.val := fun q => by omega
  refine Eq.trans (b := result (m ((d : Thread nD τ).loc main_arg0)) (m ((d : Thread nD τ).loc main_arg1))
    (m ((d : Thread nD τ).loc main_arg2)) (m ((d : Thread nD τ).loc main_arg3))
    (ix2 ⟨t.val / 18 * 2080 + p.val, by omega⟩ ⟨(t.val % 18 * 4 + k.val) * 128 + q.val, by omega⟩)) ?_ ?_
  · rw [after0_5]
    refine Eq.trans ?_ (result_head _ _ _ _ _ ⟨t.val % 18 * 4 + k.val, by omega⟩ q).symm
    by_cases h : t.val % 18 ≤ 11
    · rw [outsAt0_A m d t (by omega) h, if_pos (show t.val % 18 * 4 + k.val < 48 by omega)]
      refine (rotated_apply _ _ _ _ _ _ _ _ _ _ _ _ _ _ _ _ _ _ _ _ _
        (fun p l => m ((d : Thread nD τ).loc main_arg2) (ix2 ⟨t.val / 18 * 2080 + p.val, by omega⟩ l))
        (fun p l => m ((d : Thread nD τ).loc main_arg3) (ix2 ⟨t.val / 18 * 2080 + p.val, by omega⟩ l))
        (fun p q => (block_c m d t p q).trans (tableC_apply _ _ _)) (fun p q => (block_n m d t p q).trans (tableN_apply _ _ _))
        (fun p q => (block_s m d t p q).trans (tableS_apply _ _ _)) p k q).trans ?_
      refine congrArg (fun a => Rope.lane a _ _ _) (funext fun q => ?_)
      refine (block_entry m d t p _).trans ?_
      simp only [e]
    · rw [outsAt0_B m d t (by omega) h, if_neg (show ¬ t.val % 18 * 4 + k.val < 48 by omega)]
      refine (plain_eq _ _ _ _ _ _ _ _ _ _ _ _ _ _ _ _ _ _ _ _ _ _).trans ((block_entry m d t p _).trans ?_)
      simp only [e]
  · simp only [← e]
    blk_ext [idx5 t]

theorem frame : Cert.quiescent_Kernel2 (hKernel2 := Cert.Kernel2.Gen.facts) := fun m g _ => Cert.Kernel2.Gen.frame m g

theorem frame_ideal : Cert.quiescent_Kernel2Ideal (hKernel2Ideal := Cert.Kernel2Ideal.Gen.facts) :=
  fun m g _ => Cert.Kernel2Ideal.Gen.frame m g

theorem frame_reference : Cert.quiescent_Reference2Ideal (hReference2Ideal := Cert.Reference2Ideal.Gen.facts) :=
  fun m g _ => (θ_run Cert.Reference2Ideal.defs _ _).mono
    (fun r h => ⟨fun c => (h c).2, Idealize.ShloMosaic.sem_eq_zero_of_no_sems (by decide) r.2⟩)
    (Cert.Reference2Ideal.Value.run (F := Ideal) m g)

/-- The call's result is the reference's, as extended reals, at every input. -/
theorem value : Cert.algebraic_Kernel2Ideal_Reference2Ideal (hKernel2Ideal := Cert.Kernel2Ideal.Gen.facts)
    (hReference2Ideal := Cert.Reference2Ideal.Gen.facts) := by
  intro m g m' g' _ hagree
  refine ⟨fun c => result (m ((c.tc : Thread _ _).loc main_arg0)) (m ((c.tc : Thread _ _).loc main_arg1))
    (m ((c.tc : Thread _ _).loc main_arg2)) (m ((c.tc : Thread _ _).loc main_arg3)), ?_, ?_⟩
  · exact (θ_run Cert.Kernel2Ideal.defs _ _).mono (fun _ h c => ⟨(h c).1.trans (final5 m c), (h c).2⟩)
      (Cert.Kernel2Ideal.Value.run_blocks (F := Ideal) m g)
  · refine (θ_run Cert.Reference2Ideal.defs _ _).mono (fun _ h c => ?_) (Cert.Reference2Ideal.Value.run (F := Ideal) m' g')
    obtain ⟨e0, e1, e2, e3⟩ := hagree c
    refine ⟨(h c).1.trans ?_, (h c).2⟩
    rw [result_eq, e0, e1, e2, e3]

end Cert.RopeBlock
-- ==== Proof.Linear.lean ====
/-
  The projection call on the columns of the linear attention: each grid point's block is the product of a block of rows with a block of
  columns of the weight, and the blocks together are the product the reference takes.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference3Ideal.Reading

open Cert.Reference3Ideal Cert.Reference3Ideal.Gen

/-- The reference's result, from its first two arguments. -/
def product (x0 : FVec Ideal S8320x2048 .bf16) (x1 : FVec Ideal S1x2048x19472 .f32) : FVec Ideal S8320x6144 .bf16 :=
  truncf .bf16 (Host.dotGeneral dot_S8320x2048_S2048x6144_S8320x6144_1_0_0_1_n_n none (extf .f32 x0 bitsLt_bf16_f32)
    (shapeCast S2048x6144 (extractStridedSlice S1x2048x6144 ![0, 0, 9216] x1 slices_S1x2048x19472_S1x2048x6144_0_0_9216)
      shapeCasts_S1x2048x6144_S2048x6144)) bitsLt_bf16_f32

/-- An entry of it: a row of the input against a column of the weight. -/
theorem product_apply (x0 : FVec Ideal S8320x2048 .bf16) (x1 : FVec Ideal S1x2048x19472 .f32) (r : Fin 8320) (j : Fin 6144) :
    product x0 x1 (ix2 r j) = ∑ l : Fin 2048, x0 (ix2 r l) * x1 (ix3 0 l ⟨9216 + j.val, by omega⟩) := by
  pointwise [product]

end Cert.Reference3Ideal.Reading

namespace Cert.Linear

open Cert.Kernel3Ideal Cert.Kernel3Ideal.Gen Cert.Reference3Ideal.Reading

/-- The block a grid point stores: a block of rows against a block of columns. -/
theorem block_apply (x0 : Vec Ideal S2080x2048 .bf16) (x1 : Vec Ideal S512x2048 .f32) (p : Fin 2080) (q : Fin 512) :
    k0_pay2 x0 x1 (ix2 p q) = ∑ l : Fin 2048, x0 (ix2 p l) * x1 (ix2 q l) := by
  pointwise [k0_pay2, k0_pay1]

theorem idx0 : ∀ t : Fin cfg0.N, win0_0.index t = ![t.val / 12, 0] := (by decide +kernel : ∀ t : Fin grid0.N, win0_0.index t = ![t.val / 12, 0])
theorem idx1 : ∀ t : Fin cfg0.N, win0_1.index t = ![9216 + t.val % 12 * 512, 0] := (by decide +kernel : ∀ t : Fin grid0.N, win0_1.index t = ![9216 + t.val % 12 * 512, 0])
theorem idx5 : ∀ t : Fin cfg0.N, win0_5.index t = ![t.val / 12, t.val % 12] := (by decide +kernel : ∀ t : Fin grid0.N, win0_5.index t = ![t.val / 12, t.val % 12])

/-- The weight's columns as rows, read at an index. -/
theorem columns_apply (w : FVec Ideal S1x2048x19472 .f32) (r : Fin 19472) (l : Fin 2048) :
    transpose S19472x2048 [1, 0] (shapeCast S2048x19472 w shapeCasts_S1x2048x19472_S2048x19472) transposes_S2048x19472_S19472x2048_1_0 (ix2 r l)
      = w (ix3 0 l r) := by
  pointwise []

variable (m : (ℓ : Loc nD τ sig) → Buf (Elt Ideal) ℓ)

/-- The weight as the call takes it: its columns as rows. -/
theorem V_w (c : Dev nD) : Gen.V m c main_v1
    = transpose S19472x2048 [1, 0] (shapeCast S2048x19472 (m ((c : Thread nD τ).loc main_arg1)) shapeCasts_S1x2048x19472_S2048x19472)
        transposes_S2048x19472_S19472x2048_1_0 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

variable (d : Dev nD) (t : Fin cfg0.N)

theorem lt_N : t.val < 48 := lt_of_lt_of_eq t.isLt N_0

theorem block_x (p : Fin 2080) (l : Fin 2048) : (show Vec Ideal S2080x2048 .bf16 from iblk m d 0 t) (ix2 p l)
    = m ((d : Thread nD τ).loc main_arg0) (ix2 ⟨t.val / 12 * 2080 + p.val, by have := lt_N t; omega⟩ l) := by
  have := lt_N t
  refine Eq.trans (b := Gen.V m d main_arg0 (ix2 ⟨t.val / 12 * 2080 + p.val, by omega⟩ l)) ?_ ?_
  · blk_ext [iblk, idx0 t]
  · rw [V_main_arg0]

theorem block_w (q : Fin 512) (l : Fin 2048) : (show Vec Ideal S512x2048 .f32 from iblk m d 1 t) (ix2 q l)
    = m ((d : Thread nD τ).loc main_arg1) (ix3 0 l ⟨9216 + (t.val % 12 * 512 + q.val), by omega⟩) := by
  have := lt_N t
  refine Eq.trans (b := Gen.V m d main_v1 (ix2 ⟨9216 + (t.val % 12 * 512 + q.val), by omega⟩ l)) ?_ ?_
  · blk_ext [iblk, idx1 t]
    · exact (win0_1.rect_emb_val_off t (ix2 q l) 0).trans (by
        show win0_1.index t 0 + q.val = _
        rw [idx1]
        show 9216 + t.val % 12 * 512 + q.val = _
        omega)
    · exact (win0_1.rect_emb_val_off t (ix2 q l) 1).trans (by
        show win0_1.index t 1 + l.val = _
        rw [idx1]
        show 0 + l.val = _
        omega)
  · rw [V_w]; exact columns_apply _ _ _

/-- The call's result: the product. -/
theorem final5 : (dats m 0 d).arrAt 5 cfg0.N = product (m ((d : Thread nD τ).loc main_arg0)) (m ((d : Thread nD τ).loc main_arg1)) := by
  refine (dats m 0 d).arrAt_eq_of_covers 5 _ (by decide +kernel) fun t _ y => ?_
  blk_simp
  rw [after0_5]
  unfold Gen.outsAt0
  frame_out
  have ht := lt_N t
  obtain ⟨p, q, rfl⟩ : ∃ (p : Fin 2080) (q : Fin 512), y = ix2 p q :=
    ⟨⟨(y 0).val, (y 0).isLt⟩, ⟨(y 1).val, (y 1).isLt⟩, funext fun d => match d with | ⟨0, _⟩ => rfl | ⟨1, _⟩ => rfl⟩
  refine (block_apply _ _ p q).trans ?_
  refine Eq.trans (b := product (m ((d : Thread nD τ).loc main_arg0)) (m ((d : Thread nD τ).loc main_arg1))
    (ix2 ⟨t.val / 12 * 2080 + p.val, by omega⟩ ⟨t.val % 12 * 512 + q.val, by omega⟩)) ?_ ?_
  · rw [product_apply]
    exact Finset.sum_congr rfl fun l _ => congrArg₂ _ (block_x m d t p l) (block_w m d t q l)
  · blk_ext [idx5 t]

theorem frame : Cert.quiescent_Kernel3 (hKernel3 := Cert.Kernel3.Gen.facts) := fun m g _ => Cert.Kernel3.Gen.frame m g

theorem frame_ideal : Cert.quiescent_Kernel3Ideal (hKernel3Ideal := Cert.Kernel3Ideal.Gen.facts) :=
  fun m g _ => Cert.Kernel3Ideal.Gen.frame m g

theorem frame_reference : Cert.quiescent_Reference3Ideal (hReference3Ideal := Cert.Reference3Ideal.Gen.facts) :=
  fun m g _ => (θ_run Cert.Reference3Ideal.defs _ _).mono
    (fun r h => ⟨fun c => (h c).2, Idealize.ShloMosaic.sem_eq_zero_of_no_sems (by decide) r.2⟩)
    (Cert.Reference3Ideal.Value.run (F := Ideal) m g)

/-- The call's result is the reference's, as extended reals, at every input. -/
theorem value : Cert.algebraic_Kernel3Ideal_Reference3Ideal (hKernel3Ideal := Cert.Kernel3Ideal.Gen.facts)
    (hReference3Ideal := Cert.Reference3Ideal.Gen.facts) := by
  intro m g m' g' _ hagree
  refine ⟨fun c => product (m ((c.tc : Thread _ _).loc main_arg0)) (m ((c.tc : Thread _ _).loc main_arg1)), ?_, ?_⟩
  · exact (θ_run Cert.Kernel3Ideal.defs _ _).mono (fun _ h c => ⟨(h c).1.trans (final5 m c), (h c).2⟩)
      (Cert.Kernel3Ideal.Value.run_blocks (F := Ideal) m g)
  · refine (θ_run Cert.Reference3Ideal.defs _ _).mono (fun _ h c => ?_) (Cert.Reference3Ideal.Value.run (F := Ideal) m' g')
    obtain ⟨e0, e1, e2, e3⟩ := hagree c
    refine ⟨(h c).1.trans ?_, (h c).2⟩
    rw [e0, e1]; rfl

end Cert.Linear
-- ==== Proof.Gates.lean ====
/-
  The projection call on the merge gates' columns: each grid point's block is the product of a block of rows with a block of
  columns of the weight, and the blocks together are the product the reference takes.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference4Ideal.Reading

open Cert.Reference4Ideal Cert.Reference4Ideal.Gen

/-- The reference's result, from its first two arguments. -/
def product (x0 : FVec Ideal S8320x2048 .bf16) (x1 : FVec Ideal S1x2048x19472 .f32) : FVec Ideal S8320x4096 .bf16 :=
  truncf .bf16 (Host.dotGeneral dot_S8320x2048_S2048x4096_S8320x4096_1_0_0_1_n_n none (extf .f32 x0 bitsLt_bf16_f32)
    (shapeCast S2048x4096 (extractStridedSlice S1x2048x4096 ![0, 0, 15376] x1 slices_S1x2048x19472_S1x2048x4096_0_0_15376)
      shapeCasts_S1x2048x4096_S2048x4096)) bitsLt_bf16_f32

/-- An entry of it: a row of the input against a column of the weight. -/
theorem product_apply (x0 : FVec Ideal S8320x2048 .bf16) (x1 : FVec Ideal S1x2048x19472 .f32) (r : Fin 8320) (j : Fin 4096) :
    product x0 x1 (ix2 r j) = ∑ l : Fin 2048, x0 (ix2 r l) * x1 (ix3 0 l ⟨15376 + j.val, by omega⟩) := by
  pointwise [product]

end Cert.Reference4Ideal.Reading

namespace Cert.Gates

open Cert.Kernel4Ideal Cert.Kernel4Ideal.Gen Cert.Reference4Ideal.Reading

/-- The block a grid point stores: a block of rows against a block of columns. -/
theorem block_apply (x0 : Vec Ideal S2080x2048 .bf16) (x1 : Vec Ideal S512x2048 .f32) (p : Fin 2080) (q : Fin 512) :
    k0_pay2 x0 x1 (ix2 p q) = ∑ l : Fin 2048, x0 (ix2 p l) * x1 (ix2 q l) := by
  pointwise [k0_pay2, k0_pay1]

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![15376 + t.val % 8 * 512, 0] := (by decide +kernel : ∀ t : Fin grid0.N, win0_1.index t = ![15376 + t.val % 8 * 512, 0])
theorem idx5 : ∀ t : Fin cfg0.N, win0_5.index t = ![t.val / 8, t.val % 8] := (by decide +kernel : ∀ t : Fin grid0.N, win0_5.index t = ![t.val / 8, t.val % 8])

/-- The weight's columns as rows, read at an index. -/
theorem columns_apply (w : FVec Ideal S1x2048x19472 .f32) (r : Fin 19472) (l : Fin 2048) :
    transpose S19472x2048 [1, 0] (shapeCast S2048x19472 w shapeCasts_S1x2048x19472_S2048x19472) transposes_S2048x19472_S19472x2048_1_0 (ix2 r l)
      = w (ix3 0 l r) := by
  pointwise []

variable (m : (ℓ : Loc nD τ sig) → Buf (Elt Ideal) ℓ)

/-- The weight as the call takes it: its columns as rows. -/
theorem V_w (c : Dev nD) : Gen.V m c main_v1
    = transpose S19472x2048 [1, 0] (shapeCast S2048x19472 (m ((c : Thread nD τ).loc main_arg1)) shapeCasts_S1x2048x19472_S2048x19472)
        transposes_S2048x19472_S19472x2048_1_0 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

variable (d : Dev nD) (t : Fin cfg0.N)

theorem lt_N : t.val < 32 := lt_of_lt_of_eq t.isLt N_0

theorem block_x (p : Fin 2080) (l : Fin 2048) : (show Vec Ideal S2080x2048 .bf16 from iblk m d 0 t) (ix2 p l)
    = m ((d : Thread nD τ).loc main_arg0) (ix2 ⟨t.val / 8 * 2080 + p.val, by have := lt_N t; omega⟩ l) := by
  have := lt_N t
  refine Eq.trans (b := Gen.V m d main_arg0 (ix2 ⟨t.val / 8 * 2080 + p.val, by omega⟩ l)) ?_ ?_
  · blk_ext [iblk, idx0 t]
  · rw [V_main_arg0]

theorem block_w (q : Fin 512) (l : Fin 2048) : (show Vec Ideal S512x2048 .f32 from iblk m d 1 t) (ix2 q l)
    = m ((d : Thread nD τ).loc main_arg1) (ix3 0 l ⟨15376 + (t.val % 8 * 512 + q.val), by omega⟩) := by
  have := lt_N t
  refine Eq.trans (b := Gen.V m d main_v1 (ix2 ⟨15376 + (t.val % 8 * 512 + q.val), by omega⟩ l)) ?_ ?_
  · blk_ext [iblk, idx1 t]
    · exact (win0_1.rect_emb_val_off t (ix2 q l) 0).trans (by
        show win0_1.index t 0 + q.val = _
        rw [idx1]
        show 15376 + t.val % 8 * 512 + q.val = _
        omega)
    · exact (win0_1.rect_emb_val_off t (ix2 q l) 1).trans (by
        show win0_1.index t 1 + l.val = _
        rw [idx1]
        show 0 + l.val = _
        omega)
  · rw [V_w]; exact columns_apply _ _ _

/-- The call's result: the product. -/
theorem final5 : (dats m 0 d).arrAt 5 cfg0.N = product (m ((d : Thread nD τ).loc main_arg0)) (m ((d : Thread nD τ).loc main_arg1)) := by
  refine (dats m 0 d).arrAt_eq_of_covers 5 _ (by decide +kernel) fun t _ y => ?_
  blk_simp
  rw [after0_5]
  unfold Gen.outsAt0
  frame_out
  have ht := lt_N t
  obtain ⟨p, q, rfl⟩ : ∃ (p : Fin 2080) (q : Fin 512), y = ix2 p q :=
    ⟨⟨(y 0).val, (y 0).isLt⟩, ⟨(y 1).val, (y 1).isLt⟩, funext fun d => match d with | ⟨0, _⟩ => rfl | ⟨1, _⟩ => rfl⟩
  refine (block_apply _ _ p q).trans ?_
  refine Eq.trans (b := product (m ((d : Thread nD τ).loc main_arg0)) (m ((d : Thread nD τ).loc main_arg1))
    (ix2 ⟨t.val / 8 * 2080 + p.val, by omega⟩ ⟨t.val % 8 * 512 + q.val, by omega⟩)) ?_ ?_
  · rw [product_apply]
    exact Finset.sum_congr rfl fun l _ => congrArg₂ _ (block_x m d t p l) (block_w m d t q l)
  · blk_ext [idx5 t]

theorem frame : Cert.quiescent_Kernel4 (hKernel4 := Cert.Kernel4.Gen.facts) := fun m g _ => Cert.Kernel4.Gen.frame m g

theorem frame_ideal : Cert.quiescent_Kernel4Ideal (hKernel4Ideal := Cert.Kernel4Ideal.Gen.facts) :=
  fun m g _ => Cert.Kernel4Ideal.Gen.frame m g

theorem frame_reference : Cert.quiescent_Reference4Ideal (hReference4Ideal := Cert.Reference4Ideal.Gen.facts) :=
  fun m g _ => (θ_run Cert.Reference4Ideal.defs _ _).mono
    (fun r h => ⟨fun c => (h c).2, Idealize.ShloMosaic.sem_eq_zero_of_no_sems (by decide) r.2⟩)
    (Cert.Reference4Ideal.Value.run (F := Ideal) m g)

/-- The call's result is the reference's, as extended reals, at every input. -/
theorem value : Cert.algebraic_Kernel4Ideal_Reference4Ideal (hKernel4Ideal := Cert.Kernel4Ideal.Gen.facts)
    (hReference4Ideal := Cert.Reference4Ideal.Gen.facts) := by
  intro m g m' g' _ hagree
  refine ⟨fun c => product (m ((c.tc : Thread _ _).loc main_arg0)) (m ((c.tc : Thread _ _).loc main_arg1)), ?_, ?_⟩
  · exact (θ_run Cert.Kernel4Ideal.defs _ _).mono (fun _ h c => ⟨(h c).1.trans (final5 m c), (h c).2⟩)
      (Cert.Kernel4Ideal.Value.run_blocks (F := Ideal) m g)
  · refine (θ_run Cert.Reference4Ideal.defs _ _).mono (fun _ h c => ?_) (Cert.Reference4Ideal.Value.run (F := Ideal) m' g')
    obtain ⟨e0, e1, e2, e3⟩ := hagree c
    refine ⟨(h c).1.trans ?_, (h c).2⟩
    rw [e0, e1]; rfl

end Cert.Gates
-- ==== Proof.Ple.lean ====
/-
  The call that adds the per-row embedding to the residual: each grid point's block is the scaled residual plus the sigmoid of its
  product with the gate's weight times the embedding's product with its own, with the two weights fetched at the first grid point
  and kept for the later ones; the blocks together are the reference's result.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Reference5Ideal.Reading

open Cert.Reference5Ideal Cert.Reference5Ideal.Gen

/-- The reference's result, from the arguments it reads. -/
def result (x0 : FVec Ideal S8320x2048 .f32) (x1 : FVec Ideal S8320x256 .f32) (x2 : FVec Ideal S1x2048x2048 .f32) (x3 : FVec Ideal S1x256x2048 .f32) :
    FVec Ideal S8320x2048 .f32 :=
  addf (mulf (broadcastInDim S8320x2048 ![] bcast_S_S8320x2048 (constant S_ .f32 0x3F9837F0#32)) x0)
    (mulf (Host.divf (broadcastInDim S8320x2048 ![] bcast_S_S8320x2048 (constant S_ .f32 0x3F800000#32))
      (addf (broadcastInDim S8320x2048 ![] bcast_S_S8320x2048 (constant S_ .f32 0x3F800000#32))
        (Host.exp (Host.negf (Host.dotGeneral dot_S8320x2048_S2048x2048_S8320x2048_1_0_0_1_n_n none x0 (shapeCast S2048x2048 x2 shapeCasts_S1x2048x2048_S2048x2048))))))
      (Host.dotGeneral dot_S8320x256_S256x2048_S8320x2048_1_0_0_1_n_n none x1 (shapeCast S256x2048 x3 shapeCasts_S1x256x2048_S256x2048)))

end Cert.Reference5Ideal.Reading

namespace Cert.Ple

open Cert.Kernel5Ideal Cert.Kernel5Ideal.Gen Cert.Reference5Ideal.Reading

/-- One entry of the result: the residual's, scaled, and the gate's sigmoid times the embedding's. -/
def entry (a : EReal) (s p : EReal) : EReal :=
  Ideal.ofBits .f32 1066940400#32 * a + Ideal.div 1 (1 + Ideal.exp (0 - s)) * p

/-- The reference's result, read at an index. -/
theorem result_apply (x0 : FVec Ideal S8320x2048 .f32) (x1 : FVec Ideal S8320x256 .f32) (x2 : FVec Ideal S1x2048x2048 .f32)
    (x3 : FVec Ideal S1x256x2048 .f32) (r : Fin 8320) (j : Fin 2048) :
    result x0 x1 x2 x3 (ix2 r j)
      = entry (x0 (ix2 r j)) (∑ l : Fin 2048, x0 (ix2 r l) * x2 (ix3 0 l j)) (∑ l : Fin 256, x1 (ix2 r l) * x3 (ix3 0 l j)) := by
  pointwise [result, entry]
  rw [zero_sub]

/-- An index of a rank-two shape is determined by its coordinates' values. -/
theorem ext2 {n0 n1 : Nat} {x : (⟨2, ![n0, n1]⟩ : Shape).Idx} {a : Fin n0} {b : Fin n1}
    (h0 : (x 0).val = a.val) (h1 : (x 1).val = b.val) : x = ix2 a b :=
  funext fun d => match d with | ⟨0, _⟩ => Fin.ext h0 | ⟨1, _⟩ => Fin.ext h1

section Tiles

variable (x : Vec Ideal S832x2048 .f32) (p : Vec Ideal S832x256 .bf16) (g : Vec Ideal S2048x512 .bf16) (a : Vec Ideal S832x512 .f32)
    (w : Vec Ideal S256x512 .bf16) (r : Fin 832) (j : Fin 512)

/-- The four stored tiles, each read at an index: the same entry, from the tile's columns of the weights. -/
theorem tile0 : k0_pay5 x p g a w (ix2 r j) = entry (a (ix2 r j)) (∑ l : Fin 2048, x (ix2 r l) * g (ix2 l j)) (∑ l : Fin 256, p (ix2 r l) * w (ix2 l j)) := by
  pointwise [k0_pay5, k0_pay3, k0_pay4, entry]
theorem tile1 : k0_pay7 (k0_pay4 p) (k0_pay6 x g) (Scalar.ofBits .f32 0x3F800000#32) a w (ix2 r j)
    = entry (a (ix2 r j)) (∑ l : Fin 2048, x (ix2 r l) * g (ix2 l j)) (∑ l : Fin 256, p (ix2 r l) * w (ix2 l j)) := by
  pointwise [k0_pay7, k0_pay6, k0_pay3, k0_pay4, entry]
theorem tile2 : k0_pay8 (k0_pay3 x) (k0_pay4 p) g a w (ix2 r j)
    = entry (a (ix2 r j)) (∑ l : Fin 2048, x (ix2 r l) * g (ix2 l j)) (∑ l : Fin 256, p (ix2 r l) * w (ix2 l j)) := by
  pointwise [k0_pay8, k0_pay3, k0_pay4, entry]
theorem tile3 : k0_pay10 (k0_pay4 p) (k0_pay9 (k0_pay3 x) g) a w (ix2 r j)
    = entry (a (ix2 r j)) (∑ l : Fin 2048, x (ix2 r l) * g (ix2 l j)) (∑ l : Fin 256, p (ix2 r l) * w (ix2 l j)) := by
  pointwise [k0_pay10, k0_pay9, k0_pay3, k0_pay4, entry]

end Tiles

/-- A buffer filled at once holds what filled it. -/
theorem canon_whole {S : Shape} {e : EltTy} (v : Vec Ideal S e) :
    View.canon (Val := Elt Ideal) [⟨Rect.whole S, v⟩] = v := by
  funext y
  have h : (Rect.whole S).emb y = y := funext fun d => Fin.ext (by show 0 + 1 * (y d).val = (y d).val; omega)
  exact (congrArg _ h.symm).trans (View.canon_cons_emb (Rect.whole S) v [] y)

/-- The columns from `o` of an array, read at an index. -/
theorem columns_at {n m k : Nat} {e : EltTy} (X : Vec Ideal ⟨2, ![n, m]⟩ e) (o : Nat) (inb) (l : Fin n) (q : Fin k) (h : o + q.val < m) :
    X ((Rect.unit (s := ⟨2, ![n, m]⟩) ![0, o] ![n, k] inb).idx (ix2 l q)) = X (ix2 l ⟨o + q.val, h⟩) :=
  congrArg X (ext2 (by show 0 + 1 * l.val = l.val; omega) (by show o + 1 * q.val = o + q.val; omega))

/-- What a grid point leaves in its block, read at an index. -/
def block (x0 : Vec Ideal S832x2048 .f32) (x1 : Vec Ideal S832x256 .bf16) (g : Vec Ideal S2048x2048 .bf16) (w : Vec Ideal S256x2048 .bf16)
    (p : Fin 832) (q : Fin 2048) : EReal :=
  entry (x0 (ix2 p q)) (∑ l : Fin 2048, x0 (ix2 p l) * g (ix2 l q)) (∑ l : Fin 256, x1 (ix2 p l) * w (ix2 l q))

/-- The first grid point, which fetches the weights, stores its block. -/
theorem first_apply (c : Dev nD) (i : grid0.Coords) (arg1 harg1 arg2 harg2 arg3 harg3 arg6 harg6 arg7 harg7 arg8 harg8 arg9 harg9 arg10 harg10 arg11 harg11 hc0 hc1)
    (x0 : Vec Ideal S832x2048 .f32) (x1 : Vec Ideal S832x256 .bf16) (x2 : Vec Ideal S2048x256 .f32) (fh0 : HbBuf0 (F := Ideal) c hbM0_0) (fh1 : HbBuf0 (F := Ideal) c hbM0_1)
    (p : Fin 832) (k : Fin 4) (q : Fin 512) :
    out0_A_3 (F := Ideal) c i arg1 harg1 arg2 harg2 arg3 harg3 arg6 harg6 arg7 harg7 arg8 harg8 arg9 harg9 arg10 harg10 arg11 harg11 hc0 hc1 x0 x1 x2 fh0 fh1 (ix2 p ⟨k.val * 512 + q.val, by omega⟩)
      = block x0 x1 fh0 fh1 p ⟨k.val * 512 + q.val, by omega⟩ := by
  frame_out
  canon_tiles x hx
  case piece0 =>
    have ek : k = 3 := Fin.ext (by have : k.val * 512 + q.val = 1536 + (x 1).val := hx1; show k.val = 3; omega)
    have ex : x = ix2 p q := ext2 hx0.symm (by have : k.val * 512 + q.val = 1536 + (x 1).val := hx1; show (x 1).val = q.val; omega)
    subst ek ex
    rw [View.readCov_eq_canon', View.readCov_eq_canon']
    refine (tile3 x0 x1 _ _ _ p q).trans (congrArg₂ (fun a f => a f) (congrArg₂ entry ?_ ?_) ?_)
    · exact columns_at x0 1536 _ p q (by omega)
    · exact Finset.sum_congr rfl fun l _ => congrArg _ ((congrFun (canon_whole fh0) _).trans (columns_at fh0 1536 _ l q (by omega)))
    · exact Finset.sum_congr rfl fun l _ => congrArg _ ((congrFun (canon_whole fh1) _).trans (columns_at fh1 1536 _ l q (by omega)))
  case piece1 =>
    have ek : k = 2 := Fin.ext (by have : k.val * 512 + q.val = 1024 + (x 1).val := hx1; show k.val = 2; omega)
    have ex : x = ix2 p q := ext2 hx0.symm (by have : k.val * 512 + q.val = 1024 + (x 1).val := hx1; show (x 1).val = q.val; omega)
    subst ek ex
    rw [View.readCov_eq_canon', View.readCov_eq_canon']
    refine (tile2 x0 x1 _ _ _ p q).trans (congrArg₂ (fun a f => a f) (congrArg₂ entry ?_ ?_) ?_)
    · exact columns_at x0 1024 _ p q (by omega)
    · exact Finset.sum_congr rfl fun l _ => congrArg _ ((congrFun (canon_whole fh0) _).trans (columns_at fh0 1024 _ l q (by omega)))
    · exact Finset.sum_congr rfl fun l _ => congrArg _ ((congrFun (canon_whole fh1) _).trans (columns_at fh1 1024 _ l q (by omega)))
  case piece2 =>
    have ek : k = 1 := Fin.ext (by have : k.val * 512 + q.val = 512 + (x 1).val := hx1; show k.val = 1; omega)
    have ex : x = ix2 p q := ext2 hx0.symm (by have : k.val * 512 + q.val = 512 + (x 1).val := hx1; show (x 1).val = q.val; omega)
    subst ek ex
    rw [View.readCov_eq_canon', View.readCov_eq_canon']
    refine (tile1 x0 x1 _ _ _ p q).trans (congrArg₂ (fun a f => a f) (congrArg₂ entry ?_ ?_) ?_)
    · exact columns_at x0 512 _ p q (by omega)
    · exact Finset.sum_congr rfl fun l _ => congrArg _ ((congrFun (canon_whole fh0) _).trans (columns_at fh0 512 _ l q (by omega)))
    · exact Finset.sum_congr rfl fun l _ => congrArg _ ((congrFun (canon_whole fh1) _).trans (columns_at fh1 512 _ l q (by omega)))
  case piece3 =>
    have ek : k = 0 := Fin.ext (by have : k.val * 512 + q.val = (x 1).val := hx1; show k.val = 0; omega)
    have ex : x = ix2 p q := ext2 hx0.symm (by have : k.val * 512 + q.val = (x 1).val := hx1; show (x 1).val = q.val; omega)
    subst ek ex
    rw [View.readCov_eq_canon', View.readCov_eq_canon']
    refine (tile0 x0 x1 _ _ _ p q).trans (congrArg₂ (fun a f => a f) (congrArg₂ entry ?_ ?_) ?_)
    · exact columns_at x0 0 _ p q (by omega)
    · exact Finset.sum_congr rfl fun l _ => congrArg _ ((congrFun (canon_whole fh0) _).trans (columns_at fh0 0 _ l q (by omega)))
    · exact Finset.sum_congr rfl fun l _ => congrArg _ ((congrFun (canon_whole fh1) _).trans (columns_at fh1 0 _ l q (by omega)))

/-- A later grid point, with the weights it finds, stores its block. -/
theorem later_apply (c : Dev nD) (i : grid0.Coords) (arg1 harg1 arg2 harg2 arg3 harg3 arg6 harg6 arg7 harg7 arg8 harg8 arg9 harg9 arg10 harg10 arg11 harg11 hc0 hc1)
    (x0 : Vec Ideal S832x2048 .f32) (x1 : Vec Ideal S832x256 .bf16) (x2 : Vec Ideal S2048x256 .f32) (xo6 : Vec Ideal S1x128 .f32) (xs0 : Vec Ideal S2048x2048 .bf16) (xs1 : Vec Ideal S256x2048 .bf16) (fh0 : HbBuf0 (F := Ideal) c hbM0_0) (fh1 : HbBuf0 (F := Ideal) c hbM0_1)
    (p : Fin 832) (k : Fin 4) (q : Fin 512) :
    out0_B_3 (F := Ideal) c i arg1 harg1 arg2 harg2 arg3 harg3 arg6 harg6 arg7 harg7 arg8 harg8 arg9 harg9 arg10 harg10 arg11 harg11 hc0 hc1 x0 x1 x2 xo6 xs0 xs1 fh0 fh1 (ix2 p ⟨k.val * 512 + q.val, by omega⟩)
      = block x0 x1 xs0 xs1 p ⟨k.val * 512 + q.val, by omega⟩ := by
  frame_out
  canon_tiles x hx
  case piece0 =>
    have ek : k = 3 := Fin.ext (by have : k.val * 512 + q.val = 1536 + (x 1).val := hx1; show k.val = 3; omega)
    have ex : x = ix2 p q := ext2 hx0.symm (by have : k.val * 512 + q.val = 1536 + (x 1).val := hx1; show (x 1).val = q.val; omega)
    subst ek ex
    refine (tile3 x0 x1 _ _ _ p q).trans (congrArg₂ (fun a f => a f) (congrArg₂ entry ?_ ?_) ?_)
    · exact columns_at x0 1536 _ p q (by omega)
    · exact Finset.sum_congr rfl fun l _ => congrArg _ (columns_at xs0 1536 _ l q (by omega))
    · exact Finset.sum_congr rfl fun l _ => congrArg _ (columns_at xs1 1536 _ l q (by omega))
  case piece1 =>
    have ek : k = 2 := Fin.ext (by have : k.val * 512 + q.val = 1024 + (x 1).val := hx1; show k.val = 2; omega)
    have ex : x = ix2 p q := ext2 hx0.symm (by have : k.val * 512 + q.val = 1024 + (x 1).val := hx1; show (x 1).val = q.val; omega)
    subst ek ex
    refine (tile2 x0 x1 _ _ _ p q).trans (congrArg₂ (fun a f => a f) (congrArg₂ entry ?_ ?_) ?_)
    · exact columns_at x0 1024 _ p q (by omega)
    · exact Finset.sum_congr rfl fun l _ => congrArg _ (columns_at xs0 1024 _ l q (by omega))
    · exact Finset.sum_congr rfl fun l _ => congrArg _ (columns_at xs1 1024 _ l q (by omega))
  case piece2 =>
    have ek : k = 1 := Fin.ext (by have : k.val * 512 + q.val = 512 + (x 1).val := hx1; show k.val = 1; omega)
    have ex : x = ix2 p q := ext2 hx0.symm (by have : k.val * 512 + q.val = 512 + (x 1).val := hx1; show (x 1).val = q.val; omega)
    subst ek ex
    refine (tile1 x0 x1 _ _ _ p q).trans (congrArg₂ (fun a f => a f) (congrArg₂ entry ?_ ?_) ?_)
    · exact columns_at x0 512 _ p q (by omega)
    · exact Finset.sum_congr rfl fun l _ => congrArg _ (columns_at xs0 512 _ l q (by omega))
    · exact Finset.sum_congr rfl fun l _ => congrArg _ (columns_at xs1 512 _ l q (by omega))
  case piece3 =>
    have ek : k = 0 := Fin.ext (by have : k.val * 512 + q.val = (x 1).val := hx1; show k.val = 0; omega)
    have ex : x = ix2 p q := ext2 hx0.symm (by have : k.val * 512 + q.val = (x 1).val := hx1; show (x 1).val = q.val; omega)
    subst ek ex
    refine (tile0 x0 x1 _ _ _ p q).trans (congrArg₂ (fun a f => a f) (congrArg₂ entry ?_ ?_) ?_)
    · exact columns_at x0 0 _ p q (by omega)
    · exact Finset.sum_congr rfl fun l _ => congrArg _ (columns_at xs0 0 _ l q (by omega))
    · exact Finset.sum_congr rfl fun l _ => congrArg _ (columns_at xs1 0 _ l q (by omega))

/-- What the first grid point leaves for the later ones: the weights it fetched. -/
theorem kept0 (c : Dev nD) (i : grid0.Coords) (arg1 harg1 arg2 harg2 arg3 harg3 arg6 harg6 arg7 harg7 arg8 harg8 arg9 harg9 arg10 harg10 arg11 harg11 hc0 hc1)
    (x0 : Vec Ideal S832x2048 .f32) (x1 : Vec Ideal S832x256 .bf16) (x2 : Vec Ideal S2048x256 .f32) (fh0 : HbBuf0 (F := Ideal) c hbM0_0) (fh1 : HbBuf0 (F := Ideal) c hbM0_1) :
    sout0_A_0 (F := Ideal) c i arg1 harg1 arg2 harg2 arg3 harg3 arg6 harg6 arg7 harg7 arg8 harg8 arg9 harg9 arg10 harg10 arg11 harg11 hc0 hc1 x0 x1 x2 fh0 fh1 = fh0 := by
  frame_out
  exact canon_whole fh0

/-- What the first grid point leaves for the later ones: the weights it fetched. -/
theorem kept1 (c : Dev nD) (i : grid0.Coords) (arg1 harg1 arg2 harg2 arg3 harg3 arg6 harg6 arg7 harg7 arg8 harg8 arg9 harg9 arg10 harg10 arg11 harg11 hc0 hc1)
    (x0 : Vec Ideal S832x2048 .f32) (x1 : Vec Ideal S832x256 .bf16) (x2 : Vec Ideal S2048x256 .f32) (fh0 : HbBuf0 (F := Ideal) c hbM0_0) (fh1 : HbBuf0 (F := Ideal) c hbM0_1) :
    sout0_A_1 (F := Ideal) c i arg1 harg1 arg2 harg2 arg3 harg3 arg6 harg6 arg7 harg7 arg8 harg8 arg9 harg9 arg10 harg10 arg11 harg11 hc0 hc1 x0 x1 x2 fh0 fh1 = fh1 := by
  frame_out
  exact canon_whole fh1

theorem idx0 : ∀ t : Fin cfg0.N, win0_0.index t = ![t.val, 0] := (by decide +kernel : ∀ t : Fin grid0.N, win0_0.index t = ![t.val, 0])
theorem idx1 : ∀ t : Fin cfg0.N, win0_1.index t = ![t.val, 0] := (by decide +kernel : ∀ t : Fin grid0.N, win0_1.index t = ![t.val, 0])
theorem idx3 : ∀ t : Fin cfg0.N, win0_3.index t = ![t.val, 0] := (by decide +kernel : ∀ t : Fin grid0.N, win0_3.index t = ![t.val, 0])

/-- The embeddings and the weights as the region reads them: rounded to the shorter format, the weights without their leading axis. -/
def embeds (x : FVec Ideal S8320x256 .f32) : FVec Ideal S8320x256 .bf16 := truncf .bf16 x bitsLt_bf16_f32
def gate (w : FVec Ideal S1x2048x2048 .f32) : FVec Ideal S2048x2048 .bf16 :=
  truncf .bf16 (shapeCast S2048x2048 w shapeCasts_S1x2048x2048_S2048x2048) bitsLt_bf16_f32
def weight (w : FVec Ideal S1x256x2048 .f32) : FVec Ideal S256x2048 .bf16 :=
  truncf .bf16 (shapeCast S256x2048 w shapeCasts_S1x256x2048_S256x2048) bitsLt_bf16_f32

/-- They at an index. -/
theorem embeds_apply (x : FVec Ideal S8320x256 .f32) (r : Fin 8320) (l : Fin 256) : embeds x (ix2 r l) = x (ix2 r l) := by
  pointwise [embeds]
theorem gate_apply (w : FVec Ideal S1x2048x2048 .f32) (l j : Fin 2048) : gate w (ix2 l j) = w (ix3 0 l j) := by
  pointwise [gate]
theorem weight_apply (w : FVec Ideal S1x256x2048 .f32) (l : Fin 256) (j : Fin 2048) : weight w (ix2 l j) = w (ix3 0 l j) := by
  pointwise [weight]

variable (m : (ℓ : Loc nD τ sig) → Buf (Elt Ideal) ℓ)

/-- The arrays the region reads, from the arguments. -/
theorem V_p (c : Dev nD) : Gen.V m c main_v0 = embeds (m ((c : Thread nD τ).loc main_arg1)) := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl
theorem V_g (c : Dev nD) : Gen.V m c main_v2 = gate (m ((c : Thread nD τ).loc main_arg2)) := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl
theorem V_w (c : Dev nD) : Gen.V m c main_v4 = weight (m ((c : Thread nD τ).loc main_arg3)) := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

variable (d : Dev nD)

/-- After every grid point the kept weights are the two weight arrays. -/
theorem weights (n : Nat) (hn : n < cfg0.N) :
    (outsAt0 m d n hn).2.2.2.2.1 = Gen.V m d main_v2 ∧ (outsAt0 m d n hn).2.2.2.2.2 = Gen.V m d main_v4 := by
  have hN : n < 10 := lt_of_lt_of_eq hn N_0
  induction n with
  | zero =>
    rw [outsAt0_A m d ⟨0, hn⟩ rfl rfl]
    dsimp only
    exact ⟨kept0 _ _ _ _ _ _ _ _ _ _ _ _ _ _ _ _ _ _ _ _ _ _ _ _ _ _ _, kept1 _ _ _ _ _ _ _ _ _ _ _ _ _ _ _ _ _ _ _ _ _ _ _ _ _ _ _⟩
  | succ n ih =>
    rw [outsAt0_B m d ⟨n + 1, hn⟩ (show ¬ (n + 1) % 10 = 0 by omega) (show ¬ (n + 1) % 10 = 0 by omega)]
    exact ih (Nat.lt_of_succ_lt hn) (by omega)

variable (t : Fin cfg0.N)

theorem lt_N : t.val < 10 := lt_of_lt_of_eq t.isLt N_0

theorem block_x (p : Fin 832) (l : Fin 2048) : (show Vec Ideal S832x2048 .f32 from iblk m d 0 t) (ix2 p l)
    = m ((d : Thread nD τ).loc main_arg0) (ix2 ⟨t.val * 832 + p.val, by have := lt_N t; omega⟩ l) := by
  have := lt_N t
  refine Eq.trans (b := Gen.V m d main_arg0 (ix2 ⟨t.val * 832 + p.val, by omega⟩ l)) ?_ ?_
  · blk_ext [iblk, idx0 t]
  · rw [V_main_arg0]

theorem block_p (p : Fin 832) (l : Fin 256) : (show Vec Ideal S832x256 .bf16 from iblk m d 1 t) (ix2 p l)
    = m ((d : Thread nD τ).loc main_arg1) (ix2 ⟨t.val * 832 + p.val, by have := lt_N t; omega⟩ l) := by
  have := lt_N t
  refine Eq.trans (b := Gen.V m d main_v0 (ix2 ⟨t.val * 832 + p.val, by omega⟩ l)) ?_ ?_
  · blk_ext [iblk, idx1 t]
  · rw [V_p]; exact embeds_apply _ _ _

/-- A grid point's block, from the arguments. -/
theorem block_result (p : Fin 832) (q : Fin 2048) :
    block (show Vec Ideal S832x2048 .f32 from iblk m d 0 t) (show Vec Ideal S832x256 .bf16 from iblk m d 1 t) (Gen.V m d main_v2) (Gen.V m d main_v4) p q
      = result (m ((d : Thread nD τ).loc main_arg0)) (m ((d : Thread nD τ).loc main_arg1)) (m ((d : Thread nD τ).loc main_arg2))
          (m ((d : Thread nD τ).loc main_arg3)) (ix2 ⟨t.val * 832 + p.val, by have := lt_N t; omega⟩ q) := by
  rw [result_apply, V_g, V_w]
  exact congrArg₂ (fun a f => a f) (congrArg₂ entry (block_x m d t p q)
      (Finset.sum_congr rfl fun l _ => congrArg₂ _ (block_x m d t p l) (gate_apply _ l q)))
    (Finset.sum_congr rfl fun l _ => congrArg₂ _ (block_p m d t p l) (weight_apply _ l q))

/-- The call's result. -/
theorem final3 : (dats m 0 d).arrAt 3 cfg0.N = result (m ((d : Thread nD τ).loc main_arg0)) (m ((d : Thread nD τ).loc main_arg1))
    (m ((d : Thread nD τ).loc main_arg2)) (m ((d : Thread nD τ).loc main_arg3)) := by
  refine (dats m 0 d).arrAt_eq_of_covers 3 _ (by decide +kernel) fun t _ y => ?_
  blk_simp
  have ht := lt_N t
  obtain ⟨p, k, q, rfl⟩ : ∃ (p : Fin 832) (k : Fin 4) (q : Fin 512), y = ix2 p ⟨k.val * 512 + q.val, by omega⟩ :=
    ⟨⟨(y 0).val, (y 0).isLt⟩, ⟨(y 1).val / 512, by have : (y 1).val < 2048 := (y 1).isLt; omega⟩, ⟨(y 1).val % 512, by omega⟩,
      ext2 rfl (by show (y 1).val = (y 1).val / 512 * 512 + (y 1).val % 512; omega)⟩
  refine Eq.trans (b := result (m ((d : Thread nD τ).loc main_arg0)) (m ((d : Thread nD τ).loc main_arg1))
    (m ((d : Thread nD τ).loc main_arg2)) (m ((d : Thread nD τ).loc main_arg3))
    (ix2 ⟨t.val * 832 + p.val, by omega⟩ ⟨k.val * 512 + q.val, by omega⟩)) ?_ ?_
  · rw [after0_3]
    refine Eq.trans ?_ (block_result m d t p _)
    by_cases h : t.val % 10 = 0
    · rw [outsAt0_A m d t h h]
      dsimp only
      exact first_apply ..
    · rw [outsAt0_B m d t h h]
      obtain ⟨e0, e1⟩ := weights m d (t.val - 1) (Nat.lt_of_le_of_lt (Nat.sub_le _ _) t.isLt)
      dsimp only
      refine (later_apply ..).trans ?_
      rw [e0, e1]
  · blk_ext [idx3 t]

theorem frame : Cert.quiescent_Kernel5 (hKernel5 := Cert.Kernel5.Gen.facts) := fun m g _ => Cert.Kernel5.Gen.frame m g

theorem frame_ideal : Cert.quiescent_Kernel5Ideal (hKernel5Ideal := Cert.Kernel5Ideal.Gen.facts) :=
  fun m g _ => Cert.Kernel5Ideal.Gen.frame m g

theorem frame_reference : Cert.quiescent_Reference5Ideal (hReference5Ideal := Cert.Reference5Ideal.Gen.facts) :=
  fun m g _ => (θ_run Cert.Reference5Ideal.defs _ _).mono
    (fun r h => ⟨fun c => (h c).2, Idealize.ShloMosaic.sem_eq_zero_of_no_sems (by decide) r.2⟩)
    (Cert.Reference5Ideal.Value.run (F := Ideal) m g)

/-- The call's result is the reference's, as extended reals, at every input. -/
theorem value : Cert.algebraic_Kernel5Ideal_Reference5Ideal (hKernel5Ideal := Cert.Kernel5Ideal.Gen.facts)
    (hReference5Ideal := Cert.Reference5Ideal.Gen.facts) := by
  intro m g m' g' _ hagree
  refine ⟨fun c => result (m ((c.tc : Thread _ _).loc main_arg0)) (m ((c.tc : Thread _ _).loc main_arg1))
    (m ((c.tc : Thread _ _).loc main_arg2)) (m ((c.tc : Thread _ _).loc main_arg3)), ?_, ?_⟩
  · exact (θ_run Cert.Kernel5Ideal.defs _ _).mono (fun _ h c => ⟨(h c).1.trans (final3 m c), (h c).2.2.2.2⟩)
      (Cert.Kernel5Ideal.Value.run_blocks (F := Ideal) m g)
  · refine (θ_run Cert.Reference5Ideal.defs _ _).mono (fun _ h c => ?_) (Cert.Reference5Ideal.Value.run (F := Ideal) m' g')
    obtain ⟨e0, e1, e2, e3, e4, e5⟩ := hagree c
    refine ⟨(h c).1.trans ?_, (h c).2⟩
    rw [e0, e1, e2, e3]; rfl

end Cert.Ple
-- ==== Proof.AttnMath.lean ====
/-
  The arithmetic of the sample's attention: a softmax over a window, the same softmax gathered from a masked cache and the new
  rows, and the joining of three softmaxes, either by their running maxima or by the logarithms of their sums.
-/
module

public import Idealize.ShloMosaic.Lib.Pipeline.ValueKit

@[expose] public section

noncomputable section

open Idealize.ShloMosaic

namespace Cert.Attn

/-- The greatest of a window's scores. -/
def top {n : Nat} (t : Fin n → EReal) : EReal := Finset.univ.sup t

/-- A score's weight against a given maximum. -/
def weight (m x : EReal) : EReal := Ideal.exp (x - m)

/-- The sum of a window's weights. -/
def den {n : Nat} (t : Fin n → EReal) : EReal := ∑ j, weight (top t) (t j)

/-- The weighted sum of a window's values. -/
def num {n : Nat} (t v : Fin n → EReal) : EReal := ∑ j, weight (top t) (t j) * v j

theorem weight_bot (m : EReal) : weight m ⊥ = 0 := by
  unfold weight; rw [EReal.bot_sub]; rfl

/-- A maximum over a window with one more score. -/
theorem top_succ (t : Fin 129 → EReal) : top t = max (top fun j : Fin 128 => t j.castSucc) (t (Fin.last 128)) := by
  apply le_antisymm
  · refine Finset.sup_le fun j _ => ?_
    rcases Fin.eq_castSucc_or_eq_last j with ⟨i, rfl⟩ | rfl
    · exact le_max_of_le_left (Finset.le_sup (f := fun j : Fin 128 => t j.castSucc) (Finset.mem_univ i))
    · exact le_max_right _ _
  · exact max_le (Finset.sup_le fun j _ => Finset.le_sup (f := t) (Finset.mem_univ _)) (Finset.le_sup (f := t) (Finset.mem_univ _))

/-- A sum over a cache's places from the `s`-th on and over the new places up to the `s`-th is the sum over the window from `s`. -/
theorem sum_window (f : ℕ → EReal) (s : ℕ) (hs : s < 4) :
    (∑ j : Fin 128, if s ≤ j.val then f j.val else 0) + ∑ i ∈ Finset.range (s + 1), f (128 + i) = ∑ j : Fin 129, f (s + j.val) := by
  rw [Fin.sum_univ_eq_sum_range (fun i => if s ≤ i then f i else 0) 128, Fin.sum_univ_eq_sum_range (fun i => f (s + i)) 129]
  have e1 : (∑ i ∈ Finset.range 128, if s ≤ i then f i else 0) = ∑ i ∈ Finset.Ico s 128, f i := by
    rw [← Finset.sum_filter]
    refine Finset.sum_congr (Finset.ext fun i => ?_) fun _ _ => rfl
    simp only [Finset.mem_filter, Finset.mem_range, Finset.mem_Ico]
    omega
  have e2 : (∑ i ∈ Finset.range (s + 1), f (128 + i)) = ∑ i ∈ Finset.Ico 128 (s + 129), f i := by
    rw [Finset.sum_Ico_eq_sum_range]
    congr 2
  have e3 : (∑ i ∈ Finset.range 129, f (s + i)) = ∑ i ∈ Finset.Ico s (s + 129), f i := by
    rw [Finset.sum_Ico_eq_sum_range]
    congr 2
    rw [Nat.add_sub_cancel_left]
  rw [e1, e2, e3]
  exact Finset.sum_Ico_consecutive f (by omega) (by omega)

/-- The same for the maximum. -/
theorem top_window (f : ℕ → EReal) (s : ℕ) (hs : s < 4) :
    max (top fun j : Fin 128 => if s ≤ j.val then f j.val else ⊥) ((Finset.range (s + 1)).sup fun i => f (128 + i))
      = top fun j : Fin 129 => f (s + j.val) := by
  apply le_antisymm
  · refine max_le (Finset.sup_le fun j _ => ?_) (Finset.sup_le fun i hi => ?_)
    · by_cases h : s ≤ j.val
      · rw [if_pos h]
        have := Finset.le_sup (f := fun j : Fin 129 => f (s + j.val)) (Finset.mem_univ (⟨j.val - s, by omega⟩ : Fin 129))
        simpa only [Nat.add_sub_cancel' h, top] using this
      · rw [if_neg h]; exact bot_le
    · have hi' := Finset.mem_range.1 hi
      have := Finset.le_sup (f := fun j : Fin 129 => f (s + j.val)) (Finset.mem_univ (⟨128 + i - s, by omega⟩ : Fin 129))
      have e : s + (128 + i - s) = 128 + i := by omega
      simpa only [e, top] using this
  · refine Finset.sup_le fun j _ => ?_
    by_cases h : s + j.val < 128
    · refine le_max_of_le_left ?_
      have := Finset.le_sup (f := fun j : Fin 128 => if s ≤ j.val then f j.val else ⊥) (Finset.mem_univ (⟨s + j.val, h⟩ : Fin 128))
      simpa only [Nat.le_add_right, if_true, top] using this
    · refine le_max_of_le_right ?_
      have := Finset.le_sup (f := fun i => f (128 + i)) (Finset.mem_range.2 (by omega : s + j.val - 128 < s + 1))
      have e : 128 + (s + j.val - 128) = s + j.val := by omega
      simpa only [e, top] using this

/-- A window of real scores has a real greatest one. -/
theorem top_real {n : Nat} (t : Fin (n + 1) → EReal) (h : ∀ j, ∃ r : ℝ, t j = (r : EReal)) : ∃ r : ℝ, top t = (r : EReal) := by
  obtain ⟨j, -, hj⟩ := Finset.exists_mem_eq_sup Finset.univ ⟨0, Finset.mem_univ _⟩ t
  obtain ⟨r, hr⟩ := h j
  exact ⟨r, hj.trans hr⟩

/-- Its weights sum to a positive real. -/
theorem den_real {n : Nat} (t : Fin (n + 1) → EReal) (h : ∀ j, ∃ r : ℝ, t j = (r : EReal)) :
    ∃ r : ℝ, 0 < r ∧ den t = (r : EReal) := by
  obtain ⟨M, hM⟩ := top_real t h
  choose r hr using h
  refine ⟨∑ j, Real.exp (r j - M), Finset.sum_pos (fun j _ => Real.exp_pos _) ⟨0, Finset.mem_univ _⟩, ?_⟩
  unfold den weight
  rw [hM]
  refine Eq.trans ?_ (map_sum (⟨⟨fun x : ℝ => (x : EReal), EReal.coe_zero⟩, EReal.coe_add⟩ : ℝ →+ EReal) _ _).symm
  refine Finset.sum_congr rfl fun j _ => ?_
  exact (congrArg (fun x => Ideal.exp (x - (M : EReal))) (hr j)).trans ((congrArg Ideal.exp (EReal.coe_sub _ _).symm).trans (Ideal.exp_coe _))

/-- Two softmaxes joined by their greatest scores: the greatest, the sum of the weights, the weighted sum. -/
def join (x y : EReal × EReal × EReal) : EReal × EReal × EReal :=
  (max x.1 y.1, weight (max x.1 y.1) x.1 * x.2.1 + weight (max x.1 y.1) y.1 * y.2.1,
    weight (max x.1 y.1) x.1 * x.2.2 + weight (max x.1 y.1) y.1 * y.2.2)

/-- Three softmaxes joined, and the quotient taken at the end. -/
def joined (x y z : EReal × EReal × EReal) : EReal := Ideal.div (join (join x y) z).2.2 (join (join x y) z).2.1

/-- Each softmax's share, from the logarithms of their sums. -/
def share (x : Fin 3 → EReal) (g : Fin 3) : EReal := Ideal.div (weight (top x) (x g)) (∑ g, weight (top x) (x g))

/-- The three quotients, each by its share. -/
def blended (m l n : Fin 3 → EReal) : EReal := ∑ g, share (fun g => m g + Ideal.log (l g)) g * Ideal.div (n g) (l g)

theorem weight_coe (a b : ℝ) : weight (a : EReal) (b : EReal) = (Real.exp (b - a) : EReal) := by
  unfold weight; rw [← EReal.coe_sub, Ideal.exp_coe]

/-- The two ways of joining agree when the greatest scores are real and the sums positive reals. -/
theorem joined_eq (m l n : Fin 3 → EReal) (hm : ∀ g, ∃ r : ℝ, m g = (r : EReal)) (hl : ∀ g, ∃ r : ℝ, 0 < r ∧ l g = (r : EReal)) :
    joined (m 0, l 0, n 0) (m 1, l 1, n 1) (m 2, l 2, n 2) = blended m l n := by
  choose M hM using hm
  choose L hpos hL using hl
  obtain ⟨m12, h12⟩ : ∃ r : ℝ, r = max (M 0) (M 1) := ⟨_, rfl⟩
  obtain ⟨mm, hmm⟩ : ∃ r : ℝ, r = max m12 (M 2) := ⟨_, rfl⟩
  have e12 : max (m 0) (m 1) = (m12 : EReal) := by rw [hM, hM, h12]; exact (EReal.coe_strictMono.monotone.map_max).symm
  have emm : max (m12 : EReal) (m 2) = (mm : EReal) := by rw [hM, hmm]; exact (EReal.coe_strictMono.monotone.map_max).symm
  -- the common factors
  have D0 : 0 < Real.exp (M 0 - mm) * L 0 + Real.exp (M 1 - mm) * L 1 + Real.exp (M 2 - mm) * L 2 := by
    have := hpos 0; have := hpos 1; have := hpos 2; positivity
  generalize hD : Real.exp (M 0 - mm) * L 0 + Real.exp (M 1 - mm) * L 1 + Real.exp (M 2 - mm) * L 2 = D at D0
  have x0 : Real.exp (m12 - mm) * Real.exp (M 0 - m12) = Real.exp (M 0 - mm) := by rw [← Real.exp_add]; congr 1; ring
  have x1 : Real.exp (m12 - mm) * Real.exp (M 1 - m12) = Real.exp (M 1 - mm) := by rw [← Real.exp_add]; congr 1; ring
  have left : joined (m 0, l 0, n 0) (m 1, l 1, n 1) (m 2, l 2, n 2)
      = ((Real.exp (M 0 - mm) : ℝ) * n 0 + (Real.exp (M 1 - mm) : ℝ) * n 1 + (Real.exp (M 2 - mm) : ℝ) * n 2) * ((1 / D : ℝ) : EReal) := by
    unfold joined join
    dsimp only
    rw [e12, emm]
    rw [hM 0, hM 1, hM 2, hL 0, hL 1, hL 2]
    simp only [weight_coe]
    have hd : (Real.exp (m12 - mm) : EReal) * ((Real.exp (M 0 - m12) : EReal) * (L 0 : EReal) + (Real.exp (M 1 - m12) : EReal) * (L 1 : EReal))
        + (Real.exp (M 2 - mm) : EReal) * (L 2 : EReal) = (D : EReal) := by
      rw [← hD, ← x0, ← x1]
      norm_cast
      ring_nf
    rw [hd, Ideal.div_coe D0.ne']
    rw [EReal.left_distrib_of_nonneg_of_ne_top (EReal.coe_nonneg.2 (Real.exp_pos _).le) (EReal.coe_ne_top _), ← mul_assoc, ← mul_assoc,
      ← EReal.coe_mul, ← EReal.coe_mul, x0, x1]
  -- the shares
  obtain ⟨y, hy⟩ : ∃ y : ℝ, top (fun g => m g + Ideal.log (l g)) = (y : EReal) := by
    refine top_real _ fun g => ⟨M g + Real.log (L g), ?_⟩
    rw [hM, hL, Ideal.log_coe, if_neg (not_le.2 (hpos g)), EReal.coe_add]
  have w : ∀ g, weight (y : EReal) (m g + Ideal.log (l g)) = ((Real.exp (mm - y) * (Real.exp (M g - mm) * L g) : ℝ) : EReal) := fun g => by
    rw [hM, hL, Ideal.log_coe, if_neg (not_le.2 (hpos g)), ← EReal.coe_add, weight_coe]
    congr 1
    calc Real.exp (M g + Real.log (L g) - y) = Real.exp ((mm - y) + ((M g - mm) + Real.log (L g))) := by congr 1; ring
      _ = _ := by rw [Real.exp_add, Real.exp_add, Real.exp_log (hpos g)]
  have tot : (∑ g, weight (y : EReal) (m g + Ideal.log (l g))) = ((Real.exp (mm - y) * D : ℝ) : EReal) := by
    rw [Fin.sum_univ_three, w, w, w, ← EReal.coe_add, ← EReal.coe_add, ← hD]
    congr 1
    ring
  have right : ∀ g, share (fun g => m g + Ideal.log (l g)) g * Ideal.div (n g) (l g)
      = (Real.exp (M g - mm) : ℝ) * n g * ((1 / D : ℝ) : EReal) := fun g => by
    unfold share
    dsimp only
    rw [hy, w, tot, Ideal.div_coe (mul_pos (Real.exp_pos _) D0).ne', hL g, Ideal.div_coe (hpos g).ne']
    rw [mul_comm (n g), ← mul_assoc, ← EReal.coe_mul, ← EReal.coe_mul]
    rw [mul_right_comm ((Real.exp (M g - mm) : ℝ) : EReal), ← EReal.coe_mul]
    congr 2
    have := (hpos g).ne'; have := D0.ne'; have := (Real.exp_pos (mm - y)).ne'
    field_simp
  rw [left]
  unfold blended
  rw [Fin.sum_univ_three, right, right, right]
  have hc : (0 : EReal) ≤ ((1 / D : ℝ) : EReal) := EReal.coe_nonneg.2 (by positivity)
  rw [EReal.right_distrib_of_nonneg_of_ne_top hc (EReal.coe_ne_top _), EReal.right_distrib_of_nonneg_of_ne_top hc (EReal.coe_ne_top _)]

end Cert.Attn
-- ==== Proof.AttnKernel.lean ====
/-
  The sample's attention as the call computes it: at each of the four steps, three softmaxes over cached and new rows, joined by
  their running maxima. Each function is stated once and the call's four stores are named by it.
-/
module

public import proofs.«01_k».proof.Defs
public import proofs.«01_k».proof.Proof.AttnMath
public import proofs.«01_k».proof.Proof.Gen.Kernel6Ideal.Value
public import Idealize.ShloMosaic.Lib.Pipeline.ValueKit

@[expose] public section

set_option maxRecDepth 16384

noncomputable section

open Idealize.ShloMosaic Idealize.ShloMosaic.TcCoe Idealize.SL.Sem

namespace Cert.Kernel6Ideal.Steps

open Cert.Kernel6Ideal Cert.Kernel6Ideal.Gen

section

variable {F : FTy → Type} [FloatOps F]

/-- The cached rows' scores. -/
def score (k : FVec F S128x8x128 .f32) (q : FVec F S8x128 .f32) : FVec F S128x8x1 .f32 :=
  mulf (shapeCast S128x8x1 (multiReduction .add [2] S128x8 (mulf k (broadcastTo S128x8x128 (shapeCast S1x8x128 q shapeCasts_S8x128_S1x8x128) broadcasts_S1x8x128_S128x8x128))
    0x00000000#32 reduces_S128x8x128_S128x8 (.inl rfl) rfl) shapeCasts_S128x8_S128x8x1) (broadcast S128x8x1 (Scalar.ofBits .f32 0x3DB504F3#32))

/-- The scores of the rows that the window still holds after `s` steps. -/
def masked (s : BitVec 32) (x : FVec F S128x8x1 .f32) : FVec F S128x8x1 .f32 :=
  select (broadcastTo S128x8x1 (shapeCast S128x1x1 (cmpi .sge (iota .tc S128x1x1 32 [0] iota_S128x1x1_d0_w32) (broadcast S128x1x1 s)) shapeCasts_S128x1x1_S128x1x1)
    broadcasts_S128x1x1_S128x8x1) x (broadcast S128x8x1 (Scalar.ofBits .f32 0xFF800000#32))

/-- A new row's score. -/
def fresh (k q : FVec F S8x128 .f32) : FVec F S8x1 .f32 :=
  mulf (shapeCast S8x1 (multiReduction .add [1] S8 (mulf k q) 0x00000000#32 reduces_S8x128_S8 (.inl rfl) rfl) shapeCasts_S8_S8x1)
    (broadcast S8x1 (Scalar.ofBits .f32 0x3DB504F3#32))

/-- The greatest score, the new rows' taken one after another. -/
def most (x : FVec F S128x8x1 .f32) (l : List (FVec F S8x1 .f32 × FVec F S8x128 .f32)) : FVec F S8x1 .f32 :=
  l.foldl (fun a n => maximumf a n.1) (multiReduction .maximumf [0] S8x1 x 0xFF800000#32 reduces_S128x8x1_S8x1 (.inl rfl) rfl)

/-- The cached rows' weights. -/
def wts (x : FVec F S128x8x1 .f32) (m : FVec F S8x1 .f32) : FVec F S128x8x1 .f32 :=
  exp (subf x (broadcastTo S128x8x1 (shapeCast S1x8x1 m shapeCasts_S8x1_S1x8x1) broadcasts_S1x8x1_S128x8x1))

/-- The sum of the weights. -/
def total (x : FVec F S128x8x1 .f32) (m : FVec F S8x1 .f32) (l : List (FVec F S8x1 .f32 × FVec F S8x128 .f32)) : FVec F S8x1 .f32 :=
  l.foldl (fun a n => addf a (exp (subf n.1 m))) (multiReduction .add [0] S8x1 (wts x m) 0x00000000#32 reduces_S128x8x1_S8x1 (.inl rfl) rfl)

/-- The weighted sum of the values. -/
def mixed (x : FVec F S128x8x1 .f32) (m : FVec F S8x1 .f32) (v : FVec F S128x8x128 .f32) (l : List (FVec F S8x1 .f32 × FVec F S8x128 .f32)) : FVec F S8x128 .f32 :=
  l.foldl (fun a n => addf a (mulf (broadcastTo S8x128 (exp (subf n.1 m)) broadcasts_S8x1_S8x128) n.2))
    (multiReduction .add [0] S8x128 (mulf (broadcastTo S128x8x128 (wts x m) broadcasts_S128x8x1_S128x8x128) v) 0x00000000#32 reduces_S128x8x128_S8x128 (.inl rfl) rfl)

/-- A softmax not yet divided: its maximum, its weights' sum and its weighted sum. -/
abbrev St (F : FTy → Type) [FloatOps F] : Type := FVec F S8x1 .f32 × FVec F S8x1 .f32 × FVec F S8x128 .f32

/-- One group's softmax over its cached rows and its new ones. -/
def soft (x : FVec F S128x8x1 .f32) (v : FVec F S128x8x128 .f32) (l : List (FVec F S8x1 .f32 × FVec F S8x128 .f32)) : St F :=
  (most x l, total x (most x l) l, mixed x (most x l) v l)

/-- Two softmaxes joined. -/
def both (a b : St F) : St F :=
  (maximumf a.1 b.1,
    addf (mulf (exp (subf a.1 (maximumf a.1 b.1))) a.2.1) (mulf (exp (subf b.1 (maximumf a.1 b.1))) b.2.1),
    addf (mulf (broadcastTo S8x128 (exp (subf a.1 (maximumf a.1 b.1))) broadcasts_S8x1_S8x128) a.2.2)
      (mulf (broadcastTo S8x128 (exp (subf b.1 (maximumf a.1 b.1))) broadcasts_S8x1_S8x128) b.2.2))

/-- The three softmaxes joined and divided. -/
def quot (a b c : St F) : FVec F S1x1x8x128 .f32 :=
  shapeCast S1x1x8x128 (divf (both (both a b) c).2.2 (broadcastTo S8x128 (both (both a b) c).2.1 broadcasts_S8x1_S8x128)) shapeCasts_S8x128_S1x1x8x128

theorem inb_row : ∀ s : Fin 4, ∀ i : Fin 9, ∀ a, (![0, s.val, i.val, 0, 0] : Fin 5 → Nat) a + S1x1x1x8x128.size a ≤ S1x4x9x8x128.size a := by decide
theorem inb_near : ∀ x : Fin 2, ∀ a, (![0, 0, x.val, 0, 0] : Fin 5 → Nat) a + S1x128x1x8x128.size a ≤ S1x128x2x8x128.size a := by decide
theorem inb_far : ∀ x : Fin 8, ∀ a, (![0, 0, x.val, 0, 0] : Fin 5 → Nat) a + S1x128x1x8x128.size a ≤ S1x128x8x8x128.size a := by decide

/-- A step's queries (`0` to `2`), new keys (`3` to `5`) or new values (`6` to `8`). -/
def row (x : Vec F S1x4x9x8x128 .f32) (s : Fin 4) (i : Fin 9) : FVec F S8x128 .f32 :=
  shapeCast S8x128 (View.ld x (Rect.unit (s := S1x4x9x8x128) ![0, s.val, i.val, 0, 0] S1x1x1x8x128.size (inb_row s i))) shapeCasts_S1x1x1x8x128_S8x128

/-- The first group's cached keys (`0`) or values (`1`). -/
def near (x : Vec F S1x128x2x8x128 .f32) (i : Fin 2) : FVec F S128x8x128 .f32 :=
  shapeCast S128x8x128 (View.ld x (Rect.unit (s := S1x128x2x8x128) ![0, 0, i.val, 0, 0] S1x128x1x8x128.size (inb_near i))) shapeCasts_S1x128x1x8x128_S128x8x128

/-- A wider group's cached keys or values of one residue. -/
def far (x : Vec F S1x128x8x8x128 .f32) (i : Fin 8) : FVec F S128x8x128 .f32 :=
  shapeCast S128x8x128 (View.ld x (Rect.unit (s := S1x128x8x8x128) ![0, 0, i.val, 0, 0] S1x128x1x8x128.size (inb_far i))) shapeCasts_S1x128x1x8x128_S128x8x128

variable (x0 : Vec F S1x4x9x8x128 .f32) (x1 : Vec F S1x128x2x8x128 .f32) (x2 x3 : Vec F S1x128x8x8x128 .f32)

/-- The first group at step `s`: the rows its window still holds, and the new rows so far. -/
def first (s : Fin 4) (w : BitVec 32) (l : List (Fin 4)) : St F :=
  soft (masked w (score (near x1 0) (row x0 s 0))) (near x1 1) (l.map fun i => (fresh (row x0 i 3) (row x0 s 0), row x0 i 6))

/-- A wider group at step `s`: the cached rows of that residue, and the new row. -/
def later (x : Vec F S1x128x8x8x128 .f32) (s : Fin 4) (a b : Fin 8) (q k v : Fin 9) : St F :=
  soft (score (far x a) (row x0 s q)) (far x b) [(fresh (row x0 s k) (row x0 s q), row x0 s v)]

/-- What the call stores at step `s`. -/
def step (s : Fin 4) (w : BitVec 32) (l : List (Fin 4)) (a b : Fin 8) : FVec F S1x1x8x128 .f32 :=
  quot (first x0 x1 s w l) (later x0 x2 s a b 1 4 7) (later x0 x3 s a b 2 5 8)

/-- The call's four stores. -/
theorem out_eq : out0_4 x0 x1 x2 x3 = View.canon [⟨r0_49, step x0 x1 x2 x3 3 3#32 [0, 1, 2, 3] 6 7⟩,
    ⟨r0_37, step x0 x1 x2 x3 2 2#32 [0, 1, 2] 4 5⟩, ⟨r0_25, step x0 x1 x2 x3 1 1#32 [0, 1] 2 3⟩,
    ⟨r0_13, step x0 x1 x2 x3 0 0#32 [0] 0 1⟩] := by
  unfold_out out0_4
  rfl

end

/-! ## The functions read at an index -/

open Cert.Attn (top weight den num joined)

theorem bits_bot : Ideal.ofBits .f32 0xFF800000#32 = ⊥ := by simp [Ideal.ofBits, Ideal.ieee]

/-- The scale of the scores. -/
abbrev scale : EReal := Ideal.ofBits .f32 0x3DB504F3#32

theorem score_apply (k : FVec Ideal S128x8x128 .f32) (q : FVec Ideal S8x128 .f32) (j : Fin 128) (h : Fin 8) :
    score k q (ix3 j h 0) = (∑ e : Fin 128, k (ix3 j h e) * q (ix2 h e)) * scale := by
  pointwise [score]

theorem fresh_apply (k q : FVec Ideal S8x128 .f32) (h : Fin 8) :
    fresh k q (ix2 h 0) = (∑ e : Fin 128, k (ix2 h e) * q (ix2 h e)) * scale := by
  pointwise [fresh]

theorem sge_row : ∀ s : Fin 4, ∀ j : Fin 128, ((BitVec.ofNat 32 s.val).sle (BitVec.ofNat 32 j.val) = true) ↔ s.val ≤ j.val := by
  decide +kernel

theorem masked_apply (s : Fin 4) (x : FVec Ideal S128x8x1 .f32) (j : Fin 128) (h : Fin 8) :
    masked (BitVec.ofNat 32 s.val) x (ix3 j h 0) = if s.val ≤ j.val then x (ix3 j h 0) else ⊥ := by
  have hs := sge_row s j
  rw [← bits_bot]
  pointwise [masked]
  by_cases hj : s.val ≤ j.val
  · rw [if_pos hj]
    exact if_pos (by rw [show IntOp.cmpi CmpIPredicate.sge (BitVec.ofNat 32 j.val) (BitVec.ofNat 32 s.val)
      = BitVec.ofBool ((BitVec.ofNat 32 s.val).sle (BitVec.ofNat 32 j.val)) from rfl, hs.2 hj]; rfl)
  · rw [if_neg hj]
    exact if_neg (by rw [show IntOp.cmpi CmpIPredicate.sge (BitVec.ofNat 32 j.val) (BitVec.ofNat 32 s.val)
      = BitVec.ofBool ((BitVec.ofNat 32 s.val).sle (BitVec.ofNat 32 j.val)) from rfl, Bool.eq_false_iff.2 (mt hs.1 hj)]; decide)

theorem most_apply (x : FVec Ideal S128x8x1 .f32) (l : List (FVec Ideal S8x1 .f32 × FVec Ideal S8x128 .f32)) (h : Fin 8) :
    most x l (ix2 h 0) = l.foldl (fun a n => max a (n.1 (ix2 h 0))) (top fun j => x (ix3 j h 0)) := by
  have h0 : multiReduction .maximumf [0] S8x1 x 0xFF800000#32 reduces_S128x8x1_S8x1 (.inl rfl) rfl (ix2 h 0) = top fun j => x (ix3 j h 0) := by
    pointwise []
    rw [bits_bot]; rfl
  rw [← h0]
  unfold most
  generalize multiReduction .maximumf [0] S8x1 x 0xFF800000#32 reduces_S128x8x1_S8x1 (.inl rfl) rfl = a
  induction l generalizing a with
  | nil => rfl
  | cons n l ih => exact ih _

theorem wts_apply (x : FVec Ideal S128x8x1 .f32) (m : FVec Ideal S8x1 .f32) (j : Fin 128) (h : Fin 8) :
    wts x m (ix3 j h 0) = weight (m (ix2 h 0)) (x (ix3 j h 0)) := by
  pointwise [wts, weight]

theorem total_apply (x : FVec Ideal S128x8x1 .f32) (m : FVec Ideal S8x1 .f32) (l : List (FVec Ideal S8x1 .f32 × FVec Ideal S8x128 .f32)) (h : Fin 8) :
    total x m l (ix2 h 0) = l.foldl (fun a n => a + weight (m (ix2 h 0)) (n.1 (ix2 h 0))) (∑ j : Fin 128, weight (m (ix2 h 0)) (x (ix3 j h 0))) := by
  simp only [← wts_apply]
  have h0 : multiReduction .add [0] S8x1 (wts x m) 0x00000000#32 reduces_S128x8x1_S8x1 (.inl rfl) rfl (ix2 h 0) = ∑ j : Fin 128, wts x m (ix3 j h 0) := by
    pointwise []
  rw [← h0]
  unfold total
  generalize multiReduction .add [0] S8x1 (wts x m) 0x00000000#32 reduces_S128x8x1_S8x1 (.inl rfl) rfl = a
  induction l generalizing a with
  | nil => rfl
  | cons n l ih => exact ih _

theorem mixed_apply (x : FVec Ideal S128x8x1 .f32) (m : FVec Ideal S8x1 .f32) (v : FVec Ideal S128x8x128 .f32)
    (l : List (FVec Ideal S8x1 .f32 × FVec Ideal S8x128 .f32)) (h : Fin 8) (e : Fin 128) :
    mixed x m v l (ix2 h e) = l.foldl (fun a n => a + weight (m (ix2 h 0)) (n.1 (ix2 h 0)) * n.2 (ix2 h e))
      (∑ j : Fin 128, weight (m (ix2 h 0)) (x (ix3 j h 0)) * v (ix3 j h e)) := by
  simp only [← wts_apply]
  have h0 : multiReduction .add [0] S8x128 (mulf (broadcastTo S128x8x128 (wts x m) broadcasts_S128x8x1_S128x8x128) v) 0x00000000#32
      reduces_S128x8x128_S8x128 (.inl rfl) rfl (ix2 h e) = ∑ j : Fin 128, wts x m (ix3 j h 0) * v (ix3 j h e) := by
    pointwise []
  rw [← h0]
  unfold mixed
  generalize multiReduction .add [0] S8x128 (mulf (broadcastTo S128x8x128 (wts x m) broadcasts_S128x8x1_S128x8x128) v) 0x00000000#32
      reduces_S128x8x128_S8x128 (.inl rfl) rfl = a
  induction l generalizing a with
  | nil => rfl
  | cons n l ih => exact (ih _).trans (congrArg (fun z => List.foldl _ z l) (by pointwise [weight]))

/-- A softmax at a head and a lane. -/
def pick (a : St Ideal) (h : Fin 8) (e : Fin 128) : EReal × EReal × EReal := (a.1 (ix2 h 0), a.2.1 (ix2 h 0), a.2.2 (ix2 h e))

theorem both_apply (a b : St Ideal) (h : Fin 8) (e : Fin 128) : pick (both a b) h e = Cert.Attn.join (pick a h e) (pick b h e) := by
  unfold pick both Cert.Attn.join
  refine Prod.ext rfl (Prod.ext ?_ ?_)
  · pointwise [weight]
  · pointwise [weight]

theorem quot_apply (a b c : St Ideal) (h : Fin 8) (e : Fin 128) : quot a b c (ix4 0 0 h e) = joined (pick a h e) (pick b h e) (pick c h e) := by
  unfold joined
  rw [← both_apply, ← both_apply]
  unfold pick
  pointwise [quot]

theorem row_apply (x : Vec Ideal S1x4x9x8x128 .f32) (s : Fin 4) (i : Fin 9) (h : Fin 8) (e : Fin 128) : row x s i (ix2 h e) = x (ix5 0 s i h e) := by
  have hc : ∀ y : FVec Ideal S1x1x1x8x128 .f32, shapeCast S8x128 y shapeCasts_S1x1x1x8x128_S8x128 (ix2 h e) = y (ix5 0 0 0 h e) := by
    intro y; pointwise []
  refine (hc _).trans (View.ld_unit_apply_of x _ _ _ _ _ fun a => ?_)
  match a with
  | ⟨0, _⟩ => rfl
  | ⟨1, _⟩ => rfl
  | ⟨2, _⟩ => rfl
  | ⟨3, _⟩ => exact (Nat.zero_add _).symm
  | ⟨4, _⟩ => exact (Nat.zero_add _).symm

theorem near_apply (x : Vec Ideal S1x128x2x8x128 .f32) (i : Fin 2) (j : Fin 128) (h : Fin 8) (e : Fin 128) : near x i (ix3 j h e) = x (ix5 0 j i h e) := by
  have hc : ∀ y : FVec Ideal S1x128x1x8x128 .f32, shapeCast S128x8x128 y shapeCasts_S1x128x1x8x128_S128x8x128 (ix3 j h e) = y (ix5 0 j 0 h e) := by
    intro y; pointwise []
  refine (hc _).trans (View.ld_unit_apply_of x _ _ _ _ _ fun a => ?_)
  match a with
  | ⟨0, _⟩ => rfl
  | ⟨1, _⟩ => exact (Nat.zero_add _).symm
  | ⟨2, _⟩ => rfl
  | ⟨3, _⟩ => exact (Nat.zero_add _).symm
  | ⟨4, _⟩ => exact (Nat.zero_add _).symm

theorem far_apply (x : Vec Ideal S1x128x8x8x128 .f32) (i : Fin 8) (j : Fin 128) (h : Fin 8) (e : Fin 128) : far x i (ix3 j h e) = x (ix5 0 j i h e) := by
  have hc : ∀ y : FVec Ideal S1x128x1x8x128 .f32, shapeCast S128x8x128 y shapeCasts_S1x128x1x8x128_S128x8x128 (ix3 j h e) = y (ix5 0 j 0 h e) := by
    intro y; pointwise []
  refine (hc _).trans (View.ld_unit_apply_of x _ _ _ _ _ fun a => ?_)
  match a with
  | ⟨0, _⟩ => rfl
  | ⟨1, _⟩ => exact (Nat.zero_add _).symm
  | ⟨2, _⟩ => rfl
  | ⟨3, _⟩ => exact (Nat.zero_add _).symm
  | ⟨4, _⟩ => exact (Nat.zero_add _).symm

/-! ## Each group's softmax, over its window -/

theorem foldl_max (n : Nat) (a : EReal) (f : Nat → EReal) : (List.range n).foldl (fun a i => max a (f i)) a = max a ((Finset.range n).sup f) := by
  induction n with
  | zero => simp
  | succ n ih => rw [List.range_succ, List.foldl_append, ih, Finset.range_add_one, Finset.sup_insert]; simp only [List.foldl_cons, List.foldl_nil]; rw [max_assoc, max_comm (f n)]

theorem foldl_sum (n : Nat) (a : EReal) (f : Nat → EReal) : (List.range n).foldl (fun a i => a + f i) a = a + ∑ i ∈ Finset.range n, f i := by
  induction n with
  | zero => simp
  | succ n ih => rw [List.range_succ, List.foldl_append, ih, Finset.sum_range_succ]; exact add_assoc _ _ _

/-- The first group: the cached rows the window still holds, then the new ones. -/
theorem soft_first (s : Fin 4) (x : FVec Ideal S128x8x1 .f32) (v : FVec Ideal S128x8x128 .f32) (n : Nat → FVec Ideal S8x1 .f32 × FVec Ideal S8x128 .f32)
    (h : Fin 8) (e : Fin 128) (f g : Nat → EReal) (hx : ∀ j : Fin 128, x (ix3 j h 0) = f j.val) (hv : ∀ j : Fin 128, v (ix3 j h e) = g j.val)
    (hn : ∀ i ≤ s.val, (n i).1 (ix2 h 0) = f (128 + i) ∧ (n i).2 (ix2 h e) = g (128 + i)) :
    pick (soft (masked (BitVec.ofNat 32 s.val) x) v ((List.range (s.val + 1)).map n)) h e
      = ((top fun j : Fin 129 => f (s.val + j.val)), (den fun j : Fin 129 => f (s.val + j.val)), num (fun j : Fin 129 => f (s.val + j.val)) fun j => g (s.val + j.val)) := by
  have hm : most (masked (BitVec.ofNat 32 s.val) x) ((List.range (s.val + 1)).map n) (ix2 h 0) = top fun j : Fin 129 => f (s.val + j.val) := by
    rw [most_apply, List.foldl_map, foldl_max _ _ fun i => (n i).1 (ix2 h 0), ← Cert.Attn.top_window f s.val s.isLt]
    congr 1
    · exact congrArg top (funext fun j => by rw [masked_apply, hx])
    · exact Finset.sup_congr rfl fun i hi => (hn i (Nat.le_of_lt_succ (Finset.mem_range.1 hi))).1
  unfold pick soft
  refine Prod.ext hm (Prod.ext ?_ ?_)
  · dsimp only
    rw [total_apply, hm, List.foldl_map, foldl_sum _ _ fun i => weight _ ((n i).1 (ix2 h 0))]
    refine Eq.trans ?_ (Cert.Attn.sum_window (fun r => weight (top fun j : Fin 129 => f (s.val + j.val)) (f r)) s.val s.isLt)
    congr 1
    · refine Finset.sum_congr rfl fun j _ => ?_
      rw [masked_apply, hx, apply_ite (weight _), Cert.Attn.weight_bot]
    · exact Finset.sum_congr rfl fun i hi => by rw [(hn i (Nat.le_of_lt_succ (Finset.mem_range.1 hi))).1]
  · dsimp only
    rw [mixed_apply, hm, List.foldl_map, foldl_sum _ _ fun i => weight _ ((n i).1 (ix2 h 0)) * (n i).2 (ix2 h e)]
    refine Eq.trans ?_ (Cert.Attn.sum_window (fun r => weight (top fun j : Fin 129 => f (s.val + j.val)) (f r) * g r) s.val s.isLt)
    congr 1
    · refine Finset.sum_congr rfl fun j _ => ?_
      rw [masked_apply, hx, hv, apply_ite (weight _), Cert.Attn.weight_bot, ite_mul, zero_mul]
    · refine Finset.sum_congr rfl fun i hi => ?_
      obtain ⟨h1, h2⟩ := hn i (Nat.le_of_lt_succ (Finset.mem_range.1 hi))
      rw [h1, h2]

/-- A wider group: the cached rows of a residue, then the new row. -/
theorem soft_later (x : FVec Ideal S128x8x1 .f32) (v : FVec Ideal S128x8x128 .f32) (n : FVec Ideal S8x1 .f32 × FVec Ideal S8x128 .f32)
    (h : Fin 8) (e : Fin 128) (f g : Fin 129 → EReal) (hx : ∀ j : Fin 128, x (ix3 j h 0) = f j.castSucc) (hv : ∀ j : Fin 128, v (ix3 j h e) = g j.castSucc)
    (hn : n.1 (ix2 h 0) = f (Fin.last 128)) (hw : n.2 (ix2 h e) = g (Fin.last 128)) : pick (soft x v [n]) h e = (top f, den f, num f g) := by
  have hm : most x [n] (ix2 h 0) = top f := by
    rw [most_apply, Cert.Attn.top_succ, ← hn]
    exact congrArg (fun t => max (top t) _) (funext hx)
  unfold pick soft
  refine Prod.ext hm (Prod.ext ?_ ?_)
  · dsimp only
    refine Eq.trans ?_ (Fin.sum_univ_castSucc (n := 128) _).symm
    rw [total_apply, hm, ← hn]
    exact congrArg (· + _) (Finset.sum_congr rfl fun j _ => by rw [hx])
  · dsimp only
    refine Eq.trans ?_ (Fin.sum_univ_castSucc (n := 128) _).symm
    rw [mixed_apply, hm, ← hn, ← hw]
    exact congrArg (· + _) (Finset.sum_congr rfl fun j _ => by rw [hx, hv])

end Cert.Kernel6Ideal.Steps
-- ==== Proof.AttnRef.lean ====
/-
  The sample's attention as the reference writes it, step by step, and each step read at an index.
-/
module

public import proofs.«01_k».proof.Defs
public import proofs.«01_k».proof.Proof.AttnMath
public import proofs.«01_k».proof.Proof.Gen.Reference6Ideal.Run
public import Idealize.ShloMosaic.Lib.Pipeline.ValueKit

@[expose] public section

set_option maxRecDepth 16384

noncomputable section

open Idealize.ShloMosaic Idealize.ShloMosaic.TcCoe Idealize.SL.Sem Idealize.ShloMosaic.StableHlo

namespace Cert.Reference6Ideal.Reading

open Cert.Reference6Ideal Cert.Reference6Ideal.Gen

variable {F : FTy → Type} [FloatOps F]

theorem slices_part : ∀ c g : Fin 3, S32x4x3x3x8x128.Slices ![0, 0, c.val, g.val, 0, 0] S32x4x1x1x8x128 := by decide

/-- A group's queries (`0`), keys (`1`) or values (`2`) among the new rows. -/
def part (u : FVec F S128x9216 .f32) (c g : Fin 3) : FVec F S32x4x8x128 .f32 :=
  shapeCast S32x4x8x128 (extractStridedSlice S32x4x1x1x8x128 ![0, 0, c.val, g.val, 0, 0]
    (shapeCast S32x4x3x3x8x128 u shapeCasts_S128x9216_S32x4x3x3x8x128) (slices_part c g)) shapeCasts_S32x4x1x1x8x128_S32x4x8x128

/-- A group's new keys and values, beside each other. -/
def pair (u : FVec F S128x9216 .f32) (g : Fin 3) : FVec F S32x4x2x8x128 .f32 :=
  concatenate S32x4x2x8x128 2 [⟨S32x4x1x8x128, (broadcastInDim S32x4x1x8x128 ![0, 1, 3, 4] bcast_S32x4x8x128_S32x4x1x8x128_0_1_3_4 (part u 1 g))⟩,
    ⟨S32x4x1x8x128, (broadcastInDim S32x4x1x8x128 ![0, 1, 3, 4] bcast_S32x4x8x128_S32x4x1x8x128_0_1_3_4 (part u 2 g))⟩] concatenates_S32x4x1x8x128_S32x4x1x8x128_S32x4x2x8x128_d2

/-- The first group's cached rows and the new ones. -/
def rows1 (u : FVec F S128x9216 .f32) (c : FVec F S1x32x128x2x8x128 .f32) : FVec F S32x132x2x8x128 .f32 :=
  concatenate S32x132x2x8x128 1 [⟨S32x128x2x8x128, (shapeCast S32x128x2x8x128 c shapeCasts_S1x32x128x2x8x128_S32x128x2x8x128)⟩,
    ⟨S32x4x2x8x128, pair u 0⟩] concatenates_S32x128x2x8x128_S32x4x2x8x128_S32x132x2x8x128_d1

/-- The second group's. -/
def rows2 (u : FVec F S128x9216 .f32) (c : FVec F S1x32x512x2x8x128 .f32) : FVec F S32x516x2x8x128 .f32 :=
  concatenate S32x516x2x8x128 1 [⟨S32x512x2x8x128, (shapeCast S32x512x2x8x128 c shapeCasts_S1x32x512x2x8x128_S32x512x2x8x128)⟩,
    ⟨S32x4x2x8x128, pair u 1⟩] concatenates_S32x512x2x8x128_S32x4x2x8x128_S32x516x2x8x128_d1

/-- The third group's. -/
def rows3 (u : FVec F S128x9216 .f32) (c : FVec F S1x32x2048x2x8x128 .f32) : FVec F S32x2052x2x8x128 .f32 :=
  concatenate S32x2052x2x8x128 1 [⟨S32x2048x2x8x128, (shapeCast S32x2048x2x8x128 c shapeCasts_S1x32x2048x2x8x128_S32x2048x2x8x128)⟩,
    ⟨S32x4x2x8x128, pair u 2⟩] concatenates_S32x2048x2x8x128_S32x4x2x8x128_S32x2052x2x8x128_d1

/-- Four arrays, one for each new row, as one. -/
def stack (f : Fin 4 → FVec F S32x129x8x128 .f32) : FVec F S32x4x129x8x128 .f32 :=
  concatenate S32x4x129x8x128 1 [⟨S32x1x129x8x128, (broadcastInDim S32x1x129x8x128 ![0, 2, 3, 4] bcast_S32x129x8x128_S32x1x129x8x128_0_2_3_4 (f 0))⟩,
    ⟨S32x1x129x8x128, (broadcastInDim S32x1x129x8x128 ![0, 2, 3, 4] bcast_S32x129x8x128_S32x1x129x8x128_0_2_3_4 (f 1))⟩,
    ⟨S32x1x129x8x128, (broadcastInDim S32x1x129x8x128 ![0, 2, 3, 4] bcast_S32x129x8x128_S32x1x129x8x128_0_2_3_4 (f 2))⟩,
    ⟨S32x1x129x8x128, (broadcastInDim S32x1x129x8x128 ![0, 2, 3, 4] bcast_S32x129x8x128_S32x1x129x8x128_0_2_3_4 (f 3))⟩]
    concatenates_S32x1x129x8x128_S32x1x129x8x128_S32x1x129x8x128_S32x1x129x8x128_S32x4x129x8x128_d1

theorem slices_win1 : ∀ (s : Fin 4) (x : Fin 2), S32x132x2x8x128.Slices ![0, s.val, x.val, 0, 0] S32x129x1x8x128 := by decide
theorem slices_win2 : ∀ (s : Fin 4) (x : Fin 2), S32x516x2x8x128.SlicesBy ![0, s.val, x.val, 0, 0] ![1, 4, 1, 1, 1] S32x129x1x8x128 := by decide
theorem slices_win3 : ∀ (s : Fin 4) (x : Fin 2), S32x2052x2x8x128.SlicesBy ![0, s.val, x.val, 0, 0] ![1, 16, 1, 1, 1] S32x129x1x8x128 := by decide

/-- The window of each new row over the first group's keys (`0`) or values (`1`). -/
def win1 (r : FVec F S32x132x2x8x128 .f32) (x : Fin 2) (s : Fin 4) : FVec F S32x129x8x128 .f32 :=
  shapeCast S32x129x8x128 (extractStridedSlice S32x129x1x8x128 ![0, s.val, x.val, 0, 0] r (slices_win1 s x)) shapeCasts_S32x129x1x8x128_S32x129x8x128

/-- The same for the second group: every fourth row. -/
def win2 (r : FVec F S32x516x2x8x128 .f32) (x : Fin 2) (s : Fin 4) : FVec F S32x129x8x128 .f32 :=
  shapeCast S32x129x8x128 (Host.slice S32x129x1x8x128 ![0, s.val, x.val, 0, 0] ![1, 4, 1, 1, 1] r (slices_win2 s x)) shapeCasts_S32x129x1x8x128_S32x129x8x128

/-- The same for the third group: every sixteenth row. -/
def win3 (r : FVec F S32x2052x2x8x128 .f32) (x : Fin 2) (s : Fin 4) : FVec F S32x129x8x128 .f32 :=
  shapeCast S32x129x8x128 (Host.slice S32x129x1x8x128 ![0, s.val, x.val, 0, 0] ![1, 16, 1, 1, 1] r (slices_win3 s x)) shapeCasts_S32x129x1x8x128_S32x129x8x128

/-- The scores of a group's queries over their windows. -/
def scores (q : FVec F S32x4x8x128 .f32) (k : FVec F S32x4x129x8x128 .f32) : FVec F S32x4x8x129 .f32 :=
  mulf (Host.dotGeneral dot_S32x4x8x128_S32x4x129x8x128_S32x4x8x129_3_4_n_2_012_013 none q k)
    (broadcastInDim S32x4x8x129 ![] bcast_S_S32x4x8x129 (constant S_ .f32 0x3DB504F3#32))

/-- The greatest score of each window. -/
def tops (s : FVec F S32x4x8x129 .f32) : FVec F S32x4x8x1 .f32 :=
  broadcastInDim S32x4x8x1 ![0, 1, 2] bcast_S32x4x8_S32x4x8x1_0_1_2 (Host.reduce FloatOps.maximumf s (constant S_ .f32 0xFF800000#32) reducesTo_S32x4x8x129_S32x4x8_d3 h_S_)

/-- The weights. -/
def weights (s : FVec F S32x4x8x129 .f32) : FVec F S32x4x8x129 .f32 :=
  Host.exp (subf s (broadcastInDim S32x4x8x129 ![0, 1, 2, 3] bcast_S32x4x8x1_S32x4x8x129_0_1_2_3 (tops s)))

/-- Their sums. -/
def dens (s : FVec F S32x4x8x129 .f32) : FVec F S32x4x8 .f32 :=
  Host.reduceAdd (weights s) (constant S_ .f32 0x00000000#32) reducesTo_S32x4x8x129_S32x4x8_d3 h_S_

/-- A group's answer. -/
def out (s : FVec F S32x4x8x129 .f32) (v : FVec F S32x4x129x8x128 .f32) : FVec F S32x4x8x128 .f32 :=
  Host.divf (Host.dotGeneral dot_S32x4x8x129_S32x4x129x8x128_S32x4x8x128_3_2_n_4_012_013 none (weights s) v)
    (broadcastInDim S32x4x8x128 ![0, 1, 2, 3] bcast_S32x4x8x1_S32x4x8x128_0_1_2_3 (broadcastInDim S32x4x8x1 ![0, 1, 2] bcast_S32x4x8_S32x4x8x1_0_1_2 (dens s)))

/-- The logarithm of its sum of exponentials. -/
def lse (s : FVec F S32x4x8x129 .f32) : FVec F S32x4x8 .f32 :=
  addf (shapeCast S32x4x8 (tops s) shapeCasts_S32x4x8x1_S32x4x8) (Host.log (dens s))

/-- The three groups' logarithms as one array. -/
def stack3 (a b c : FVec F S32x4x8 .f32) : FVec F S3x32x4x8 .f32 :=
  concatenate S3x32x4x8 0 [⟨S1x32x4x8, (broadcastInDim S1x32x4x8 ![1, 2, 3] bcast_S32x4x8_S1x32x4x8_1_2_3 a)⟩,
    ⟨S1x32x4x8, (broadcastInDim S1x32x4x8 ![1, 2, 3] bcast_S32x4x8_S1x32x4x8_1_2_3 b)⟩,
    ⟨S1x32x4x8, (broadcastInDim S1x32x4x8 ![1, 2, 3] bcast_S32x4x8_S1x32x4x8_1_2_3 c)⟩] concatenates_S1x32x4x8_S1x32x4x8_S1x32x4x8_S3x32x4x8_d0

/-- The three groups' answers as one array. -/
def stack4 (a b c : FVec F S32x4x8x128 .f32) : FVec F S3x32x4x8x128 .f32 :=
  concatenate S3x32x4x8x128 0 [⟨S1x32x4x8x128, (broadcastInDim S1x32x4x8x128 ![1, 2, 3, 4] bcast_S32x4x8x128_S1x32x4x8x128_1_2_3_4 a)⟩,
    ⟨S1x32x4x8x128, (broadcastInDim S1x32x4x8x128 ![1, 2, 3, 4] bcast_S32x4x8x128_S1x32x4x8x128_1_2_3_4 b)⟩,
    ⟨S1x32x4x8x128, (broadcastInDim S1x32x4x8x128 ![1, 2, 3, 4] bcast_S32x4x8x128_S1x32x4x8x128_1_2_3_4 c)⟩] concatenates_S1x32x4x8x128_S1x32x4x8x128_S1x32x4x8x128_S3x32x4x8x128_d0

/-- The weights of the softmax over the groups. -/
def weights3 (l : FVec F S3x32x4x8 .f32) : FVec F S3x32x4x8 .f32 :=
  Host.exp (subf l (broadcastInDim S3x32x4x8 ![0, 1, 2, 3] bcast_S1x32x4x8_S3x32x4x8_0_1_2_3 (broadcastInDim S1x32x4x8 ![1, 2, 3] bcast_S32x4x8_S1x32x4x8_1_2_3
    (maximumf (broadcastInDim S32x4x8 ![] bcast_S_S32x4x8 (constant S_ .f32 0xFF800000#32)) (Host.reduce FloatOps.maximumf l (constant S_ .f32 0xFF800000#32) reducesTo_S3x32x4x8_S32x4x8_d0 h_S_)))))

/-- The groups' shares. -/
def shares (l : FVec F S3x32x4x8 .f32) : FVec F S3x32x4x8 .f32 :=
  Host.divf (weights3 l) (broadcastInDim S3x32x4x8 ![0, 1, 2, 3] bcast_S1x32x4x8_S3x32x4x8_0_1_2_3 (broadcastInDim S1x32x4x8 ![1, 2, 3] bcast_S32x4x8_S1x32x4x8_1_2_3
    (Host.reduceAdd (weights3 l) (constant S_ .f32 0x00000000#32) reducesTo_S3x32x4x8_S32x4x8_d0 h_S_)))

/-- The attention's answer from the three groups' scores and values. -/
def blend (s1 s2 s3 : FVec F S32x4x8x129 .f32) (v1 v2 v3 : FVec F S32x4x129x8x128 .f32) : FVec F S32x4x8x128 .f32 :=
  Host.dotGeneral dot_S3x32x4x8_S3x32x4x8x128_S32x4x8x128_0_0_n_4_123_123 none (shares (stack3 (lse s1) (lse s2) (lse s3)))
    (stack4 (out s1 v1) (out s2 v2) (out s3 v3))

/-- The attention's answer. -/
def answer (u : FVec F S128x9216 .f32) (c1 : FVec F S1x32x128x2x8x128 .f32) (c2 : FVec F S1x32x512x2x8x128 .f32)
    (c3 : FVec F S1x32x2048x2x8x128 .f32) : FVec F S32x4x8x128 .f32 :=
  blend (scores (part u 0 0) (stack (win1 (rows1 u c1) 0))) (scores (part u 0 1) (stack (win2 (rows2 u c2) 0))) (scores (part u 0 2) (stack (win3 (rows3 u c3) 0)))
    (stack (win1 (rows1 u c1) 1)) (stack (win2 (rows2 u c2) 1)) (stack (win3 (rows3 u c3) 1))

/-- The reference's result is that answer. -/
theorem result_eq (m : (ℓ : Loc nD τ sig) → Buf (Elt F) ℓ) (c : Dev nD) :
    Host.dotGeneral dot_S3x32x4x8_S3x32x4x8x128_S32x4x8x128_0_0_n_4_123_123 none (Host.divf (Cert.Reference6Ideal.Value.res_main_v170 (launchContents m c)) (broadcastInDim S3x32x4x8 ![0, 1, 2, 3] bcast_S1x32x4x8_S3x32x4x8_0_1_2_3 (broadcastInDim S1x32x4x8 ![1, 2, 3] bcast_S32x4x8_S1x32x4x8_1_2_3 (Host.reduceAdd (Cert.Reference6Ideal.Value.res_main_v170 (launchContents m c)) (constant S_ .f32 0x00000000#32) reducesTo_S3x32x4x8_S32x4x8_d0 h_S_)))) (Cert.Reference6Ideal.Value.res_main_v178 (launchContents m c))
      = answer (m ((c.tc : Thread nD τ).loc main_arg0)) (m ((c.tc : Thread nD τ).loc main_arg1)) (m ((c.tc : Thread nD τ).loc main_arg2))
          (m ((c.tc : Thread nD τ).loc main_arg3)) := rfl

theorem bits_bot : Ideal.ofBits .f32 0xFF800000#32 = ⊥ := by simp [Ideal.ofBits, Ideal.ieee]

theorem tops_apply (x : FVec Ideal S32x4x8x129 .f32) (b : Fin 32) (s : Fin 4) (h : Fin 8) :
    tops x (ix4 b s h 0) = Cert.Attn.top fun j => x (ix4 b s h j) := by
  pointwise [tops]
  rw [bits_bot]
  rfl

theorem weights_apply (x : FVec Ideal S32x4x8x129 .f32) (b : Fin 32) (s : Fin 4) (h : Fin 8) (j : Fin 129) :
    weights x (ix4 b s h j) = Cert.Attn.weight (Cert.Attn.top fun j => x (ix4 b s h j)) (x (ix4 b s h j)) := by
  rw [← tops_apply]
  pointwise [weights, Cert.Attn.weight]

theorem dens_apply (x : FVec Ideal S32x4x8x129 .f32) (b : Fin 32) (s : Fin 4) (h : Fin 8) :
    dens x (ix3 b s h) = Cert.Attn.den fun j => x (ix4 b s h j) := by
  unfold Cert.Attn.den
  simp only [← weights_apply]
  pointwise [dens]

theorem out_apply (x : FVec Ideal S32x4x8x129 .f32) (v : FVec Ideal S32x4x129x8x128 .f32) (b : Fin 32) (s : Fin 4) (h : Fin 8) (e : Fin 128) :
    out x v (ix4 b s h e) = Ideal.div (Cert.Attn.num (fun j => x (ix4 b s h j)) fun j => v (ix5 b s j h e)) (Cert.Attn.den fun j => x (ix4 b s h j)) := by
  unfold Cert.Attn.num
  simp only [← weights_apply, ← dens_apply]
  pointwise [out]

theorem lse_apply (x : FVec Ideal S32x4x8x129 .f32) (b : Fin 32) (s : Fin 4) (h : Fin 8) :
    lse x (ix3 b s h) = (Cert.Attn.top fun j => x (ix4 b s h j)) + Ideal.log (Cert.Attn.den fun j => x (ix4 b s h j)) := by
  rw [← dens_apply, ← tops_apply]
  pointwise [lse]

theorem stack3_apply (a : Fin 3 → FVec Ideal S32x4x8 .f32) (g : Fin 3) (b : Fin 32) (s : Fin 4) (h : Fin 8) :
    stack3 (a 0) (a 1) (a 2) (ix4 g b s h) = a g (ix3 b s h) := by
  pointwise [stack3]
  fin_cases g <;> rfl

theorem stack4_apply (a : Fin 3 → FVec Ideal S32x4x8x128 .f32) (g : Fin 3) (b : Fin 32) (s : Fin 4) (h : Fin 8) (e : Fin 128) :
    stack4 (a 0) (a 1) (a 2) (ix5 g b s h e) = a g (ix4 b s h e) := by
  pointwise [stack4]
  fin_cases g <;> rfl

/-- The three groups' blend at an index. -/
theorem blend_apply (x : Fin 3 → FVec Ideal S32x4x8x129 .f32) (v : Fin 3 → FVec Ideal S32x4x129x8x128 .f32) (b : Fin 32) (s : Fin 4) (h : Fin 8) (e : Fin 128) :
    blend (x 0) (x 1) (x 2) (v 0) (v 1) (v 2) (ix4 b s h e)
      = Cert.Attn.blended (fun g => Cert.Attn.top fun j => x g (ix4 b s h j)) (fun g => Cert.Attn.den fun j => x g (ix4 b s h j))
          (fun g => Cert.Attn.num (fun j => x g (ix4 b s h j)) fun j => v g (ix5 b s j h e)) := by
  pointwise [blend, shares, weights3]
  have h3 := fun g => stack3_apply (fun g => lse (x g)) g b s h
  have h4 := fun g => stack4_apply (fun g => out (x g) (v g)) g b s h e
  simp only [lse_apply, out_apply] at h3 h4
  simp only [h3, h4, bits_bot, max_bot_left]
  rfl

theorem scores_apply (q : FVec Ideal S32x4x8x128 .f32) (k : FVec Ideal S32x4x129x8x128 .f32) (b : Fin 32) (s : Fin 4) (h : Fin 8) (j : Fin 129) :
    scores q k (ix4 b s h j) = (∑ e : Fin 128, q (ix4 b s h e) * k (ix5 b s j h e)) * Ideal.ofBits .f32 0x3DB504F3#32 := by
  pointwise [scores]

theorem stack_apply (f : Fin 4 → FVec Ideal S32x129x8x128 .f32) (b : Fin 32) (s : Fin 4) (j : Fin 129) (h : Fin 8) (e : Fin 128) :
    stack f (ix5 b s j h e) = f s (ix4 b j h e) := by
  pointwise [stack]
  fin_cases s <;> rfl

theorem win1_apply (r : FVec Ideal S32x132x2x8x128 .f32) (x : Fin 2) (s : Fin 4) (b : Fin 32) (j : Fin 129) (h : Fin 8) (e : Fin 128) :
    win1 r x s (ix4 b j h e) = r (ix5 b ⟨s.val + j.val, by omega⟩ x h e) := by
  pointwise [win1]

theorem win2_apply (r : FVec Ideal S32x516x2x8x128 .f32) (x : Fin 2) (s : Fin 4) (b : Fin 32) (j : Fin 129) (h : Fin 8) (e : Fin 128) :
    win2 r x s (ix4 b j h e) = r (ix5 b ⟨s.val + 4 * j.val, by omega⟩ x h e) := by
  pointwise [win2]

theorem win3_apply (r : FVec Ideal S32x2052x2x8x128 .f32) (x : Fin 2) (s : Fin 4) (b : Fin 32) (j : Fin 129) (h : Fin 8) (e : Fin 128) :
    win3 r x s (ix4 b j h e) = r (ix5 b ⟨s.val + 16 * j.val, by omega⟩ x h e) := by
  pointwise [win3]

/-- A new row's element: the `i`-th of its nine vectors. -/
def new (u : FVec Ideal S128x9216 .f32) (b : Fin 32) (s : Fin 4) (i : Fin 9) (h : Fin 8) (e : Fin 128) : EReal :=
  u (ix2 ⟨b.val * 4 + s.val, by omega⟩ ⟨i.val * 1024 + h.val * 128 + e.val, by omega⟩)

theorem part_apply (u : FVec Ideal S128x9216 .f32) (c g : Fin 3) (b : Fin 32) (s : Fin 4) (h : Fin 8) (e : Fin 128) :
    part u c g (ix4 b s h e) = new u b s ⟨c.val * 3 + g.val, by omega⟩ h e := by
  pointwise [part, new]
  congr 3
  omega

theorem pair_apply (u : FVec Ideal S128x9216 .f32) (g : Fin 3) (b : Fin 32) (s : Fin 4) (x : Fin 2) (h : Fin 8) (e : Fin 128) :
    pair u g (ix5 b s x h e) = new u b s ⟨(x.val + 1) * 3 + g.val, by omega⟩ h e := by
  have h1 := part_apply u 1 g b s h e
  have h2 := part_apply u 2 g b s h e
  pointwise [pair]
  fin_cases x
  · exact h1
  · exact h2

theorem rows1_apply (u : FVec Ideal S128x9216 .f32) (c : FVec Ideal S1x32x128x2x8x128 .f32) (b : Fin 32) (r : Fin 132) (x : Fin 2) (h : Fin 8) (e : Fin 128) :
    rows1 u c (ix5 b r x h e) = if hr : r.val < 128 then c (ix6 0 b ⟨r.val, hr⟩ x h e)
      else new u b ⟨r.val - 128, by omega⟩ ⟨(x.val + 1) * 3, by omega⟩ h e := by
  have hp := fun s => pair_apply u 0 b s x h e
  pointwise [rows1]
  split
  · rfl
  · exact hp _

theorem rows2_apply (u : FVec Ideal S128x9216 .f32) (c : FVec Ideal S1x32x512x2x8x128 .f32) (b : Fin 32) (r : Fin 516) (x : Fin 2) (h : Fin 8) (e : Fin 128) :
    rows2 u c (ix5 b r x h e) = if hr : r.val < 512 then c (ix6 0 b ⟨r.val, hr⟩ x h e)
      else new u b ⟨r.val - 512, by omega⟩ ⟨(x.val + 1) * 3 + 1, by omega⟩ h e := by
  have hp := fun s => pair_apply u 1 b s x h e
  pointwise [rows2]
  split
  · rfl
  · exact hp _

theorem rows3_apply (u : FVec Ideal S128x9216 .f32) (c : FVec Ideal S1x32x2048x2x8x128 .f32) (b : Fin 32) (r : Fin 2052) (x : Fin 2) (h : Fin 8) (e : Fin 128) :
    rows3 u c (ix5 b r x h e) = if hr : r.val < 2048 then c (ix6 0 b ⟨r.val, hr⟩ x h e)
      else new u b ⟨r.val - 2048, by omega⟩ ⟨(x.val + 1) * 3 + 2, by omega⟩ h e := by
  have hp := fun s => pair_apply u 2 b s x h e
  pointwise [rows3]
  split
  · rfl
  · exact hp _

end Cert.Reference6Ideal.Reading
-- ==== Proof.Attn.lean ====
/-
  The sample's attention: the call's four steps are the reference's four rows. The call masks the rows that have left the window and
  joins its three softmaxes by their running maxima; the reference slides the window and weighs the three answers by the logarithms
  of their sums. The two agree wherever the queries and keys are finite.
-/
module

public import proofs.«01_k».proof.Defs
public import proofs.«01_k».proof.Proof.AttnKernel
public import proofs.«01_k».proof.Proof.AttnRef
public import proofs.«01_k».proof.Proof.Gen.Pre_finite
public import proofs.«01_k».proof.Proof.Gen.Kernel6.Frame
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Attn

open Cert.Kernel6Ideal.Steps (scale)
open Cert.Reference6Ideal.Reading (new rows1 rows2 rows3 win1 win2 win3 part stack scores answer)

/-- A value is a real number. -/
abbrev Real' (x : EReal) : Prop := ∃ r : ℝ, x = (r : EReal)

theorem real_mul {x y : EReal} (hx : Real' x) (hy : Real' y) : Real' (x * y) := by
  obtain ⟨a, rfl⟩ := hx; obtain ⟨b, rfl⟩ := hy; exact ⟨a * b, (EReal.coe_mul _ _).symm⟩

theorem real_sum {n : Nat} {f : Fin n → EReal} (hf : ∀ i, Real' (f i)) : Real' (∑ i, f i) := by
  choose r hr using hf
  refine ⟨∑ i, r i, ?_⟩
  rw [funext hr]
  exact (map_sum (⟨⟨fun x : ℝ => (x : EReal), EReal.coe_zero⟩, EReal.coe_add⟩ : ℝ →+ EReal) _ _).symm

theorem real_scale : Real' scale := by
  refine ⟨(11863283 : ℝ) * 2 ^ (-27 : ℤ), ?_⟩
  simp [scale, Ideal.ofBits, Ideal.ieee, -EReal.coe_mul]

/-- A value whose absolute value is below infinity is real. -/
theorem real_of_below {x : EReal} (h : BitVec.ofBool (decide ((FloatOps.absf (F := Ideal) (φ := .f32) x : EReal) < Ideal.ofBits .f32 0x7F800000#32)) = 1#1) : Real' x := by
  rcases lt_or_ge (FloatOps.absf (F := Ideal) (φ := .f32) x : EReal) (Ideal.ofBits .f32 0x7F800000#32) with h1 | h1
  · have h2 : max x (-x) < ⊤ := lt_of_lt_of_le h1 le_top
    induction x using EReal.rec with
    | bot => exact absurd h2 (by simp)
    | top => exact absurd h2 (by simp)
    | coe r => exact ⟨r, rfl⟩
  · rw [decide_eq_false (not_lt.mpr h1)] at h
    exact absurd h (by decide)

/-! ## The precondition -/

/-- The queries, the new keys and the cached keys are real numbers. -/
structure Finite (u : FVec Ideal Cert.Reference6Ideal.S128x9216 .f32) (c1 : FVec Ideal Cert.Reference6Ideal.S1x32x128x2x8x128 .f32)
    (c2 : FVec Ideal Cert.Reference6Ideal.S1x32x512x2x8x128 .f32) (c3 : FVec Ideal Cert.Reference6Ideal.S1x32x2048x2x8x128 .f32) : Prop where
  new : ∀ b s (i : Fin 6) h e, Real' (new u b s ⟨i.val, by omega⟩ h e)
  c1 : ∀ b j h e, Real' (c1 (ix6 0 b j 0 h e))
  c2 : ∀ b j h e, Real' (c2 (ix6 0 b j 0 h e))
  c3 : ∀ b j h e, Real' (c3 (ix6 0 b j 0 h e))

/-- What the precondition compares: every entry's absolute value is below infinity. -/
theorem finite_at (u : FVec Ideal Cert.Pre_finite.S128x9216 .f32) (c1 : FVec Ideal Cert.Pre_finite.S1x32x128x2x8x128 .f32)
    (c2 : FVec Ideal Cert.Pre_finite.S1x32x512x2x8x128 .f32) (c3 : FVec Ideal Cert.Pre_finite.S1x32x2048x2x8x128 .f32)
    (h : @Cert.Pre_finite.fn Cert.Pre_finite.Gen.facts Ideal _ u c1 c2 c3 = fun _ => 1#1) : Finite u c1 c2 c3 := by
  constructor
  · intro b s i hd e
    have h1 := congrFun h (ix4 b ⟨s.val * 6 + i.val, by omega⟩ hd e)
    unfold Cert.Pre_finite.fn at h1
    revert h1
    pointwise []
    intro h1
    rw [dif_pos (show s.val * 6 + i.val < 24 by omega)] at h1
    refine (congrArg Real' (congrArg u ?_)).mpr (real_of_below h1)
    exact congrArg₂ ix2 (Fin.ext (show b.val * 4 + s.val = b.val * 4 + (s.val * 6 + i.val) / 6 by omega))
      (Fin.ext (show i.val * 1024 + hd.val * 128 + e.val = (s.val * 6 + i.val) % 6 * 1024 + hd.val * 128 + e.val by omega))
  · intro b j hd e
    have h1 := congrFun h (ix4 b ⟨24 + j.val, by omega⟩ hd e)
    unfold Cert.Pre_finite.fn at h1
    revert h1
    pointwise []
    exact real_of_below
  · intro b j hd e
    have h1 := congrFun h (ix4 b ⟨24 + (128 + j.val), by omega⟩ hd e)
    unfold Cert.Pre_finite.fn at h1
    revert h1
    pointwise []
    exact real_of_below
  · intro b j hd e
    have h1 := congrFun h (ix4 b ⟨24 + (128 + (512 + j.val)), by omega⟩ hd e)
    unfold Cert.Pre_finite.fn at h1
    revert h1
    pointwise []
    exact real_of_below

/-! ## A step of the call is a row of the reference -/

open Cert.Reference6Ideal.Reading Cert.Kernel6Ideal.Steps

variable (u : FVec Ideal Cert.Reference6Ideal.S128x9216 .f32) (c1 : FVec Ideal Cert.Reference6Ideal.S1x32x128x2x8x128 .f32)
  (c2 : FVec Ideal Cert.Reference6Ideal.S1x32x512x2x8x128 .f32) (c3 : FVec Ideal Cert.Reference6Ideal.S1x32x2048x2x8x128 .f32)

/-- The first group's score against row `r` of its window's rows, cached and new. -/
def f1 (b : Fin 32) (s : Fin 4) (h : Fin 8) (r : Nat) : EReal :=
  if hr : r < 132 then (∑ e : Fin 128, new u b s 0 h e * rows1 u c1 (ix5 b ⟨r, hr⟩ 0 h e)) * scale else 0

/-- The first group's value there. -/
def g1 (b : Fin 32) (h : Fin 8) (e : Fin 128) (r : Nat) : EReal := if hr : r < 132 then rows1 u c1 (ix5 b ⟨r, hr⟩ 1 h e) else 0

theorem scores1_apply (b : Fin 32) (s : Fin 4) (h : Fin 8) (j : Fin 129) :
    scores (part u 0 0) (stack (win1 (rows1 u c1) 0)) (ix4 b s h j) = f1 u c1 b s h (s.val + j.val) := by
  rw [scores_apply, f1, dif_pos (show s.val + j.val < 132 by omega)]
  refine congrArg (· * scale) (Finset.sum_congr rfl fun e _ => ?_)
  rw [part_apply, stack_apply, win1_apply]
  rfl

theorem values1_apply (b : Fin 32) (s : Fin 4) (h : Fin 8) (e : Fin 128) (j : Fin 129) :
    stack (win1 (rows1 u c1) 1) (ix5 b s j h e) = g1 u c1 b h e (s.val + j.val) := by
  rw [g1, dif_pos (show s.val + j.val < 132 by omega), stack_apply, win1_apply]

theorem scores2_apply (b : Fin 32) (s : Fin 4) (h : Fin 8) (j : Fin 129) :
    scores (part u 0 1) (stack (win2 (rows2 u c2) 0)) (ix4 b s h j)
      = (∑ e : Fin 128, new u b s 1 h e * rows2 u c2 (ix5 b ⟨s.val + 4 * j.val, by omega⟩ 0 h e)) * scale := by
  rw [scores_apply]
  refine congrArg (· * scale) (Finset.sum_congr rfl fun e _ => ?_)
  rw [part_apply, stack_apply, win2_apply]
  rfl

theorem scores3_apply (b : Fin 32) (s : Fin 4) (h : Fin 8) (j : Fin 129) :
    scores (part u 0 2) (stack (win3 (rows3 u c3) 0)) (ix4 b s h j)
      = (∑ e : Fin 128, new u b s 2 h e * rows3 u c3 (ix5 b ⟨s.val + 16 * j.val, by omega⟩ 0 h e)) * scale := by
  rw [scores_apply]
  refine congrArg (· * scale) (Finset.sum_congr rfl fun e _ => ?_)
  rw [part_apply, stack_apply, win3_apply]
  rfl

variable {u c1 c2 c3}

/-- Under the precondition every score is a real number. -/
theorem scores_real (hf : Finite u c1 c2 c3) (b : Fin 32) (s : Fin 4) (h : Fin 8) (j : Fin 129) :
    Real' (scores (part u 0 0) (stack (win1 (rows1 u c1) 0)) (ix4 b s h j))
      ∧ Real' (scores (part u 0 1) (stack (win2 (rows2 u c2) 0)) (ix4 b s h j))
      ∧ Real' (scores (part u 0 2) (stack (win3 (rows3 u c3) 0)) (ix4 b s h j)) := by
  refine ⟨?_, ?_, ?_⟩
  · rw [scores1_apply, f1, dif_pos (show s.val + j.val < 132 by omega)]
    refine real_mul (real_sum fun e => real_mul (hf.new b s 0 h e) ?_) real_scale
    rw [rows1_apply]
    split
    · exact hf.c1 _ _ _ _
    · exact hf.new b _ 3 h e
  · rw [scores2_apply]
    refine real_mul (real_sum fun e => real_mul (hf.new b s 1 h e) ?_) real_scale
    rw [rows2_apply]
    split
    · exact hf.c2 _ _ _ _
    · exact hf.new b _ 4 h e
  · rw [scores3_apply]
    refine real_mul (real_sum fun e => real_mul (hf.new b s 2 h e) ?_) real_scale
    rw [rows3_apply]
    split
    · exact hf.c3 _ _ _ _
    · exact hf.new b _ 5 h e

/-- The four steps' new rows, as a list of the first `s + 1`. -/
def upto (s : Fin 4) : List (Fin 4) := (List.range (s.val + 1)).map fun i => ⟨i % 4, Nat.mod_lt _ (by decide)⟩

variable {x0 : Vec Ideal Cert.Kernel6Ideal.S1x4x9x8x128 .f32} {x1 : Vec Ideal Cert.Kernel6Ideal.S1x128x2x8x128 .f32}
  {x2 x3 : Vec Ideal Cert.Kernel6Ideal.S1x128x8x8x128 .f32} {b : Fin 32}

theorem first_eq (h0 : ∀ s i h e, x0 (ix5 0 s i h e) = new u b s i h e) (h1 : ∀ j i h e, x1 (ix5 0 j i h e) = c1 (ix6 0 b j i h e))
    (s : Fin 4) (h : Fin 8) (e : Fin 128) :
    pick (first x0 x1 s (BitVec.ofNat 32 s.val) (upto s)) h e
      = (top fun j => scores (part u 0 0) (stack (win1 (rows1 u c1) 0)) (ix4 b s h j), den fun j => scores (part u 0 0) (stack (win1 (rows1 u c1) 0)) (ix4 b s h j),
          num (fun j => scores (part u 0 0) (stack (win1 (rows1 u c1) 0)) (ix4 b s h j)) fun j => stack (win1 (rows1 u c1) 1) (ix5 b s j h e)) := by
  simp only [scores1_apply, values1_apply]
  unfold first upto
  rw [List.map_map]
  refine soft_first s _ _ _ h e (f1 u c1 b s h) (g1 u c1 b h e) (fun j => ?_) (fun j => ?_) (fun i hi => ⟨?_, ?_⟩)
  · rw [score_apply, f1, dif_pos (show j.val < 132 by omega)]
    refine congrArg (· * scale) (Finset.sum_congr rfl fun e _ => ?_)
    rw [near_apply, row_apply, h0, h1, mul_comm, rows1_apply, dif_pos j.isLt]
  · rw [near_apply, h1, g1, dif_pos (show j.val < 132 by omega), rows1_apply, dif_pos j.isLt]
  · show fresh _ _ (ix2 h 0) = _
    have hi4 : i < 4 := by omega
    rw [fresh_apply, f1, dif_pos (show 128 + i < 132 by omega)]
    refine congrArg (· * scale) (Finset.sum_congr rfl fun e _ => ?_)
    rw [row_apply, row_apply, h0, h0, mul_comm, rows1_apply, dif_neg (show ¬ 128 + i < 128 by omega)]
    refine congrArg (new u b s 0 h e * ·) (congrArg (fun r => new u b r 3 h e) (Fin.ext ?_))
    show i % 4 = 128 + i - 128
    omega
  · show row _ _ _ (ix2 h e) = _
    have hi4 : i < 4 := by omega
    rw [row_apply, h0, g1, dif_pos (show 128 + i < 132 by omega), rows1_apply, dif_neg (show ¬ 128 + i < 128 by omega)]
    refine congrArg (fun r => new u b r 6 h e) (Fin.ext ?_)
    show i % 4 = 128 + i - 128
    omega

theorem second_eq (h0 : ∀ s i h e, x0 (ix5 0 s i h e) = new u b s i h e)
    (h2 : ∀ (j : Fin 128) (s : Fin 4) (i : Fin 2) h e, x2 (ix5 0 j ⟨2 * s.val + i.val, by omega⟩ h e) = c2 (ix6 0 b ⟨s.val + 4 * j.val, by omega⟩ i h e))
    (s : Fin 4) (h : Fin 8) (e : Fin 128) :
    pick (later x0 x2 s ⟨2 * s.val, by omega⟩ ⟨2 * s.val + 1, by omega⟩ 1 4 7) h e
      = (top fun j => scores (part u 0 1) (stack (win2 (rows2 u c2) 0)) (ix4 b s h j), den fun j => scores (part u 0 1) (stack (win2 (rows2 u c2) 0)) (ix4 b s h j),
          num (fun j => scores (part u 0 1) (stack (win2 (rows2 u c2) 0)) (ix4 b s h j)) fun j => stack (win2 (rows2 u c2) 1) (ix5 b s j h e)) := by
  unfold later
  refine soft_later _ _ _ h e _ _ (fun j => ?_) (fun j => ?_) ?_ ?_
  · rw [score_apply, scores2_apply]
    refine congrArg (· * scale) (Finset.sum_congr rfl fun e _ => ?_)
    rw [far_apply, row_apply, h0, mul_comm, rows2_apply, dif_pos (show s.val + 4 * j.castSucc.val < 512 by have := j.isLt; show s.val + 4 * j.val < 512; omega)]
    exact congrArg (new u b s 1 h e * ·) (h2 j s 0 h e)
  · rw [far_apply, stack_apply, win2_apply, rows2_apply, dif_pos (show s.val + 4 * j.castSucc.val < 512 by have := j.isLt; show s.val + 4 * j.val < 512; omega)]
    exact h2 j s 1 h e
  · show fresh _ _ (ix2 h 0) = _
    rw [fresh_apply, scores2_apply]
    refine congrArg (· * scale) (Finset.sum_congr rfl fun e _ => ?_)
    rw [row_apply, row_apply, h0, h0, mul_comm, rows2_apply, dif_neg (show ¬ s.val + 4 * (Fin.last 128).val < 512 by show ¬ s.val + 4 * 128 < 512; omega)]
    exact congrArg (new u b s 1 h e * ·) (congrArg (fun r => new u b r 4 h e) (Fin.ext (show s.val = s.val + 4 * 128 - 512 by omega)))
  · show row _ _ _ (ix2 h e) = _
    rw [row_apply, h0, stack_apply, win2_apply, rows2_apply, dif_neg (show ¬ s.val + 4 * (Fin.last 128).val < 512 by show ¬ s.val + 4 * 128 < 512; omega)]
    exact congrArg (fun r => new u b r 7 h e) (Fin.ext (show s.val = s.val + 4 * 128 - 512 by omega))

theorem third_eq (h0 : ∀ s i h e, x0 (ix5 0 s i h e) = new u b s i h e)
    (h3 : ∀ (j : Fin 128) (s : Fin 4) (i : Fin 2) h e, x3 (ix5 0 j ⟨2 * s.val + i.val, by omega⟩ h e) = c3 (ix6 0 b ⟨s.val + 16 * j.val, by omega⟩ i h e))
    (s : Fin 4) (h : Fin 8) (e : Fin 128) :
    pick (later x0 x3 s ⟨2 * s.val, by omega⟩ ⟨2 * s.val + 1, by omega⟩ 2 5 8) h e
      = (top fun j => scores (part u 0 2) (stack (win3 (rows3 u c3) 0)) (ix4 b s h j), den fun j => scores (part u 0 2) (stack (win3 (rows3 u c3) 0)) (ix4 b s h j),
          num (fun j => scores (part u 0 2) (stack (win3 (rows3 u c3) 0)) (ix4 b s h j)) fun j => stack (win3 (rows3 u c3) 1) (ix5 b s j h e)) := by
  unfold later
  refine soft_later _ _ _ h e _ _ (fun j => ?_) (fun j => ?_) ?_ ?_
  · rw [score_apply, scores3_apply]
    refine congrArg (· * scale) (Finset.sum_congr rfl fun e _ => ?_)
    rw [far_apply, row_apply, h0, mul_comm, rows3_apply, dif_pos (show s.val + 16 * j.castSucc.val < 2048 by have := j.isLt; show s.val + 16 * j.val < 2048; omega)]
    exact congrArg (new u b s 2 h e * ·) (h3 j s 0 h e)
  · rw [far_apply, stack_apply, win3_apply, rows3_apply, dif_pos (show s.val + 16 * j.castSucc.val < 2048 by have := j.isLt; show s.val + 16 * j.val < 2048; omega)]
    exact h3 j s 1 h e
  · show fresh _ _ (ix2 h 0) = _
    rw [fresh_apply, scores3_apply]
    refine congrArg (· * scale) (Finset.sum_congr rfl fun e _ => ?_)
    rw [row_apply, row_apply, h0, h0, mul_comm, rows3_apply, dif_neg (show ¬ s.val + 16 * (Fin.last 128).val < 2048 by show ¬ s.val + 16 * 128 < 2048; omega)]
    exact congrArg (new u b s 2 h e * ·) (congrArg (fun r => new u b r 5 h e) (Fin.ext (show s.val = s.val + 16 * 128 - 2048 by omega)))
  · show row _ _ _ (ix2 h e) = _
    rw [row_apply, h0, stack_apply, win3_apply, rows3_apply, dif_neg (show ¬ s.val + 16 * (Fin.last 128).val < 2048 by show ¬ s.val + 16 * 128 < 2048; omega)]
    exact congrArg (fun r => new u b r 8 h e) (Fin.ext (show s.val = s.val + 16 * 128 - 2048 by omega))

/-- A step's block is the reference's row. -/
theorem step_eq (hf : Finite u c1 c2 c3) (h0 : ∀ s i h e, x0 (ix5 0 s i h e) = new u b s i h e) (h1 : ∀ j i h e, x1 (ix5 0 j i h e) = c1 (ix6 0 b j i h e))
    (h2 : ∀ (j : Fin 128) (s : Fin 4) (i : Fin 2) h e, x2 (ix5 0 j ⟨2 * s.val + i.val, by omega⟩ h e) = c2 (ix6 0 b ⟨s.val + 4 * j.val, by omega⟩ i h e))
    (h3 : ∀ (j : Fin 128) (s : Fin 4) (i : Fin 2) h e, x3 (ix5 0 j ⟨2 * s.val + i.val, by omega⟩ h e) = c3 (ix6 0 b ⟨s.val + 16 * j.val, by omega⟩ i h e))
    (s : Fin 4) (h : Fin 8) (e : Fin 128) :
    step x0 x1 x2 x3 s (BitVec.ofNat 32 s.val) (upto s) ⟨2 * s.val, by omega⟩ ⟨2 * s.val + 1, by omega⟩ (ix4 0 0 h e) = answer u c1 c2 c3 (ix4 b s h e) := by
  refine (quot_apply _ _ _ h e).trans ?_
  rw [first_eq h0 h1, second_eq h0 h2, third_eq h0 h3]
  have hr := scores_real hf b s h
  let x : Fin 3 → FVec Ideal Cert.Reference6Ideal.S32x4x8x129 .f32 :=
    ![scores (part u 0 0) (stack (win1 (rows1 u c1) 0)), scores (part u 0 1) (stack (win2 (rows2 u c2) 0)), scores (part u 0 2) (stack (win3 (rows3 u c3) 0))]
  let v : Fin 3 → FVec Ideal Cert.Reference6Ideal.S32x4x129x8x128 .f32 := ![stack (win1 (rows1 u c1) 1), stack (win2 (rows2 u c2) 1), stack (win3 (rows3 u c3) 1)]
  have hx : ∀ g j, Real' (x g (ix4 b s h j)) := fun g j => match g with
    | 0 => (hr j).1
    | 1 => (hr j).2.1
    | 2 => (hr j).2.2
  refine Eq.trans ?_ (blend_apply x v b s h e).symm
  exact joined_eq (fun g => top fun j => x g (ix4 b s h j)) (fun g => den fun j => x g (ix4 b s h j)) (fun g => num (fun j => x g (ix4 b s h j)) fun j => v g (ix5 b s j h e))
    (fun g => top_real (n := 128) _ (hx g)) (fun g => den_real (n := 128) _ (hx g))

/-! ## The call's blocks -/

section

open Cert.Kernel6Ideal Cert.Kernel6Ideal.Gen

theorem idx0 : ∀ t : Fin cfg0.N, win0_0.index t = ![t.val, 0, 0, 0, 0] :=
  (by decide +kernel : ∀ t : Fin grid0.N, win0_0.index t = ![t.val, 0, 0, 0, 0])
theorem idx1 : ∀ t : Fin cfg0.N, win0_1.index t = ![t.val, 0, 0, 0, 0] :=
  (by decide +kernel : ∀ t : Fin grid0.N, win0_1.index t = ![t.val, 0, 0, 0, 0])
theorem idx2 : ∀ t : Fin cfg0.N, win0_2.index t = ![t.val, 0, 0, 0, 0] :=
  (by decide +kernel : ∀ t : Fin grid0.N, win0_2.index t = ![t.val, 0, 0, 0, 0])
theorem idx3 : ∀ t : Fin cfg0.N, win0_3.index t = ![t.val, 0, 0, 0, 0] :=
  (by decide +kernel : ∀ t : Fin grid0.N, win0_3.index t = ![t.val, 0, 0, 0, 0])
theorem idx4 : ∀ t : Fin cfg0.N, win0_4.index t = ![t.val, 0, 0, 0] :=
  (by decide +kernel : ∀ t : Fin grid0.N, win0_4.index t = ![t.val, 0, 0, 0])

variable (m : (ℓ : Loc nD τ sig) → Buf (Elt Ideal) ℓ)

theorem host_u (x : FVec Ideal S128x9216 .f32) (b : Fin 32) (s : Fin 4) (i : Fin 9) (h : Fin 8) (e : Fin 128) :
    shapeCast S32x4x9x8x128 x shapeCasts_S128x9216_S32x4x9x8x128 (ix5 b s i h e) = new x b s i h e := by
  pointwise [new]

theorem host_c1 (x : FVec Ideal S1x32x128x2x8x128 .f32) (b : Fin 32) (j : Fin 128) (i : Fin 2) (h : Fin 8) (e : Fin 128) :
    shapeCast S32x128x2x8x128 x shapeCasts_S1x32x128x2x8x128_S32x128x2x8x128 (ix5 b j i h e) = x (ix6 0 b j i h e) := by
  pointwise []

theorem host_c2 (x : FVec Ideal S1x32x512x2x8x128 .f32) (b : Fin 32) (j : Fin 128) (s : Fin 4) (i : Fin 2) (h : Fin 8) (e : Fin 128) :
    shapeCast S32x128x8x8x128 x shapeCasts_S1x32x512x2x8x128_S32x128x8x8x128 (ix5 b j ⟨2 * s.val + i.val, by omega⟩ h e)
      = x (ix6 0 b ⟨s.val + 4 * j.val, by omega⟩ i h e) := by
  pointwise []
  exact congrArg (fun r => x (ix6 0 b r i h e)) (Fin.ext (show j.val * 4 + (2 * s.val + i.val) / 2 = s.val + 4 * j.val by omega))

theorem host_c3 (x : FVec Ideal S1x32x2048x2x8x128 .f32) (b : Fin 32) (j : Fin 128) (s : Fin 4) (i : Fin 2) (h : Fin 8) (e : Fin 128) :
    shapeCast S32x128x32x8x128 x shapeCasts_S1x32x2048x2x8x128_S32x128x32x8x128 (ix5 b j ⟨2 * s.val + i.val, by omega⟩ h e)
      = x (ix6 0 b ⟨s.val + 16 * j.val, by omega⟩ i h e) := by
  pointwise []
  exact congrArg (fun r => x (ix6 0 b r i h e)) (Fin.ext (show j.val * 16 + (2 * s.val + i.val) / 2 = s.val + 16 * j.val by omega))

theorem V_u (c : Dev nD) : Gen.V m c main_v0 = shapeCast S32x4x9x8x128 (m ((c : Thread nD τ).loc main_arg0)) shapeCasts_S128x9216_S32x4x9x8x128 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

theorem V_c1 (c : Dev nD) : Gen.V m c main_v1 = shapeCast S32x128x2x8x128 (m ((c : Thread nD τ).loc main_arg1)) shapeCasts_S1x32x128x2x8x128_S32x128x2x8x128 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

theorem V_c2 (c : Dev nD) : Gen.V m c main_v2 = shapeCast S32x128x8x8x128 (m ((c : Thread nD τ).loc main_arg2)) shapeCasts_S1x32x512x2x8x128_S32x128x8x8x128 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

theorem V_c3 (c : Dev nD) : Gen.V m c main_v3 = shapeCast S32x128x32x8x128 (m ((c : Thread nD τ).loc main_arg3)) shapeCasts_S1x32x2048x2x8x128_S32x128x32x8x128 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

variable (d : Dev nD) (t : Fin cfg0.N)

theorem lt_N : t.val < 32 := lt_of_lt_of_eq t.isLt N_0

theorem block_u (s : Fin 4) (i : Fin 9) (h : Fin 8) (e : Fin 128) : (show Vec Ideal S1x4x9x8x128 .f32 from iblk m d 0 t) (ix5 0 s i h e)
    = new (m ((d : Thread nD τ).loc main_arg0)) ⟨t.val, lt_N t⟩ s i h e := by
  refine Eq.trans (b := Gen.V m d main_v0 (ix5 ⟨t.val, lt_N t⟩ s i h e)) ?_ ?_
  · blk_ext [iblk, idx0 t]
  · rw [V_u]; exact host_u _ _ _ _ _ _

theorem block_c1 (j : Fin 128) (i : Fin 2) (h : Fin 8) (e : Fin 128) : (show Vec Ideal S1x128x2x8x128 .f32 from iblk m d 1 t) (ix5 0 j i h e)
    = m ((d : Thread nD τ).loc main_arg1) (ix6 0 ⟨t.val, lt_N t⟩ j i h e) := by
  refine Eq.trans (b := Gen.V m d main_v1 (ix5 ⟨t.val, lt_N t⟩ j i h e)) ?_ ?_
  · blk_ext [iblk, idx1 t]
  · rw [V_c1]; exact host_c1 _ _ _ _ _ _

theorem block_c2 (j : Fin 128) (s : Fin 4) (i : Fin 2) (h : Fin 8) (e : Fin 128) :
    (show Vec Ideal S1x128x8x8x128 .f32 from iblk m d 2 t) (ix5 0 j ⟨2 * s.val + i.val, by omega⟩ h e)
      = m ((d : Thread nD τ).loc main_arg2) (ix6 0 ⟨t.val, lt_N t⟩ ⟨s.val + 4 * j.val, by omega⟩ i h e) := by
  refine Eq.trans (b := Gen.V m d main_v2 (ix5 ⟨t.val, lt_N t⟩ j ⟨2 * s.val + i.val, by omega⟩ h e)) ?_ ?_
  · blk_ext [iblk, idx2 t]
  · rw [V_c2]; exact host_c2 _ _ _ _ _ _ _

theorem block_c3 (j : Fin 128) (s : Fin 4) (i : Fin 2) (h : Fin 8) (e : Fin 128) :
    (show Vec Ideal S1x128x8x8x128 .f32 from iblk m d 3 t) (ix5 0 j ⟨2 * s.val + i.val, by omega⟩ h e)
      = m ((d : Thread nD τ).loc main_arg3) (ix6 0 ⟨t.val, lt_N t⟩ ⟨s.val + 16 * j.val, by omega⟩ i h e) := by
  refine Eq.trans (b := Gen.V m d main_v3 (ix5 ⟨t.val, lt_N t⟩ j ⟨2 * s.val + i.val, by omega⟩ h e)) ?_ ?_
  · blk_ext [iblk, idx3 t]
  · rw [V_c3]; exact host_c3 _ _ _ _ _ _ _

/-- An index of a rank-four shape is determined by its coordinates' values. -/
theorem ext4 {n0 n1 n2 n3 : Nat} {x : (⟨4, ![n0, n1, n2, n3]⟩ : Shape).Idx} {a : Fin n0} {b : Fin n1} {c : Fin n2} {d : Fin n3}
    (h0 : (x 0).val = a.val) (h1 : (x 1).val = b.val) (h2 : (x 2).val = c.val) (h3 : (x 3).val = d.val) : x = ix4 a b c d :=
  funext fun k => match k with | ⟨0, _⟩ => Fin.ext h0 | ⟨1, _⟩ => Fin.ext h1 | ⟨2, _⟩ => Fin.ext h2 | ⟨3, _⟩ => Fin.ext h3

/-- The call's block at a step is that step's store. -/
theorem out_apply' (x0 : Vec Ideal S1x4x9x8x128 .f32) (x1 : Vec Ideal S1x128x2x8x128 .f32) (x2 x3 : Vec Ideal S1x128x8x8x128 .f32) (s : Fin 4) (h : Fin 8) (e : Fin 128) :
    out0_4 x0 x1 x2 x3 (ix4 0 s h e)
      = step x0 x1 x2 x3 s (BitVec.ofNat 32 s.val) (upto s) ⟨2 * s.val, by omega⟩ ⟨2 * s.val + 1, by omega⟩ (ix4 0 0 h e) := by
  rw [out_eq]
  canon_tiles x hx
  case piece0 =>
    have es : s = 3 := Fin.ext (by have : s.val = 3 + (x 1).val := hx1; show s.val = 3; omega)
    have ex : x = ix4 0 0 h e := ext4 (Nat.lt_one_iff.1 x0_lt) (Nat.lt_one_iff.1 x1_lt) hx2.symm hx3.symm
    subst es ex; rfl
  case piece1 =>
    have es : s = 2 := Fin.ext (by have : s.val = 2 + (x 1).val := hx1; show s.val = 2; omega)
    have ex : x = ix4 0 0 h e := ext4 (Nat.lt_one_iff.1 x0_lt) (Nat.lt_one_iff.1 x1_lt) hx2.symm hx3.symm
    subst es ex; rfl
  case piece2 =>
    have es : s = 1 := Fin.ext (by have : s.val = 1 + (x 1).val := hx1; show s.val = 1; omega)
    have ex : x = ix4 0 0 h e := ext4 (Nat.lt_one_iff.1 x0_lt) (Nat.lt_one_iff.1 x1_lt) hx2.symm hx3.symm
    subst es ex; rfl
  case piece3 =>
    have es : s = 0 := Fin.ext (by have : s.val = (x 1).val := hx1; show s.val = 0; omega)
    have ex : x = ix4 0 0 h e := ext4 (Nat.lt_one_iff.1 x0_lt) (Nat.lt_one_iff.1 x1_lt) hx2.symm hx3.symm
    subst es ex; rfl

/-- The call's answer, from its arguments. -/
abbrev answered (m : (ℓ : Loc nD τ sig) → Buf (Elt Ideal) ℓ) (d : Dev nD) : FVec Ideal Cert.Reference6Ideal.S32x4x8x128 .f32 :=
  answer (m ((d : Thread nD τ).loc main_arg0)) (m ((d : Thread nD τ).loc main_arg1)) (m ((d : Thread nD τ).loc main_arg2)) (m ((d : Thread nD τ).loc main_arg3))

/-- The call's result: the attention's answer. -/
theorem final4 (hf : Finite (m ((d : Thread nD τ).loc main_arg0)) (m ((d : Thread nD τ).loc main_arg1)) (m ((d : Thread nD τ).loc main_arg2))
      (m ((d : Thread nD τ).loc main_arg3))) :
    (dats m 0 d).arrAt 4 cfg0.N = answered m d := by
  refine (dats m 0 d).arrAt_eq_of_covers 4 _ (by decide +kernel) fun t _ y => ?_
  blk_simp
  rw [after0_4]
  obtain ⟨s, h, e, rfl⟩ : ∃ (s : Fin 4) (h : Fin 8) (e : Fin 128), y = ix4 0 s h e :=
    ⟨⟨(y 1).val, (y 1).isLt⟩, ⟨(y 2).val, (y 2).isLt⟩, ⟨(y 3).val, (y 3).isLt⟩,
      ext4 (Nat.lt_one_iff.1 (y 0).isLt) rfl rfl rfl⟩
  refine (out_apply' _ _ _ _ s h e).trans ?_
  refine (step_eq hf (block_u m d t) (block_c1 m d t) (block_c2 m d t) (block_c3 m d t) s h e).trans ?_
  blk_ext [idx4 t]

theorem frame : Cert.quiescent_Kernel6 (hKernel6 := Cert.Kernel6.Gen.facts) := fun m g _ => Cert.Kernel6.Gen.frame m g

theorem frame_ideal : Cert.quiescent_Kernel6Ideal (hKernel6Ideal := Cert.Kernel6Ideal.Gen.facts) :=
  fun m g _ => Cert.Kernel6Ideal.Gen.frame m g

theorem frame_reference : Cert.quiescent_Reference6Ideal (hReference6Ideal := Cert.Reference6Ideal.Gen.facts) :=
  fun m g _ => (θ_run Cert.Reference6Ideal.defs _ _).mono
    (fun r h => ⟨fun c => (h c).2, Idealize.ShloMosaic.sem_eq_zero_of_no_sems (by decide) r.2⟩)
    (Cert.Reference6Ideal.Value.run (F := Ideal) m g)

/-- The call's result is the reference's, as extended reals, wherever the queries and keys are finite. -/
theorem value : Cert.algebraic_Kernel6Ideal_Reference6Ideal_pre_finite (hKernel6Ideal := Cert.Kernel6Ideal.Gen.facts)
    (hReference6Ideal := Cert.Reference6Ideal.Gen.facts) (hPre_finite := Cert.Pre_finite.Gen.facts) := by
  intro m g m' g' hpre hagree
  refine ⟨fun c => answered m c, ?_, ?_⟩
  · exact (θ_run Cert.Kernel6Ideal.defs _ _).mono (fun _ h c => ⟨(h c).1.trans (final4 m c (finite_at _ _ _ _ (hpre c))), (h c).2⟩)
      (Cert.Kernel6Ideal.Value.run_blocks (F := Ideal) m g)
  · refine (θ_run Cert.Reference6Ideal.defs _ _).mono (fun _ h c => ?_) (Cert.Reference6Ideal.Value.run (F := Ideal) m' g')
    obtain ⟨e0, e1, e2, e3⟩ := hagree c
    refine ⟨((h c).1.trans (Cert.Reference6Ideal.Reading.result_eq m' c)).trans ?_, (h c).2⟩
    rw [e0, e1, e2, e3]

end

end Cert.Attn
-- ==== Proof.Decay.lean ====
/-
  The log-decay call: each grid point's block is the log-sigmoid, over sixteen, of a low-rank product of a block of rows.
  The call pads the rank of sixteen to a hundred and twenty-eight by rows of zeros; those terms of the sum vanish.
-/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Pipeline.ValueKit
public import Idealize.ShloMosaic.Lib.Routing.OpsSet
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Decay

open Idealize.ShloMosaic.Routing (shape1 shape2)

/-! ## Rows written over the top of a matrix -/

/-- The dimension numbers of `x.at[:B].set(u)` over an `[A, N]` matrix: one index word, and an update of whole rows. -/
def topDims (A B N : Nat) (h : ScatterDims.WF (shape2 A N) (shape1 1) (shape2 B N) [0, 1] [] [0] 0) :
    ScatterDims (shape2 A N) (shape1 1) (shape2 B N) where
  updateWindowDims := [0, 1]
  insertedWindowDims := []
  scatterDimsToOperandDims := [0]
  indexVectorDim := 0
  wf := h

/-- Where an entry of the rows lands, the index word being zero: at its own place. -/
theorem lands {A B N : Nat} (h : ScatterDims.WF (shape2 A N) (shape1 1) (shape2 B N) [0, 1] [] [0] 0)
    (idx : IVec (shape1 1) 32) (hidx : ∀ i, idx i = 0#32) (p : Fin B) (q : Fin N) (r : Fin A) (j : Fin N) :
    (topDims A B N h).resultIdx? (ValueIdx.ix2 p q) idx = some (ValueIdx.ix2 r j) ↔ r.val = p.val ∧ j = q := by
  have w0 : (topDims A B N h).window (ValueIdx.ix2 p q) 0 = p.val := rfl
  have w1 : (topDims A B N h).window (ValueIdx.ix2 p q) 1 = q.val := rfl
  have s1 : (topDims A B N h).start (ValueIdx.ix2 p q) idx 1 = 0 := rfl
  have s0 : (topDims A B N h).start (ValueIdx.ix2 p q) idx 0 = 0 := by
    unfold ScatterDims.start
    rw [dif_pos (show (0 : Fin 2) ∈ (topDims A B N h).scatterDimsToOperandDims from List.mem_singleton.2 rfl), hidx]
    rfl
  rw [Routing.resultIdx?_ix2, s0, s1, w0, w1, Fin.ext_iff]
  omega

/-- The rows' part of the result. -/
theorem top_apply {α : Type} {A B N : Nat} (h : ScatterDims.WF (shape2 A N) (shape1 1) (shape2 B N) [0, 1] [] [0] 0)
    (x : (shape2 A N).Idx → α) (idx : IVec (shape1 1) 32) (hidx : ∀ i, idx i = 0#32) (u : (shape2 B N).Idx → α)
    (r : Fin A) (j : Fin N) :
    Host.scatter (topDims A B N h) (fun _ b => b) x idx u (ValueIdx.ix2 r j)
      = if hr : r.val < B then u (ValueIdx.ix2 ⟨r.val, hr⟩ j) else x (ValueIdx.ix2 r j) := by
  split_ifs with hr
  · refine Routing.scatter_set_hit _ x idx u _ _ (fun k hk => ?_) (ValueIdx.ix2 ⟨r.val, hr⟩ j) ((lands h idx hidx _ _ _ _).2 ⟨rfl, rfl⟩)
    obtain ⟨p, q, rfl⟩ : ∃ (p : Fin B) (q : Fin N), k = ValueIdx.ix2 p q :=
      ⟨⟨(k 0).val, (k 0).isLt⟩, ⟨(k 1).val, (k 1).isLt⟩, funext fun d => match d with | ⟨0, _⟩ => rfl | ⟨1, _⟩ => rfl⟩
    obtain ⟨e, rfl⟩ := (lands h idx hidx _ _ _ _).1 hk
    exact congrArg (fun p' => u (ValueIdx.ix2 p' j)) (Fin.ext e.symm)
  · refine Routing.scatter_set_miss _ x idx u _ fun k hk => hr ?_
    obtain ⟨p, q, rfl⟩ : ∃ (p : Fin B) (q : Fin N), k = ValueIdx.ix2 p q :=
      ⟨⟨(k 0).val, (k 0).isLt⟩, ⟨(k 1).val, (k 1).isLt⟩, funext fun d => match d with | ⟨0, _⟩ => rfl | ⟨1, _⟩ => rfl⟩
    have := ((lands h idx hidx _ _ _ _).1 hk).1
    omega

/-! ## The log-sigmoid over sixteen -/

theorem sixteen : Ideal.ofBits .f32 0x41800000#32 = ((16 : ℝ) : EReal) := by
  simp [Ideal.ofBits, Ideal.ieee, -EReal.coe_mul]; norm_num

theorem sixteenth : Ideal.ofBits .f32 0x3D800000#32 = ((1 / 16 : ℝ) : EReal) := by
  simp [Ideal.ofBits, Ideal.ieee, -EReal.coe_mul]; norm_num

/-- The log-sigmoid of a number, times a sixteenth, as the call takes it. -/
def gate (z : EReal) : EReal := (min z 0 - Ideal.log1p (Ideal.exp (0 - max z (-z)))) * Ideal.ofBits .f32 0x3D800000#32

theorem log1p_exp_ne_bot (y : EReal) : Ideal.log1p (Ideal.exp y) ≠ ⊥ := by
  induction y with
  | bot =>
    rw [Ideal.exp_bot, Ideal.log1p, add_zero, ← EReal.coe_one, Ideal.log_coe, if_neg (by norm_num)]
    exact EReal.coe_ne_bot _
  | top =>
    rw [Ideal.exp_top, Ideal.log1p, EReal.add_top_of_ne_bot (by decide), Ideal.log_top]
    simp
  | coe r =>
    have h : (1 : EReal) + ((Real.exp r : ℝ) : EReal) = ((1 + Real.exp r : ℝ) : EReal) := by push_cast; rfl
    have hp := Real.exp_pos r
    rw [Ideal.exp_coe, Ideal.log1p, h, Ideal.log_coe, if_neg (by linarith)]
    exact EReal.coe_ne_bot _

/-- The reference's form of it: minus the softplus of minus the number, over sixteen. -/
theorem gate_eq (z : EReal) :
    Ideal.div (-(max (-z) 0 + Ideal.log1p (Ideal.exp (-max (-z) (- -z))))) (Ideal.ofBits .f32 0x41800000#32) = gate z := by
  have hm : -max (-z) 0 = min z 0 := by
    rcases le_total z 0 with h | h
    · rw [max_eq_left (EReal.neg_nonneg.2 h), neg_neg, min_eq_left h]
    · rw [max_eq_right (by simpa using EReal.neg_le_neg_iff.2 h), neg_zero, min_eq_right h]
  have hb : max (-z) 0 ≠ ⊥ := fun h => absurd (h ▸ le_max_right (-z) 0 : (0 : EReal) ≤ ⊥) (by simp)
  rw [gate, sixteen, sixteenth, Ideal.div_coe (by norm_num), EReal.neg_add (Or.inl hb) (Or.inr (log1p_exp_ne_bot _)), hm, neg_neg,
    max_comm (-z) z, zero_sub]

end Cert.Decay

namespace Cert.Reference7Ideal.Reading

open Cert.Reference7Ideal Cert.Reference7Ideal.Gen

/-- The low-rank product and its bias. -/
def pre (x0 : FVec Ideal S8320x2048 .bf16) (x1 : FVec Ideal S1x2048x19472 .f32) (x2 : FVec Ideal S1x16x1024 .f32)
    (x3 : FVec Ideal S1x1024 .f32) : FVec Ideal S8320x1024 .f32 :=
  addf (Host.dotGeneral dot_S8320x16_S16x1024_S8320x1024_1_0_0_1_n_n none
      (Host.dotGeneral dot_S8320x2048_S2048x16_S8320x16_1_0_0_1_n_n none (extf .f32 x0 bitsLt_bf16_f32)
        (shapeCast S2048x16 (extractStridedSlice S1x2048x16 ![0, 0, 15360] x1 slices_S1x2048x19472_S1x2048x16_0_0_15360)
          shapeCasts_S1x2048x16_S2048x16))
      (shapeCast S16x1024 x2 shapeCasts_S1x16x1024_S16x1024))
    (broadcastInDim S8320x1024 ![0, 1] bcast_S1x1024_S8320x1024_0_1
      (broadcastInDim S1x1024 ![1] bcast_S1024_S1x1024_1 (shapeCast S1024 x3 shapeCasts_S1x1024_S1024)))

/-- Nought, in every place. -/
def nought : FVec Ideal S8320x1024 .f32 := broadcastInDim S8320x1024 ![] bcast_S_S8320x1024 (constant S_ .f32 0x00000000#32)

/-- The log-sigmoid over sixteen. -/
def decay (z : FVec Ideal S8320x1024 .f32) : FVec Ideal S8320x1024 .f32 :=
  Host.divf (Host.negf (select (cmpf .une (subf (Host.negf z) nought) (subf (Host.negf z) nought)) (addf (Host.negf z) nought)
    (addf (maximumf (Host.negf z) nought) (Host.log1p (Host.exp (Host.negf (Host.absf (subf (Host.negf z) nought))))))))
    (broadcastInDim S8320x1024 ![] bcast_S_S8320x1024 (constant S_ .f32 0x41800000#32))

theorem pre_apply (x0 : FVec Ideal S8320x2048 .bf16) (x1 : FVec Ideal S1x2048x19472 .f32) (x2 : FVec Ideal S1x16x1024 .f32)
    (x3 : FVec Ideal S1x1024 .f32) (r : Fin 8320) (j : Fin 1024) :
    pre x0 x1 x2 x3 (ix2 r j)
      = (∑ k : Fin 16, (∑ l : Fin 2048, x0 (ix2 r l) * x1 (ix3 0 l ⟨15360 + k.val, by omega⟩)) * x2 (ix3 0 k j)) + x3 (ix2 0 j) := by
  pointwise [pre]

theorem decay_apply (z : FVec Ideal S8320x1024 .f32) (r : Fin 8320) (j : Fin 1024) :
    decay z (ix2 r j) = Cert.Decay.gate (z (ix2 r j)) := by
  rw [← Cert.Decay.gate_eq]
  pointwise [decay, nought]
  simp only [ne_eq, not_true_eq_false, if_false, Ideal.absf_def]

theorem result_eq (m : (ℓ : Loc nD τ sig) → Buf (Elt Ideal) ℓ) (c : Dev nD) :
    Cert.Reference7Ideal.Value.res_main_v12 m c = decay (pre (m ((c.tc : Thread nD τ).loc main_arg0)) (m ((c.tc : Thread nD τ).loc main_arg1))
      (m ((c.tc : Thread nD τ).loc main_arg2)) (m ((c.tc : Thread nD τ).loc main_arg3))) := rfl

end Cert.Reference7Ideal.Reading

namespace Cert.Decay

open Cert.Kernel7Ideal Cert.Kernel7Ideal.Gen Cert.Reference7Ideal.Reading

/-- The block a grid point stores: the gate of the padded low-rank product of its rows. -/
theorem block_apply (x0 : Vec Ideal S832x2048 .bf16) (x1 : Vec Ideal S128x2048 .bf16) (x2 : Vec Ideal S128x1024 .bf16) (x3 : Vec Ideal S1x1024 .f32) (p : Fin 832) (q : Fin 1024) :
    k0_pay1 x0 x1 x2 x3 (ix2 p q)
      = gate ((∑ k : Fin 128, (∑ l : Fin 2048, x0 (ix2 p l) * x1 (ix2 k l)) * x2 (ix2 k q)) + x3 (ix2 0 q)) := by
  pointwise [k0_pay1, gate]
  simp only [Ideal.absf_def]

/-- A sum over the padded rank, the padding's terms being nought. -/
theorem sum_padded (f : Fin 128 → EReal) (g : Fin 16 → EReal) (h : ∀ k : Fin 128, f k = if hk : k.val < 16 then g ⟨k.val, hk⟩ else 0) :
    ∑ k, f k = ∑ k, g k := by
  rw [← Finset.sum_subset (Finset.subset_univ (Finset.univ.map (Fin.castLEEmb (by decide : 16 ≤ 128)))) (fun k _ hk => ?_), Finset.sum_map]
  · refine Finset.sum_congr rfl fun k _ => ?_
    rw [h, dif_pos (show (Fin.castLEEmb (by decide : 16 ≤ 128) k).val < 16 from k.isLt)]
    rfl
  · rw [h, dif_neg fun hk' => hk (Finset.mem_map.2 ⟨⟨k.val, hk'⟩, Finset.mem_univ _, rfl⟩)]

theorem idx0 : ∀ t : Fin cfg0.N, win0_0.index t = ![t.val, 0] := (by decide +kernel : ∀ t : Fin grid0.N, win0_0.index t = ![t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0] := (by decide +kernel : ∀ t : Fin grid0.N, win0_4.index t = ![t.val, 0])

/-- The columns of the weight of the low rank, as rows, over zeros. -/
def down (w : FVec Ideal S1x2048x19472 .f32) : FVec Ideal S128x2048 .bf16 :=
  Host.scatter scatter_S128x2048_S1_S16x2048_01_n_0_0 (fun _ b => b)
    (broadcastInDim S128x2048 ![] bcast_S_S128x2048 (constant S_ .bf16 0x0000#16))
    (broadcastInDim S1 ![] bcast_S_S1 (constantI S_ 32 0#32))
    (truncf .bf16 (extractStridedSlice S16x2048 ![15360, 0]
      (transpose S19472x2048 [1, 0] (shapeCast S2048x19472 w shapeCasts_S1x2048x19472_S2048x19472) transposes_S2048x19472_S19472x2048_1_0)
      slices_S19472x2048_S16x2048_15360_0) bitsLt_bf16_f32)

/-- The second weight, over zeros. -/
def up (w : FVec Ideal S1x16x1024 .f32) : FVec Ideal S128x1024 .bf16 :=
  Host.scatter scatter_S128x1024_S1_S16x1024_01_n_0_0 (fun _ b => b)
    (broadcastInDim S128x1024 ![] bcast_S_S128x1024 (constant S_ .bf16 0x0000#16))
    (broadcastInDim S1 ![] bcast_S_S1 (constantI S_ 32 0#32))
    (truncf .bf16 (shapeCast S16x1024 w shapeCasts_S1x16x1024_S16x1024) bitsLt_bf16_f32)

/-- The columns of the low rank, nought past the sixteenth. -/
def downAt (w : FVec Ideal S1x2048x19472 .f32) (k : Fin 128) (l : Fin 2048) : EReal :=
  if h : k.val < 16 then w (ix3 0 l ⟨15360 + k.val, by omega⟩) else 0

/-- The rows of the second weight, nought past the sixteenth. -/
def upAt (w : FVec Ideal S1x16x1024 .f32) (k : Fin 128) (j : Fin 1024) : EReal :=
  if h : k.val < 16 then w (ix3 0 ⟨k.val, h⟩ j) else 0

theorem down_apply (w : FVec Ideal S1x2048x19472 .f32) (k : Fin 128) (l : Fin 2048) : down w (ix2 k l) = downAt w k l := by
  unfold down downAt
  refine (top_apply scatter_S128x2048_S1_S16x2048_01_n_0_0_wf _ _ (fun _ => rfl) _ k l).trans ?_
  split_ifs with h
  · pointwise []
  · pointwise []

theorem up_apply (w : FVec Ideal S1x16x1024 .f32) (k : Fin 128) (j : Fin 1024) :
    up w (ix2 k j) = upAt w k j := by
  unfold up upAt
  refine (top_apply scatter_S128x1024_S1_S16x1024_01_n_0_0_wf _ _ (fun _ => rfl) _ k j).trans ?_
  split_ifs with h
  · pointwise []
  · pointwise []

variable (m : (ℓ : Loc nD τ sig) → Buf (Elt Ideal) ℓ)

theorem V_down (c : Dev nD) : Gen.V m c main_v8 = down (m ((c : Thread nD τ).loc main_arg1)) := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

theorem V_up (c : Dev nD) : Gen.V m c main_v12 = up (m ((c : Thread nD τ).loc main_arg2)) := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

theorem V_bias (c : Dev nD) : Gen.V m c main_v13 = shapeCast S1x1024 (shapeCast S1024 (m ((c : Thread nD τ).loc main_arg3)) shapeCasts_S1x1024_S1024) shapeCasts_S1024_S1x1024 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

variable (d : Dev nD) (t : Fin cfg0.N)

theorem lt_N : t.val < 10 := lt_of_lt_of_eq t.isLt N_0

theorem block_x (p : Fin 832) (l : Fin 2048) : (show Vec Ideal S832x2048 .bf16 from iblk m d 0 t) (ix2 p l)
    = m ((d : Thread nD τ).loc main_arg0) (ix2 ⟨t.val * 832 + p.val, by have := lt_N t; omega⟩ l) := by
  have := lt_N t
  refine Eq.trans (b := Gen.V m d main_arg0 (ix2 ⟨t.val * 832 + p.val, by omega⟩ l)) ?_ ?_
  · blk_ext [iblk, idx0 t]
  · rw [V_main_arg0]

theorem block_down (k : Fin 128) (l : Fin 2048) : (show Vec Ideal S128x2048 .bf16 from iblk m d 1 t) (ix2 k l)
    = downAt (m ((d : Thread nD τ).loc main_arg1)) k l := by
  unfold iblk
  generalize hW : V m d (Pipeline.arrRef spec0 1) = W
  have hW' : W = down (m ((d : Thread nD τ).loc main_arg1)) := hW.symm.trans (V_down m d)
  clear hW
  refine Eq.trans (b := W (ix2 k l)) ?_ ?_
  · clear hW'
    blk_ext [idx1 t]
  · rw [hW']
    exact down_apply _ _ _

theorem block_up (k : Fin 128) (j : Fin 1024) : (show Vec Ideal S128x1024 .bf16 from iblk m d 2 t) (ix2 k j)
    = upAt (m ((d : Thread nD τ).loc main_arg2)) k j := by
  unfold iblk
  generalize hW : V m d (Pipeline.arrRef spec0 2) = W
  have hW' : W = up (m ((d : Thread nD τ).loc main_arg2)) := hW.symm.trans (V_up m d)
  clear hW
  refine Eq.trans (b := W (ix2 k j)) ?_ ?_
  · clear hW'
    blk_ext [idx2 t]
  · rw [hW']
    exact up_apply _ _ _

theorem block_bias (j : Fin 1024) : (show Vec Ideal S1x1024 .f32 from iblk m d 3 t) (ix2 0 j)
    = m ((d : Thread nD τ).loc main_arg3) (ix2 0 j) := by
  refine Eq.trans (b := Gen.V m d main_v13 (ix2 0 j)) ?_ ?_
  · blk_ext [iblk, idx3 t]
  · rw [V_bias]; pointwise []

/-- The call's result, from its arguments. -/
abbrev result (m : (ℓ : Loc nD τ sig) → Buf (Elt Ideal) ℓ) (d : Dev nD) : FVec Ideal Reference7Ideal.S8320x1024 .f32 :=
  decay (pre (m ((d : Thread nD τ).loc main_arg0)) (m ((d : Thread nD τ).loc main_arg1)) (m ((d : Thread nD τ).loc main_arg2))
    (m ((d : Thread nD τ).loc main_arg3)))

/-- The call's result: the log decays. -/
theorem final4 : (dats m 0 d).arrAt 4 cfg0.N = result m d := by
  refine (dats m 0 d).arrAt_eq_of_covers 4 _ (by decide +kernel) fun t _ y => ?_
  blk_simp
  rw [after0_4]
  unfold out0_4
  frame_out
  have ht := lt_N t
  obtain ⟨p, q, rfl⟩ : ∃ (p : Fin 832) (q : Fin 1024), y = ix2 p q :=
    ⟨⟨(y 0).val, (y 0).isLt⟩, ⟨(y 1).val, (y 1).isLt⟩, funext fun d => match d with | ⟨0, _⟩ => rfl | ⟨1, _⟩ => rfl⟩
  refine (block_apply _ _ _ _ p q).trans ?_
  refine Eq.trans (b := result m d (ix2 ⟨t.val * 832 + p.val, by omega⟩ q)) ?_ ?_
  · rw [result, decay_apply, pre_apply]
    refine congrArg gate (congrArg₂ _ (sum_padded _ _ fun k => ?_) (block_bias m d t q))
    have hup := block_up m d t k q
    have hd : ∀ l, _ := fun l => block_down m d t k l
    unfold upAt at hup
    unfold downAt at hd
    split_ifs at hup hd ⊢ with hk
    · exact congrArg₂ _ (Finset.sum_congr rfl fun l _ => congrArg₂ _ (block_x m d t p l) (hd l)) hup
    · exact (congrArg₂ _ rfl hup).trans (mul_zero _)
  · blk_ext [idx4 t]

theorem frame : Cert.quiescent_Kernel7 (hKernel7 := Cert.Kernel7.Gen.facts) := fun m g _ => Cert.Kernel7.Gen.frame m g

theorem frame_ideal : Cert.quiescent_Kernel7Ideal (hKernel7Ideal := Cert.Kernel7Ideal.Gen.facts) :=
  fun m g _ => Cert.Kernel7Ideal.Gen.frame m g

theorem frame_reference : Cert.quiescent_Reference7Ideal (hReference7Ideal := Cert.Reference7Ideal.Gen.facts) :=
  fun m g _ => (θ_run Cert.Reference7Ideal.defs _ _).mono
    (fun r h => ⟨fun c => (h c).2, Idealize.ShloMosaic.sem_eq_zero_of_no_sems (by decide) r.2⟩)
    (Cert.Reference7Ideal.Value.run (F := Ideal) m g)

/-- The call's result is the reference's, as extended reals, at every input. -/
theorem value : Cert.algebraic_Kernel7Ideal_Reference7Ideal (hKernel7Ideal := Cert.Kernel7Ideal.Gen.facts)
    (hReference7Ideal := Cert.Reference7Ideal.Gen.facts) := by
  intro m g m' g' _ hagree
  refine ⟨fun c => result m c, ?_, ?_⟩
  · exact (θ_run Cert.Kernel7Ideal.defs _ _).mono (fun _ h c => ⟨(h c).1.trans (final4 m c), (h c).2⟩)
      (Cert.Kernel7Ideal.Value.run_blocks (F := Ideal) m g)
  · refine (θ_run Cert.Reference7Ideal.defs _ _).mono (fun _ h c => ?_) (Cert.Reference7Ideal.Value.run (F := Ideal) m' g')
    obtain ⟨e0, e1, e2, e3⟩ := hagree c
    refine ⟨((h c).1.trans (Cert.Reference7Ideal.Reading.result_eq m' c)).trans ?_, (h c).2⟩
    rw [e0, e1, e2, e3]

end Cert.Decay
-- ==== Proof.Norm.lean ====
/-
  The embeddings' layer norm: the call takes the prompt's rows four groups of a hundred and twenty-eight at a time, and the sample's
  at its last grid point; together they are the layer norm of the prompt's rows followed by the sample's.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Adequacy
public import Idealize.ShloMosaic.Init

@[expose] public section

set_option maxRecDepth 16384

noncomputable section

open Idealize.ShloMosaic Idealize.ShloMosaic.TcCoe Idealize.SL.Sem
open Idealize.ShloMosaic.Pipeline (Dat)

namespace Cert.Norm

/-- The mean of a row. -/
def mean (f : Fin 2048 → EReal) : EReal := Ideal.div (∑ l, f l) (Ideal.ofBits .f32 0x45000000#32)

/-- A row after the layer norm, at one place, from that place's weight and bias. -/
def row (f : Fin 2048 → EReal) (g b : EReal) (j : Fin 2048) : EReal :=
  (f j - mean f) * Ideal.rsqrt (mean (fun l => (f l - mean f) * (f l - mean f)) + Ideal.ofBits .f32 0x3727C5AC#32) * g + b

end Cert.Norm

namespace Cert.Reference8Ideal.Reading

open Cert.Reference8Ideal Cert.Reference8Ideal.Gen

/-- The mean of each of the prompt's rows. -/
def meanP (x : FVec Ideal S1x8192x2048 .f32) : FVec Ideal S1x8192x1 .f32 :=
  Host.divf (broadcastInDim S1x8192x1 ![0, 1] bcast_S1x8192_S1x8192x1_0_1
    (Host.reduceAdd x (constant S_ .f32 0x00000000#32) reducesTo_S1x8192x2048_S1x8192_d2 h_S_))
    (broadcastInDim S1x8192x1 ![] bcast_S_S1x8192x1 (constant S_ .f32 0x45000000#32))

/-- The prompt's rows less their means. -/
def centredP (x : FVec Ideal S1x8192x2048 .f32) : FVec Ideal S1x8192x2048 .f32 :=
  subf x (broadcastInDim S1x8192x2048 ![0, 1, 2] bcast_S1x8192x1_S1x8192x2048_0_1_2 (meanP x))

/-- The layer norm of the prompt's rows. -/
def normP (x : FVec Ideal S1x8192x2048 .f32) (g b : FVec Ideal S2048 .f32) : FVec Ideal S1x8192x2048 .f32 :=
  addf (mulf (mulf (centredP x) (broadcastInDim S1x8192x2048 ![0, 1, 2] bcast_S1x8192x1_S1x8192x2048_0_1_2
      (Host.rsqrt (addf (meanP (mulf (centredP x) (centredP x)))
        (broadcastInDim S1x8192x1 ![] bcast_S_S1x8192x1 (constant S_ .f32 0x3727C5AC#32))))))
    (broadcastInDim S1x8192x2048 ![0, 1, 2] bcast_S1x1x2048_S1x8192x2048_0_1_2 (broadcastInDim S1x1x2048 ![2] bcast_S2048_S1x1x2048_2 g)))
    (broadcastInDim S1x8192x2048 ![0, 1, 2] bcast_S1x1x2048_S1x8192x2048_0_1_2 (broadcastInDim S1x1x2048 ![2] bcast_S2048_S1x1x2048_2 b))

/-- The mean of each of the sample's rows. -/
def meanS (x : FVec Ideal S32x4x2048 .f32) : FVec Ideal S32x4x1 .f32 :=
  Host.divf (broadcastInDim S32x4x1 ![0, 1] bcast_S32x4_S32x4x1_0_1
    (Host.reduceAdd x (constant S_ .f32 0x00000000#32) reducesTo_S32x4x2048_S32x4_d2 h_S_))
    (broadcastInDim S32x4x1 ![] bcast_S_S32x4x1 (constant S_ .f32 0x45000000#32))

/-- The sample's rows less their means. -/
def centredS (x : FVec Ideal S32x4x2048 .f32) : FVec Ideal S32x4x2048 .f32 :=
  subf x (broadcastInDim S32x4x2048 ![0, 1, 2] bcast_S32x4x1_S32x4x2048_0_1_2 (meanS x))

/-- The layer norm of the sample's rows. -/
def normS (x : FVec Ideal S32x4x2048 .f32) (g b : FVec Ideal S2048 .f32) : FVec Ideal S32x4x2048 .f32 :=
  addf (mulf (mulf (centredS x) (broadcastInDim S32x4x2048 ![0, 1, 2] bcast_S32x4x1_S32x4x2048_0_1_2
      (Host.rsqrt (addf (meanS (mulf (centredS x) (centredS x)))
        (broadcastInDim S32x4x1 ![] bcast_S_S32x4x1 (constant S_ .f32 0x3727C5AC#32))))))
    (broadcastInDim S32x4x2048 ![0, 1, 2] bcast_S1x1x2048_S32x4x2048_0_1_2 (broadcastInDim S1x1x2048 ![2] bcast_S2048_S1x1x2048_2 g)))
    (broadcastInDim S32x4x2048 ![0, 1, 2] bcast_S1x1x2048_S32x4x2048_0_1_2 (broadcastInDim S1x1x2048 ![2] bcast_S2048_S1x1x2048_2 b))

/-- The two, one after the other, in groups of a hundred and twenty-eight rows. -/
def result (x : FVec Ideal S1x8192x2048 .f32) (y : FVec Ideal S32x4x2048 .f32) (g b : FVec Ideal S2048 .f32) : FVec Ideal S65x128x2048 .f32 :=
  concatenate S65x128x2048 0 [⟨S64x128x2048, (shapeCast S64x128x2048 (normP x g b) shapeCasts_S1x8192x2048_S64x128x2048)⟩,
    ⟨S1x128x2048, (shapeCast S1x128x2048 (normS y g b) shapeCasts_S32x4x2048_S1x128x2048)⟩] concatenates_S64x128x2048_S1x128x2048_S65x128x2048_d0

theorem normP_apply (x : FVec Ideal S1x8192x2048 .f32) (g b : FVec Ideal S2048 .f32) (r : Fin 8192) (j : Fin 2048) :
    normP x g b (ix3 0 r j) = Cert.Norm.row (fun l => x (ix3 0 r l)) (g (ix1 j)) (b (ix1 j)) j := by
  pointwise [normP, centredP, meanP, Cert.Norm.row, Cert.Norm.mean]

theorem normS_apply (x : FVec Ideal S32x4x2048 .f32) (g b : FVec Ideal S2048 .f32) (r : Fin 32) (s : Fin 4) (j : Fin 2048) :
    normS x g b (ix3 r s j) = Cert.Norm.row (fun l => x (ix3 r s l)) (g (ix1 j)) (b (ix1 j)) j := by
  pointwise [normS, centredS, meanS, Cert.Norm.row, Cert.Norm.mean]

theorem result_apply (x : FVec Ideal S1x8192x2048 .f32) (y : FVec Ideal S32x4x2048 .f32) (g b : FVec Ideal S2048 .f32)
    (a : Fin 65) (p : Fin 128) (j : Fin 2048) :
    result x y g b (ix3 a p j) = Cert.Norm.row
      (fun l => if h : a.val < 64 then x (ix3 0 ⟨a.val * 128 + p.val, by omega⟩ l) else y (ix3 ⟨p.val / 4, by omega⟩ ⟨p.val % 4, by omega⟩ l))
      (g (ix1 j)) (b (ix1 j)) j := by
  by_cases h : a.val < 64
  · simp only [dif_pos h]
    rw [← normP_apply]
    pointwise [result]
    exact dif_pos h
  · simp only [dif_neg h]
    rw [← normS_apply]
    pointwise [result]
    exact dif_neg h

theorem result_eq (m : (ℓ : Loc nD τ sig) → Buf (Elt Ideal) ℓ) (c : Dev nD) :
    Cert.Reference8Ideal.Value.res_main_v50 m c = result (m ((c.tc : Thread nD τ).loc main_arg0)) (m ((c.tc : Thread nD τ).loc main_arg1))
      (m ((c.tc : Thread nD τ).loc main_arg2)) (m ((c.tc : Thread nD τ).loc main_arg3)) := rfl

theorem result_eq' (m : (ℓ : Loc nD τ sig) → Buf (Elt Ideal) ℓ) (c : Dev nD) :
    Cert.Reference8Ideal.Value.res_main_v51 m c = truncf .bf16 (result (m ((c.tc : Thread nD τ).loc main_arg0)) (m ((c.tc : Thread nD τ).loc main_arg1))
      (m ((c.tc : Thread nD τ).loc main_arg2)) (m ((c.tc : Thread nD τ).loc main_arg3))) bitsLt_bf16_f32 := rfl

end Cert.Reference8Ideal.Reading

namespace Cert.Norm

open Cert.Kernel8Ideal Cert.Kernel8Ideal.Gen Cert.Reference8Ideal.Reading

/-- Whether a grid point takes the prompt's rows, as the word the call chooses by. -/
def prompt (i : grid0.Coords) : BitVec 1 := Scalar.cmpi .slt (BitVec.ofNat 32 (i 0).val) 16#32

theorem prompt_eq : ∀ t : Fin cfg0.N, prompt (grid0.coords t) = if t.val < 16 then 1#1 else 0#1 :=
  (by decide +kernel : ∀ t : Fin grid0.N, prompt (grid0.coords t) = if t.val < 16 then 1#1 else 0#1)

/-- The block a grid point stores: the layer norm of the rows it chooses. -/
theorem block_apply (i : grid0.Coords) (x0 : Vec Ideal S4x128x2048 .f32) (x1 : Vec Ideal S128x2048 .f32) (x2 x3 : Vec Ideal S1x2048 .f32)
    (a : Fin 4) (p : Fin 128) (j : Fin 2048) :
    k0_pay1 i x0 x1 x2 x3 (ix3 a p j)
      = row (fun l => if prompt i = 1#1 then x0 (ix3 a p l) else x1 (ix2 p l)) (x2 (ix2 0 j)) (x3 (ix2 0 j)) j := by
  by_cases h : prompt i = 1#1
  · have h' : Scalar.cmpi .slt (BitVec.ofNat 32 (i 0).val) 16#32 = 1 := h
    simp only [h, if_true]
    pointwise [k0_pay1, Scalar.select, if_pos h', row, mean]
  · have h' : ¬ Scalar.cmpi .slt (BitVec.ofNat 32 (i 0).val) 16#32 = 1 := h
    simp only [h, if_false]
    pointwise [k0_pay1, Scalar.select, if_neg h', row, mean]

theorem idx0 : ∀ t : Fin cfg0.N, win0_0.index t = ![min t.val 15, 0, 0] := (by decide +kernel : ∀ t : Fin grid0.N, win0_0.index t = ![min t.val 15, 0, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![t.val, 0, 0] := (by decide +kernel : ∀ t : Fin grid0.N, win0_4.index t = ![t.val, 0, 0])
theorem idx5 : ∀ t : Fin cfg0.N, win0_5.index t = ![t.val, 0, 0] := (by decide +kernel : ∀ t : Fin grid0.N, win0_5.index t = ![t.val, 0, 0])

theorem groups_apply (x : FVec Ideal S1x8192x2048 .f32) (a : Fin 64) (p : Fin 128) (l : Fin 2048) :
    shapeCast S64x128x2048 (shapeCast S8192x2048 x shapeCasts_S1x8192x2048_S8192x2048) shapeCasts_S8192x2048_S64x128x2048 (ix3 a p l)
      = x (ix3 0 ⟨a.val * 128 + p.val, by omega⟩ l) := by
  pointwise []

theorem rows_apply (x : FVec Ideal S32x4x2048 .f32) (r : Fin 32) (s : Fin 4) (l : Fin 2048) :
    shapeCast S128x2048 x shapeCasts_S32x4x2048_S128x2048 (ix2 ⟨r.val * 4 + s.val, by omega⟩ l) = x (ix3 r s l) := by
  pointwise []

/-- Rows that agree have one layer norm. -/
theorem row_congr {f f' : Fin 2048 → EReal} {g g' b b' : EReal} (hf : ∀ l, f l = f' l) (hg : g = g') (hb : b = b') (j : Fin 2048) :
    row f g b j = row f' g' b' j := by
  rw [hg, hb, funext hf]

variable (m : (ℓ : Loc nD τ sig) → Buf (Elt Ideal) ℓ)

theorem V_x (c : Dev nD) : Gen.V m c main_v2 = shapeCast S64x128x2048 (shapeCast S8192x2048 (m ((c : Thread nD τ).loc main_arg0)) shapeCasts_S1x8192x2048_S8192x2048) shapeCasts_S8192x2048_S64x128x2048 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

theorem V_y (c : Dev nD) : Gen.V m c main_v1 = shapeCast S128x2048 (m ((c : Thread nD τ).loc main_arg1)) shapeCasts_S32x4x2048_S128x2048 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

theorem V_g (c : Dev nD) : Gen.V m c main_v3 = shapeCast S1x2048 (m ((c : Thread nD τ).loc main_arg2)) shapeCasts_S2048_S1x2048 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

theorem V_b (c : Dev nD) : Gen.V m c main_v4 = shapeCast S1x2048 (m ((c : Thread nD τ).loc main_arg3)) shapeCasts_S2048_S1x2048 := by
  simp only [Gen.V, hostOps0, List.flatten_cons, List.flatten_nil, List.append_nil, List.cons_append, List.nil_append, StableHlo.TRef.unary, StableHlo.TRef.binary, StableHlo.TRef.toBuf, StableHlo.TRef.ofBuf, cast_eq]
  after_results_simp <;> rfl

variable (d : Dev nD) (t : Fin cfg0.N)

theorem lt_N : t.val < 17 := lt_of_lt_of_eq t.isLt N_0

theorem block_x (a : Fin 4) (p : Fin 128) (l : Fin 2048) : (show Vec Ideal S4x128x2048 .f32 from iblk m d 0 t) (ix3 a p l)
    = m ((d : Thread nD τ).loc main_arg0) (ix3 0 ⟨(min t.val 15 * 4 + a.val) * 128 + p.val, by have := lt_N t; omega⟩ l) := by
  have := lt_N t
  refine Eq.trans (b := Gen.V m d main_v2 (ix3 ⟨min t.val 15 * 4 + a.val, by omega⟩ p l)) ?_ ?_
  · blk_ext [iblk, idx0 t]
  · rw [V_x]; exact groups_apply _ _ _ _

theorem block_y (p : Fin 128) (l : Fin 2048) : (show Vec Ideal S128x2048 .f32 from iblk m d 1 t) (ix2 p l)
    = m ((d : Thread nD τ).loc main_arg1) (ix3 ⟨p.val / 4, by omega⟩ ⟨p.val % 4, by omega⟩ l) := by
  refine Eq.trans (b := Gen.V m d main_v1 (ix2 p l)) ?_ ?_
  · blk_ext [iblk, idx1 t]
  · rw [V_y]
    refine (congrArg (fun r => shapeCast S128x2048 _ shapeCasts_S32x4x2048_S128x2048 (ix2 r l)) (Fin.ext ?_)).trans
      (rows_apply _ ⟨p.val / 4, by omega⟩ ⟨p.val % 4, by omega⟩ l)
    show p.val = p.val / 4 * 4 + p.val % 4
    omega

theorem block_g (j : Fin 2048) : (show Vec Ideal S1x2048 .f32 from iblk m d 2 t) (ix2 0 j) = m ((d : Thread nD τ).loc main_arg2) (ix1 j) := by
  refine Eq.trans (b := Gen.V m d main_v3 (ix2 0 j)) ?_ ?_
  · blk_ext [iblk, idx2 t]
  · rw [V_g]; pointwise []

theorem block_b (j : Fin 2048) : (show Vec Ideal S1x2048 .f32 from iblk m d 3 t) (ix2 0 j) = m ((d : Thread nD τ).loc main_arg3) (ix1 j) := by
  refine Eq.trans (b := Gen.V m d main_v4 (ix2 0 j)) ?_ ?_
  · blk_ext [iblk, idx3 t]
  · rw [V_b]; pointwise []

/-- The call's first result, from its arguments. -/
abbrev normed (m : (ℓ : Loc nD τ sig) → Buf (Elt Ideal) ℓ) (d : Dev nD) : FVec Ideal Reference8Ideal.S65x128x2048 .f32 :=
  result (m ((d : Thread nD τ).loc main_arg0)) (m ((d : Thread nD τ).loc main_arg1)) (m ((d : Thread nD τ).loc main_arg2))
    (m ((d : Thread nD τ).loc main_arg3))

/-- What a grid point stores, at an entry inside the array, is the reference's entry there. -/
theorem stored (a : Fin 4) (p : Fin 128) (j : Fin 2048) (h : t.val * 4 + a.val < 65) :
    k0_pay1 (grid0.coords t) (show Vec Ideal S4x128x2048 .f32 from iblk m d 0 t) (show Vec Ideal S128x2048 .f32 from iblk m d 1 t)
      (show Vec Ideal S1x2048 .f32 from iblk m d 2 t) (show Vec Ideal S1x2048 .f32 from iblk m d 3 t) (ix3 a p j)
      = normed m d (ix3 ⟨t.val * 4 + a.val, h⟩ p j) := by
  refine (block_apply _ _ _ _ _ a p j).trans ?_
  rw [normed, result_apply, prompt_eq]
  refine row_congr (fun l => ?_) (block_g m d t j) (block_b m d t j) j
  by_cases h16 : t.val < 16
  · have h64 : t.val * 4 + a.val < 64 := by omega
    rw [if_pos (by rw [if_pos h16]), dif_pos h64]
    refine (block_x m d t a p l).trans (congrArg (fun r => m ((d : Thread nD τ).loc main_arg0) (ix3 0 r l)) (Fin.ext ?_))
    show (min t.val 15 * 4 + a.val) * 128 + p.val = (t.val * 4 + a.val) * 128 + p.val
    omega
  · have h64 : ¬ t.val * 4 + a.val < 64 := by omega
    rw [if_neg (by rw [if_neg h16]; decide), dif_neg h64]
    exact block_y m d t p l

/-- An index of a rank-three shape is determined by its coordinates' values. -/
theorem ext3 {n0 n1 n2 : Nat} {x : (⟨3, ![n0, n1, n2]⟩ : Shape).Idx} {a : Fin n0} {b : Fin n1} {c : Fin n2}
    (h0 : (x 0).val = a.val) (h1 : (x 1).val = b.val) (h2 : (x 2).val = c.val) : x = ix3 a b c :=
  funext fun d => match d with | ⟨0, _⟩ => Fin.ext h0 | ⟨1, _⟩ => Fin.ext h1 | ⟨2, _⟩ => Fin.ext h2

/-- The call's first result: the layer norm. -/
theorem final4 : (dats m 0 d).arrAt 4 cfg0.N = normed m d := by
  refine (dats m 0 d).arrAt_eq_of_covers 4 _ (by decide +kernel) fun t _ y => ?_
  blk_simp
  rw [after0_4]
  unfold out0_4
  frame_out
  have e0 : ((win0_4.rect t).emb y 0).val = t.val * 4 + (y 0).val := (win0_4.rect_emb_val t y 0).trans (by rw [idx4]; rfl)
  have e1 : ((win0_4.rect t).emb y 1).val = (y 1).val := (win0_4.rect_emb_val t y 1).trans (by rw [idx4]; exact (congrArg (· + _) (Nat.zero_mul _)).trans (Nat.zero_add _))
  have e2 : ((win0_4.rect t).emb y 2).val = (y 2).val := (win0_4.rect_emb_val t y 2).trans (by rw [idx4]; exact (congrArg (· + _) (Nat.zero_mul _)).trans (Nat.zero_add _))
  have h0 : t.val * 4 + (y 0).val < 65 := e0 ▸ ((win0_4.rect t).emb y 0).isLt
  obtain ⟨a, p, j, hy⟩ : ∃ (a : Fin 4) (p : Fin 128) (j : Fin 2048), (win0 4).xinj (grid0.coords t) y = ix3 a p j :=
    ⟨(win0 4).xinj (grid0.coords t) y 0, (win0 4).xinj (grid0.coords t) y 1, (win0 4).xinj (grid0.coords t) y 2, ext3 rfl rfl rfl⟩
  have y0 : (y 0).val = a.val := congrArg (fun z : S4x128x2048.Idx => (z 0).val) hy
  have y1 : (y 1).val = p.val := congrArg (fun z : S4x128x2048.Idx => (z 1).val) hy
  have y2 : (y 2).val = j.val := congrArg (fun z : S4x128x2048.Idx => (z 2).val) hy
  rw [y0] at h0
  refine Eq.trans (congrArg _ hy) ((stored m d t a p j h0).trans (congrArg (normed m d) ?_))
  exact (ext3 (e0.trans (congrArg _ y0)) (e1.trans y1) (e2.trans y2)).symm

/-- The call's second result: the first, rounded. -/
theorem final5 : (dats m 0 d).arrAt 5 cfg0.N = truncf .bf16 (normed m d) Reference8Ideal.Gen.bitsLt_bf16_f32 := by
  refine (dats m 0 d).arrAt_eq_of_covers 5 _ (by decide +kernel) fun t _ y => ?_
  blk_simp
  rw [after0_5]
  unfold out0_5
  frame_out
  have e0 : ((win0_5.rect t).emb y 0).val = t.val * 4 + (y 0).val := (win0_5.rect_emb_val t y 0).trans (by rw [idx5]; rfl)
  have e1 : ((win0_5.rect t).emb y 1).val = (y 1).val := (win0_5.rect_emb_val t y 1).trans (by rw [idx5]; exact (congrArg (· + _) (Nat.zero_mul _)).trans (Nat.zero_add _))
  have e2 : ((win0_5.rect t).emb y 2).val = (y 2).val := (win0_5.rect_emb_val t y 2).trans (by rw [idx5]; exact (congrArg (· + _) (Nat.zero_mul _)).trans (Nat.zero_add _))
  have h0 : t.val * 4 + (y 0).val < 65 := e0 ▸ ((win0_5.rect t).emb y 0).isLt
  obtain ⟨a, p, j, hy⟩ : ∃ (a : Fin 4) (p : Fin 128) (j : Fin 2048), (win0 5).xinj (grid0.coords t) y = ix3 a p j :=
    ⟨(win0 5).xinj (grid0.coords t) y 0, (win0 5).xinj (grid0.coords t) y 1, (win0 5).xinj (grid0.coords t) y 2, ext3 rfl rfl rfl⟩
  have y0 : (y 0).val = a.val := congrArg (fun z : S4x128x2048.Idx => (z 0).val) hy
  have y1 : (y 1).val = p.val := congrArg (fun z : S4x128x2048.Idx => (z 1).val) hy
  have y2 : (y 2).val = j.val := congrArg (fun z : S4x128x2048.Idx => (z 2).val) hy
  rw [y0] at h0
  refine Eq.trans (congrArg _ hy) (Eq.trans (b := normed m d (ix3 ⟨t.val * 4 + a.val, h0⟩ p j)) (stored m d t a p j h0) ?_)
  exact congrArg (normed m d) (ext3 (e0.trans (congrArg _ y0)) (e1.trans y1) (e2.trans y2)).symm

theorem frame : Cert.quiescent_Kernel8 (hKernel8 := Cert.Kernel8.Gen.facts) := fun m g _ => Cert.Kernel8.Gen.frame m g

theorem frame_ideal : Cert.quiescent_Kernel8Ideal (hKernel8Ideal := Cert.Kernel8Ideal.Gen.facts) :=
  fun m g _ => Cert.Kernel8Ideal.Gen.frame m g

theorem frame_reference : Cert.quiescent_Reference8Ideal (hReference8Ideal := Cert.Reference8Ideal.Gen.facts) :=
  fun m g _ => (θ_run Cert.Reference8Ideal.defs _ _).mono
    (fun r h => ⟨fun c => (h c).2.2, Idealize.ShloMosaic.sem_eq_zero_of_no_sems (by decide) r.2⟩)
    (Cert.Reference8Ideal.Value.run (F := Ideal) m g)

/-- The call's results are the reference's, as extended reals, at every input. -/
theorem value : Cert.algebraic_Kernel8Ideal_Reference8Ideal (hKernel8Ideal := Cert.Kernel8Ideal.Gen.facts)
    (hReference8Ideal := Cert.Reference8Ideal.Gen.facts) := by
  intro m g m' g' _ hagree
  refine ⟨fun c => normed m c, fun c => truncf .bf16 (normed m c) Reference8Ideal.Gen.bitsLt_bf16_f32, ?_, ?_⟩
  · exact (θ_run Cert.Kernel8Ideal.defs _ _).mono (fun _ h c => ⟨(h c).1.trans (final4 m c), (h c).2.1.trans (final5 m c), (h c).2.2⟩)
      (Cert.Kernel8Ideal.Value.run_blocks (F := Ideal) m g)
  · refine (θ_run Cert.Reference8Ideal.defs _ _).mono (fun _ h c => ?_) (Cert.Reference8Ideal.Value.run (F := Ideal) m' g')
    obtain ⟨e0, e1, e2, e3⟩ := hagree c
    refine ⟨((h c).1.trans (Cert.Reference8Ideal.Reading.result_eq m' c)).trans ?_,
      ((h c).2.1.trans (Cert.Reference8Ideal.Reading.result_eq' m' c)).trans ?_, (h c).2.2⟩
    · rw [e0, e1, e2, e3]
    · rw [e0, e1, e2, e3]

end Cert.Norm
-- ==== Proof.CacheEnd.lean ====
/-
  The joined program of the embeddings' layer norm and the projection on the attention's columns: every run ends with its memory as
  the chain of its stretches and calls leaves it.
-/
module

public import proofs.«01_k».proof.Proof.Gen.Kernel9Ideal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.Cache

open Cert.Kernel9Ideal Cert.Kernel9Ideal.Gen

variable {F : FTy → Type} [FloatOps F]

variable (m : (ℓ : Loc nD τ sig) → Buf (Elt F) ℓ) (ρ : Dev nD → PrngReg)

/-- What a launch owns of the pipelines' cells is owned through their embedding. -/
theorem cells_own : (ownU (initOf (Pipeline.cells cfgs cellOf_inj) (Pipeline.launchToks cfgs cellOf_inj)) :
    sProp (MT nD τ sig Unit (Elt F) ℕ (UR sig nD τ) ℕ))
    ⊢ BI.own (emb₁ (initOf (Pipeline.cells cfgs cellOf_inj) (Pipeline.launchToks cfgs cellOf_inj))) := .rfl

/-- Beside them each core takes nothing. -/
theorem nothing : (BI.emp : sProp (MT nD τ sig Unit (Elt F) ℕ (UR sig nD τ) ℕ)) ⊢ bigSep Finset.univ (fun _ : Dev nD => BI.emp) := by
  rw [BI.bigSep_emp_const]

set_option backward.isDefEq.respectTransparency.types false in
/-- Every run of the joined program ends, and then each of its unscoped arrays holds what the last stretch's contents say. -/
theorem ends : θ_run defs (onTc (τ := τ) (main (F := F))) ⟨m, fun _ => 0, ρ⟩ (fun r => ∀ c : Dev nD,
    ∀ b ∈ Pipeline.ucRefs τ sig, r.2.mem ((c.tc : Thread nD τ).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply cells_own
        iexact Hu
      iapply nothing
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hheld, Hreg, Howes⟩
      isplitl [Hheld Hreg]
      · isplitl [Hheld] <;> iassumption
      iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]
      · iexact Hheld
      isplitl [Hreg]
      · iexists _
        iexact Hreg
      iexists ∅
      iexact Howes)
    (QY := fun c s => ∀ b ∈ Pipeline.ucRefs τ sig, s.mem (((c : Thread nD τ)).1, b) = W5 m ρ c b)
    (hfin := fun c s => by
      iintro ⟨⟨Hheld, -⟩, Hstate⟩
      unfold StableHlo.held
      imodintro
      iapply (pointsTo_read_all (Pipeline.ucRefs τ sig) (fun b => (((c : Thread nD τ)).1, b)) (W5 m ρ c) s)
      isplitl [Hheld] <;> iassumption)
    (hQ := fun _ h => h)

end Cert.Cache
-- ==== Proof.CacheRun.lean ====
/-
  The joined program of the embeddings' layer norm and the projection on the attention's columns: what its memory holds when it ends,
  and what each of its two calls finds.
-/
module

public import proofs.«01_k».proof.Proof.Gen.Kernel9Ideal.Frame
public import proofs.«01_k».proof.Proof.Rope
public import proofs.«01_k».proof.Proof.Norm

@[expose] public section

set_option maxRecDepth 16384

noncomputable section

open Idealize.ShloMosaic Idealize.ShloMosaic.TcCoe Idealize.SL.Sem
open Idealize.ShloMosaic.Pipeline (Dat)

namespace Cert.Cache

open Cert.Kernel9Ideal Cert.Kernel9Ideal.Gen

variable (m : (ℓ : Loc nD τ sig) → Buf (Elt Ideal) ℓ) (ρ : Dev nD → PrngReg)

/-- The first call's rows, as it finds them. -/
theorem V1_x (c : Dev nD) : V1 m ρ c main_v2 = shapeCast S64x128x2048 (shapeCast S8192x2048 (m ((c : Thread nD τ).loc main_arg0)) shapeCasts_S1x8192x2048_S8192x2048) shapeCasts_S8192x2048_S64x128x2048 := by
  simp only [V1, W1, W0, hostOps0]
  after_results_simp <;> rfl
theorem V1_y (c : Dev nD) : V1 m ρ c main_v1 = shapeCast S128x2048 (m ((c : Thread nD τ).loc main_arg1)) shapeCasts_S32x4x2048_S128x2048 := by
  simp only [V1, W1, W0, hostOps0]
  after_results_simp <;> rfl
theorem V1_g (c : Dev nD) : V1 m ρ c main_v3 = shapeCast S1x2048 (m ((c : Thread nD τ).loc main_arg2)) shapeCasts_S2048_S1x2048 := by
  simp only [V1, W1, W0, hostOps0]
  after_results_simp <;> rfl
theorem V1_b (c : Dev nD) : V1 m ρ c main_v4 = shapeCast S1x2048 (m ((c : Thread nD τ).loc main_arg3)) shapeCasts_S2048_S1x2048 := by
  simp only [V1, W1, W0, hostOps0]
  after_results_simp <;> rfl

/-- The second call's arrays, as it finds them: the first call's rounded result in rows, the weight's columns as rows, the tables. -/
theorem V3_x (c : Dev nD) : V3 m ρ c main_v6 = shapeCast S8320x2048 ((dat0 (V1 m ρ) c).arrAt 5 cfg0.N) shapeCasts_S65x128x2048_S8320x2048 := by
  rw [show (dat0 (V1 m ρ) c).arrAt 5 cfg0.N = W2 m ρ c (Proc.devRef .tc main_v5_1) from (W2_arr m ρ c 5).symm]
  simp only [V3, W3, hostOps1]
  after_results_simp <;> rfl
theorem V3_w (c : Dev nD) : V3 m ρ c main_v8 = transpose S19472x2048 [1, 0] (shapeCast S2048x19472 (m ((c : Thread nD τ).loc main_arg4)) shapeCasts_S1x2048x19472_S2048x19472)
    transposes_S2048x19472_S19472x2048_1_0 := by
  rw [← W2_args m ρ c main_arg4 (by decide)]
  simp only [V3, W3, hostOps1]
  after_results_simp <;> rfl
theorem V3_c (c : Dev nD) : V3 m ρ c main_v12 = Cert.RopeBlock.tableC (m ((c : Thread nD τ).loc main_arg5)) := by
  rw [← W2_args m ρ c main_arg5 (by decide)]
  simp only [V3, W3, hostOps1]
  after_results_simp <;> rfl
theorem V3_n (c : Dev nD) : V3 m ρ c main_v14 = Cert.RopeBlock.tableN (m ((c : Thread nD τ).loc main_arg6)) := by
  rw [← W2_args m ρ c main_arg6 (by decide)]
  simp only [V3, W3, hostOps1]
  after_results_simp <;> rfl
theorem V3_s (c : Dev nD) : V3 m ρ c main_v15 = Cert.RopeBlock.tableS (m ((c : Thread nD τ).loc main_arg6)) := by
  rw [← W2_args m ρ c main_arg6 (by decide)]
  simp only [V3, W3, hostOps1]
  after_results_simp <;> rfl

/-- The last rows of the keys and the values of each group, as the host cuts them from the second call's result. -/
def kv0 (u : FVec Ideal S8320x9216 .f32) : FVec Ideal S1x1x128x2x8x128 .f32 :=
  broadcastInDim S1x1x128x2x8x128 ![2, 3, 4, 5] bcast_S128x2x8x128_S1x1x128x2x8x128_2_3_4_5 (concatenate S128x2x8x128 1
    [⟨S128x1x8x128, broadcastInDim S128x1x8x128 ![0, 2, 3] bcast_S128x8x128_S128x1x8x128_0_2_3
      (shapeCast S128x8x128 (extractStridedSlice S128x1024 ![8064, 3072] u slices_S8320x9216_S128x1024_8064_3072) shapeCasts_S128x1024_S128x8x128)⟩,
    ⟨S128x1x8x128, broadcastInDim S128x1x8x128 ![0, 2, 3] bcast_S128x8x128_S128x1x8x128_0_2_3
      (shapeCast S128x8x128 (extractStridedSlice S128x1024 ![8064, 6144] u slices_S8320x9216_S128x1024_8064_6144) shapeCasts_S128x1024_S128x8x128)⟩]
    concatenates_S128x1x8x128_S128x1x8x128_S128x2x8x128_d1)
def kv1 (u : FVec Ideal S8320x9216 .f32) : FVec Ideal S1x1x512x2x8x128 .f32 :=
  broadcastInDim S1x1x512x2x8x128 ![2, 3, 4, 5] bcast_S512x2x8x128_S1x1x512x2x8x128_2_3_4_5 (concatenate S512x2x8x128 1
    [⟨S512x1x8x128, broadcastInDim S512x1x8x128 ![0, 2, 3] bcast_S512x8x128_S512x1x8x128_0_2_3
      (shapeCast S512x8x128 (extractStridedSlice S512x1024 ![7680, 4096] u slices_S8320x9216_S512x1024_7680_4096) shapeCasts_S512x1024_S512x8x128)⟩,
    ⟨S512x1x8x128, broadcastInDim S512x1x8x128 ![0, 2, 3] bcast_S512x8x128_S512x1x8x128_0_2_3
      (shapeCast S512x8x128 (extractStridedSlice S512x1024 ![7680, 7168] u slices_S8320x9216_S512x1024_7680_7168) shapeCasts_S512x1024_S512x8x128)⟩]
    concatenates_S512x1x8x128_S512x1x8x128_S512x2x8x128_d1)
def kv2 (u : FVec Ideal S8320x9216 .f32) : FVec Ideal S1x1x2048x2x8x128 .f32 :=
  broadcastInDim S1x1x2048x2x8x128 ![2, 3, 4, 5] bcast_S2048x2x8x128_S1x1x2048x2x8x128_2_3_4_5 (concatenate S2048x2x8x128 1
    [⟨S2048x1x8x128, broadcastInDim S2048x1x8x128 ![0, 2, 3] bcast_S2048x8x128_S2048x1x8x128_0_2_3
      (shapeCast S2048x8x128 (extractStridedSlice S2048x1024 ![6144, 5120] u slices_S8320x9216_S2048x1024_6144_5120) shapeCasts_S2048x1024_S2048x8x128)⟩,
    ⟨S2048x1x8x128, broadcastInDim S2048x1x8x128 ![0, 2, 3] bcast_S2048x8x128_S2048x1x8x128_0_2_3
      (shapeCast S2048x8x128 (extractStridedSlice S2048x1024 ![6144, 8192] u slices_S8320x9216_S2048x1024_6144_8192) shapeCasts_S2048x1024_S2048x8x128)⟩]
    concatenates_S2048x1x8x128_S2048x1x8x128_S2048x2x8x128_d1)

theorem W5_kv0 (c : Dev nD) : W5 m ρ c (Proc.devRef .tc main_v24) = kv0 ((dat1 (V3 m ρ) c).arrAt 5 cfg1.N) := by
  rw [show (dat1 (V3 m ρ) c).arrAt 5 cfg1.N = W4 m ρ c (Proc.devRef .tc main_v16) from (W4_arr m ρ c 5).symm]
  simp only [W5, hostOps2]
  after_results_simp <;> rfl
theorem W5_kv1 (c : Dev nD) : W5 m ρ c (Proc.devRef .tc main_v32) = kv1 ((dat1 (V3 m ρ) c).arrAt 5 cfg1.N) := by
  rw [show (dat1 (V3 m ρ) c).arrAt 5 cfg1.N = W4 m ρ c (Proc.devRef .tc main_v16) from (W4_arr m ρ c 5).symm]
  simp only [W5, hostOps2]
  after_results_simp <;> rfl
theorem W5_kv2 (c : Dev nD) : W5 m ρ c (Proc.devRef .tc main_v40) = kv2 ((dat1 (V3 m ρ) c).arrAt 5 cfg1.N) := by
  rw [show (dat1 (V3 m ρ) c).arrAt 5 cfg1.N = W4 m ρ c (Proc.devRef .tc main_v16) from (W4_arr m ρ c 5).symm]
  simp only [W5, hostOps2]
  after_results_simp <;> rfl

end Cert.Cache
-- ==== Proof.CacheNorm.lean ====
/-
  The joined program's first call: the rows it leaves for the projection are the layer norm of the prompt's rows and the sample's.
-/
module

public import proofs.«01_k».proof.Proof.CacheRun
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Cache

open Cert.Kernel9Ideal Cert.Kernel9Ideal.Gen

theorem N_idx0 (t : Fin cfg0.N) : win0_0.index t = ![min t.val 15, 0, 0] := Cert.Norm.idx0 t
theorem N_idx1 (t : Fin cfg0.N) : win0_1.index t = ![0, 0] := Cert.Norm.idx1 t
theorem N_idx2 (t : Fin cfg0.N) : win0_2.index t = ![0, 0] := Cert.Norm.idx2 t
theorem N_idx3 (t : Fin cfg0.N) : win0_3.index t = ![0, 0] := Cert.Norm.idx3 t
theorem N_idx5 (t : Fin cfg0.N) : win0_5.index t = ![t.val, 0, 0] := Cert.Norm.idx5 t

variable (m : (ℓ : Loc nD τ sig) → Buf (Elt Ideal) ℓ) (ρ : Dev nD → PrngReg) (d : Dev nD) (t : Fin cfg0.N)

theorem N_block_x (a : Fin 4) (p : Fin 128) (l : Fin 2048) : (show Vec Ideal S4x128x2048 .f32 from iblk0 (V1 m ρ) d 0 t) (ix3 a p l)
    = m ((d : Thread nD τ).loc main_arg0) (ix3 0 ⟨(min t.val 15 * 4 + a.val) * 128 + p.val, by omega⟩ l) := by
  refine Eq.trans (b := V1 m ρ d main_v2 (ix3 ⟨min t.val 15 * 4 + a.val, by omega⟩ p l)) ?_ ?_
  · blk_ext [iblk0, N_idx0 t]
  · rw [V1_x]; exact Cert.Norm.groups_apply _ _ _ _

theorem N_block_y (p : Fin 128) (l : Fin 2048) : (show Vec Ideal S128x2048 .f32 from iblk0 (V1 m ρ) d 1 t) (ix2 p l)
    = m ((d : Thread nD τ).loc main_arg1) (ix3 ⟨p.val / 4, by omega⟩ ⟨p.val % 4, by omega⟩ l) := by
  refine Eq.trans (b := V1 m ρ d main_v1 (ix2 p l)) ?_ ?_
  · blk_ext [iblk0, N_idx1 t]
  · rw [V1_y]
    refine (congrArg (fun r => shapeCast S128x2048 _ shapeCasts_S32x4x2048_S128x2048 (ix2 r l)) (Fin.ext ?_)).trans
      (Cert.Norm.rows_apply _ ⟨p.val / 4, by omega⟩ ⟨p.val % 4, by omega⟩ l)
    show p.val = p.val / 4 * 4 + p.val % 4
    omega

theorem N_block_g (j : Fin 2048) : (show Vec Ideal S1x2048 .f32 from iblk0 (V1 m ρ) d 2 t) (ix2 0 j) = m ((d : Thread nD τ).loc main_arg2) (ix1 j) := by
  refine Eq.trans (b := V1 m ρ d main_v3 (ix2 0 j)) ?_ ?_
  · blk_ext [iblk0, N_idx2 t]
  · rw [V1_g]; pointwise []

theorem N_block_b (j : Fin 2048) : (show Vec Ideal S1x2048 .f32 from iblk0 (V1 m ρ) d 3 t) (ix2 0 j) = m ((d : Thread nD τ).loc main_arg3) (ix1 j) := by
  refine Eq.trans (b := V1 m ρ d main_v4 (ix2 0 j)) ?_ ?_
  · blk_ext [iblk0, N_idx3 t]
  · rw [V1_b]; pointwise []

/-- The layer norm of the two arguments' rows. -/
abbrev normed (m : (ℓ : Loc nD τ sig) → Buf (Elt Ideal) ℓ) (d : Dev nD) : FVec Ideal S65x128x2048 .f32 :=
  Cert.Reference8Ideal.Reading.result (m ((d : Thread nD τ).loc main_arg0)) (m ((d : Thread nD τ).loc main_arg1))
    (m ((d : Thread nD τ).loc main_arg2)) (m ((d : Thread nD τ).loc main_arg3))

/-- What a grid point of the first call stores, at an entry inside the array, is the layer norm's entry there. -/
theorem N_stored (a : Fin 4) (p : Fin 128) (j : Fin 2048) (h : t.val * 4 + a.val < 65) :
    k0_pay2 (grid0.coords t) (show Vec Ideal S4x128x2048 .f32 from iblk0 (V1 m ρ) d 0 t) (show Vec Ideal S128x2048 .f32 from iblk0 (V1 m ρ) d 1 t)
      (show Vec Ideal S1x2048 .f32 from iblk0 (V1 m ρ) d 2 t) (show Vec Ideal S1x2048 .f32 from iblk0 (V1 m ρ) d 3 t) (ix3 a p j)
      = normed m d (ix3 ⟨t.val * 4 + a.val, h⟩ p j) := by
  refine (Cert.Norm.block_apply (grid0.coords t) _ _ _ _ a p j).trans ?_
  rw [normed, Cert.Reference8Ideal.Reading.result_apply]
  have e : Cert.Norm.prompt (grid0.coords t) = if t.val < 16 then 1#1 else 0#1 := Cert.Norm.prompt_eq t
  rw [e]
  refine Cert.Norm.row_congr (fun l => ?_) (N_block_g m ρ d t j) (N_block_b m ρ d t j) j
  by_cases h16 : t.val < 16
  · have h64 : t.val * 4 + a.val < 64 := by omega
    rw [if_pos (by rw [if_pos h16]), dif_pos h64]
    refine (N_block_x m ρ d t a p l).trans (congrArg (fun r => m ((d : Thread nD τ).loc main_arg0) (ix3 0 r l)) (Fin.ext ?_))
    show (min t.val 15 * 4 + a.val) * 128 + p.val = (t.val * 4 + a.val) * 128 + p.val
    omega
  · have h64 : ¬ t.val * 4 + a.val < 64 := by omega
    rw [if_neg (by rw [if_neg h16]; decide), dif_neg h64]
    exact N_block_y m ρ d t p l

/-- The first call's rounded result. -/
theorem rows_final : (dat0 (V1 m ρ) d).arrAt 5 cfg0.N = truncf .bf16 (normed m d) Reference8Ideal.Gen.bitsLt_bf16_f32 := by
  refine (dat0 (V1 m ρ) d).arrAt_eq_of_covers 5 _ (by decide +kernel) fun t _ y => ?_
  blk_simp
  rw [after0_5]
  unfold out0_5
  frame_out
  have e0 : ((win0_5.rect t).emb y 0).val = t.val * 4 + (y 0).val := (win0_5.rect_emb_val t y 0).trans (by rw [N_idx5]; rfl)
  have e1 : ((win0_5.rect t).emb y 1).val = (y 1).val := (win0_5.rect_emb_val t y 1).trans (by rw [N_idx5]; exact (congrArg (· + _) (Nat.zero_mul _)).trans (Nat.zero_add _))
  have e2 : ((win0_5.rect t).emb y 2).val = (y 2).val := (win0_5.rect_emb_val t y 2).trans (by rw [N_idx5]; exact (congrArg (· + _) (Nat.zero_mul _)).trans (Nat.zero_add _))
  have h0 : t.val * 4 + (y 0).val < 65 := e0 ▸ ((win0_5.rect t).emb y 0).isLt
  obtain ⟨a, p, j, hy⟩ : ∃ (a : Fin 4) (p : Fin 128) (j : Fin 2048), (win0 5).xinj (grid0.coords t) y = ix3 a p j :=
    ⟨(win0 5).xinj (grid0.coords t) y 0, (win0 5).xinj (grid0.coords t) y 1, (win0 5).xinj (grid0.coords t) y 2, Cert.Norm.ext3 rfl rfl rfl⟩
  have y0 : (y 0).val = a.val := congrArg (fun z : S4x128x2048.Idx => (z 0).val) hy
  have y1 : (y 1).val = p.val := congrArg (fun z : S4x128x2048.Idx => (z 1).val) hy
  have y2 : (y 2).val = j.val := congrArg (fun z : S4x128x2048.Idx => (z 2).val) hy
  rw [y0] at h0
  refine Eq.trans (congrArg _ hy) (Eq.trans (b := normed m d (ix3 ⟨t.val * 4 + a.val, h0⟩ p j)) (N_stored m ρ d t a p j h0) ?_)
  exact congrArg (normed m d) (Cert.Norm.ext3 (e0.trans (congrArg _ y0)) (e1.trans y1) (e2.trans y2)).symm

/-- The groups of rows laid end to end. -/
theorem flat_apply (y : FVec Ideal S65x128x2048 .bf16) (r : Fin 8320) (l : Fin 2048) :
    shapeCast S8320x2048 y shapeCasts_S65x128x2048_S8320x2048 (ix2 r l) = y (ix3 ⟨r.val / 128, by omega⟩ ⟨r.val % 128, by omega⟩ l) := by
  pointwise []

/-- The rows the projection finds: of the prompt, the layer norm of the row of that number. -/
theorem rows_apply (r : Fin 8320) (h : r.val < 8192) (l : Fin 2048) : V3 m ρ d main_v6 (ix2 r l)
    = Cert.Norm.row (fun l => m ((d : Thread nD τ).loc main_arg0) (ix3 0 ⟨r.val, h⟩ l)) (m ((d : Thread nD τ).loc main_arg2) (ix1 l))
        (m ((d : Thread nD τ).loc main_arg3) (ix1 l)) l := by
  rw [V3_x, rows_final]
  refine Eq.trans (b := normed m d (ix3 ⟨r.val / 128, by omega⟩ ⟨r.val % 128, by omega⟩ l)) ?_ ?_
  · exact flat_apply _ r l
  · rw [normed, Cert.Reference8Ideal.Reading.result_apply]
    refine Cert.Norm.row_congr (fun l => ?_) rfl rfl l
    rw [dif_pos (show r.val / 128 < 64 by omega)]
    refine congrArg (fun r => m ((d : Thread nD τ).loc main_arg0) (ix3 0 r l)) (Fin.ext ?_)
    show r.val / 128 * 128 + r.val % 128 = r.val
    omega

end Cert.Cache
-- ==== Proof.CacheRope.lean ====
/-
  The joined program's second call: it leaves the rotated product of the rows it finds with the weight's first columns.
-/
module

public import proofs.«01_k».proof.Proof.CacheRun
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Cache

open Cert.Kernel9Ideal Cert.Kernel9Ideal.Gen Cert.RopeBlock Cert.Reference2Ideal.Reading

/-- The product of a block of rows with a block of columns, read at an index. -/
theorem product_apply (x0 : Vec Ideal S2080x2048 .bf16) (x1 : Vec Ideal S512x2048 .f32) (p : Fin 2080) (q : Fin 512) :
    k1_pay1 x0 x1 (ix2 p q) = ∑ l : Fin 2048, x0 (ix2 p l) * x1 (ix2 q l) := by
  pointwise [k1_pay1]

/-- A head's lanes, rotated by the tables as a grid point holds them. -/
theorem head_apply (a : FVec Ideal S2080x128 .f32) (y : FVec Ideal S2080x512 .f32) (x2 x3 x4 : Vec Ideal S2080x128 .f32) (C S : Fin 2080 → Fin 16 → EReal)
    (h2 : ∀ p q, x2 (ix2 p q) = if h : q.val < 16 then C p ⟨q.val, h⟩ else if h : q.val < 32 then C p ⟨q.val - 16, by omega⟩ else 1)
    (h3 : ∀ p q, x3 (ix2 p q) = if h : q.val < 16 then - S p ⟨q.val, h⟩ else 0)
    (h4 : ∀ p q, x4 (ix2 p q) = if h : q.val < 16 then 0 else if h : q.val < 32 then S p ⟨q.val - 16, by omega⟩ else 0)
    (p : Fin 2080) (k : Fin 4) (ha : ∀ q : Fin 128, a (ix2 p q) = y (ix2 p ⟨k.val * 128 + q.val, by omega⟩)) (q : Fin 128) :
    rolled a (k1_pay3 x2) (k1_pay4 x3) (k1_pay5 x4) (ix2 p q) = Rope.lane (fun q => y (ix2 p ⟨k.val * 128 + q.val, by omega⟩)) (C p) (S p) q :=
  (rolled_apply a _ _ _ C S (fun p q => Eq.trans (by pointwise [k1_pay3]) (h2 p q)) (fun p q => Eq.trans (by pointwise [k1_pay4]) (h3 p q))
    (fun p q => Eq.trans (by pointwise [k1_pay5]) (h4 p q)) p q).trans (congrArg (fun a => Rope.lane a (C p) (S p) q) (funext ha))

/-- What a grid point of the queries' and keys' columns stores. -/
theorem turned (c : Dev nD) (i : grid1.Coords) (arg2 harg2 arg3 harg3 arg4 harg4 arg5 harg5 arg6 harg6 arg7 harg7 hc0 hc1)
    (x0 : Vec Ideal S2080x2048 .bf16) (x1 : Vec Ideal S512x2048 .f32) (x2 x3 x4 : Vec Ideal S2080x128 .f32) (C S : Fin 2080 → Fin 16 → EReal)
    (h2 : ∀ p q, x2 (ix2 p q) = if h : q.val < 16 then C p ⟨q.val, h⟩ else if h : q.val < 32 then C p ⟨q.val - 16, by omega⟩ else 1)
    (h3 : ∀ p q, x3 (ix2 p q) = if h : q.val < 16 then - S p ⟨q.val, h⟩ else 0)
    (h4 : ∀ p q, x4 (ix2 p q) = if h : q.val < 16 then 0 else if h : q.val < 32 then S p ⟨q.val - 16, by omega⟩ else 0)
    (p : Fin 2080) (k : Fin 4) (q : Fin 128) :
    out1_A_5 (F := Ideal) c i arg2 harg2 arg3 harg3 arg4 harg4 arg5 harg5 arg6 harg6 arg7 harg7 hc0 hc1 x0 x1 x2 x3 x4 (ix2 p ⟨k.val * 128 + q.val, by omega⟩)
      = Rope.lane (fun q => k1_pay1 x0 x1 (ix2 p ⟨k.val * 128 + q.val, by omega⟩)) (C p) (S p) q := by
  frame_out
  canon_tiles x hx
  case piece0 =>
    have ek : k = 3 := Fin.ext (by have : k.val * 128 + q.val = 384 + (x 1).val := hx1; show k.val = 3; omega)
    have ex : x = ix2 p q := ext2 hx0.symm (by have : k.val * 128 + q.val = 384 + (x 1).val := hx1; show (x 1).val = q.val; omega)
    subst ek ex
    refine Eq.trans (b := rolled (extractStridedSlice S2080x128 ![0, 384] (k1_pay1 x0 x1) slices_S2080x512_o0_384_S2080x128) (k1_pay3 x2) (k1_pay4 x3) (k1_pay5 x4) (ix2 p q)) ?_
      (head_apply _ (k1_pay1 x0 x1) x2 x3 x4 C S h2 h3 h4 p 3 (fun q => ?_) q)
    · rfl
    · pointwise []
  case piece1 =>
    have ek : k = 2 := Fin.ext (by have : k.val * 128 + q.val = 256 + (x 1).val := hx1; show k.val = 2; omega)
    have ex : x = ix2 p q := ext2 hx0.symm (by have : k.val * 128 + q.val = 256 + (x 1).val := hx1; show (x 1).val = q.val; omega)
    subst ek ex
    refine Eq.trans (b := rolled (extractStridedSlice S2080x128 ![0, 256] (k1_pay1 x0 x1) slices_S2080x512_o0_256_S2080x128) (k1_pay3 x2) (k1_pay4 x3) (k1_pay5 x4) (ix2 p q)) ?_
      (head_apply _ (k1_pay1 x0 x1) x2 x3 x4 C S h2 h3 h4 p 2 (fun q => ?_) q)
    · rfl
    · pointwise []
  case piece2 =>
    have ek : k = 1 := Fin.ext (by have : k.val * 128 + q.val = 128 + (x 1).val := hx1; show k.val = 1; omega)
    have ex : x = ix2 p q := ext2 hx0.symm (by have : k.val * 128 + q.val = 128 + (x 1).val := hx1; show (x 1).val = q.val; omega)
    subst ek ex
    refine Eq.trans (b := rolled (extractStridedSlice S2080x128 ![0, 128] (k1_pay1 x0 x1) slices_S2080x512_o0_128_S2080x128) (k1_pay3 x2) (k1_pay4 x3) (k1_pay5 x4) (ix2 p q)) ?_
      (head_apply _ (k1_pay1 x0 x1) x2 x3 x4 C S h2 h3 h4 p 1 (fun q => ?_) q)
    · rfl
    · pointwise []
  case piece3 =>
    have ek : k = 0 := Fin.ext (by have : k.val * 128 + q.val = (x 1).val := hx1; show k.val = 0; omega)
    have ex : x = ix2 p q := ext2 hx0.symm (by have : k.val * 128 + q.val = (x 1).val := hx1; show (x 1).val = q.val; omega)
    subst ek ex
    refine Eq.trans (b := rolled (extractStridedSlice S2080x128 ![0, 0] (k1_pay1 x0 x1) slices_S2080x512_o0_0_S2080x128) (k1_pay3 x2) (k1_pay4 x3) (k1_pay5 x4) (ix2 p q)) ?_
      (head_apply _ (k1_pay1 x0 x1) x2 x3 x4 C S h2 h3 h4 p 0 (fun q => ?_) q)
    · rfl
    · pointwise []

/-- What a grid point of the values' columns stores. -/
theorem straight (c : Dev nD) (i : grid1.Coords) (arg2 harg2 arg3 harg3 arg4 harg4 arg5 harg5 arg6 harg6 arg7 harg7 hc0 hc1)
    (x0 : Vec Ideal S2080x2048 .bf16) (x1 : Vec Ideal S512x2048 .f32) (x2 x3 x4 : Vec Ideal S2080x128 .f32) (y : S2080x512.Idx) :
    out1_B_5 (F := Ideal) c i arg2 harg2 arg3 harg3 arg4 harg4 arg5 harg5 arg6 harg6 arg7 harg7 hc0 hc1 x0 x1 x2 x3 x4 y = k1_pay1 x0 x1 y := by
  frame_out

theorem R_idx0 (t : Fin cfg1.N) : win1_0.index t = ![t.val / 18, 0] := Cert.RopeBlock.idx0 t
theorem R_idx1 (t : Fin cfg1.N) : win1_1.index t = ![t.val % 18 * 512, 0] := Cert.RopeBlock.idx1 t
theorem R_idx2 (t : Fin cfg1.N) : win1_2.index t = ![t.val / 18, 0] := Cert.RopeBlock.idx2 t
theorem R_idx3 (t : Fin cfg1.N) : win1_3.index t = ![t.val / 18, 0] := Cert.RopeBlock.idx3 t
theorem R_idx4 (t : Fin cfg1.N) : win1_4.index t = ![t.val / 18, 0] := Cert.RopeBlock.idx4 t
theorem R_idx5 (t : Fin cfg1.N) : win1_5.index t = ![t.val / 18, t.val % 18] := Cert.RopeBlock.idx5 t

variable (m : (ℓ : Loc nD τ sig) → Buf (Elt Ideal) ℓ) (ρ : Dev nD → PrngReg) (d : Dev nD) (t : Fin cfg1.N)

theorem R_lt : t.val < 72 := lt_of_lt_of_eq t.isLt N_1

theorem R_block_x (p : Fin 2080) (l : Fin 2048) : (show Vec Ideal S2080x2048 .bf16 from iblk1 (V3 m ρ) d 0 t) (ix2 p l)
    = V3 m ρ d main_v6 (ix2 ⟨t.val / 18 * 2080 + p.val, by have := R_lt t; omega⟩ l) := by
  have := R_lt t
  blk_ext [iblk1, R_idx0 t]

theorem R_block_w (q : Fin 512) (l : Fin 2048) : (show Vec Ideal S512x2048 .f32 from iblk1 (V3 m ρ) d 1 t) (ix2 q l)
    = m ((d : Thread nD τ).loc main_arg4) (ix3 0 l ⟨t.val % 18 * 512 + q.val, by omega⟩) := by
  have := R_lt t
  refine Eq.trans (b := V3 m ρ d main_v8 (ix2 ⟨t.val % 18 * 512 + q.val, by omega⟩ l)) ?_ ?_
  · blk_ext [iblk1, R_idx1 t]
    · exact (win1_1.rect_emb_val_off t (ix2 q l) 0).trans (by
        show win1_1.index t 0 + q.val = _
        rw [R_idx1]
        show t.val % 18 * 512 + q.val = _
        omega)
    · exact (win1_1.rect_emb_val_off t (ix2 q l) 1).trans (by
        show win1_1.index t 1 + l.val = _
        rw [R_idx1]
        show 0 + l.val = _
        omega)
  · rw [V3_w]; exact columns_apply _ _ _

theorem R_block_c (p : Fin 2080) (q : Fin 128) : (show Vec Ideal S2080x128 .f32 from iblk1 (V3 m ρ) d 2 t) (ix2 p q)
    = tableC (m ((d : Thread nD τ).loc main_arg5)) (ix2 ⟨t.val / 18 * 2080 + p.val, by have := R_lt t; omega⟩ q) := by
  have := R_lt t
  refine Eq.trans (b := V3 m ρ d main_v12 (ix2 ⟨t.val / 18 * 2080 + p.val, by omega⟩ q)) ?_ ?_
  · blk_ext [iblk1, R_idx2 t]
  · rw [V3_c]
theorem R_block_n (p : Fin 2080) (q : Fin 128) : (show Vec Ideal S2080x128 .f32 from iblk1 (V3 m ρ) d 3 t) (ix2 p q)
    = tableN (m ((d : Thread nD τ).loc main_arg6)) (ix2 ⟨t.val / 18 * 2080 + p.val, by have := R_lt t; omega⟩ q) := by
  have := R_lt t
  refine Eq.trans (b := V3 m ρ d main_v14 (ix2 ⟨t.val / 18 * 2080 + p.val, by omega⟩ q)) ?_ ?_
  · blk_ext [iblk1, R_idx3 t]
  · rw [V3_n]
theorem R_block_s (p : Fin 2080) (q : Fin 128) : (show Vec Ideal S2080x128 .f32 from iblk1 (V3 m ρ) d 4 t) (ix2 p q)
    = tableS (m ((d : Thread nD τ).loc main_arg6)) (ix2 ⟨t.val / 18 * 2080 + p.val, by have := R_lt t; omega⟩ q) := by
  have := R_lt t
  refine Eq.trans (b := V3 m ρ d main_v15 (ix2 ⟨t.val / 18 * 2080 + p.val, by omega⟩ q)) ?_ ?_
  · blk_ext [iblk1, R_idx4 t]
  · rw [V3_s]

/-- The second call's result, from the rows it finds and the arguments. -/
abbrev projected (m : (ℓ : Loc nD τ sig) → Buf (Elt Ideal) ℓ) (ρ : Dev nD → PrngReg) (d : Dev nD) : FVec Ideal S8320x9216 .f32 :=
  result (V3 m ρ d main_v6) (m ((d : Thread nD τ).loc main_arg4)) (m ((d : Thread nD τ).loc main_arg5)) (m ((d : Thread nD τ).loc main_arg6))

/-- An entry of a grid point's product is the product's entry. -/
theorem R_entry (p : Fin 2080) (q : Fin 512) :
    k1_pay1 (show Vec Ideal S2080x2048 .bf16 from iblk1 (V3 m ρ) d 0 t) (show Vec Ideal S512x2048 .f32 from iblk1 (V3 m ρ) d 1 t) (ix2 p q)
    = entry (V3 m ρ d main_v6) (m ((d : Thread nD τ).loc main_arg4)) ⟨t.val / 18 * 2080 + p.val, by have := R_lt t; omega⟩
        ⟨t.val % 18 * 512 + q.val, by omega⟩ := by
  refine (product_apply _ _ p q).trans ?_
  unfold entry
  exact Finset.sum_congr rfl fun l _ => congrArg₂ (fun a b : EReal => a * b) (R_block_x m ρ d t p l) (R_block_w m ρ d t q l)

theorem projected_final : (dat1 (V3 m ρ) d).arrAt 5 cfg1.N = projected m ρ d := by
  refine (dat1 (V3 m ρ) d).arrAt_eq_of_covers 5 _ (by decide +kernel) fun t _ y => ?_
  blk_simp
  have ht := R_lt t
  obtain ⟨p, k, q, rfl⟩ : ∃ (p : Fin 2080) (k : Fin 4) (q : Fin 128), y = ix2 p ⟨k.val * 128 + q.val, by omega⟩ :=
    ⟨⟨(y 0).val, (y 0).isLt⟩, ⟨(y 1).val / 128, by have : (y 1).val < 512 := (y 1).isLt; omega⟩, ⟨(y 1).val % 128, by omega⟩,
      ext2 rfl (by show (y 1).val = (y 1).val / 128 * 128 + (y 1).val % 128; omega)⟩
  have e : ∀ q : Fin 128, t.val % 18 * 512 + (k.val * 128 + q.val) = (t.val % 18 * 4 + k.val) * 128 + q.val := fun q => by omega
  refine Eq.trans (b := projected m ρ d (ix2 ⟨t.val / 18 * 2080 + p.val, by omega⟩ ⟨(t.val % 18 * 4 + k.val) * 128 + q.val, by omega⟩)) ?_ ?_
  · rw [after1_5]
    refine Eq.trans ?_ (result_head _ _ _ _ _ ⟨t.val % 18 * 4 + k.val, by omega⟩ q).symm
    by_cases h : t.val % 18 ≤ 11
    · rw [outsAt1_A (V3 m ρ) d t (by omega) h, if_pos (show t.val % 18 * 4 + k.val < 48 by omega)]
      refine (turned _ _ _ _ _ _ _ _ _ _ _ _ _ _ _ _ _ _ _ _ _
        (fun p l => m ((d : Thread nD τ).loc main_arg5) (ix2 ⟨t.val / 18 * 2080 + p.val, by omega⟩ l))
        (fun p l => m ((d : Thread nD τ).loc main_arg6) (ix2 ⟨t.val / 18 * 2080 + p.val, by omega⟩ l))
        (fun p q => (R_block_c m ρ d t p q).trans (tableC_apply _ _ _)) (fun p q => (R_block_n m ρ d t p q).trans (tableN_apply _ _ _))
        (fun p q => (R_block_s m ρ d t p q).trans (tableS_apply _ _ _)) p k q).trans ?_
      refine congrArg (fun a => Rope.lane a _ _ _) (funext fun q => ?_)
      refine (R_entry m ρ d t p _).trans ?_
      simp only [e]
    · rw [outsAt1_B (V3 m ρ) d t (by omega) h, if_neg (show ¬ t.val % 18 * 4 + k.val < 48 by omega)]
      refine (straight _ _ _ _ _ _ _ _ _ _ _ _ _ _ _ _ _ _ _ _ _ _).trans ((R_entry m ρ d t p _).trans ?_)
      simp only [e]
  · simp only [← e]
    blk_ext [R_idx5 t]

end Cert.Cache
-- ==== Proof.CacheRef.lean ====
/-
  The joined program's reference, read at an index: a key is a lane of the rotation of a product's row, a value an entry of the
  product; the rows multiplied are the layer norm's.
-/
module

public import proofs.«01_k».proof.Proof.Gen.Reference9Ideal.Run
public import proofs.«01_k».proof.Proof.RopeRef
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem

namespace Cert.Reference9Ideal.Reading

open Cert.Reference9Ideal Cert.Reference9Ideal.Gen Cert.Reference9Ideal.Value

/-- An entry of the product of the layer norm's rows with the weight. -/
def entry (x : FVec Ideal S1x8192x2048 .f32) (g b : FVec Ideal S2048 .f32) (w : FVec Ideal S1x2048x19472 .f32) (r : Fin 8192) (j : Fin 9216) : EReal :=
  ∑ l : Fin 2048, Cert.Norm.row (fun l => x (ix3 0 r l)) (g (ix1 l)) (b (ix1 l)) l * w (ix3 0 l ⟨j.val, by omega⟩)

/-- Lane `p` of head `n` of a row, the queries' and keys' heads being rotated. -/
def cell (x : FVec Ideal S1x8192x2048 .f32) (g b : FVec Ideal S2048 .f32) (w : FVec Ideal S1x2048x19472 .f32) (c s : FVec Ideal S8320x16 .f32)
    (r : Fin 8192) (n : Fin 72) (p : Fin 128) : EReal :=
  if n.val < 48 then Rope.lane (fun p => entry x g b w r ⟨n.val * 128 + p.val, by omega⟩) (fun p => c (ix2 ⟨r.val, by omega⟩ p)) (fun p => s (ix2 ⟨r.val, by omega⟩ p)) p
  else entry x g b w r ⟨n.val * 128 + p.val, by omega⟩

/-- The product, as three kinds of three groups of eight heads. -/
def heads (y : FVec Ideal S1x8192x2048 .f32) (w : FVec Ideal S1x2048x19472 .f32) : FVec Ideal S1x8192x3x3x8x128 .f32 :=
  shapeCast S1x8192x3x3x8x128 (Host.dotGeneral dot_S1x8192x2048_S2048x9216_S1x8192x9216_2_0_01_1_n_n none y
    (shapeCast S2048x9216 (extractStridedSlice S1x2048x9216 ![0, 0, 0] w slices_S1x2048x19472_S1x2048x9216_0_0_0) shapeCasts_S1x2048x9216_S2048x9216))
    shapeCasts_S1x8192x9216_S1x8192x3x3x8x128

/-- Cosines or sines of the prompt's rows, along the heads. -/
def along (c : FVec Ideal S8320x16 .f32) : FVec Ideal S1x8192x8x16 .f32 :=
  broadcastInDim S1x8192x8x16 ![0, 1, 2, 3] bcast_S1x8192x1x16_S1x8192x8x16_0_1_2_3 (broadcastInDim S1x8192x1x16 ![1, 2, 3] bcast_S8192x1x16_S1x8192x1x16_1_2_3
    (broadcastInDim S8192x1x16 ![0, 2] bcast_S8192x16_S8192x1x16_0_2 (extractStridedSlice S8192x16 ![0, 0] c slices_S8320x16_S8192x16_0_0)))

/-- The first sixteen lanes, and the next sixteen. -/
def first (u : FVec Ideal S1x8192x8x128 .f32) : FVec Ideal S1x8192x8x16 .f32 :=
  extractStridedSlice S1x8192x8x16 ![0, 0, 0, 0] u slices_S1x8192x8x128_S1x8192x8x16_0_0_0_0
def second (u : FVec Ideal S1x8192x8x128 .f32) : FVec Ideal S1x8192x8x16 .f32 :=
  extractStridedSlice S1x8192x8x16 ![0, 0, 0, 16] u slices_S1x8192x8x128_S1x8192x8x16_0_0_0_16

/-- The rotation of a group's heads. -/
def rotated (u : FVec Ideal S1x8192x8x128 .f32) (c s : FVec Ideal S8320x16 .f32) : FVec Ideal S1x8192x8x128 .f32 :=
  concatenate S1x8192x8x128 3 [⟨S1x8192x8x16, subf (mulf (first u) (along c)) (mulf (second u) (along s))⟩,
    ⟨S1x8192x8x16, addf (mulf (second u) (along c)) (mulf (first u) (along s))⟩,
    ⟨S1x8192x8x96, extractStridedSlice S1x8192x8x96 ![0, 0, 0, 32] u slices_S1x8192x8x128_S1x8192x8x96_0_0_0_32⟩]
    concatenates_S1x8192x8x16_S1x8192x8x16_S1x8192x8x96_S1x8192x8x128_d3

/-- The keys after the rotation, beside the values. -/
def paired (k v : FVec Ideal S1x8192x8x128 .f32) (c s : FVec Ideal S8320x16 .f32) : FVec Ideal S1x8192x2x8x128 .f32 :=
  concatenate S1x8192x2x8x128 2 [⟨S1x8192x1x8x128, broadcastInDim S1x8192x1x8x128 ![0, 1, 3, 4] bcast_S1x8192x8x128_S1x8192x1x8x128_0_1_3_4 (rotated k c s)⟩,
    ⟨S1x8192x1x8x128, broadcastInDim S1x8192x1x8x128 ![0, 1, 3, 4] bcast_S1x8192x8x128_S1x8192x1x8x128_0_1_3_4 v⟩]
    concatenates_S1x8192x1x8x128_S1x8192x1x8x128_S1x8192x2x8x128_d2

/-- The keys and the values of each of the three groups. -/
def k0 (u : FVec Ideal S1x8192x3x3x8x128 .f32) : FVec Ideal S1x8192x8x128 .f32 :=
  shapeCast S1x8192x8x128 (extractStridedSlice S1x8192x1x1x8x128 ![0, 0, 1, 0, 0, 0] u slices_S1x8192x3x3x8x128_S1x8192x1x1x8x128_0_0_1_0_0_0) shapeCasts_S1x8192x1x1x8x128_S1x8192x8x128
def v0 (u : FVec Ideal S1x8192x3x3x8x128 .f32) : FVec Ideal S1x8192x8x128 .f32 :=
  shapeCast S1x8192x8x128 (extractStridedSlice S1x8192x1x1x8x128 ![0, 0, 2, 0, 0, 0] u slices_S1x8192x3x3x8x128_S1x8192x1x1x8x128_0_0_2_0_0_0) shapeCasts_S1x8192x1x1x8x128_S1x8192x8x128
def k1 (u : FVec Ideal S1x8192x3x3x8x128 .f32) : FVec Ideal S1x8192x8x128 .f32 :=
  shapeCast S1x8192x8x128 (extractStridedSlice S1x8192x1x1x8x128 ![0, 0, 1, 1, 0, 0] u slices_S1x8192x3x3x8x128_S1x8192x1x1x8x128_0_0_1_1_0_0) shapeCasts_S1x8192x1x1x8x128_S1x8192x8x128
def v1 (u : FVec Ideal S1x8192x3x3x8x128 .f32) : FVec Ideal S1x8192x8x128 .f32 :=
  shapeCast S1x8192x8x128 (extractStridedSlice S1x8192x1x1x8x128 ![0, 0, 2, 1, 0, 0] u slices_S1x8192x3x3x8x128_S1x8192x1x1x8x128_0_0_2_1_0_0) shapeCasts_S1x8192x1x1x8x128_S1x8192x8x128
def k2 (u : FVec Ideal S1x8192x3x3x8x128 .f32) : FVec Ideal S1x8192x8x128 .f32 :=
  shapeCast S1x8192x8x128 (extractStridedSlice S1x8192x1x1x8x128 ![0, 0, 1, 2, 0, 0] u slices_S1x8192x3x3x8x128_S1x8192x1x1x8x128_0_0_1_2_0_0) shapeCasts_S1x8192x1x1x8x128_S1x8192x8x128
def v2 (u : FVec Ideal S1x8192x3x3x8x128 .f32) : FVec Ideal S1x8192x8x128 .f32 :=
  shapeCast S1x8192x8x128 (extractStridedSlice S1x8192x1x1x8x128 ![0, 0, 2, 2, 0, 0] u slices_S1x8192x3x3x8x128_S1x8192x1x1x8x128_0_0_2_2_0_0) shapeCasts_S1x8192x1x1x8x128_S1x8192x8x128

variable (x : FVec Ideal S1x8192x2048 .f32) (g b : FVec Ideal S2048 .f32) (w : FVec Ideal S1x2048x19472 .f32) (c s : FVec Ideal S8320x16 .f32)

/-- The product of the layer norm's rows. -/
abbrev all : FVec Ideal S1x8192x3x3x8x128 .f32 := heads (Cert.Reference8Ideal.Reading.normP x g b) w

/-- The reference's three results. -/
def result0 : FVec Ideal S1x1x128x2x8x128 .f32 :=
  broadcastInDim S1x1x128x2x8x128 ![1, 2, 3, 4, 5] bcast_S1x128x2x8x128_S1x1x128x2x8x128_1_2_3_4_5 (extractStridedSlice S1x128x2x8x128 ![0, 8064, 0, 0, 0]
    (paired (k0 (all x g b w)) (v0 (all x g b w)) c s) slices_S1x8192x2x8x128_S1x128x2x8x128_0_8064_0_0_0)
def result1 : FVec Ideal S1x1x512x2x8x128 .f32 :=
  broadcastInDim S1x1x512x2x8x128 ![1, 2, 3, 4, 5] bcast_S1x512x2x8x128_S1x1x512x2x8x128_1_2_3_4_5 (extractStridedSlice S1x512x2x8x128 ![0, 7680, 0, 0, 0]
    (paired (k1 (all x g b w)) (v1 (all x g b w)) c s) slices_S1x8192x2x8x128_S1x512x2x8x128_0_7680_0_0_0)
def result2 : FVec Ideal S1x1x2048x2x8x128 .f32 :=
  broadcastInDim S1x1x2048x2x8x128 ![1, 2, 3, 4, 5] bcast_S1x2048x2x8x128_S1x1x2048x2x8x128_1_2_3_4_5 (extractStridedSlice S1x2048x2x8x128 ![0, 6144, 0, 0, 0]
    (paired (k2 (all x g b w)) (v2 (all x g b w)) c s) slices_S1x8192x2x8x128_S1x2048x2x8x128_0_6144_0_0_0)

theorem product_apply (y : FVec Ideal S1x8192x2048 .f32) (r : Fin 8192) (a f : Fin 3) (h : Fin 8) (p : Fin 128) :
    heads y w (ix6 0 r a f h p) = ∑ l : Fin 2048, y (ix3 0 r l) * w (ix3 0 l ⟨((a.val * 3 + f.val) * 8 + h.val) * 128 + p.val, by omega⟩) := by
  pointwise [heads]
  have e : a.val * 3072 + f.val * 1024 + h.val * 128 + p.val = ((a.val * 3 + f.val) * 8 + h.val) * 128 + p.val := by omega
  simp only [e]

theorem heads_apply (r : Fin 8192) (a f : Fin 3) (h : Fin 8) (p : Fin 128) (n : Fin 72) (hn : n.val = (a.val * 3 + f.val) * 8 + h.val) :
    all x g b w (ix6 0 r a f h p) = entry x g b w r ⟨n.val * 128 + p.val, by omega⟩ := by
  refine (product_apply w _ r a f h p).trans ?_
  unfold entry
  refine Finset.sum_congr rfl fun l _ => ?_
  rw [Cert.Reference8Ideal.Reading.normP_apply]
  simp only [hn]

theorem rotated_apply (u : FVec Ideal S1x8192x8x128 .f32) (r : Fin 8192) (h : Fin 8) (p : Fin 128) :
    rotated u c s (ix4 0 r h p) = Rope.lane (fun p => u (ix4 0 r h p)) (fun p => c (ix2 ⟨r.val, by omega⟩ p)) (fun p => s (ix2 ⟨r.val, by omega⟩ p)) p := by
  pointwise [rotated, first, second, along]
  unfold Rope.lane
  have hp := p.isLt
  by_cases h1 : p.val < 16
  · have e : 16 + p.val = p.val + 16 := by omega
    refine (dif_pos h1).trans (Eq.trans ?_ (dif_pos h1).symm)
    simp only [e]
  · refine (dif_neg h1).trans (Eq.trans ?_ (dif_neg h1).symm)
    by_cases h2 : p.val < 32
    · have e : 16 + (p.val - 16) = p.val := by omega
      refine (dif_pos (show p.val - 16 < 16 by omega)).trans (Eq.trans ?_ (dif_pos h2).symm)
      simp only [e]
    · have e : 32 + (p.val - 16 - 16) = p.val := by omega
      refine (dif_neg (show ¬ p.val - 16 < 16 by omega)).trans (Eq.trans ?_ (dif_neg h2).symm)
      simp only [e]

theorem beside (k v : FVec Ideal S1x8192x8x128 .f32) (r : Fin 8192) (i : Fin 2) (h : Fin 8) (p : Fin 128) :
    paired k v c s (ix5 0 r i h p) = if i.val < 1 then rotated k c s (ix4 0 r h p) else v (ix4 0 r h p) := by
  pointwise [paired]
  rfl

/-- The keys after the rotation beside the values, where both are a group's heads of the product. -/
theorem paired_apply (k v : FVec Ideal S1x8192x8x128 .f32) (f : Fin 3)
    (hk : ∀ (r : Fin 8192) (h : Fin 8) (p : Fin 128), k (ix4 0 r h p) = all x g b w (ix6 0 r 1 f h p))
    (hv : ∀ (r : Fin 8192) (h : Fin 8) (p : Fin 128), v (ix4 0 r h p) = all x g b w (ix6 0 r 2 f h p))
    (r : Fin 8192) (i : Fin 2) (h : Fin 8) (p : Fin 128) :
    paired k v c s (ix5 0 r i h p) = cell x g b w c s r ⟨24 + 24 * i.val + 8 * f.val + h.val, by omega⟩ p := by
  rw [beside]
  unfold cell
  by_cases hi : i.val < 1
  · rw [if_pos hi, if_pos (show 24 + 24 * i.val + 8 * f.val + h.val < 48 by omega), rotated_apply]
    refine congrArg (fun a => Rope.lane a _ _ _) (funext fun p => (hk r h p).trans ?_)
    exact heads_apply x g b w r 1 f h p ⟨24 + 24 * i.val + 8 * f.val + h.val, by omega⟩ (by show 24 + 24 * i.val + 8 * f.val + h.val = (1 * 3 + f.val) * 8 + h.val; omega)
  · rw [if_neg hi, if_neg (show ¬ 24 + 24 * i.val + 8 * f.val + h.val < 48 by omega)]
    refine (hv r h p).trans ?_
    exact heads_apply x g b w r 2 f h p ⟨24 + 24 * i.val + 8 * f.val + h.val, by omega⟩ (by show 24 + 24 * i.val + 8 * f.val + h.val = (2 * 3 + f.val) * 8 + h.val; omega)

theorem k0_apply (u : FVec Ideal S1x8192x3x3x8x128 .f32) (r : Fin 8192) (h : Fin 8) (p : Fin 128) : k0 u (ix4 0 r h p) = u (ix6 0 r 1 0 h p) := by pointwise [k0]
theorem v0_apply (u : FVec Ideal S1x8192x3x3x8x128 .f32) (r : Fin 8192) (h : Fin 8) (p : Fin 128) : v0 u (ix4 0 r h p) = u (ix6 0 r 2 0 h p) := by pointwise [v0]
theorem k1_apply (u : FVec Ideal S1x8192x3x3x8x128 .f32) (r : Fin 8192) (h : Fin 8) (p : Fin 128) : k1 u (ix4 0 r h p) = u (ix6 0 r 1 1 h p) := by pointwise [k1]
theorem v1_apply (u : FVec Ideal S1x8192x3x3x8x128 .f32) (r : Fin 8192) (h : Fin 8) (p : Fin 128) : v1 u (ix4 0 r h p) = u (ix6 0 r 2 1 h p) := by pointwise [v1]
theorem k2_apply (u : FVec Ideal S1x8192x3x3x8x128 .f32) (r : Fin 8192) (h : Fin 8) (p : Fin 128) : k2 u (ix4 0 r h p) = u (ix6 0 r 1 2 h p) := by pointwise [k2]
theorem v2_apply (u : FVec Ideal S1x8192x3x3x8x128 .f32) (r : Fin 8192) (h : Fin 8) (p : Fin 128) : v2 u (ix4 0 r h p) = u (ix6 0 r 2 2 h p) := by pointwise [v2]

/-- The last rows of a group's pairs. -/
theorem last0 (u : FVec Ideal S1x8192x2x8x128 .f32) (r : Fin 128) (i : Fin 2) (h : Fin 8) (p : Fin 128) :
    broadcastInDim S1x1x128x2x8x128 ![1, 2, 3, 4, 5] bcast_S1x128x2x8x128_S1x1x128x2x8x128_1_2_3_4_5 (extractStridedSlice S1x128x2x8x128 ![0, 8064, 0, 0, 0]
      u slices_S1x8192x2x8x128_S1x128x2x8x128_0_8064_0_0_0) (ix6 0 0 r i h p) = u (ix5 0 ⟨8064 + r.val, by omega⟩ i h p) := by pointwise []
theorem last1 (u : FVec Ideal S1x8192x2x8x128 .f32) (r : Fin 512) (i : Fin 2) (h : Fin 8) (p : Fin 128) :
    broadcastInDim S1x1x512x2x8x128 ![1, 2, 3, 4, 5] bcast_S1x512x2x8x128_S1x1x512x2x8x128_1_2_3_4_5 (extractStridedSlice S1x512x2x8x128 ![0, 7680, 0, 0, 0]
      u slices_S1x8192x2x8x128_S1x512x2x8x128_0_7680_0_0_0) (ix6 0 0 r i h p) = u (ix5 0 ⟨7680 + r.val, by omega⟩ i h p) := by pointwise []
theorem last2 (u : FVec Ideal S1x8192x2x8x128 .f32) (r : Fin 2048) (i : Fin 2) (h : Fin 8) (p : Fin 128) :
    broadcastInDim S1x1x2048x2x8x128 ![1, 2, 3, 4, 5] bcast_S1x2048x2x8x128_S1x1x2048x2x8x128_1_2_3_4_5 (extractStridedSlice S1x2048x2x8x128 ![0, 6144, 0, 0, 0]
      u slices_S1x8192x2x8x128_S1x2048x2x8x128_0_6144_0_0_0) (ix6 0 0 r i h p) = u (ix5 0 ⟨6144 + r.val, by omega⟩ i h p) := by pointwise []

theorem result0_apply (r : Fin 128) (i : Fin 2) (h : Fin 8) (p : Fin 128) : result0 x g b w c s (ix6 0 0 r i h p)
    = cell x g b w c s ⟨8064 + r.val, by omega⟩ ⟨24 + 24 * i.val + 8 * 0 + h.val, by omega⟩ p :=
  (last0 _ r i h p).trans (paired_apply x g b w c s _ _ 0 (k0_apply _) (v0_apply _) _ i h p)
theorem result1_apply (r : Fin 512) (i : Fin 2) (h : Fin 8) (p : Fin 128) : result1 x g b w c s (ix6 0 0 r i h p)
    = cell x g b w c s ⟨7680 + r.val, by omega⟩ ⟨24 + 24 * i.val + 8 * 1 + h.val, by omega⟩ p :=
  (last1 _ r i h p).trans (paired_apply x g b w c s _ _ 1 (k1_apply _) (v1_apply _) _ i h p)
theorem result2_apply (r : Fin 2048) (i : Fin 2) (h : Fin 8) (p : Fin 128) : result2 x g b w c s (ix6 0 0 r i h p)
    = cell x g b w c s ⟨6144 + r.val, by omega⟩ ⟨24 + 24 * i.val + 8 * 2 + h.val, by omega⟩ p :=
  (last2 _ r i h p).trans (paired_apply x g b w c s _ _ 2 (k2_apply _) (v2_apply _) _ i h p)

variable (m : (ℓ : Loc nD τ sig) → Buf (Elt Ideal) ℓ) (d : Dev nD)

theorem result0_eq : res_main_v58 m d = result0 (m ((d.tc : Thread nD τ).loc main_arg0)) (m ((d.tc : Thread nD τ).loc main_arg2)) (m ((d.tc : Thread nD τ).loc main_arg3))
    (m ((d.tc : Thread nD τ).loc main_arg4)) (m ((d.tc : Thread nD τ).loc main_arg5)) (m ((d.tc : Thread nD τ).loc main_arg6)) := rfl
theorem result1_eq : res_main_v89 m d = result1 (m ((d.tc : Thread nD τ).loc main_arg0)) (m ((d.tc : Thread nD τ).loc main_arg2)) (m ((d.tc : Thread nD τ).loc main_arg3))
    (m ((d.tc : Thread nD τ).loc main_arg4)) (m ((d.tc : Thread nD τ).loc main_arg5)) (m ((d.tc : Thread nD τ).loc main_arg6)) := rfl
theorem result2_eq : res_main_v120 m d = result2 (m ((d.tc : Thread nD τ).loc main_arg0)) (m ((d.tc : Thread nD τ).loc main_arg2)) (m ((d.tc : Thread nD τ).loc main_arg3))
    (m ((d.tc : Thread nD τ).loc main_arg4)) (m ((d.tc : Thread nD τ).loc main_arg5)) (m ((d.tc : Thread nD τ).loc main_arg6)) := rfl

end Cert.Reference9Ideal.Reading
-- ==== Proof.Cache.lean ====
/-
  The layer norm, the projection and the cut of the caches as one program: each cache it returns is the reference's.
-/
module

public import proofs.«01_k».proof.Defs
public import proofs.«01_k».proof.Proof.Gen.Kernel9.Frame
public import proofs.«01_k».proof.Proof.Gen.Kernel9Ideal.Frame
public import proofs.«01_k».proof.Proof.Gen.Reference9Ideal.Run
public import proofs.«01_k».proof.Proof.CacheEnd
public import proofs.«01_k».proof.Proof.CacheNorm
public import proofs.«01_k».proof.Proof.CacheRope
public import proofs.«01_k».proof.Proof.CacheRef

@[expose] public section

set_option maxRecDepth 16384

noncomputable section

open Idealize.ShloMosaic Idealize.ShloMosaic.TcCoe Idealize.SL.Sem

namespace Cert.Cache

open Cert.Kernel9Ideal Cert.Kernel9Ideal.Gen Cert.Reference9Ideal.Reading

/-- An index of a cache, by its row, key or value, head and lane. -/
theorem ext6 {n : Nat} (y : (⟨6, ![1, 1, n, 2, 8, 128]⟩ : Shape).Idx) :
    ∃ (r : Fin n) (i : Fin 2) (h : Fin 8) (p : Fin 128), y = ix6 0 0 r i h p :=
  ⟨⟨(y 2).val, (y 2).isLt⟩, ⟨(y 3).val, (y 3).isLt⟩, ⟨(y 4).val, (y 4).isLt⟩, ⟨(y 5).val, (y 5).isLt⟩, funext fun d => match d with
    | ⟨0, _⟩ => Fin.ext (Nat.lt_one_iff.1 (y 0).isLt) | ⟨1, _⟩ => Fin.ext (Nat.lt_one_iff.1 (y 1).isLt)
    | ⟨2, _⟩ => rfl | ⟨3, _⟩ => rfl | ⟨4, _⟩ => rfl | ⟨5, _⟩ => rfl⟩

/-- The caches cut from a projection, at an index. -/
theorem kv0_apply (u : FVec Ideal S8320x9216 .f32) (r : Fin 128) (i : Fin 2) (h : Fin 8) (p : Fin 128) : kv0 u (ix6 0 0 r i h p)
    = u (ix2 ⟨8064 + r.val, by omega⟩ ⟨(24 + 24 * i.val + 8 * 0 + h.val) * 128 + p.val, by omega⟩) := by
  pointwise [kv0]
  by_cases hi : i.val < 1
  · refine (dif_pos hi).trans (congrArg (fun j => u (ix2 _ j)) (Fin.ext ?_))
    show 3072 + (h.val * 128 + p.val) = (24 + 24 * i.val + 8 * 0 + h.val) * 128 + p.val
    omega
  · refine (dif_neg hi).trans (congrArg (fun j => u (ix2 _ j)) (Fin.ext ?_))
    show 6144 + (h.val * 128 + p.val) = (24 + 24 * i.val + 8 * 0 + h.val) * 128 + p.val
    omega
theorem kv1_apply (u : FVec Ideal S8320x9216 .f32) (r : Fin 512) (i : Fin 2) (h : Fin 8) (p : Fin 128) : kv1 u (ix6 0 0 r i h p)
    = u (ix2 ⟨7680 + r.val, by omega⟩ ⟨(24 + 24 * i.val + 8 * 1 + h.val) * 128 + p.val, by omega⟩) := by
  pointwise [kv1]
  by_cases hi : i.val < 1
  · refine (dif_pos hi).trans (congrArg (fun j => u (ix2 _ j)) (Fin.ext ?_))
    show 4096 + (h.val * 128 + p.val) = (24 + 24 * i.val + 8 * 1 + h.val) * 128 + p.val
    omega
  · refine (dif_neg hi).trans (congrArg (fun j => u (ix2 _ j)) (Fin.ext ?_))
    show 7168 + (h.val * 128 + p.val) = (24 + 24 * i.val + 8 * 1 + h.val) * 128 + p.val
    omega
theorem kv2_apply (u : FVec Ideal S8320x9216 .f32) (r : Fin 2048) (i : Fin 2) (h : Fin 8) (p : Fin 128) : kv2 u (ix6 0 0 r i h p)
    = u (ix2 ⟨6144 + r.val, by omega⟩ ⟨(24 + 24 * i.val + 8 * 2 + h.val) * 128 + p.val, by omega⟩) := by
  pointwise [kv2]
  by_cases hi : i.val < 1
  · refine (dif_pos hi).trans (congrArg (fun j => u (ix2 _ j)) (Fin.ext ?_))
    show 5120 + (h.val * 128 + p.val) = (24 + 24 * i.val + 8 * 2 + h.val) * 128 + p.val
    omega
  · refine (dif_neg hi).trans (congrArg (fun j => u (ix2 _ j)) (Fin.ext ?_))
    show 8192 + (h.val * 128 + p.val) = (24 + 24 * i.val + 8 * 2 + h.val) * 128 + p.val
    omega

variable (m : (ℓ : Loc nD τ sig) → Buf (Elt Ideal) ℓ) (ρ : Dev nD → PrngReg) (d : Dev nD)

/-- The projection's entry in a row of the prompt is the reference's. -/
theorem projected_apply (r : Fin 8192) (n : Fin 72) (p : Fin 128) : projected m ρ d (ix2 ⟨r.val, by omega⟩ ⟨n.val * 128 + p.val, by omega⟩)
    = cell (m ((d : Thread nD τ).loc main_arg0)) (m ((d : Thread nD τ).loc main_arg2)) (m ((d : Thread nD τ).loc main_arg3))
        (m ((d : Thread nD τ).loc main_arg4)) (m ((d : Thread nD τ).loc main_arg5)) (m ((d : Thread nD τ).loc main_arg6)) r n p := by
  have e : ∀ j : Fin 9216, Cert.Reference2Ideal.Reading.entry (V3 m ρ d main_v6) (m ((d : Thread nD τ).loc main_arg4)) ⟨r.val, by omega⟩ j
      = entry (m ((d : Thread nD τ).loc main_arg0)) (m ((d : Thread nD τ).loc main_arg2)) (m ((d : Thread nD τ).loc main_arg3)) (m ((d : Thread nD τ).loc main_arg4)) r j := by
    intro j
    unfold Cert.Reference2Ideal.Reading.entry entry
    exact Finset.sum_congr rfl fun l _ => congrArg (fun a : EReal => a * _) (rows_apply m ρ d ⟨r.val, by omega⟩ r.isLt l)
  refine (Cert.Reference2Ideal.Reading.result_head _ _ _ _ ⟨r.val, by omega⟩ n p).trans ?_
  unfold cell
  simp only [e]

theorem cache0 : W5 m ρ d (Proc.devRef .tc main_v24) = result0 (m ((d : Thread nD τ).loc main_arg0)) (m ((d : Thread nD τ).loc main_arg2))
    (m ((d : Thread nD τ).loc main_arg3)) (m ((d : Thread nD τ).loc main_arg4)) (m ((d : Thread nD τ).loc main_arg5)) (m ((d : Thread nD τ).loc main_arg6)) := by
  rw [W5_kv0, projected_final]
  funext y
  obtain ⟨r, i, h, p, rfl⟩ := ext6 y
  exact (kv0_apply _ r i h p).trans ((projected_apply m ρ d ⟨8064 + r.val, by omega⟩ ⟨24 + 24 * i.val + 8 * 0 + h.val, by omega⟩ p).trans
    (result0_apply _ _ _ _ _ _ r i h p).symm)
theorem cache1 : W5 m ρ d (Proc.devRef .tc main_v32) = result1 (m ((d : Thread nD τ).loc main_arg0)) (m ((d : Thread nD τ).loc main_arg2))
    (m ((d : Thread nD τ).loc main_arg3)) (m ((d : Thread nD τ).loc main_arg4)) (m ((d : Thread nD τ).loc main_arg5)) (m ((d : Thread nD τ).loc main_arg6)) := by
  rw [W5_kv1, projected_final]
  funext y
  obtain ⟨r, i, h, p, rfl⟩ := ext6 y
  exact (kv1_apply _ r i h p).trans ((projected_apply m ρ d ⟨7680 + r.val, by omega⟩ ⟨24 + 24 * i.val + 8 * 1 + h.val, by omega⟩ p).trans
    (result1_apply _ _ _ _ _ _ r i h p).symm)
theorem cache2 : W5 m ρ d (Proc.devRef .tc main_v40) = result2 (m ((d : Thread nD τ).loc main_arg0)) (m ((d : Thread nD τ).loc main_arg2))
    (m ((d : Thread nD τ).loc main_arg3)) (m ((d : Thread nD τ).loc main_arg4)) (m ((d : Thread nD τ).loc main_arg5)) (m ((d : Thread nD τ).loc main_arg6)) := by
  rw [W5_kv2, projected_final]
  funext y
  obtain ⟨r, i, h, p, rfl⟩ := ext6 y
  exact (kv2_apply _ r i h p).trans ((projected_apply m ρ d ⟨6144 + r.val, by omega⟩ ⟨24 + 24 * i.val + 8 * 2 + h.val, by omega⟩ p).trans
    (result2_apply _ _ _ _ _ _ r i h p).symm)

theorem frame : Cert.quiescent_Kernel9 (hKernel9 := Cert.Kernel9.Gen.facts) := fun m g _ => Cert.Kernel9.Gen.frame m g

theorem frame_ideal : Cert.quiescent_Kernel9Ideal (hKernel9Ideal := Cert.Kernel9Ideal.Gen.facts) :=
  fun m g _ => Cert.Kernel9Ideal.Gen.frame m g

theorem frame_reference : Cert.quiescent_Reference9Ideal (hReference9Ideal := Cert.Reference9Ideal.Gen.facts) :=
  fun m g _ => (θ_run Cert.Reference9Ideal.defs _ _).mono
    (fun r h => ⟨fun c => (h c).2.2.2, Idealize.ShloMosaic.sem_eq_zero_of_no_sems (by decide) r.2⟩)
    (Cert.Reference9Ideal.Value.run (F := Ideal) m g)

/-- The three caches are the reference's, as extended reals, at every input. -/
theorem value : Cert.algebraic_Kernel9Ideal_Reference9Ideal (hKernel9Ideal := Cert.Kernel9Ideal.Gen.facts)
    (hReference9Ideal := Cert.Reference9Ideal.Gen.facts) := by
  intro m g m' g' _ hagree
  refine ⟨fun c => result0 (m ((c.tc : Thread _ _).loc main_arg0)) (m ((c.tc : Thread _ _).loc main_arg2)) (m ((c.tc : Thread _ _).loc main_arg3))
      (m ((c.tc : Thread _ _).loc main_arg4)) (m ((c.tc : Thread _ _).loc main_arg5)) (m ((c.tc : Thread _ _).loc main_arg6)),
    fun c => result1 (m ((c.tc : Thread _ _).loc main_arg0)) (m ((c.tc : Thread _ _).loc main_arg2)) (m ((c.tc : Thread _ _).loc main_arg3))
      (m ((c.tc : Thread _ _).loc main_arg4)) (m ((c.tc : Thread _ _).loc main_arg5)) (m ((c.tc : Thread _ _).loc main_arg6)),
    fun c => result2 (m ((c.tc : Thread _ _).loc main_arg0)) (m ((c.tc : Thread _ _).loc main_arg2)) (m ((c.tc : Thread _ _).loc main_arg3))
      (m ((c.tc : Thread _ _).loc main_arg4)) (m ((c.tc : Thread _ _).loc main_arg5)) (m ((c.tc : Thread _ _).loc main_arg6)), ?_, ?_⟩
  · exact (θ_run Cert.Kernel9Ideal.defs _ _).mono (fun _ h c =>
      ⟨(h c _ (mem_uc main_v24 (by decide))).trans (cache0 m g c), (h c _ (mem_uc main_v32 (by decide))).trans (cache1 m g c),
        (h c _ (mem_uc main_v40 (by decide))).trans (cache2 m g c),
        (h c _ (mem_uc main_arg0 (by decide))).trans (W5_main_arg0 m g c), (h c _ (mem_uc main_arg1 (by decide))).trans (W5_main_arg1 m g c),
        (h c _ (mem_uc main_arg2 (by decide))).trans (W5_main_arg2 m g c), (h c _ (mem_uc main_arg3 (by decide))).trans (W5_main_arg3 m g c),
        (h c _ (mem_uc main_arg4 (by decide))).trans (W5_main_arg4 m g c), (h c _ (mem_uc main_arg5 (by decide))).trans (W5_main_arg5 m g c),
        (h c _ (mem_uc main_arg6 (by decide))).trans (W5_main_arg6 m g c)⟩)
      (ends m g)
  · refine (θ_run Cert.Reference9Ideal.defs _ _).mono (fun _ h c => ?_) (Cert.Reference9Ideal.Value.run (F := Ideal) m' g')
    obtain ⟨e0, e1, e2, e3, e4, e5, e6⟩ := hagree c
    refine ⟨(h c).1.trans ?_, (h c).2.1.trans ?_, (h c).2.2.1.trans ?_, (h c).2.2.2⟩
    · rw [result0_eq, e0, e2, e3, e4, e5, e6]
    · rw [result1_eq, e0, e2, e3, e4, e5, e6]
    · rw [result2_eq, e0, e2, e3, e4, e5, e6]

end Cert.Cache
-- ==== Proof.StateEnd.lean ====
/-
  The joined program of the layer norm, the projection, the log decays and the linear attention of the samples: every run ends with its memory as
  the chain of its stretches and calls leaves it.
-/
module

public import proofs.«01_k».proof.Proof.Gen.Kernel10Ideal.Frame

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

namespace Cert.State

open Cert.Kernel10Ideal Cert.Kernel10Ideal.Gen

variable {F : FTy → Type} [FloatOps F]

variable (m : (ℓ : Loc nD τ sig) → Buf (Elt F) ℓ) (ρ : Dev nD → PrngReg)

/-- What a launch owns of the pipelines' cells is owned through their embedding. -/
theorem cells_own : (ownU (initOf (Pipeline.cells cfgs cellOf_inj) (Pipeline.launchToks cfgs cellOf_inj)) :
    sProp (MT nD τ sig Unit (Elt F) ℕ (UR sig nD τ) ℕ))
    ⊢ BI.own (emb₁ (initOf (Pipeline.cells cfgs cellOf_inj) (Pipeline.launchToks cfgs cellOf_inj))) := .rfl

/-- Beside them each core takes nothing. -/
theorem nothing : (BI.emp : sProp (MT nD τ sig Unit (Elt F) ℕ (UR sig nD τ) ℕ)) ⊢ bigSep Finset.univ (fun _ : Dev nD => BI.emp) := by
  rw [BI.bigSep_emp_const]

set_option backward.isDefEq.respectTransparency.types false in
/-- Every run of the joined program ends, and then each of its unscoped arrays holds what the last stretch's contents say. -/
theorem ends : θ_run defs (onTc (τ := τ) (main (F := F))) ⟨m, fun _ => 0, ρ⟩ (fun r => ∀ c : Dev nD,
    ∀ b ∈ Pipeline.ucRefs τ sig, r.2.mem ((c.tc : Thread nD τ).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]
      · iapply cells_own
        iexact Hu
      iapply nothing
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hheld, Hreg, Howes⟩
      isplitl [Hheld Hreg]
      · isplitl [Hheld] <;> iassumption
      iexact Howes⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hheld, -, Howes, -, Hreg, -⟩, -⟩
      imodintro
      isplitl [Hheld]
      · iexact Hheld
      isplitl [Hreg]
      · iexists _
        iexact Hreg
      iexists ∅
      iexact Howes)
    (QY := fun c s => ∀ b ∈ Pipeline.ucRefs τ sig, s.mem (((c : Thread nD τ)).1, b) = W19 m ρ c b)
    (hfin := fun c s => by
      iintro ⟨⟨Hheld, -⟩, Hstate⟩
      unfold StableHlo.held
      imodintro
      iapply (pointsTo_read_all (Pipeline.ucRefs τ sig) (fun b => (((c : Thread nD τ)).1, b)) (W19 m ρ c) s)
      isplitl [Hheld] <;> iassumption)
    (hQ := fun _ h => h)

end Cert.State
-- ==== Proof.StateRun.lean ====
/-
  The joined program of the layer norm, the projection, the log decays and the linear attention of the samples: what each of its four
  calls finds.
-/
module

public import proofs.«01_k».proof.Proof.Gen.Kernel10Ideal.Frame
public import proofs.«01_k».proof.Proof.Decay
public import proofs.«01_k».proof.Proof.Norm
public import proofs.«01_k».proof.Proof.Final

@[expose] public section

set_option maxRecDepth 16384

noncomputable section

open Idealize.ShloMosaic Idealize.ShloMosaic.TcCoe Idealize.SL.Sem
open Idealize.ShloMosaic.Pipeline (Dat)

namespace Cert.State

open Cert.Kernel10Ideal Cert.Kernel10Ideal.Gen
open Cert.KernelIdeal.Final (rows1024 rows2048)

variable (m : (ℓ : Loc nD τ sig) → Buf (Elt Ideal) ℓ) (ρ : Dev nD → PrngReg)

/-- The first call's rows, as it finds them. -/
theorem V1_x (c : Dev nD) : V1 m ρ c main_v2 = shapeCast S64x128x2048 (shapeCast S8192x2048 (m ((c : Thread nD τ).loc main_arg0)) shapeCasts_S1x8192x2048_S8192x2048) shapeCasts_S8192x2048_S64x128x2048 := by
  simp only [V1, W1, W0, hostOps0]
  after_results_simp <;> rfl
theorem V1_y (c : Dev nD) : V1 m ρ c main_v1 = shapeCast S128x2048 (m ((c : Thread nD τ).loc main_arg1)) shapeCasts_S32x4x2048_S128x2048 := by
  simp only [V1, W1, W0, hostOps0]
  after_results_simp <;> rfl
theorem V1_g (c : Dev nD) : V1 m ρ c main_v3 = shapeCast S1x2048 (m ((c : Thread nD τ).loc main_arg2)) shapeCasts_S2048_S1x2048 := by
  simp only [V1, W1, W0, hostOps0]
  after_results_simp <;> rfl
theorem V1_b (c : Dev nD) : V1 m ρ c main_v4 = shapeCast S1x2048 (m ((c : Thread nD τ).loc main_arg3)) shapeCasts_S2048_S1x2048 := by
  simp only [V1, W1, W0, hostOps0]
  after_results_simp <;> rfl

/-- The second call's rows and weight, as it finds them: the first call's rounded result in rows, the weight's columns as rows. -/
theorem V3_x (c : Dev nD) : V3 m ρ c main_v6 = shapeCast S8320x2048 ((dat0 (V1 m ρ) c).arrAt 5 cfg0.N) shapeCasts_S65x128x2048_S8320x2048 := by
  rw [show (dat0 (V1 m ρ) c).arrAt 5 cfg0.N = W2 m ρ c (Proc.devRef .tc main_v5_1) from (W2_arr m ρ c 5).symm]
  simp only [V3, W3, hostOps1]
  after_results_simp <;> rfl
theorem V3_w (c : Dev nD) : V3 m ρ c main_v8 = transpose S19472x2048 [1, 0] (shapeCast S2048x19472 (m ((c : Thread nD τ).loc main_arg4)) shapeCasts_S1x2048x19472_S2048x19472)
    transposes_S2048x19472_S19472x2048_1_0 := by
  rw [← W2_args m ρ c main_arg4 (by decide)]
  simp only [V3, W3, hostOps1]
  after_results_simp <;> rfl

/-- The third call's rows, as it finds them: those of the second. -/
theorem V5_x (c : Dev nD) : V5 m ρ c main_v6 = V3 m ρ c main_v6 :=
  (W5_of m ρ c main_v6 (by decide)).trans (W4_of m ρ c main_v6 (by decide))

/-- Columns of the weight, as rows, over zeros. -/
def padded (w : FVec Ideal S19472x2048 .f32) : FVec Ideal S128x2048 .bf16 :=
  Host.scatter scatter_S128x2048_S1_S16x2048_01_n_0_0 (fun _ b => b)
    (broadcastInDim S128x2048 ![] bcast_S_S128x2048 (constant S_ .bf16 0x0000#16))
    (broadcastInDim S1 ![] bcast_S_S1 (constantI S_ 32 0#32))
    (truncf .bf16 (extractStridedSlice S16x2048 ![15360, 0] w slices_S19472x2048_S16x2048_15360_0) bitsLt_bf16_f32)

theorem padded_eq (w : FVec Ideal S1x2048x19472 .f32) :
    padded (transpose S19472x2048 [1, 0] (shapeCast S2048x19472 w shapeCasts_S1x2048x19472_S2048x19472) transposes_S2048x19472_S19472x2048_1_0)
      = Cert.Decay.down w := rfl

theorem V5_down (c : Dev nD) : V5 m ρ c main_v23 = Cert.Decay.down (m ((c : Thread nD τ).loc main_arg4)) := by
  rw [← padded_eq, ← V3_w m ρ c, show V3 m ρ c main_v8 = W4 m ρ c (Proc.devRef .tc main_v8) from (W4_of m ρ c main_v8 (by decide)).symm]
  simp only [V5, W5, hostOps2]
  after_results_simp <;> rfl
theorem V5_up (c : Dev nD) : V5 m ρ c main_v27 = Cert.Decay.up (m ((c : Thread nD τ).loc main_arg5)) := by
  rw [← W4_args m ρ c main_arg5 (by decide)]
  simp only [V5, W5, hostOps2]
  after_results_simp <;> rfl
theorem V5_bias (c : Dev nD) : V5 m ρ c main_v28 = shapeCast S1x1024 (shapeCast S1024 (m ((c : Thread nD τ).loc main_arg6)) shapeCasts_S1x1024_S1024) shapeCasts_S1024_S1x1024 := by
  rw [← W4_args m ρ c main_arg6 (by decide)]
  simp only [V5, W5, hostOps2]
  after_results_simp <;> rfl

/-- The samples' rows of the projection, and of them the keys' columns and the values'. -/
def sampleRows (u : FVec Ideal S8320x6144 .bf16) : FVec Ideal S128x6144 .bf16 :=
  extractStridedSlice S128x6144 ![8192, 0] u slices_S8320x6144_S128x6144_8192_0
def keys (u : FVec Ideal S128x6144 .bf16) : FVec Ideal S128x1024 .f32 :=
  extf .f32 (extractStridedSlice S128x1024 ![0, 1024] u slices_S128x6144_S128x1024_0_1024) bitsLt_bf16_f32
def values (u : FVec Ideal S128x6144 .bf16) : FVec Ideal S128x2048 .f32 :=
  extf .f32 (extractStridedSlice S128x2048 ![0, 2048] u slices_S128x6144_S128x2048_0_2048) bitsLt_bf16_f32
/-- The samples' rows of the log decays. -/
def decays (u : FVec Ideal S8320x1024 .f32) : FVec Ideal S128x1024 .f32 :=
  extractStridedSlice S128x1024 ![8192, 0] u slices_S8320x1024_S128x1024_8192_0

/-- The samples' rows of the second call's result. -/
theorem W7_rows (c : Dev nD) : W7 m ρ c (Proc.devRef .tc main_v30) = sampleRows ((dat1 (V3 m ρ) c).arrAt 5 cfg1.N) := by
  rw [show (dat1 (V3 m ρ) c).arrAt 5 cfg1.N = W6 m ρ c (Proc.devRef .tc main_v16) from (W4_arr m ρ c 5).symm.trans
    ((W5_of m ρ c main_v16 (by decide)).symm.trans (W6_of_ne m ρ c main_v16 (by decide)).symm)]
  simp only [W7, hostOps3]
  after_results_simp <;> rfl

/-- The keys, the values, the log decays and the states, as the last call finds them. -/
theorem V17_k (c : Dev nD) : V17 m ρ c main_v38 = rows1024 (keys (sampleRows ((dat1 (V3 m ρ) c).arrAt 5 cfg1.N))) := by
  rw [← W7_rows, show W7 m ρ c (Proc.devRef .tc main_v30) = W8 m ρ c (Proc.devRef .tc main_v30) from (W8_of m ρ c main_v30 (by decide)).symm]
  refine Eq.trans (b := W10 m ρ c (Proc.devRef .tc main_v38)) ?_ ?_
  · exact (W17_of m ρ c main_v38 (by decide)).trans ((W16_of m ρ c main_v38 (by decide)).trans ((W15_of m ρ c main_v38 (by decide)).trans
      ((W14_of m ρ c main_v38 (by decide)).trans ((W13_of m ρ c main_v38 (by decide)).trans ((W12_of m ρ c main_v38 (by decide)).trans
        (W11_of m ρ c main_v38 (by decide)))))))
  · generalize hW : W8 m ρ c = W
    simp only [W10, W9, hW, hostOps3_2, hostOps3_3, StableHlo.TRef.unary, StableHlo.TRef.binary, StableHlo.TRef.toBuf, StableHlo.TRef.ofBuf, cast_eq]
    after_results_simp <;> rfl
theorem V17_v (c : Dev nD) : V17 m ρ c main_v42 = rows2048 (values (sampleRows ((dat1 (V3 m ρ) c).arrAt 5 cfg1.N))) := by
  rw [← W7_rows, show W7 m ρ c (Proc.devRef .tc main_v30) = W10 m ρ c (Proc.devRef .tc main_v30) from (W8_of m ρ c main_v30 (by decide)).symm.trans
    ((W9_of m ρ c main_v30 (by decide)).symm.trans (W10_of m ρ c main_v30 (by decide)).symm)]
  refine Eq.trans (b := W12 m ρ c (Proc.devRef .tc main_v42)) ?_ ?_
  · exact (W17_of m ρ c main_v42 (by decide)).trans ((W16_of m ρ c main_v42 (by decide)).trans ((W15_of m ρ c main_v42 (by decide)).trans
      ((W14_of m ρ c main_v42 (by decide)).trans (W13_of m ρ c main_v42 (by decide)))))
  · generalize hW : W10 m ρ c = W
    simp only [W12, W11, hW, hostOps3_4, hostOps3_5, StableHlo.TRef.unary, StableHlo.TRef.binary, StableHlo.TRef.toBuf, StableHlo.TRef.ofBuf, cast_eq]
    after_results_simp <;> rfl
theorem V17_g (c : Dev nD) : V17 m ρ c main_v49 = rows1024 (decays ((dat2 (V5 m ρ) c).arrAt 4 cfg2.N)) := by
  rw [show (dat2 (V5 m ρ) c).arrAt 4 cfg2.N = W14 m ρ c (Proc.devRef .tc main_v29) from (W6_arr m ρ c 4).symm.trans
    ((W7_of m ρ c main_v29 (by decide)).symm.trans ((W8_of m ρ c main_v29 (by decide)).symm.trans ((W9_of m ρ c main_v29 (by decide)).symm.trans
      ((W10_of m ρ c main_v29 (by decide)).symm.trans ((W11_of m ρ c main_v29 (by decide)).symm.trans ((W12_of m ρ c main_v29 (by decide)).symm.trans
        ((W13_of m ρ c main_v29 (by decide)).symm.trans (W14_of m ρ c main_v29 (by decide)).symm)))))))]
  refine Eq.trans (b := W16 m ρ c (Proc.devRef .tc main_v49)) ?_ ?_
  · exact W17_of m ρ c main_v49 (by decide)
  · generalize hW : W14 m ρ c = W
    simp only [W16, W15, hW, hostOps3_8, hostOps3_9, StableHlo.TRef.unary, StableHlo.TRef.binary, StableHlo.TRef.toBuf, StableHlo.TRef.ofBuf, cast_eq]
    after_results_simp <;> rfl
theorem V17_s (c : Dev nD) : V17 m ρ c main_v51
    = shapeCast S32x4x256x512 (m ((c : Thread nD τ).loc main_arg8)) shapeCasts_S1x32x4x256x512_S32x4x256x512 := by
  rw [← W16_args m ρ c main_arg8 (by decide)]
  simp only [V17, W17, hostOps3_10]
  after_results_simp <;> rfl

/-- The program's result, from the last call's second array. -/
theorem W19_result (c : Dev nD) : W19 m ρ c (Proc.devRef .tc main_v54)
    = broadcastInDim S1x32x4x256x512 ![1, 2, 3, 4] bcast_S32x4x256x512_S1x32x4x256x512_1_2_3_4 ((dat3 (V17 m ρ) c).arrAt 8 cfg3.N) := by
  rw [show (dat3 (V17 m ρ) c).arrAt 8 cfg3.N = W18 m ρ c (Proc.devRef .tc main_v53_1) from (W18_arr m ρ c 8).symm]
  simp only [W19, hostOps4]
  after_results_simp <;> rfl

end Cert.State
-- ==== Proof.StateNorm.lean ====
/-
  The joined program's first call: it leaves the layer norm of the prompt's rows and the samples', and the samples' rows come last.
-/
module

public import proofs.«01_k».proof.Proof.StateRun
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.State

open Cert.Kernel10Ideal Cert.Kernel10Ideal.Gen

theorem N_idx0 (t : Fin cfg0.N) : win0_0.index t = ![min t.val 15, 0, 0] := Cert.Norm.idx0 t
theorem N_idx1 (t : Fin cfg0.N) : win0_1.index t = ![0, 0] := Cert.Norm.idx1 t
theorem N_idx2 (t : Fin cfg0.N) : win0_2.index t = ![0, 0] := Cert.Norm.idx2 t
theorem N_idx3 (t : Fin cfg0.N) : win0_3.index t = ![0, 0] := Cert.Norm.idx3 t
theorem N_idx5 (t : Fin cfg0.N) : win0_5.index t = ![t.val, 0, 0] := Cert.Norm.idx5 t

variable (m : (ℓ : Loc nD τ sig) → Buf (Elt Ideal) ℓ) (ρ : Dev nD → PrngReg) (d : Dev nD) (t : Fin cfg0.N)

theorem N_block_x (a : Fin 4) (p : Fin 128) (l : Fin 2048) : (show Vec Ideal S4x128x2048 .f32 from iblk0 (V1 m ρ) d 0 t) (ix3 a p l)
    = m ((d : Thread nD τ).loc main_arg0) (ix3 0 ⟨(min t.val 15 * 4 + a.val) * 128 + p.val, by omega⟩ l) := by
  refine Eq.trans (b := V1 m ρ d main_v2 (ix3 ⟨min t.val 15 * 4 + a.val, by omega⟩ p l)) ?_ ?_
  · blk_ext [iblk0, N_idx0 t]
  · rw [V1_x]; exact Cert.Norm.groups_apply _ _ _ _

theorem N_block_y (p : Fin 128) (l : Fin 2048) : (show Vec Ideal S128x2048 .f32 from iblk0 (V1 m ρ) d 1 t) (ix2 p l)
    = m ((d : Thread nD τ).loc main_arg1) (ix3 ⟨p.val / 4, by omega⟩ ⟨p.val % 4, by omega⟩ l) := by
  refine Eq.trans (b := V1 m ρ d main_v1 (ix2 p l)) ?_ ?_
  · blk_ext [iblk0, N_idx1 t]
  · rw [V1_y]
    refine (congrArg (fun r => shapeCast S128x2048 _ shapeCasts_S32x4x2048_S128x2048 (ix2 r l)) (Fin.ext ?_)).trans
      (Cert.Norm.rows_apply _ ⟨p.val / 4, by omega⟩ ⟨p.val % 4, by omega⟩ l)
    show p.val = p.val / 4 * 4 + p.val % 4
    omega

theorem N_block_g (j : Fin 2048) : (show Vec Ideal S1x2048 .f32 from iblk0 (V1 m ρ) d 2 t) (ix2 0 j) = m ((d : Thread nD τ).loc main_arg2) (ix1 j) := by
  refine Eq.trans (b := V1 m ρ d main_v3 (ix2 0 j)) ?_ ?_
  · blk_ext [iblk0, N_idx2 t]
  · rw [V1_g]; pointwise []

theorem N_block_b (j : Fin 2048) : (show Vec Ideal S1x2048 .f32 from iblk0 (V1 m ρ) d 3 t) (ix2 0 j) = m ((d : Thread nD τ).loc main_arg3) (ix1 j) := by
  refine Eq.trans (b := V1 m ρ d main_v4 (ix2 0 j)) ?_ ?_
  · blk_ext [iblk0, N_idx3 t]
  · rw [V1_b]; pointwise []

/-- The layer norm of the two arguments' rows. -/
abbrev normed (m : (ℓ : Loc nD τ sig) → Buf (Elt Ideal) ℓ) (d : Dev nD) : FVec Ideal S65x128x2048 .f32 :=
  Cert.Reference8Ideal.Reading.result (m ((d : Thread nD τ).loc main_arg0)) (m ((d : Thread nD τ).loc main_arg1))
    (m ((d : Thread nD τ).loc main_arg2)) (m ((d : Thread nD τ).loc main_arg3))

/-- What a grid point of the first call stores, at an entry inside the array, is the layer norm's entry there. -/
theorem N_stored (a : Fin 4) (p : Fin 128) (j : Fin 2048) (h : t.val * 4 + a.val < 65) :
    k0_pay2 (grid0.coords t) (show Vec Ideal S4x128x2048 .f32 from iblk0 (V1 m ρ) d 0 t) (show Vec Ideal S128x2048 .f32 from iblk0 (V1 m ρ) d 1 t)
      (show Vec Ideal S1x2048 .f32 from iblk0 (V1 m ρ) d 2 t) (show Vec Ideal S1x2048 .f32 from iblk0 (V1 m ρ) d 3 t) (ix3 a p j)
      = normed m d (ix3 ⟨t.val * 4 + a.val, h⟩ p j) := by
  refine (Cert.Norm.block_apply (grid0.coords t) _ _ _ _ a p j).trans ?_
  rw [normed, Cert.Reference8Ideal.Reading.result_apply]
  have e : Cert.Norm.prompt (grid0.coords t) = if t.val < 16 then 1#1 else 0#1 := Cert.Norm.prompt_eq t
  rw [e]
  refine Cert.Norm.row_congr (fun l => ?_) (N_block_g m ρ d t j) (N_block_b m ρ d t j) j
  by_cases h16 : t.val < 16
  · have h64 : t.val * 4 + a.val < 64 := by omega
    rw [if_pos (by rw [if_pos h16]), dif_pos h64]
    refine (N_block_x m ρ d t a p l).trans (congrArg (fun r => m ((d : Thread nD τ).loc main_arg0) (ix3 0 r l)) (Fin.ext ?_))
    show (min t.val 15 * 4 + a.val) * 128 + p.val = (t.val * 4 + a.val) * 128 + p.val
    omega
  · have h64 : ¬ t.val * 4 + a.val < 64 := by omega
    rw [if_neg (by rw [if_neg h16]; decide), dif_neg h64]
    exact N_block_y m ρ d t p l

/-- The first call's rounded result. -/
theorem rows_final : (dat0 (V1 m ρ) d).arrAt 5 cfg0.N = truncf .bf16 (normed m d) Reference8Ideal.Gen.bitsLt_bf16_f32 := by
  refine (dat0 (V1 m ρ) d).arrAt_eq_of_covers 5 _ (by decide +kernel) fun t _ y => ?_
  blk_simp
  rw [after0_5]
  unfold out0_5
  frame_out
  have e0 : ((win0_5.rect t).emb y 0).val = t.val * 4 + (y 0).val := (win0_5.rect_emb_val t y 0).trans (by rw [N_idx5]; rfl)
  have e1 : ((win0_5.rect t).emb y 1).val = (y 1).val := (win0_5.rect_emb_val t y 1).trans (by rw [N_idx5]; exact (congrArg (· + _) (Nat.zero_mul _)).trans (Nat.zero_add _))
  have e2 : ((win0_5.rect t).emb y 2).val = (y 2).val := (win0_5.rect_emb_val t y 2).trans (by rw [N_idx5]; exact (congrArg (· + _) (Nat.zero_mul _)).trans (Nat.zero_add _))
  have h0 : t.val * 4 + (y 0).val < 65 := e0 ▸ ((win0_5.rect t).emb y 0).isLt
  obtain ⟨a, p, j, hy⟩ : ∃ (a : Fin 4) (p : Fin 128) (j : Fin 2048), (win0 5).xinj (grid0.coords t) y = ix3 a p j :=
    ⟨(win0 5).xinj (grid0.coords t) y 0, (win0 5).xinj (grid0.coords t) y 1, (win0 5).xinj (grid0.coords t) y 2, Cert.Norm.ext3 rfl rfl rfl⟩
  have y0 : (y 0).val = a.val := congrArg (fun z : S4x128x2048.Idx => (z 0).val) hy
  have y1 : (y 1).val = p.val := congrArg (fun z : S4x128x2048.Idx => (z 1).val) hy
  have y2 : (y 2).val = j.val := congrArg (fun z : S4x128x2048.Idx => (z 2).val) hy
  rw [y0] at h0
  refine Eq.trans (congrArg _ hy) (Eq.trans (b := normed m d (ix3 ⟨t.val * 4 + a.val, h0⟩ p j)) (N_stored m ρ d t a p j h0) ?_)
  exact congrArg (normed m d) (Cert.Norm.ext3 (e0.trans (congrArg _ y0)) (e1.trans y1) (e2.trans y2)).symm

/-- The groups of rows laid end to end. -/
theorem flat_apply (y : FVec Ideal S65x128x2048 .bf16) (r : Fin 8320) (l : Fin 2048) :
    shapeCast S8320x2048 y shapeCasts_S65x128x2048_S8320x2048 (ix2 r l) = y (ix3 ⟨r.val / 128, by omega⟩ ⟨r.val % 128, by omega⟩ l) := by
  pointwise []

/-- The rows the second and the third call find: past the prompt's, the layer norm of a sample's token. -/
theorem rows_apply (a : Fin 32) (t : Fin 4) (l : Fin 2048) : V3 m ρ d main_v6 (ix2 ⟨8192 + (a.val * 4 + t.val), by omega⟩ l)
    = Cert.Norm.row (fun l => m ((d : Thread nD τ).loc main_arg1) (ix3 a t l)) (m ((d : Thread nD τ).loc main_arg2) (ix1 l))
        (m ((d : Thread nD τ).loc main_arg3) (ix1 l)) l := by
  rw [V3_x, rows_final]
  refine Eq.trans (b := normed m d (ix3 ⟨(8192 + (a.val * 4 + t.val)) / 128, by omega⟩ ⟨(8192 + (a.val * 4 + t.val)) % 128, by omega⟩ l)) ?_ ?_
  · exact flat_apply _ ⟨8192 + (a.val * 4 + t.val), by omega⟩ l
  · rw [normed, Cert.Reference8Ideal.Reading.result_apply]
    refine Cert.Norm.row_congr (fun l => ?_) rfl rfl l
    rw [dif_neg (show ¬ (8192 + (a.val * 4 + t.val)) / 128 < 64 by omega)]
    refine congrArg₂ (fun r s => m ((d : Thread nD τ).loc main_arg1) (ix3 r s l)) (Fin.ext ?_) (Fin.ext ?_)
    · show (8192 + (a.val * 4 + t.val)) % 128 / 4 = a.val
      omega
    · show (8192 + (a.val * 4 + t.val)) % 128 % 4 = t.val
      omega

end Cert.State
-- ==== Proof.StateProj.lean ====
/-
  The joined program's second call: it leaves the product of the rows it finds with the weight's columns of the linear attention.
-/
module

public import proofs.«01_k».proof.Proof.StateRun
public import proofs.«01_k».proof.Proof.Linear
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.State

open Cert.Kernel10Ideal Cert.Kernel10Ideal.Gen
open Cert.Reference3Ideal.Reading (product)

/-- The block a grid point stores: a block of rows against a block of columns. -/
theorem block_apply (x0 : Vec Ideal S2080x2048 .bf16) (x1 : Vec Ideal S512x2048 .f32) (p : Fin 2080) (q : Fin 512) :
    k1_pay2 x0 x1 (ix2 p q) = ∑ l : Fin 2048, x0 (ix2 p l) * x1 (ix2 q l) := by
  pointwise [k1_pay2, k1_pay1]

theorem P_idx0 (t : Fin cfg1.N) : win1_0.index t = ![t.val / 12, 0] := Cert.Linear.idx0 t
theorem P_idx1 (t : Fin cfg1.N) : win1_1.index t = ![9216 + t.val % 12 * 512, 0] := Cert.Linear.idx1 t
theorem P_idx5 (t : Fin cfg1.N) : win1_5.index t = ![t.val / 12, t.val % 12] := Cert.Linear.idx5 t

variable (m : (ℓ : Loc nD τ sig) → Buf (Elt Ideal) ℓ) (ρ : Dev nD → PrngReg) (d : Dev nD) (t : Fin cfg1.N)

theorem P_lt : t.val < 48 := lt_of_lt_of_eq t.isLt N_1

theorem P_block_x (p : Fin 2080) (l : Fin 2048) : (show Vec Ideal S2080x2048 .bf16 from iblk1 (V3 m ρ) d 0 t) (ix2 p l)
    = V3 m ρ d main_v6 (ix2 ⟨t.val / 12 * 2080 + p.val, by have := P_lt t; omega⟩ l) := by
  have := P_lt t
  blk_ext [iblk1, P_idx0 t]

theorem P_block_w (q : Fin 512) (l : Fin 2048) : (show Vec Ideal S512x2048 .f32 from iblk1 (V3 m ρ) d 1 t) (ix2 q l)
    = m ((d : Thread nD τ).loc main_arg4) (ix3 0 l ⟨9216 + (t.val % 12 * 512 + q.val), by omega⟩) := by
  have := P_lt t
  refine Eq.trans (b := V3 m ρ d main_v8 (ix2 ⟨9216 + (t.val % 12 * 512 + q.val), by omega⟩ l)) ?_ ?_
  · blk_ext [iblk1, P_idx1 t]
    · exact (win1_1.rect_emb_val_off t (ix2 q l) 0).trans (by
        show win1_1.index t 0 + q.val = _
        rw [P_idx1]
        show 9216 + t.val % 12 * 512 + q.val = _
        omega)
    · exact (win1_1.rect_emb_val_off t (ix2 q l) 1).trans (by
        show win1_1.index t 1 + l.val = _
        rw [P_idx1]
        show 0 + l.val = _
        omega)
  · rw [V3_w]; exact Cert.Linear.columns_apply _ _ _

/-- The product of the rows the second call finds with the weight's columns. -/
abbrev projected : FVec Ideal S8320x6144 .bf16 := product (V3 m ρ d main_v6) (m ((d : Thread nD τ).loc main_arg4))

/-- The second call's result. -/
theorem projected_final : (dat1 (V3 m ρ) d).arrAt 5 cfg1.N = projected m ρ d := by
  refine (dat1 (V3 m ρ) d).arrAt_eq_of_covers 5 _ (by decide +kernel) fun t _ y => ?_
  blk_simp
  rw [after1_5]
  unfold outsAt1
  frame_out
  have ht := P_lt t
  obtain ⟨p, q, rfl⟩ : ∃ (p : Fin 2080) (q : Fin 512), y = ix2 p q :=
    ⟨⟨(y 0).val, (y 0).isLt⟩, ⟨(y 1).val, (y 1).isLt⟩, funext fun d => match d with | ⟨0, _⟩ => rfl | ⟨1, _⟩ => rfl⟩
  refine (block_apply _ _ p q).trans ?_
  refine Eq.trans (b := projected m ρ d (ix2 ⟨t.val / 12 * 2080 + p.val, by omega⟩ ⟨t.val % 12 * 512 + q.val, by omega⟩)) ?_ ?_
  · refine Eq.trans ?_ (Cert.Reference3Ideal.Reading.product_apply _ _ _ _).symm
    exact Finset.sum_congr rfl fun l _ => congrArg₂ _ (P_block_x m ρ d t p l) (P_block_w m ρ d t q l)
  · blk_ext [P_idx5 t]

end Cert.State
-- ==== Proof.StateGate.lean ====
/-
  The joined program's third call: it leaves the log decays of the rows it finds, and these lie below plus infinity.
-/
module

public import proofs.«01_k».proof.Proof.StateRun
public import proofs.«01_k».proof.Proof.Decay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.State

open Cert.Kernel10Ideal Cert.Kernel10Ideal.Gen Cert.Decay
open Cert.Reference7Ideal.Reading (pre decay pre_apply decay_apply)

/-- A log decay lies below plus infinity: the log-sigmoid is nowhere above nought. -/
theorem gate_lt_top (z : EReal) : gate z < ⊤ := by
  rw [gate, sixteenth]
  have hm : min z 0 ≤ 0 := min_le_right z 0
  have hb := log1p_exp_ne_bot (0 - max z (-z))
  generalize Ideal.log1p (Ideal.exp (0 - max z (-z))) = y at hb
  generalize min z 0 = x at hm
  have hx : x - y < ⊤ := by
    induction y with
    | bot => exact absurd rfl hb
    | top => rw [EReal.sub_top]; exact bot_lt_top
    | coe r => exact (EReal.sub_le_sub hm le_rfl).trans_lt (by rw [zero_sub, ← EReal.coe_neg]; exact EReal.coe_lt_top _)
  generalize x - y = w at hx
  induction w with
  | bot => rw [EReal.bot_mul_coe_of_pos (by norm_num)]; exact bot_lt_top
  | top => exact absurd rfl hx.ne
  | coe r => rw [← EReal.coe_mul]; exact EReal.coe_lt_top _

/-- The block a grid point stores: the gate of the padded low-rank product of its rows. -/
theorem G_block (x0 : Vec Ideal S832x2048 .bf16) (x1 : Vec Ideal S128x2048 .bf16) (x2 : Vec Ideal S128x1024 .bf16) (x3 : Vec Ideal S1x1024 .f32) (p : Fin 832) (q : Fin 1024) :
    k2_pay1 x0 x1 x2 x3 (ix2 p q)
      = gate ((∑ k : Fin 128, (∑ l : Fin 2048, x0 (ix2 p l) * x1 (ix2 k l)) * x2 (ix2 k q)) + x3 (ix2 0 q)) := by
  pointwise [k2_pay1, gate]
  simp only [Ideal.absf_def]

theorem G_idx0 (t : Fin cfg2.N) : win2_0.index t = ![t.val, 0] := Cert.Decay.idx0 t
theorem G_idx1 (t : Fin cfg2.N) : win2_1.index t = ![0, 0] := Cert.Decay.idx1 t
theorem G_idx2 (t : Fin cfg2.N) : win2_2.index t = ![0, 0] := Cert.Decay.idx2 t
theorem G_idx3 (t : Fin cfg2.N) : win2_3.index t = ![0, 0] := Cert.Decay.idx3 t
theorem G_idx4 (t : Fin cfg2.N) : win2_4.index t = ![t.val, 0] := Cert.Decay.idx4 t

variable (m : (ℓ : Loc nD τ sig) → Buf (Elt Ideal) ℓ) (ρ : Dev nD → PrngReg) (d : Dev nD) (t : Fin cfg2.N)

theorem G_lt : t.val < 10 := lt_of_lt_of_eq t.isLt N_2

theorem G_block_x (p : Fin 832) (l : Fin 2048) : (show Vec Ideal S832x2048 .bf16 from iblk2 (V5 m ρ) d 0 t) (ix2 p l)
    = V3 m ρ d main_v6 (ix2 ⟨t.val * 832 + p.val, by have := G_lt t; omega⟩ l) := by
  have := G_lt t
  refine Eq.trans (b := V5 m ρ d main_v6 (ix2 ⟨t.val * 832 + p.val, by omega⟩ l)) ?_ ?_
  · blk_ext [iblk2, G_idx0 t]
  · rw [V5_x]

theorem G_block_down (k : Fin 128) (l : Fin 2048) : (show Vec Ideal S128x2048 .bf16 from iblk2 (V5 m ρ) d 1 t) (ix2 k l)
    = downAt (m ((d : Thread nD τ).loc main_arg4)) k l := by
  unfold iblk2
  generalize hW : V5 m ρ d (Pipeline.arrRef spec2 1) = W
  have hW' : W = down (m ((d : Thread nD τ).loc main_arg4)) := hW.symm.trans (V5_down m ρ d)
  clear hW
  refine Eq.trans (b := W (ix2 k l)) ?_ ?_
  · clear hW'
    blk_ext [G_idx1 t]
  · rw [hW']
    exact down_apply _ _ _

theorem G_block_up (k : Fin 128) (j : Fin 1024) : (show Vec Ideal S128x1024 .bf16 from iblk2 (V5 m ρ) d 2 t) (ix2 k j)
    = upAt (m ((d : Thread nD τ).loc main_arg5)) k j := by
  unfold iblk2
  generalize hW : V5 m ρ d (Pipeline.arrRef spec2 2) = W
  have hW' : W = up (m ((d : Thread nD τ).loc main_arg5)) := hW.symm.trans (V5_up m ρ d)
  clear hW
  refine Eq.trans (b := W (ix2 k j)) ?_ ?_
  · clear hW'
    blk_ext [G_idx2 t]
  · rw [hW']
    exact up_apply _ _ _

theorem G_block_bias (j : Fin 1024) : (show Vec Ideal S1x1024 .f32 from iblk2 (V5 m ρ) d 3 t) (ix2 0 j)
    = m ((d : Thread nD τ).loc main_arg6) (ix2 0 j) := by
  refine Eq.trans (b := V5 m ρ d main_v28 (ix2 0 j)) ?_ ?_
  · blk_ext [iblk2, G_idx3 t]
  · rw [V5_bias]; pointwise []

/-- The log decays of the rows the third call finds. -/
abbrev gated : FVec Ideal Reference7Ideal.S8320x1024 .f32 :=
  decay (pre (V3 m ρ d main_v6) (m ((d : Thread nD τ).loc main_arg4)) (m ((d : Thread nD τ).loc main_arg5)) (m ((d : Thread nD τ).loc main_arg6)))

/-- The third call's result. -/
theorem gated_final : (dat2 (V5 m ρ) d).arrAt 4 cfg2.N = gated m ρ d := by
  refine (dat2 (V5 m ρ) d).arrAt_eq_of_covers 4 _ (by decide +kernel) fun t _ y => ?_
  blk_simp
  rw [after2_4]
  unfold out2_4
  frame_out
  have ht := G_lt t
  obtain ⟨p, q, rfl⟩ : ∃ (p : Fin 832) (q : Fin 1024), y = ix2 p q :=
    ⟨⟨(y 0).val, (y 0).isLt⟩, ⟨(y 1).val, (y 1).isLt⟩, funext fun d => match d with | ⟨0, _⟩ => rfl | ⟨1, _⟩ => rfl⟩
  refine (G_block _ _ _ _ p q).trans ?_
  refine Eq.trans (b := gated m ρ d (ix2 ⟨t.val * 832 + p.val, by omega⟩ q)) ?_ ?_
  · rw [gated, decay_apply, pre_apply]
    refine congrArg gate (congrArg₂ _ (sum_padded _ _ fun k => ?_) (G_block_bias m ρ d t q))
    have hup := G_block_up m ρ d t k q
    have hd : ∀ l, _ := fun l => G_block_down m ρ d t k l
    unfold upAt at hup
    unfold downAt at hd
    split_ifs at hup hd ⊢ with hk
    · exact congrArg₂ _ (Finset.sum_congr rfl fun l _ => congrArg₂ _ (G_block_x m ρ d t p l) (hd l)) hup
    · exact (congrArg₂ _ rfl hup).trans (mul_zero _)
  · blk_ext [G_idx4 t]

end Cert.State
-- ==== Proof.StateBlock.lean ====
/-
  The joined program's last call: what a grid point leaves in the block of states, from the blocks it reads.
-/
module

public import proofs.«01_k».proof.Proof.Gen.Kernel10Ideal.Frame
public import proofs.«01_k».proof.Proof.Block
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.State

open Cert.Kernel10Ideal Cert.Kernel10Ideal.Gen

variable (x0 x1 x4 : Vec Ideal S1x16x1024 .f32) (x2 x3 : Vec Ideal S1x16x2048 .f32) (x5 : Vec Ideal S1x512 .f32) (x6 : Vec Ideal S1x4x256x512 .f32)

/-- The block of states is the one the linear attention's own program leaves. -/
theorem block_eq : out3_8 x0 x1 x2 x3 x4 x5 x6 = Cert.KernelIdeal.Gen.out0_8 x0 x1 x2 x3 x4 x5 x6 := rfl

end Cert.State
-- ==== Proof.StateRef.lean ====
/-
  The samples' states, as the joined program's reference takes them from the layer's inputs, read at an index: keys, values and log
  decays are entries of products of the layer norm's rows.
-/
module

public import proofs.«01_k».proof.Proof.Gen.Reference10Ideal.Run
public import proofs.«01_k».proof.Proof.Decay
public import proofs.«01_k».proof.Proof.Norm
public import proofs.«01_k».proof.Proof.Ref
public import Idealize.ShloMosaic.Lib.Pipeline.ValueKit

@[expose] public section

set_option maxRecDepth 16384

noncomputable section

open Idealize.ShloMosaic Idealize.ShloMosaic.TcCoe Idealize.SL.Sem

namespace Cert.Reference10Ideal.Reading

open Cert.Reference10Ideal Cert.Reference10Ideal.Gen Cert.Reference10Ideal.Value
open Cert.Reference8Ideal.Reading (normS normS_apply)

/-! ## The stages -/

/-- The products of rows with the keys' columns, the values' and the low rank's. -/
def keyRows (y : FVec Ideal S32x4x2048 .f32) (w : FVec Ideal S1x2048x19472 .f32) : FVec Ideal S32x4x1024 .f32 :=
  Host.dotGeneral dot_S32x4x2048_S2048x1024_S32x4x1024_2_0_01_1_n_n none y
    (shapeCast S2048x1024 (extractStridedSlice S1x2048x1024 ![0, 0, 10240] w slices_S1x2048x19472_S1x2048x1024_0_0_10240) shapeCasts_S1x2048x1024_S2048x1024)
def valueRows (y : FVec Ideal S32x4x2048 .f32) (w : FVec Ideal S1x2048x19472 .f32) : FVec Ideal S32x4x2048 .f32 :=
  Host.dotGeneral dot_S32x4x2048_S2048x2048_S32x4x2048_2_0_01_1_n_n none y
    (shapeCast S2048x2048 (extractStridedSlice S1x2048x2048 ![0, 0, 11264] w slices_S1x2048x19472_S1x2048x2048_0_0_11264) shapeCasts_S1x2048x2048_S2048x2048)
def rankRows (y : FVec Ideal S32x4x2048 .f32) (w : FVec Ideal S1x2048x19472 .f32) : FVec Ideal S32x4x16 .f32 :=
  Host.dotGeneral dot_S32x4x2048_S2048x16_S32x4x16_2_0_01_1_n_n none y
    (shapeCast S2048x16 (extractStridedSlice S1x2048x16 ![0, 0, 15360] w slices_S1x2048x19472_S1x2048x16_0_0_15360) shapeCasts_S1x2048x16_S2048x16)

/-- The low-rank product and its bias. -/
def pre (z : FVec Ideal S32x4x16 .f32) (v : FVec Ideal S1x16x1024 .f32) (b : FVec Ideal S1x1024 .f32) : FVec Ideal S32x4x1024 .f32 :=
  addf (Host.dotGeneral dot_S32x4x16_S16x1024_S32x4x1024_2_0_01_1_n_n none z (shapeCast S16x1024 v shapeCasts_S1x16x1024_S16x1024))
    (broadcastInDim S32x4x1024 ![0, 1, 2] bcast_S1x1x1024_S32x4x1024_0_1_2
      (broadcastInDim S1x1x1024 ![2] bcast_S1024_S1x1x1024_2 (shapeCast S1024 b shapeCasts_S1x1024_S1024)))

/-- Nought, in every place. -/
def nought : FVec Ideal S32x4x1024 .f32 := broadcastInDim S32x4x1024 ![] bcast_S_S32x4x1024 (constant S_ .f32 0x00000000#32)

/-- The log-sigmoid over sixteen. -/
def decay (z : FVec Ideal S32x4x1024 .f32) : FVec Ideal S32x4x1024 .f32 :=
  Host.divf (Host.negf (select (cmpf .une (subf (Host.negf z) nought) (subf (Host.negf z) nought)) (addf (Host.negf z) nought)
    (addf (maximumf (Host.negf z) nought) (Host.log1p (Host.exp (Host.negf (Host.absf (subf (Host.negf z) nought))))))))
    (broadcastInDim S32x4x1024 ![] bcast_S_S32x4x1024 (constant S_ .f32 0x41800000#32))

/-- Rows cut into heads, the heads before the tokens. -/
def heads256 (x : FVec Ideal S32x4x1024 .f32) : FVec Ideal S32x4x4x256 .f32 :=
  transpose S32x4x4x256 [0, 2, 1, 3] (shapeCast _ x shapeCasts_S32x4x1024_S32x4x4x256) transposes_S32x4x4x256_S32x4x4x256_0_2_1_3
def heads512 (x : FVec Ideal S32x4x2048 .f32) : FVec Ideal S32x4x4x512 .f32 :=
  transpose S32x4x4x512 [0, 2, 1, 3] (shapeCast _ x shapeCasts_S32x4x2048_S32x4x4x512) transposes_S32x4x4x512_S32x4x4x512_0_2_1_3

/-- Cumulative sums along the tokens. -/
def cums (g : FVec Ideal S32x4x4x256 .f32) : FVec Ideal S32x4x4x256 .f32 :=
  Host.reduceWindowAdd ![1, 1, 4, 1] ![1, 1, 1, 1] ![0, 0, 3, 0] ![0, 0, 0, 0] g (broadcastInDim S_ ![] bcast_S_S_ (constant S_ .f32 0x00000000#32)) reduceWindows_S32x4x4x256_S32x4x4x256_w1s1p0_0_w1s1p0_0_w4s1p3_0_w1s1p0_0 h_S_

/-- The new states, from keys, cumulative log decays, values and the carried states. -/
def states (k c : FVec Ideal S32x4x4x256 .f32) (v : FVec Ideal S32x4x4x512 .f32) (s : FVec Ideal S1x32x4x256x512 .f32) : FVec Ideal S32x4x256x512 .f32 :=
  addf (mulf (broadcastInDim S32x4x256x512 ![0, 1, 2, 3] bcast_S32x4x256x1_S32x4x256x512_0_1_2_3 (broadcastInDim S32x4x256x1 ![0, 1, 2] bcast_S32x4x256_S32x4x256x1_0_1_2
      (Host.exp (shapeCast _ (extractStridedSlice S32x4x1x256 ![0, 0, 3, 0] c slices_S32x4x4x256_S32x4x1x256_0_0_3_0) shapeCasts_S32x4x1x256_S32x4x256))))
      (shapeCast _ s shapeCasts_S1x32x4x256x512_S32x4x256x512))
    (Host.dotGeneral dot_S32x4x4x256_S32x4x4x512_S32x4x256x512_2_2_3_3_01_01 none (mulf k (Host.exp (subf
      (broadcastInDim S32x4x4x256 ![0, 1, 2, 3] bcast_S32x4x1x256_S32x4x4x256_0_1_2_3 (extractStridedSlice S32x4x1x256 ![0, 0, 3, 0] c slices_S32x4x4x256_S32x4x1x256_0_0_3_0)) c))) v)

variable (x : FVec Ideal S32x4x2048 .f32) (g b : FVec Ideal S2048 .f32) (w : FVec Ideal S1x2048x19472 .f32) (v : FVec Ideal S1x16x1024 .f32)
  (β : FVec Ideal S1x1024 .f32) (s : FVec Ideal S1x32x4x256x512 .f32)

/-- The states, from the arguments. -/
def result : FVec Ideal S32x4x256x512 .f32 :=
  states (heads256 (keyRows (normS x g b) w)) (cums (heads256 (decay (pre (rankRows (normS x g b) w) v β)))) (heads512 (valueRows (normS x g b) w)) s

/-! ## The same, read at an index -/

/-- An entry of the product of the layer norm's row of a token with the weight. -/
def entry (a : Fin 32) (t : Fin 4) (j : Fin 19472) : EReal :=
  ∑ l : Fin 2048, Cert.Norm.row (fun l => x (ix3 a t l)) (g (ix1 l)) (b (ix1 l)) l * w (ix3 0 l j)

/-- The keys, the values, the log decays and the carried states. -/
def K (a : Fin 32) (h t : Fin 4) (p : Fin 256) : EReal := entry x g b w a t ⟨10240 + (h.val * 256 + p.val), by omega⟩
def V (a : Fin 32) (h t : Fin 4) (n : Fin 512) : EReal := entry x g b w a t ⟨11264 + (h.val * 512 + n.val), by omega⟩
def G (a : Fin 32) (h t : Fin 4) (p : Fin 256) : EReal :=
  Cert.Decay.gate ((∑ k : Fin 16, entry x g b w a t ⟨15360 + k.val, by omega⟩ * v (ix3 0 k ⟨h.val * 256 + p.val, by omega⟩)) + β (ix2 0 ⟨h.val * 256 + p.val, by omega⟩))
def S (a : Fin 32) (h : Fin 4) (p : Fin 256) (n : Fin 512) : EReal := s (ix5 0 a h p n)

theorem keyRows_apply (y : FVec Ideal S32x4x2048 .f32) (a : Fin 32) (t : Fin 4) (j : Fin 1024) :
    keyRows y w (ix3 a t j) = ∑ l : Fin 2048, y (ix3 a t l) * w (ix3 0 l ⟨10240 + j.val, by omega⟩) := by
  pointwise [keyRows]
theorem valueRows_apply (y : FVec Ideal S32x4x2048 .f32) (a : Fin 32) (t : Fin 4) (j : Fin 2048) :
    valueRows y w (ix3 a t j) = ∑ l : Fin 2048, y (ix3 a t l) * w (ix3 0 l ⟨11264 + j.val, by omega⟩) := by
  pointwise [valueRows]
theorem rankRows_apply (y : FVec Ideal S32x4x2048 .f32) (a : Fin 32) (t : Fin 4) (j : Fin 16) :
    rankRows y w (ix3 a t j) = ∑ l : Fin 2048, y (ix3 a t l) * w (ix3 0 l ⟨15360 + j.val, by omega⟩) := by
  pointwise [rankRows]
theorem pre_apply (z : FVec Ideal S32x4x16 .f32) (a : Fin 32) (t : Fin 4) (j : Fin 1024) :
    pre z v β (ix3 a t j) = (∑ k : Fin 16, z (ix3 a t k) * v (ix3 0 k j)) + β (ix2 0 j) := by
  pointwise [pre]
theorem decay_apply (z : FVec Ideal S32x4x1024 .f32) (a : Fin 32) (t : Fin 4) (j : Fin 1024) :
    decay z (ix3 a t j) = Cert.Decay.gate (z (ix3 a t j)) := by
  rw [← Cert.Decay.gate_eq]
  pointwise [decay, nought]
  simp only [ne_eq, not_true_eq_false, if_false, Ideal.absf_def]
theorem heads256_apply (z : FVec Ideal S32x4x1024 .f32) (a : Fin 32) (h t : Fin 4) (p : Fin 256) :
    heads256 z (ix4 a h t p) = z (ix3 a t ⟨h.val * 256 + p.val, by omega⟩) := by
  pointwise [heads256]
theorem heads512_apply (z : FVec Ideal S32x4x2048 .f32) (a : Fin 32) (h t : Fin 4) (n : Fin 512) :
    heads512 z (ix4 a h t n) = z (ix3 a t ⟨h.val * 512 + n.val, by omega⟩) := by
  pointwise [heads512]
theorem cums_apply (z : FVec Ideal S32x4x4x256 .f32) (a : Fin 32) (h t : Fin 4) (p : Fin 256) :
    cums z (ix4 a h t p) = Gla.cum (fun u => z (ix4 a h u p)) t :=
  Cert.ReferenceIdeal.Reading.window_sum z _ _ a h t p

/-- The new states, at an index. -/
theorem states_apply (k : FVec Ideal S32x4x4x256 .f32) (γ : FVec Ideal S32x4x4x256 .f32) (u : FVec Ideal S32x4x4x512 .f32)
    (a : Fin 32) (h : Fin 4) (p : Fin 256) (n : Fin 512) : states k (cums γ) u s (ix4 a h p n)
      = Gla.state (fun t p => k (ix4 a h t p)) (fun t p => γ (ix4 a h t p)) (fun t n => u (ix4 a h t n)) (S s a h) p n := by
  pointwise [states, cums_apply]
  rfl

theorem keys_apply (a : Fin 32) (h t : Fin 4) (p : Fin 256) : heads256 (keyRows (normS x g b) w) (ix4 a h t p) = K x g b w a h t p := by
  rw [heads256_apply, keyRows_apply]
  exact Finset.sum_congr rfl fun l _ => congrArg (fun a : EReal => a * _) (normS_apply x g b a t l)
theorem values_apply (a : Fin 32) (h t : Fin 4) (n : Fin 512) : heads512 (valueRows (normS x g b) w) (ix4 a h t n) = V x g b w a h t n := by
  rw [heads512_apply, valueRows_apply]
  exact Finset.sum_congr rfl fun l _ => congrArg (fun a : EReal => a * _) (normS_apply x g b a t l)
theorem decays_apply (a : Fin 32) (h t : Fin 4) (p : Fin 256) :
    heads256 (decay (pre (rankRows (normS x g b) w) v β)) (ix4 a h t p) = G x g b w v β a h t p := by
  rw [heads256_apply, decay_apply, pre_apply]
  refine congrArg (fun z : EReal => Cert.Decay.gate (z + _)) (Finset.sum_congr rfl fun k _ => congrArg (fun z : EReal => z * _) ?_)
  rw [rankRows_apply]
  exact Finset.sum_congr rfl fun l _ => congrArg (fun a : EReal => a * _) (normS_apply x g b a t l)

/-- The reference's states, at an index. -/
theorem result_apply (a : Fin 32) (h : Fin 4) (p : Fin 256) (n : Fin 512) :
    result x g b w v β s (ix4 a h p n) = Gla.state (K x g b w a h) (G x g b w v β a h) (V x g b w a h) (S s a h) p n := by
  unfold result
  rw [states_apply]
  simp only [keys_apply, values_apply, decays_apply]

theorem result_eq (m : (ℓ : Loc nD τ sig) → Buf (Elt Ideal) ℓ) (c : Dev nD) :
    res_main_v62 m c = broadcastInDim S1x32x4x256x512 ![1, 2, 3, 4] bcast_S32x4x256x512_S1x32x4x256x512_1_2_3_4
      (result (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg8))) := rfl

end Cert.Reference10Ideal.Reading
-- ==== Proof.StateSample.lean ====
/-
  The joined program's last call: the states it leaves are those the joined program's reference takes from the layer's inputs.
-/
module

public import proofs.«01_k».proof.Proof.StateNorm
public import proofs.«01_k».proof.Proof.StateProj
public import proofs.«01_k».proof.Proof.StateGate
public import proofs.«01_k».proof.Proof.StateBlock
public import proofs.«01_k».proof.Proof.StateRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.State

open Cert.Kernel10Ideal Cert.Kernel10Ideal.Gen
open Cert.Reference10Ideal.Reading (entry K V G S result result_apply)
open Cert.KernelIdeal.Final (rows1024_apply rows2048_apply)

/-! ## The slices, read at an index -/

theorem keys_at (u : FVec Ideal S8320x6144 .bf16) (r : Fin 128) (j : Fin 1024) :
    keys (sampleRows u) (ix2 r j) = u (ix2 ⟨8192 + r.val, by omega⟩ ⟨1024 + j.val, by omega⟩) := by
  pointwise [keys, sampleRows]
theorem values_at (u : FVec Ideal S8320x6144 .bf16) (r : Fin 128) (j : Fin 2048) :
    values (sampleRows u) (ix2 r j) = u (ix2 ⟨8192 + r.val, by omega⟩ ⟨2048 + j.val, by omega⟩) := by
  pointwise [values, sampleRows]
theorem decays_at (u : FVec Ideal S8320x1024 .f32) (r : Fin 128) (j : Fin 1024) :
    decays u (ix2 r j) = u (ix2 ⟨8192 + r.val, by omega⟩ j) := by
  pointwise [decays]

variable (m : (ℓ : Loc nD τ sig) → Buf (Elt Ideal) ℓ) (ρ : Dev nD → PrngReg) (d : Dev nD)

/-! ## The reference's entries, at the program's arguments -/

abbrev mE (a : Fin 32) (t : Fin 4) (j : Fin 19472) : EReal :=
  entry (m ((d : Thread nD τ).loc main_arg1)) (m ((d : Thread nD τ).loc main_arg2)) (m ((d : Thread nD τ).loc main_arg3)) (m ((d : Thread nD τ).loc main_arg4)) a t j
abbrev mK := K (m ((d : Thread nD τ).loc main_arg1)) (m ((d : Thread nD τ).loc main_arg2)) (m ((d : Thread nD τ).loc main_arg3)) (m ((d : Thread nD τ).loc main_arg4))
abbrev mV := V (m ((d : Thread nD τ).loc main_arg1)) (m ((d : Thread nD τ).loc main_arg2)) (m ((d : Thread nD τ).loc main_arg3)) (m ((d : Thread nD τ).loc main_arg4))
abbrev mG := G (m ((d : Thread nD τ).loc main_arg1)) (m ((d : Thread nD τ).loc main_arg2)) (m ((d : Thread nD τ).loc main_arg3)) (m ((d : Thread nD τ).loc main_arg4))
  (m ((d : Thread nD τ).loc main_arg5)) (m ((d : Thread nD τ).loc main_arg6))
abbrev mS := S (m ((d : Thread nD τ).loc main_arg8))

/-- The rows the second and the third call find, and the weight. -/
abbrev mX : FVec Ideal S8320x2048 .bf16 := V3 m ρ d main_v6
abbrev mW : FVec Ideal S1x2048x19472 .f32 := m ((d : Thread nD τ).loc main_arg4)

/-- A sum along a sample's token's row is the reference's entry. -/
theorem entry_eq (a : Fin 32) (t : Fin 4) (j j' : Fin 19472) (h : j.val = j'.val) :
    ∑ l : Fin 2048, mX m ρ d (ix2 ⟨8192 + (a.val * 4 + t.val), by omega⟩ l) * mW m d (ix3 0 l j) = mE m d a t j' := by
  obtain rfl : j = j' := Fin.ext h
  exact Finset.sum_congr rfl fun l _ => congrArg (fun x : EReal => x * _) (rows_apply m ρ d a t l)

theorem projected_at (a : Fin 32) (t : Fin 4) (j : Fin 6144) (j' : Fin 19472) (h : 9216 + j.val = j'.val) :
    projected m ρ d (ix2 ⟨8192 + (a.val * 4 + t.val), by omega⟩ j) = mE m d a t j' :=
  (Cert.Reference3Ideal.Reading.product_apply _ _ _ _).trans (entry_eq m ρ d a t _ j' h)

theorem gated_at (a : Fin 32) (h t : Fin 4) (p : Fin 256) :
    gated m ρ d (ix2 ⟨8192 + (a.val * 4 + t.val), by omega⟩ ⟨h.val * 256 + p.val, by omega⟩) = mG m d a h t p := by
  refine (Cert.Reference7Ideal.Reading.decay_apply _ _ _).trans ?_
  rw [Cert.Reference7Ideal.Reading.pre_apply]
  exact congrArg (fun z : EReal => Cert.Decay.gate (z + _)) (Finset.sum_congr rfl fun k _ => congrArg (fun z : EReal => z * _) (entry_eq m ρ d a t _ _ rfl))

/-! ## The blocks a grid point reads -/

theorem S_idx1 (t : Fin cfg3.N) : win3_1.index t = ![t.val, 0, 0] := Cert.KernelIdeal.Final.idx1 t
theorem S_idx2 (t : Fin cfg3.N) : win3_2.index t = ![t.val, 0, 0] := Cert.KernelIdeal.Final.idx2 t
theorem S_idx4 (t : Fin cfg3.N) : win3_4.index t = ![t.val, 0, 0] := Cert.KernelIdeal.Final.idx4 t
theorem S_idx6 (t : Fin cfg3.N) : win3_6.index t = ![t.val, 0, 0, 0] := Cert.KernelIdeal.Final.idx6 t
theorem S_idx8 (t : Fin cfg3.N) : win3_8.index t = ![t.val, 0, 0, 0] := Cert.KernelIdeal.Final.idx8 t

/-- The sample a grid point works on. -/
def sample (t : Fin cfg3.N) : Fin 32 := ⟨t.val, lt_of_lt_of_eq t.isLt N_3⟩

variable (t : Fin cfg3.N)

theorem block_k (c : Fin 16) (h : Fin 4) (p : Fin 256) : (show Vec Ideal S1x16x1024 .f32 from iblk3 (V17 m ρ) d 1 t) (ix3 0 c ⟨h.val * 256 + p.val, by omega⟩)
    = Gla.padded (fun s => mK m d (sample t) h s p) c := by
  refine Eq.trans (b := V17 m ρ d main_v38 (ix3 (sample t) c ⟨h.val * 256 + p.val, by omega⟩)) ?_ ?_
  · blk_ext [iblk3, sample, S_idx1 t]
  · rw [V17_k, projected_final, rows1024_apply]
    refine congrArg (fun f => Gla.padded f c) (funext fun s => ?_)
    refine (keys_at _ _ _).trans (projected_at m ρ d (sample t) s _ _ ?_)
    show 9216 + (1024 + (h.val * 256 + p.val)) = 10240 + (h.val * 256 + p.val)
    omega
theorem block_v (c : Fin 16) (h : Fin 4) (n : Fin 512) : (show Vec Ideal S1x16x2048 .f32 from iblk3 (V17 m ρ) d 2 t) (ix3 0 c ⟨h.val * 512 + n.val, by omega⟩)
    = Gla.padded (fun s => mV m d (sample t) h s n) c := by
  refine Eq.trans (b := V17 m ρ d main_v42 (ix3 (sample t) c ⟨h.val * 512 + n.val, by omega⟩)) ?_ ?_
  · blk_ext [iblk3, sample, S_idx2 t]
  · rw [V17_v, projected_final, rows2048_apply]
    refine congrArg (fun f => Gla.padded f c) (funext fun s => ?_)
    refine (values_at _ _ _).trans (projected_at m ρ d (sample t) s _ _ ?_)
    show 9216 + (2048 + (h.val * 512 + n.val)) = 11264 + (h.val * 512 + n.val)
    omega
theorem block_g (c : Fin 16) (h : Fin 4) (p : Fin 256) : (show Vec Ideal S1x16x1024 .f32 from iblk3 (V17 m ρ) d 4 t) (ix3 0 c ⟨h.val * 256 + p.val, by omega⟩)
    = Gla.padded (fun s => mG m d (sample t) h s p) c := by
  refine Eq.trans (b := V17 m ρ d main_v49 (ix3 (sample t) c ⟨h.val * 256 + p.val, by omega⟩)) ?_ ?_
  · blk_ext [iblk3, sample, S_idx4 t]
  · rw [V17_g, gated_final, rows1024_apply]
    refine congrArg (fun f => Gla.padded f c) (funext fun s => ?_)
    exact (decays_at _ _ _).trans (gated_at m ρ d (sample t) h s p)
theorem block_s (h : Fin 4) (p : Fin 256) (n : Fin 512) : (show Vec Ideal S1x4x256x512 .f32 from iblk3 (V17 m ρ) d 6 t) (ix4 0 h p n)
    = mS m d (sample t) h p n := by
  refine Eq.trans (b := V17 m ρ d main_v51 (ix4 (sample t) h p n)) ?_ ?_
  · blk_ext [iblk3, sample, S_idx6 t]
  · rw [V17_s]
    exact Cert.ReferenceIdeal.Reading.s0_apply _ _ _ _ _

/-! ## The states -/

/-- The reference's states, at the program's arguments. -/
abbrev target : FVec Ideal S32x4x256x512 .f32 :=
  result (m ((d : Thread nD τ).loc main_arg1)) (m ((d : Thread nD τ).loc main_arg2)) (m ((d : Thread nD τ).loc main_arg3)) (m ((d : Thread nD τ).loc main_arg4))
    (m ((d : Thread nD τ).loc main_arg5)) (m ((d : Thread nD τ).loc main_arg6)) (m ((d : Thread nD τ).loc main_arg8))

/-- The last call's second array: the states after the last token. -/
theorem states_final : (dat3 (V17 m ρ) d).arrAt 8 cfg3.N = target m d := by
  refine (dat3 (V17 m ρ) d).arrAt_eq_of_covers 8 _ (by decide +kernel) fun t _ y => ?_
  blk_simp
  rw [after3_8, block_eq]
  obtain ⟨h, p, n, rfl⟩ : ∃ (h : Fin 4) (p : Fin 256) (n : Fin 512), y = ix4 (0 : Fin 1) h p n := by
    have y0 : (y 0).val < 1 := (y 0).isLt
    have y1 : (y 1).val < 4 := (y 1).isLt
    have y2 : (y 2).val < 256 := (y 2).isLt
    have y3 : (y 3).val < 512 := (y 3).isLt
    exact ⟨⟨(y 1).val, y1⟩, ⟨(y 2).val, y2⟩, ⟨(y 3).val, y3⟩, Cert.KernelIdeal.Block.ext4 (by show (y 0).val = 0; omega) rfl rfl rfl⟩
  refine (Cert.KernelIdeal.Block.out8_apply _ _ _ _ _ _ _ _ _ _ _ (block_k m ρ d t) (block_g m ρ d t) (block_v m ρ d t)
    (block_s m ρ d t) (fun h s p => gate_lt_top _) h p n).trans ?_
  refine (result_apply _ _ _ _ _ _ _ (sample t) h p n).symm.trans ?_
  blk_ext [sample, S_idx8 t]

end Cert.State
-- ==== Proof.State.lean ====
/-
  The layer norm, the projection on the linear attention's columns, the log decays and the linear attention of the samples as one program:
  the states it returns are the reference's.
-/
module

public import proofs.«01_k».proof.Defs
public import proofs.«01_k».proof.Proof.Gen.Kernel10.Frame
public import proofs.«01_k».proof.Proof.Gen.Kernel10Ideal.Frame
public import proofs.«01_k».proof.Proof.Gen.Reference10Ideal.Run
public import proofs.«01_k».proof.Proof.StateEnd
public import proofs.«01_k».proof.Proof.StateSample

@[expose] public section

set_option maxRecDepth 16384

noncomputable section

open Idealize.ShloMosaic Idealize.ShloMosaic.TcCoe Idealize.SL.Sem

namespace Cert.State

open Cert.Kernel10Ideal Cert.Kernel10Ideal.Gen
open Cert.Reference10Ideal.Reading (result result_eq)

/-- The states after the samples' tokens, with the batch axis the layer returns them under. -/
def returned (s : FVec Ideal S32x4x256x512 .f32) : FVec Ideal S1x32x4x256x512 .f32 :=
  broadcastInDim S1x32x4x256x512 ![1, 2, 3, 4] bcast_S32x4x256x512_S1x32x4x256x512_1_2_3_4 s

theorem state (m : (ℓ : Loc nD τ sig) → Buf (Elt Ideal) ℓ) (ρ : Dev nD → PrngReg) (d : Dev nD) :
    W19 m ρ d (Proc.devRef .tc main_v54) = returned (target m d) := by
  rw [W19_result, states_final]
  rfl

theorem frame : Cert.quiescent_Kernel10 (hKernel10 := Cert.Kernel10.Gen.facts) := fun m g _ => Cert.Kernel10.Gen.frame m g

theorem frame_ideal : Cert.quiescent_Kernel10Ideal (hKernel10Ideal := Cert.Kernel10Ideal.Gen.facts) :=
  fun m g _ => Cert.Kernel10Ideal.Gen.frame m g

theorem frame_reference : Cert.quiescent_Reference10Ideal (hReference10Ideal := Cert.Reference10Ideal.Gen.facts) :=
  fun m g _ => (θ_run Cert.Reference10Ideal.defs _ _).mono
    (fun r h => ⟨fun c => (h c).2, Idealize.ShloMosaic.sem_eq_zero_of_no_sems (by decide) r.2⟩)
    (Cert.Reference10Ideal.Value.run (F := Ideal) m g)

/-- The states are the reference's, as extended reals, at every input. -/
theorem value : Cert.algebraic_Kernel10Ideal_Reference10Ideal (hKernel10Ideal := Cert.Kernel10Ideal.Gen.facts)
    (hReference10Ideal := Cert.Reference10Ideal.Gen.facts) := by
  intro m g m' g' _ hagree
  refine ⟨fun c => returned (target m c), ?_, ?_⟩
  · exact (θ_run Cert.Kernel10Ideal.defs _ _).mono (fun _ h c =>
      ⟨(h c _ (mem_uc main_v54 (by decide))).trans (state m g c),
        (h c _ (mem_uc main_arg0 (by decide))).trans (W19_main_arg0 m g c), (h c _ (mem_uc main_arg1 (by decide))).trans (W19_main_arg1 m g c),
        (h c _ (mem_uc main_arg2 (by decide))).trans (W19_main_arg2 m g c), (h c _ (mem_uc main_arg3 (by decide))).trans (W19_main_arg3 m g c),
        (h c _ (mem_uc main_arg4 (by decide))).trans (W19_main_arg4 m g c), (h c _ (mem_uc main_arg5 (by decide))).trans (W19_main_arg5 m g c),
        (h c _ (mem_uc main_arg6 (by decide))).trans (W19_main_arg6 m g c), (h c _ (mem_uc main_arg7 (by decide))).trans (W19_main_arg7 m g c),
        (h c _ (mem_uc main_arg8 (by decide))).trans (W19_main_arg8 m g c), (h c _ (mem_uc main_arg9 (by decide))).trans (W19_main_arg9 m g c),
        (h c _ (mem_uc main_arg10 (by decide))).trans (W19_main_arg10 m g c)⟩)
      (ends m g)
  · refine (θ_run Cert.Reference10Ideal.defs _ _).mono (fun _ h c => ?_) (Cert.Reference10Ideal.Value.run (F := Ideal) m' g')
    obtain ⟨e0, e1, e2, e3, e4, e5, e6, e7, e8, e9, e10⟩ := hagree c
    refine ⟨(h c).1.trans ?_, (h c).2⟩
    rw [result_eq, e1, e2, e3, e4, e5, e6, e8]
    rfl

end Cert.State
-- ==== Proof.lean ====
/- The proof of the certificate's claims, put together from the modules under Proof/. -/
module

public import proofs.«01_k».proof.Defs
public import proofs.«01_k».proof.Proof.Sample
public import proofs.«01_k».proof.Proof.Rope
public import proofs.«01_k».proof.Proof.Linear
public import proofs.«01_k».proof.Proof.Gates
public import proofs.«01_k».proof.Proof.Ple
public import proofs.«01_k».proof.Proof.Attn
public import proofs.«01_k».proof.Proof.Decay
public import proofs.«01_k».proof.Proof.Norm
public import proofs.«01_k».proof.Proof.Cache
public import proofs.«01_k».proof.Proof.State

@[expose] public section

noncomputable section

namespace Cert.Proof

/-- All the claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts, Cert.Sample.facts, Cert.Pre_finite.Gen.facts,
    Cert.Sample.frame, Cert.Sample.frame_ideal, fun m g _ => Cert.Sample.frame_ideal m g trivial,
    Cert.Sample.frame_reference, fun m g _ => Cert.Sample.frame_reference m g trivial,
    Cert.RopeBlock.frame, Cert.RopeBlock.frame_ideal, Cert.RopeBlock.frame_reference,
    Cert.Linear.frame, Cert.Linear.frame_ideal, Cert.Linear.frame_reference,
    Cert.Gates.frame, Cert.Gates.frame_ideal, Cert.Gates.frame_reference,
    Cert.Ple.frame, Cert.Ple.frame_ideal, Cert.Ple.frame_reference,
    Cert.Attn.frame, Cert.Attn.frame_ideal, fun m g _ => Cert.Attn.frame_ideal m g trivial,
    Cert.Attn.frame_reference, fun m g _ => Cert.Attn.frame_reference m g trivial,
    Cert.Decay.frame, Cert.Decay.frame_ideal, Cert.Decay.frame_reference,
    Cert.Norm.frame, Cert.Norm.frame_ideal, Cert.Norm.frame_reference,
    Cert.Cache.frame, Cert.Cache.frame_ideal, Cert.Cache.frame_reference,
    Cert.State.frame, Cert.State.frame_ideal, Cert.State.frame_reference,
    trivial, Cert.Sample.value, trivial, Cert.RopeBlock.value, trivial, Cert.Linear.value, trivial, Cert.Gates.value, trivial, Cert.Ple.value, trivial, Cert.Attn.value, trivial, Cert.Decay.value, trivial, Cert.Norm.value, trivial, Cert.Cache.value,
    trivial, Cert.State.value⟩

end Cert.Proof

end
